-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_AttnP (m : (ℓ : Loc Cert.AttnP.nD Cert.AttnP.τ Cert.AttnP.sig) → Buf (Elt Bits) ℓ) : Prop :=
  True

def Pre_AttnPIdeal (m : (ℓ : Loc Cert.AttnPIdeal.nD Cert.AttnPIdeal.τ Cert.AttnPIdeal.sig) → Buf (Elt Ideal) ℓ) : Prop :=
  True

def Pre_AttnPRefIdeal (m : (ℓ : Loc Cert.AttnPRefIdeal.nD Cert.AttnPRefIdeal.τ Cert.AttnPRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2))
      ∧ r.2.sem = fun _ => 0)

def quiescent_AttnP [hAttnP : Cert.AttnP.Facts] : Prop :=
  ∀ (m : (ℓ : Loc Cert.AttnP.nD Cert.AttnP.τ Cert.AttnP.sig) → Buf (Elt Bits) ℓ) (g : Dev Cert.AttnP.nD → PrngReg), Pre_AttnP m →
    θ_run (Cert.AttnP.defs (F := Bits)) (onTc (τ := Cert.AttnP.τ) (Cert.AttnP.main (F := Bits))) ⟨m, fun _ => 0, g⟩ (fun r => (∀ c : Dev Cert.AttnP.nD,
      r.2.mem ((c.tc : Thread Cert.AttnP.nD Cert.AttnP.τ).loc Cert.AttnP.main_arg0) = m ((c.tc : Thread Cert.AttnP.nD Cert.AttnP.τ).loc Cert.AttnP.main_arg0)
      ∧ r.2.mem ((c.tc : Thread Cert.AttnP.nD Cert.AttnP.τ).loc Cert.AttnP.main_arg1) = m ((c.tc : Thread Cert.AttnP.nD Cert.AttnP.τ).loc Cert.AttnP.main_arg1)
      ∧ r.2.mem ((c.tc : Thread Cert.AttnP.nD Cert.AttnP.τ).loc Cert.AttnP.main_arg2) = m ((c.tc : Thread Cert.AttnP.nD Cert.AttnP.τ).loc Cert.AttnP.main_arg2))
      ∧ r.2.sem = fun _ => 0)

def quiescent_AttnPIdeal [hAttnPIdeal : Cert.AttnPIdeal.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2))
      ∧ r.2.sem = fun _ => 0)

def quiescent_AttnPRefIdeal [hAttnPRefIdeal : Cert.AttnPRefIdeal.Facts] : Prop :=
  ∀ (m : (ℓ : Loc Cert.AttnPRefIdeal.nD Cert.AttnPRefIdeal.τ Cert.AttnPRefIdeal.sig) → Buf (Elt Ideal) ℓ) (g : Dev Cert.AttnPRefIdeal.nD → PrngReg), Pre_AttnPRefIdeal m →
    θ_run (Cert.AttnPRefIdeal.defs (F := Ideal)) (onTc (τ := Cert.AttnPRefIdeal.τ) (Cert.AttnPRefIdeal.main (F := Ideal))) ⟨m, fun _ => 0, g⟩ (fun r => (∀ c : Dev Cert.AttnPRefIdeal.nD,
      r.2.mem ((c.tc : Thread Cert.AttnPRefIdeal.nD Cert.AttnPRefIdeal.τ).loc Cert.AttnPRefIdeal.main_arg0) = m ((c.tc : Thread Cert.AttnPRefIdeal.nD Cert.AttnPRefIdeal.τ).loc Cert.AttnPRefIdeal.main_arg0)
      ∧ r.2.mem ((c.tc : Thread Cert.AttnPRefIdeal.nD Cert.AttnPRefIdeal.τ).loc Cert.AttnPRefIdeal.main_arg1) = m ((c.tc : Thread Cert.AttnPRefIdeal.nD Cert.AttnPRefIdeal.τ).loc Cert.AttnPRefIdeal.main_arg1)
      ∧ r.2.mem ((c.tc : Thread Cert.AttnPRefIdeal.nD Cert.AttnPRefIdeal.τ).loc Cert.AttnPRefIdeal.main_arg2) = m ((c.tc : Thread Cert.AttnPRefIdeal.nD Cert.AttnPRefIdeal.τ).loc Cert.AttnPRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v17) = v0 c
          ∧ r.2.mem ((c.tc : Thread Cert.Reference.nD Cert.Reference.τ).loc Cert.Reference.main_arg0) = m' ((c.tc : Thread Cert.Reference.nD Cert.Reference.τ).loc Cert.Reference.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)) →
    ∃ (v0 : (c : Dev Cert.FfnAIdeal.nD) → Buf (Elt Ideal) ((c.tc : Thread Cert.FfnAIdeal.nD Cert.FfnAIdeal.τ).loc Cert.FfnAIdeal.main_v5)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v5) = v0 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v25) = v0 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v13)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v18) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v25_0)) (v1 : (c : Dev Cert.InprojIdeal.nD) → Buf (Elt Ideal) ((c.tc : Thread Cert.InprojIdeal.nD Cert.InprojIdeal.τ).loc Cert.InprojIdeal.main_v25_1)) (v2 : (c : Dev Cert.InprojIdeal.nD) → Buf (Elt Ideal) ((c.tc : Thread Cert.InprojIdeal.nD Cert.InprojIdeal.τ).loc Cert.InprojIdeal.main_v25_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v25_0) = v0 c
          ∧ r.2.mem ((c.tc : Thread Cert.InprojIdeal.nD Cert.InprojIdeal.τ).loc Cert.InprojIdeal.main_v25_1) = v1 c
          ∧ r.2.mem ((c.tc : Thread Cert.InprojIdeal.nD Cert.InprojIdeal.τ).loc Cert.InprojIdeal.main_v25_3) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v32) = v0 c
          ∧ r.2.mem ((c.tc : Thread Cert.InprojRefIdeal.nD Cert.InprojRefIdeal.τ).loc Cert.InprojRefIdeal.main_v33) = v1 c
          ∧ r.2.mem ((c.tc : Thread Cert.InprojRefIdeal.nD Cert.InprojRefIdeal.τ).loc Cert.InprojRefIdeal.main_v36) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v30_1)) (v1 : (c : Dev Cert.AttnIdeal.nD) → Buf (Elt Ideal) ((c.tc : Thread Cert.AttnIdeal.nD Cert.AttnIdeal.τ).loc Cert.AttnIdeal.main_v30_2)) (v2 : (c : Dev Cert.AttnIdeal.nD) → Buf (Elt Ideal) ((c.tc : Thread Cert.AttnIdeal.nD Cert.AttnIdeal.τ).loc Cert.AttnIdeal.main_v30_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v30_1) = v0 c
          ∧ r.2.mem ((c.tc : Thread Cert.AttnIdeal.nD Cert.AttnIdeal.τ).loc Cert.AttnIdeal.main_v30_2) = v1 c
          ∧ r.2.mem ((c.tc : Thread Cert.AttnIdeal.nD Cert.AttnIdeal.τ).loc Cert.AttnIdeal.main_v30_3) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v5) = v0 c
          ∧ r.2.mem ((c.tc : Thread Cert.AttnRefIdeal.nD Cert.AttnRefIdeal.τ).loc Cert.AttnRefIdeal.main_v11) = v1 c
          ∧ r.2.mem ((c.tc : Thread Cert.AttnRefIdeal.nD Cert.AttnRefIdeal.τ).loc Cert.AttnRefIdeal.main_v17) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v6)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v6) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v38) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)) →
    ∃ (v0 : (c : Dev Cert.InprojSIdeal.nD) → Buf (Elt Ideal) ((c.tc : Thread Cert.InprojSIdeal.nD Cert.InprojSIdeal.τ).loc Cert.InprojSIdeal.main_v25_0)) (v1 : (c : Dev Cert.InprojSIdeal.nD) → Buf (Elt Ideal) ((c.tc : Thread Cert.InprojSIdeal.nD Cert.InprojSIdeal.τ).loc Cert.InprojSIdeal.main_v25_1)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v25_0) = v0 c
          ∧ r.2.mem ((c.tc : Thread Cert.InprojSIdeal.nD Cert.InprojSIdeal.τ).loc Cert.InprojSIdeal.main_v25_1) = v1 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v31) = v0 c
          ∧ r.2.mem ((c.tc : Thread Cert.InprojSRefIdeal.nD Cert.InprojSRefIdeal.τ).loc Cert.InprojSRefIdeal.main_v32) = v1 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2))

def preserves_AttnP_AttnPIdeal : Prop :=
  True

def algebraic_AttnPIdeal_AttnPRefIdeal [hAttnPIdeal : Cert.AttnPIdeal.Facts] [hAttnPRefIdeal : Cert.AttnPRefIdeal.Facts] : Prop :=
  ∀ (m : (ℓ : Loc Cert.AttnPIdeal.nD Cert.AttnPIdeal.τ Cert.AttnPIdeal.sig) → Buf (Elt Ideal) ℓ) (g : Dev Cert.AttnPIdeal.nD → PrngReg)
    (m' : (ℓ : Loc Cert.AttnPRefIdeal.nD Cert.AttnPRefIdeal.τ Cert.AttnPRefIdeal.sig) → Buf (Elt Ideal) ℓ) (g' : Dev Cert.AttnPRefIdeal.nD → PrngReg), Pre_AttnPIdeal m →
    (∀ c : Dev Cert.AttnPIdeal.nD,
      m' ((c.tc : Thread Cert.AttnPRefIdeal.nD Cert.AttnPRefIdeal.τ).loc Cert.AttnPRefIdeal.main_arg0) = m ((c.tc : Thread Cert.AttnPIdeal.nD Cert.AttnPIdeal.τ).loc Cert.AttnPIdeal.main_arg0)
      ∧ m' ((c.tc : Thread Cert.AttnPRefIdeal.nD Cert.AttnPRefIdeal.τ).loc Cert.AttnPRefIdeal.main_arg1) = m ((c.tc : Thread Cert.AttnPIdeal.nD Cert.AttnPIdeal.τ).loc Cert.AttnPIdeal.main_arg1)
      ∧ m' ((c.tc : Thread Cert.AttnPRefIdeal.nD Cert.AttnPRefIdeal.τ).loc Cert.AttnPRefIdeal.main_arg2) = m ((c.tc : Thread Cert.AttnPIdeal.nD Cert.AttnPIdeal.τ).loc Cert.AttnPIdeal.main_arg2)) →
    ∃ (v0 : (c : Dev Cert.AttnPIdeal.nD) → Buf (Elt Ideal) ((c.tc : Thread Cert.AttnPIdeal.nD Cert.AttnPIdeal.τ).loc Cert.AttnPIdeal.main_v25_1)) (v1 : (c : Dev Cert.AttnPIdeal.nD) → Buf (Elt Ideal) ((c.tc : Thread Cert.AttnPIdeal.nD Cert.AttnPIdeal.τ).loc Cert.AttnPIdeal.main_v25_2)) (v2 : (c : Dev Cert.AttnPIdeal.nD) → Buf (Elt Ideal) ((c.tc : Thread Cert.AttnPIdeal.nD Cert.AttnPIdeal.τ).loc Cert.AttnPIdeal.main_v25_3)),
      θ_run (Cert.AttnPIdeal.defs (F := Ideal)) (onTc (τ := Cert.AttnPIdeal.τ) (Cert.AttnPIdeal.main (F := Ideal))) ⟨m, fun _ => 0, g⟩ (fun r => ∀ c : Dev Cert.AttnPIdeal.nD,
          r.2.mem ((c.tc : Thread Cert.AttnPIdeal.nD Cert.AttnPIdeal.τ).loc Cert.AttnPIdeal.main_v25_1) = v0 c
          ∧ r.2.mem ((c.tc : Thread Cert.AttnPIdeal.nD Cert.AttnPIdeal.τ).loc Cert.AttnPIdeal.main_v25_2) = v1 c
          ∧ r.2.mem ((c.tc : Thread Cert.AttnPIdeal.nD Cert.AttnPIdeal.τ).loc Cert.AttnPIdeal.main_v25_3) = v2 c
          ∧ r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
          ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
          ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2))
      ∧ θ_run (Cert.AttnPRefIdeal.defs (F := Ideal)) (onTc (τ := Cert.AttnPRefIdeal.τ) (Cert.AttnPRefIdeal.main (F := Ideal))) ⟨m', fun _ => 0, g'⟩ (fun r => ∀ c : Dev Cert.AttnPRefIdeal.nD,
          r.2.mem ((c.tc : Thread Cert.AttnPRefIdeal.nD Cert.AttnPRefIdeal.τ).loc Cert.AttnPRefIdeal.main_v5) = v0 c
          ∧ r.2.mem ((c.tc : Thread Cert.AttnPRefIdeal.nD Cert.AttnPRefIdeal.τ).loc Cert.AttnPRefIdeal.main_v11) = v1 c
          ∧ r.2.mem ((c.tc : Thread Cert.AttnPRefIdeal.nD Cert.AttnPRefIdeal.τ).loc Cert.AttnPRefIdeal.main_v17) = v2 c
          ∧ r.2.mem ((c.tc : Thread Cert.AttnPRefIdeal.nD Cert.AttnPRefIdeal.τ).loc Cert.AttnPRefIdeal.main_arg0) = m' ((c.tc : Thread Cert.AttnPRefIdeal.nD Cert.AttnPRefIdeal.τ).loc Cert.AttnPRefIdeal.main_arg0)
          ∧ r.2.mem ((c.tc : Thread Cert.AttnPRefIdeal.nD Cert.AttnPRefIdeal.τ).loc Cert.AttnPRefIdeal.main_arg1) = m' ((c.tc : Thread Cert.AttnPRefIdeal.nD Cert.AttnPRefIdeal.τ).loc Cert.AttnPRefIdeal.main_arg1)
          ∧ r.2.mem ((c.tc : Thread Cert.AttnPRefIdeal.nD Cert.AttnPRefIdeal.τ).loc Cert.AttnPRefIdeal.main_arg2) = m' ((c.tc : Thread Cert.AttnPRefIdeal.nD Cert.AttnPRefIdeal.τ).loc Cert.AttnPRefIdeal.main_arg2))

def Claim : Prop :=
  ∃ (hKernel : Cert.Kernel.Facts) (hKernelIdeal : Cert.KernelIdeal.Facts) (hReferenceIdeal : Cert.ReferenceIdeal.Facts) (hReference : Cert.Reference.Facts) (hFfn : Cert.Ffn.Facts) (hFfnIdeal : Cert.FfnIdeal.Facts) (hFfnRefIdeal : Cert.FfnRefIdeal.Facts) (hFfnA : Cert.FfnA.Facts) (hFfnAIdeal : Cert.FfnAIdeal.Facts) (hFfnARefIdeal : Cert.FfnARefIdeal.Facts) (hMix : Cert.Mix.Facts) (hMixIdeal : Cert.MixIdeal.Facts) (hMixRefIdeal : Cert.MixRefIdeal.Facts) (hInproj : Cert.Inproj.Facts) (hInprojIdeal : Cert.InprojIdeal.Facts) (hInprojRefIdeal : Cert.InprojRefIdeal.Facts) (hAttn : Cert.Attn.Facts) (hAttnIdeal : Cert.AttnIdeal.Facts) (hAttnRefIdeal : Cert.AttnRefIdeal.Facts) (hFfnS : Cert.FfnS.Facts) (hFfnSIdeal : Cert.FfnSIdeal.Facts) (hFfnSRefIdeal : Cert.FfnSRefIdeal.Facts) (hInprojS : Cert.InprojS.Facts) (hInprojSIdeal : Cert.InprojSIdeal.Facts) (hInprojSRefIdeal : Cert.InprojSRefIdeal.Facts) (hAttnP : Cert.AttnP.Facts) (hAttnPIdeal : Cert.AttnPIdeal.Facts) (hAttnPRefIdeal : Cert.AttnPRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Ffn (hFfn := hFfn)
    ∧ quiescent_FfnIdeal (hFfnIdeal := hFfnIdeal)
    ∧ quiescent_FfnRefIdeal (hFfnRefIdeal := hFfnRefIdeal)
    ∧ quiescent_FfnA (hFfnA := hFfnA)
    ∧ quiescent_FfnAIdeal (hFfnAIdeal := hFfnAIdeal)
    ∧ quiescent_FfnARefIdeal (hFfnARefIdeal := hFfnARefIdeal)
    ∧ quiescent_Mix (hMix := hMix)
    ∧ quiescent_MixIdeal (hMixIdeal := hMixIdeal)
    ∧ quiescent_MixRefIdeal (hMixRefIdeal := hMixRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Attn (hAttn := hAttn)
    ∧ quiescent_AttnIdeal (hAttnIdeal := hAttnIdeal)
    ∧ quiescent_AttnRefIdeal (hAttnRefIdeal := hAttnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_AttnP (hAttnP := hAttnP)
    ∧ quiescent_AttnPIdeal (hAttnPIdeal := hAttnPIdeal)
    ∧ quiescent_AttnPRefIdeal (hAttnPRefIdeal := hAttnPRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Ffn_FfnIdeal
    ∧ algebraic_FfnIdeal_FfnRefIdeal (hFfnIdeal := hFfnIdeal) (hFfnRefIdeal := hFfnRefIdeal)
    ∧ preserves_FfnA_FfnAIdeal
    ∧ algebraic_FfnAIdeal_FfnARefIdeal (hFfnAIdeal := hFfnAIdeal) (hFfnARefIdeal := hFfnARefIdeal)
    ∧ preserves_Mix_MixIdeal
    ∧ algebraic_MixIdeal_MixRefIdeal (hMixIdeal := hMixIdeal) (hMixRefIdeal := hMixRefIdeal)
    ∧ preserves_Inproj_InprojIdeal
    ∧ algebraic_InprojIdeal_InprojRefIdeal (hInprojIdeal := hInprojIdeal) (hInprojRefIdeal := hInprojRefIdeal)
    ∧ preserves_Attn_AttnIdeal
    ∧ algebraic_AttnIdeal_AttnRefIdeal (hAttnIdeal := hAttnIdeal) (hAttnRefIdeal := hAttnRefIdeal)
    ∧ preserves_FfnS_FfnSIdeal
    ∧ algebraic_FfnSIdeal_FfnSRefIdeal (hFfnSIdeal := hFfnSIdeal) (hFfnSRefIdeal := hFfnSRefIdeal)
    ∧ preserves_InprojS_InprojSIdeal
    ∧ algebraic_InprojSIdeal_InprojSRefIdeal (hInprojSIdeal := hInprojSIdeal) (hInprojSRefIdeal := hInprojSRefIdeal)
    ∧ preserves_AttnP_AttnPIdeal
    ∧ algebraic_AttnPIdeal_AttnPRefIdeal (hAttnPIdeal := hAttnPIdeal) (hAttnPRefIdeal := hAttnPRefIdeal)
-- ==== Kernel.lean ====
abbrev S1x1024x10768 : Shape := ⟨3, ![1, 1024, 10768]⟩
abbrev S21 : Shape := ⟨1, ![21]⟩
abbrev S1024x10768 : Shape := ⟨2, ![1024, 10768]⟩
abbrev S10768x1024 : Shape := ⟨2, ![10768, 1024]⟩
abbrev S10752x1024 : Shape := ⟨2, ![10752, 1024]⟩
abbrev S512x1024 : Shape := ⟨2, ![512, 1024]⟩
abbrev S1 : Shape := ⟨1, ![1]⟩

abbrev nBuf : Space → Nat
  | .hbm => 4
  | .vmem => 4
  | .smem => 1
  | _ => 0

abbrev bufTy : (tb : Table) → Fin (tcTables nBuf tb) → BufTy
  | .hbm, ⟨0, _⟩ => ⟨S1x1024x10768, .f32⟩
  | .hbm, ⟨1, _⟩ => ⟨S1024x10768, .f32⟩
  | .hbm, ⟨2, _⟩ => ⟨S10768x1024, .f32⟩
  | .hbm, ⟨3, _⟩ => ⟨S10752x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .smem, ⟨0, _⟩ => ⟨S21, .i32⟩
  | _, _ => ⟨S1x1024x10768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![21], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (k0_off1_inb : ∀ i : grid0.Coords, ∀ a, (k0_off1 i) a + S1.size a ≤ S21.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S21) ![v0.toNat] S1.size (k0_off1_inb i)) numel1_S1
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1x1024x10768 : Shape := ⟨3, ![1, 1024, 10768]⟩
abbrev S1024x10768 : Shape := ⟨2, ![1024, 10768]⟩
abbrev S1024x1536 : Shape := ⟨2, ![1024, 1536]⟩
abbrev S1024x3072 : Shape := ⟨2, ![1024, 3072]⟩
abbrev S1024x1024 : Shape := ⟨2, ![1024, 1024]⟩
abbrev S1024x8 : Shape := ⟨2, ![1024, 8]⟩
abbrev S1024x2048 : Shape := ⟨2, ![1024, 2048]⟩
abbrev S1024x512 : Shape := ⟨2, ![1024, 512]⟩
abbrev S1024x10752 : Shape := ⟨2, ![1024, 10752]⟩
abbrev S10752x1024 : Shape := ⟨2, ![10752, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1x1024x10768, .f32⟩
  | .hbm, ⟨1, _⟩ => ⟨S1024x10768, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x3072, .f32⟩
  | .hbm, ⟨6, _⟩ => ⟨S1024x1024, .f32⟩
  | .hbm, ⟨7, _⟩ => ⟨S1024x8, .f32⟩
  | .hbm, ⟨8, _⟩ => ⟨S1024x8, .f32⟩
  | .hbm, ⟨9, _⟩ => ⟨S1024x2048, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x10752, .f32⟩
  | .hbm, ⟨17, _⟩ => ⟨S10752x1024, .f32⟩
  | .hbm, ⟨18, _⟩ => ⟨S10752x1024, .bf16⟩
  | _, _ => ⟨S1x1024x10768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩

abbrev nD : Nat := 1
abbrev τ : Topo := Topo.v7x

variable {F : FTy → Type} [FloatOps F]
-- ==== Ffn.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S2816x1024 : Shape := ⟨2, ![2816, 1024]⟩
abbrev S2048x1024 : Shape := ⟨2, ![2048, 1024]⟩
abbrev S1024x256 : Shape := ⟨2, ![1024, 256]⟩
abbrev S256x1024 : Shape := ⟨2, ![256, 1024]⟩
abbrev S2048 : Shape := ⟨1, ![2048]⟩
abbrev S2048x1 : Shape := ⟨2, ![2048, 1]⟩
abbrev S2048x256 : Shape := ⟨2, ![2048, 256]⟩

abbrev nBuf : Space → Nat
  | .hbm => 12
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S2816x1024 : Shape := ⟨2, ![2816, 1024]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1024x5632, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x4096x2816, .f32⟩
  | .hbm, ⟨30, _⟩ => ⟨S4x4096x2816, .f32⟩
  | .hbm, ⟨31, _⟩ => ⟨S_, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S2816x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== FfnA.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S2048x1024 : Shape := ⟨2, ![2048, 1024]⟩
abbrev S1024x256 : Shape := ⟨2, ![1024, 256]⟩
abbrev S256x1024 : Shape := ⟨2, ![256, 1024]⟩
abbrev S2048 : Shape := ⟨1, ![2048]⟩
abbrev S2048x1 : Shape := ⟨2, ![2048, 1]⟩
abbrev S2048x256 : Shape := ⟨2, ![2048, 256]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S16384x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1x1024, .f32⟩
  | .hbm, ⟨9, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x1024, .f32⟩
  | .local _ .vmem, ⟨8, _⟩ => ⟨S256x1024, .f32⟩
  | .local _ .vmem, ⟨9, _⟩ => ⟨S2048x1024, .f32⟩
  | .local _ .vmem, ⟨10, _⟩ => ⟨S2048x1024, .f32⟩
  | .local _ .vmem, ⟨11, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnARefIdeal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S2816x1024 : Shape := ⟨2, ![2816, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x5632, .f32⟩
  | .hbm, ⟨22, _⟩ => ⟨S4x4096x5632, .f32⟩
  | .hbm, ⟨23, _⟩ => ⟨S4x4096x2816, .f32⟩
  | .hbm, ⟨24, _⟩ => ⟨S4x4096x2816, .f32⟩
  | .hbm, ⟨25, _⟩ => ⟨S4x4096x2816, .f32⟩
  | .hbm, ⟨26, _⟩ => ⟨S4x4096x2816, .f32⟩
  | .hbm, ⟨27, _⟩ => ⟨S_, .f32⟩
  | .hbm, ⟨28, _⟩ => ⟨S4x4096x2816, .f32⟩
  | .hbm, ⟨29, _⟩ => ⟨S4x4096x2816, .f32⟩
  | .hbm, ⟨30, _⟩ => ⟨S_, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S2816x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Mix.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x512x1024 : Shape := ⟨3, ![1, 512, 1024]⟩
abbrev S1x1024x1024 : Shape := ⟨3, ![1, 1024, 1024]⟩
abbrev S_ : Shape := ⟨0, ![]⟩
abbrev S16384x4096 : Shape := ⟨2, ![16384, 4096]⟩
abbrev S16384x2048 : Shape := ⟨2, ![16384, 2048]⟩
abbrev S16384x6144 : Shape := ⟨2, ![16384, 6144]⟩
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 22
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x1024, .f32⟩
  | .hbm, ⟨3, _⟩ => ⟨S4x4096x2048, .f32⟩
  | .hbm, ⟨4, _⟩ => ⟨S1x512x1024, .f32⟩
  | .hbm, ⟨5, _⟩ => ⟨S1x1024x1024, .f32⟩
  | .hbm, ⟨6, _⟩ => ⟨S1x1024x1024, .f32⟩
  | .hbm, ⟨7, _⟩ => ⟨S_, .bf16⟩
  | .hbm, ⟨8, _⟩ => ⟨S16384x4096, .bf16⟩
  | .hbm, ⟨9, _⟩ => ⟨S16384x2048, .f32⟩
  | .hbm, ⟨10, _⟩ => ⟨S16384x2048, .bf16⟩
  | .hbm, ⟨11, _⟩ => ⟨S16384x6144, .bf16⟩
  | .hbm, ⟨12, _⟩ => ⟨S16384x1024, .f32⟩
  | .hbm, ⟨13, _⟩ => ⟨S16384x512, .f32⟩
  | .hbm, ⟨14, _⟩ => ⟨S16384x1024, .f32⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x512x1024 : Shape := ⟨3, ![1, 512, 1024]⟩
abbrev S1x1024x1024 : Shape := ⟨3, ![1, 1024, 1024]⟩
abbrev S_ : Shape := ⟨0, ![]⟩
abbrev S512x1024 : Shape := ⟨2, ![512, 1024]⟩
abbrev S1024x1024 : Shape := ⟨2, ![1024, 1024]⟩
abbrev S16384x1024 : Shape := ⟨2, ![16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x1024, .f32⟩
  | .hbm, ⟨3, _⟩ => ⟨S4x4096x2048, .f32⟩
  | .hbm, ⟨4, _⟩ => ⟨S1x512x1024, .f32⟩
  | .hbm, ⟨5, _⟩ => ⟨S1x1024x1024, .f32⟩
  | .hbm, ⟨6, _⟩ => ⟨S1x1024x1024, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x4096x2048, .f32⟩
  | .hbm, ⟨11, _⟩ => ⟨S4x4096x2048, .f32⟩
  | .hbm, ⟨12, _⟩ => ⟨S_, .f32⟩
  | .hbm, ⟨13, _⟩ => ⟨S4x4096x2048, .f32⟩
  | .hbm, ⟨14, _⟩ => ⟨S4x4096x2048, .f32⟩
  | .hbm, ⟨15, _⟩ => ⟨S4x4096x1024, .f32⟩
  | .hbm, ⟨16, _⟩ => ⟨S512x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S1024x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1024x1024, .f32⟩
  | .hbm, ⟨25, _⟩ => ⟨S4x4096x1024, .f32⟩
  | .hbm, ⟨26, _⟩ => ⟨S4x4096x1024, .f32⟩
  | .hbm, ⟨27, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Inproj.lean ====
abbrev S4x4096x1024 : Shape := ⟨3, ![4, 4096, 1024]⟩
abbrev S1x1024 : Shape := ⟨2, ![1, 1024]⟩
abbrev S1x1024x10768 : Shape := ⟨3, ![1, 1024, 10768]⟩
abbrev S1024x10768 : Shape := ⟨2, ![1024, 10768]⟩
abbrev S1024x512 : Shape := ⟨2, ![1024, 512]⟩
abbrev S1024x3072 : Shape := ⟨2, ![1024, 3072]⟩
abbrev S1024x1024 : Shape := ⟨2, ![1024, 1024]⟩
abbrev S1024x2048 : Shape := ⟨2, ![1024, 2048]⟩
abbrev S1024x1536 : Shape := ⟨2, ![1024, 1536]⟩
abbrev S1024x10752 : Shape := ⟨2, ![1024, 10752]⟩
abbrev S10752x1024 : Shape := ⟨2, ![10752, 1024]⟩
abbrev S10768x1024 : Shape := ⟨2, ![10768, 1024]⟩
abbrev S16x1024 : Shape := ⟨2, ![16, 1024]⟩
abbrev S_ : Shape := ⟨0, ![]⟩
abbrev S224x1024 : Shape := ⟨2, ![224, 1024]⟩
abbrev S256x1024 : Shape := ⟨2, ![256, 1024]⟩
abbrev S16384x1024 : Shape := ⟨2, ![16384, 1024]⟩
abbrev S1024 : Shape := ⟨1, ![1024]⟩
abbrev S16384x6144 : Shape := ⟨2, ![16384, 6144]⟩
abbrev S16384x4608 : Shape := ⟨2, ![16384, 4608]⟩
abbrev S16384x128 : Shape := ⟨2, ![16384, 128]⟩
abbrev S64x3072 : Shape := ⟨2, ![64, 3072]⟩
abbrev S2048x1024 : Shape := ⟨2, ![2048, 1024]⟩
abbrev S768x1024 : Shape := ⟨2, ![768, 1024]⟩
abbrev S2048x768 : Shape := ⟨2, ![2048, 768]⟩
abbrev S2048x128 : Shape := ⟨2, ![2048, 128]⟩
abbrev S8x768 : Shape := ⟨2, ![8, 768]⟩
abbrev S2048 : Shape := ⟨1, ![2048]⟩
abbrev S2048x1 : Shape := ⟨2, ![2048, 1]⟩
abbrev S2048x256 : Shape := ⟨2, ![2048, 256]⟩
abbrev S16x768 : Shape := ⟨2, ![16, 768]⟩

abbrev nBuf : Space → Nat
  | .hbm => 33
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x10768, .f32⟩
  | .hbm, ⟨3, _⟩ => ⟨S1024x10768, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x3072, .f32⟩
  | .hbm, ⟨11, _⟩ => ⟨S1024x1024, .f32⟩
  | .hbm, ⟨12, _⟩ => ⟨S1024x2048, .f32⟩
  | .hbm, ⟨13, _⟩ => ⟨S1024x1536, .f32⟩
  | .hbm, ⟨14, _⟩ => ⟨S1024x10752, .f32⟩
  | .hbm, ⟨15, _⟩ => ⟨S10752x1024, .f32⟩
  | .hbm, ⟨16, _⟩ => ⟨S10752x1024, .bf16⟩
  | .hbm, ⟨17, _⟩ => ⟨S10768x1024, .f32⟩
  | .hbm, ⟨18, _⟩ => ⟨S16x1024, .f32⟩
  | .hbm, ⟨19, _⟩ => ⟨S16x1024, .bf16⟩
  | .hbm, ⟨20, _⟩ => ⟨S16x1024, .f32⟩
  | .hbm, ⟨21, _⟩ => ⟨S16x1024, .f32⟩
  | .hbm, ⟨22, _⟩ => ⟨S16x1024, .bf16⟩
  | .hbm, ⟨23, _⟩ => ⟨S_, .bf16⟩
  | .hbm, ⟨24, _⟩ => ⟨S224x1024, .bf16⟩
  | .hbm, ⟨25, _⟩ => ⟨S256x1024, .bf16⟩
  | .hbm, ⟨26, _⟩ => ⟨S16384x1024, .f32⟩
  | .hbm, ⟨27, _⟩ => ⟨S1024, .f32⟩
  | .hbm, ⟨28, _⟩ => ⟨S1x1024, .f32⟩
  | .hbm, ⟨29, _⟩ => ⟨S16384x6144, .bf16⟩
  | .hbm, ⟨30, _⟩ => ⟨S16384x4608, .f32⟩
  | .hbm, ⟨31, _⟩ => ⟨S16384x128, .f32⟩
  | .hbm, ⟨32, _⟩ => ⟨S64x3072, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | .local _ .vmem, ⟨5, _⟩ => ⟨S256x1024, .bf16⟩
  | .local _ .vmem, ⟨6, _⟩ => ⟨S2048x768, .bf16⟩
  | .local _ .vmem, ⟨7, _⟩ => ⟨S2048x768, .bf16⟩
  | .local _ .vmem, ⟨8, _⟩ => ⟨S2048x768, .f32⟩
  | .local _ .vmem, ⟨9, _⟩ => ⟨S2048x768, .f32⟩
  | .local _ .vmem, ⟨10, _⟩ => ⟨S2048x128, .f32⟩
  | .local _ .vmem, ⟨11, _⟩ => ⟨S2048x128, .f32⟩
  | .local _ .vmem, ⟨12, _⟩ => ⟨S8x768, .f32⟩
  | .local _ .vmem, ⟨13, _⟩ => ⟨S8x768, .f32⟩
  | .local _ .vmem, ⟨14, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25_0 : Ref sig .tc := ⟨.hbm, 29, rfl⟩
abbrev main_v25_1 : Ref sig .tc := ⟨.hbm, 30, rfl⟩
abbrev main_v25_2 : Ref sig .tc := ⟨.hbm, 31, rfl⟩
abbrev main_v25_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 14], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg1 : BitVec 32 := BitVec.ofNat 32 (i 1).val
  let c4_i32 : BitVec 32 := 4#32
  let v9 : BitVec 1 := Scalar.cmpi .slt arg1 c4_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InprojRefIdeal.lean ====
abbrev S4x4096x1024 : Shape := ⟨3, ![4, 4096, 1024]⟩
abbrev S1x1024 : Shape := ⟨2, ![1, 1024]⟩
abbrev S1x1024x10768 : Shape := ⟨3, ![1, 1024, 10768]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x10768 : Shape := ⟨2, ![1024, 10768]⟩
abbrev S4x4096x10768 : Shape := ⟨3, ![4, 4096, 10768]⟩
abbrev S16384x10768 : Shape := ⟨2, ![16384, 10768]⟩
abbrev S16384x1536 : Shape := ⟨2, ![16384, 1536]⟩
abbrev S16384x3072 : Shape := ⟨2, ![16384, 3072]⟩
abbrev S16384x1024 : Shape := ⟨2, ![16384, 1024]⟩
abbrev S16384x8 : Shape := ⟨2, ![16384, 8]⟩
abbrev S16384x2048 : Shape := ⟨2, ![16384, 2048]⟩
abbrev S16384x512 : Shape := ⟨2, ![16384, 512]⟩
abbrev S16384x6144 : Shape := ⟨2, ![16384, 6144]⟩
abbrev S16384x4608 : Shape := ⟨2, ![16384, 4608]⟩
abbrev S8x2048x3072 : Shape := ⟨3, ![8, 2048, 3072]⟩
abbrev S8x8x3072 : Shape := ⟨3, ![8, 8, 3072]⟩
abbrev S64x3072 : Shape := ⟨2, ![64, 3072]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x10768, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x10768, .f32⟩
  | .hbm, ⟨21, _⟩ => ⟨S4x4096x10768, .f32⟩
  | .hbm, ⟨22, _⟩ => ⟨S16384x10768, .f32⟩
  | .hbm, ⟨23, _⟩ => ⟨S16384x1536, .f32⟩
  | .hbm, ⟨24, _⟩ => ⟨S16384x1536, .f32⟩
  | .hbm, ⟨25, _⟩ => ⟨S16384x1536, .f32⟩
  | .hbm, ⟨26, _⟩ => ⟨S16384x3072, .f32⟩
  | .hbm, ⟨27, _⟩ => ⟨S16384x1024, .f32⟩
  | .hbm, ⟨28, _⟩ => ⟨S16384x8, .f32⟩
  | .hbm, ⟨29, _⟩ => ⟨S16384x8, .f32⟩
  | .hbm, ⟨30, _⟩ => ⟨S16384x2048, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x6144, .f32⟩
  | .hbm, ⟨38, _⟩ => ⟨S16384x6144, .bf16⟩
  | .hbm, ⟨39, _⟩ => ⟨S16384x4608, .f32⟩
  | .hbm, ⟨40, _⟩ => ⟨S8x2048x3072, .f32⟩
  | .hbm, ⟨41, _⟩ => ⟨S8x8x3072, .f32⟩
  | .hbm, ⟨42, _⟩ => ⟨S64x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Attn.lean ====
abbrev S128x4x12x128 : Shape := ⟨4, ![128, 4, 12, 128]⟩
abbrev S1x128x128x2x4x128 : Shape := ⟨6, ![1, 128, 128, 2, 4, 128]⟩
abbrev S1x128x512x2x4x128 : Shape := ⟨6, ![1, 128, 512, 2, 4, 128]⟩
abbrev S1x128x2048x2x4x128 : Shape := ⟨6, ![1, 128, 2048, 2, 4, 128]⟩
abbrev S12 : Shape := ⟨1, ![12]⟩
abbrev S_ : Shape := ⟨0, ![]⟩
abbrev S512x1536 : Shape := ⟨2, ![512, 1536]⟩
abbrev S512x512 : Shape := ⟨2, ![512, 512]⟩
abbrev S512x4608 : Shape := ⟨2, ![512, 4608]⟩
abbrev S128x128x2x4x128 : Shape := ⟨5, ![128, 128, 2, 4, 128]⟩
abbrev S128x512x2x4x128 : Shape := ⟨5, ![128, 512, 2, 4, 128]⟩
abbrev S128x2048x2x4x128 : Shape := ⟨5, ![128, 2048, 2, 4, 128]⟩
abbrev S128x128x1x8x128 : Shape := ⟨5, ![128, 128, 1, 8, 128]⟩
abbrev S128x128x4x8x128 : Shape := ⟨5, ![128, 128, 4, 8, 128]⟩
abbrev S128x128x16x8x128 : Shape := ⟨5, ![128, 128, 16, 8, 128]⟩
abbrev S4096x128 : Shape := ⟨2, ![4096, 128]⟩
abbrev S16x1536 : Shape := ⟨2, ![16, 1536]⟩
abbrev S16x3072 : Shape := ⟨2, ![16, 3072]⟩
abbrev S4x128x1x8x128 : Shape := ⟨5, ![4, 128, 1, 8, 128]⟩
abbrev S4x128x4x8x128 : Shape := ⟨5, ![4, 128, 4, 8, 128]⟩
abbrev S16x512 : Shape := ⟨2, ![16, 512]⟩
abbrev S128x128 : Shape := ⟨2, ![128, 128]⟩
abbrev S1x128 : Shape := ⟨2, ![1, 128]⟩
abbrev S8x128 : Shape := ⟨2, ![8, 128]⟩
abbrev S8x1024 : Shape := ⟨2, ![8, 1024]⟩
abbrev S8x1 : Shape := ⟨2, ![8, 1]⟩
abbrev S1 : Shape := ⟨1, ![1]⟩
abbrev S1x128x1x8x128 : Shape := ⟨5, ![1, 128, 1, 8, 128]⟩
abbrev S128x8x128 : Shape := ⟨3, ![128, 8, 128]⟩
abbrev S1024x128 : Shape := ⟨2, ![1024, 128]⟩
abbrev S8 : Shape := ⟨1, ![8]⟩
abbrev S16x128 : Shape := ⟨2, ![16, 128]⟩

abbrev nBuf : Space → Nat
  | .hbm => 44
  | .vmem => 18
  | .smem => 1
  | _ => 0

abbrev bufTy : (tb : Table) → Fin (tcTables nBuf tb) → BufTy
  | .hbm, ⟨0, _⟩ => ⟨S128x4x12x128, .f32⟩
  | .hbm, ⟨1, _⟩ => ⟨S128x4x12x128, .f32⟩
  | .hbm, ⟨2, _⟩ => ⟨S128x4x12x128, .f32⟩
  | .hbm, ⟨3, _⟩ => ⟨S1x128x128x2x4x128, .f32⟩
  | .hbm, ⟨4, _⟩ => ⟨S1x128x512x2x4x128, .f32⟩
  | .hbm, ⟨5, _⟩ => ⟨S1x128x2048x2x4x128, .f32⟩
  | .hbm, ⟨6, _⟩ => ⟨S12, .f32⟩
  | .hbm, ⟨7, _⟩ => ⟨S_, .f32⟩
  | .hbm, ⟨8, _⟩ => ⟨S12, .f32⟩
  | .hbm, ⟨9, _⟩ => ⟨S12, .f32⟩
  | .hbm, ⟨10, _⟩ => ⟨S_, .f32⟩
  | .hbm, ⟨11, _⟩ => ⟨S12, .f32⟩
  | .hbm, ⟨12, _⟩ => ⟨S12, .f32⟩
  | .hbm, ⟨13, _⟩ => ⟨S_, .f32⟩
  | .hbm, ⟨14, _⟩ => ⟨S12, .f32⟩
  | .hbm, ⟨15, _⟩ => ⟨S12, .f32⟩
  | .hbm, ⟨16, _⟩ => ⟨S_, .f32⟩
  | .hbm, ⟨17, _⟩ => ⟨S12, .f32⟩
  | .hbm, ⟨18, _⟩ => ⟨S12, .f32⟩
  | .hbm, ⟨19, _⟩ => ⟨S12, .f32⟩
  | .hbm, ⟨20, _⟩ => ⟨S512x1536, .f32⟩
  | .hbm, ⟨21, _⟩ => ⟨S512x512, .f32⟩
  | .hbm, ⟨22, _⟩ => ⟨S512x1536, .f32⟩
  | .hbm, ⟨23, _⟩ => ⟨S512x512, .f32⟩
  | .hbm, ⟨24, _⟩ => ⟨S512x1536, .f32⟩
  | .hbm, ⟨25, _⟩ => ⟨S512x512, .f32⟩
  | .hbm, ⟨26, _⟩ => ⟨S512x1536, .f32⟩
  | .hbm, ⟨27, _⟩ => ⟨S512x512, .f32⟩
  | .hbm, ⟨28, _⟩ => ⟨S512x1536, .f32⟩
  | .hbm, ⟨29, _⟩ => ⟨S512x512, .f32⟩
  | .hbm, ⟨30, _⟩ => ⟨S512x1536, .f32⟩
  | .hbm, ⟨31, _⟩ => ⟨S512x512, .f32⟩
  | .hbm, ⟨32, _⟩ => ⟨S512x1536, .f32⟩
  | .hbm, ⟨33, _⟩ => ⟨S512x4608, .f32⟩
  | .hbm, ⟨34, _⟩ => ⟨S128x128x2x4x128, .f32⟩
  | .hbm, ⟨35, _⟩ => ⟨S128x512x2x4x128, .f32⟩
  | .hbm, ⟨36, _⟩ => ⟨S128x2048x2x4x128, .f32⟩
  | .hbm, ⟨37, _⟩ => ⟨S128x128x1x8x128, .f32⟩
  | .hbm, ⟨38, _⟩ => ⟨S128x128x4x8x128, .f32⟩
  | .hbm, ⟨39, _⟩ => ⟨S128x128x16x8x128, .f32⟩
  | .hbm, ⟨40, _⟩ => ⟨S512x512, .f32⟩
  | .hbm, ⟨41, _⟩ => ⟨S4096x128, .f32⟩
  | .hbm, ⟨42, _⟩ => ⟨S4096x128, .f32⟩
  | .hbm, ⟨43, _⟩ => ⟨S4096x128, .f32⟩
  | .local _ .vmem, ⟨0, _⟩ => ⟨S16x1536, .f32⟩
  | .local _ .vmem, ⟨1, _⟩ => ⟨S16x1536, .f32⟩
  | .local _ .vmem, ⟨2, _⟩ => ⟨S16x3072, .f32⟩
  | .local _ .vmem, ⟨3, _⟩ => ⟨S16x3072, .f32⟩
  | .local _ .vmem, ⟨4, _⟩ => ⟨S4x128x1x8x128, .f32⟩
  | .local _ .vmem, ⟨5, _⟩ => ⟨S4x128x1x8x128, .f32⟩
  | .local _ .vmem, ⟨6, _⟩ => ⟨S4x128x4x8x128, .f32⟩
  | .local _ .vmem, ⟨7, _⟩ => ⟨S4x128x4x8x128, .f32⟩
  | .local _ .vmem, ⟨8, _⟩ => ⟨S4x128x4x8x128, .f32⟩
  | .local _ .vmem, ⟨9, _⟩ => ⟨S4x128x4x8x128, .f32⟩
  | .local _ .vmem, ⟨10, _⟩ => ⟨S16x512, .f32⟩
  | .local _ .vmem, ⟨11, _⟩ => ⟨S16x512, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .smem, ⟨0, _⟩ => ⟨S12, .f32⟩
  | _, _ => ⟨S128x4x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnRefIdeal.lean ====
abbrev S128x4x12x128 : Shape := ⟨4, ![128, 4, 12, 128]⟩
abbrev S1x128x128x2x4x128 : Shape := ⟨6, ![1, 128, 128, 2, 4, 128]⟩
abbrev S1x128x512x2x4x128 : Shape := ⟨6, ![1, 128, 512, 2, 4, 128]⟩
abbrev S1x128x2048x2x4x128 : Shape := ⟨6, ![1, 128, 2048, 2, 4, 128]⟩
abbrev S128x4x4x128 : Shape := ⟨4, ![128, 4, 4, 128]⟩
abbrev S128x4x1x4x128 : Shape := ⟨5, ![128, 4, 1, 4, 128]⟩
abbrev S128x4x2x4x128 : Shape := ⟨5, ![128, 4, 2, 4, 128]⟩
abbrev S4096x128 : Shape := ⟨2, ![4096, 128]⟩

abbrev nBuf : Space → Nat
  | .hbm => 24
  | .vmem => 0
  | .smem => 0
  | _ => 0

abbrev bufTy : (tb : Table) → Fin (tcTables nBuf tb) → BufTy
  | .hbm, ⟨0, _⟩ => ⟨S128x4x12x128, .f32⟩
  | .hbm, ⟨1, _⟩ => ⟨S128x4x12x128, .f32⟩
  | .hbm, ⟨2, _⟩ => ⟨S128x4x12x128, .f32⟩
  | .hbm, ⟨3, _⟩ => ⟨S1x128x128x2x4x128, .f32⟩
  | .hbm, ⟨4, _⟩ => ⟨S1x128x512x2x4x128, .f32⟩
  | .hbm, ⟨5, _⟩ => ⟨S1x128x2048x2x4x128, .f32⟩
  | .hbm, ⟨6, _⟩ => ⟨S128x4x4x128, .f32⟩
  | .hbm, ⟨7, _⟩ => ⟨S128x4x4x128, .f32⟩
  | .hbm, ⟨8, _⟩ => ⟨S128x4x1x4x128, .f32⟩
  | .hbm, ⟨9, _⟩ => ⟨S128x4x1x4x128, .f32⟩
  | .hbm, ⟨10, _⟩ => ⟨S128x4x2x4x128, .f32⟩
  | .hbm, ⟨11, _⟩ => ⟨S4096x128, .f32⟩
  | .hbm, ⟨12, _⟩ => ⟨S128x4x4x128, .f32⟩
  | .hbm, ⟨13, _⟩ => ⟨S128x4x4x128, .f32⟩
  | .hbm, ⟨14, _⟩ => ⟨S128x4x1x4x128, .f32⟩
  | .hbm, ⟨15, _⟩ => ⟨S128x4x1x4x128, .f32⟩
  | .hbm, ⟨16, _⟩ => ⟨S128x4x2x4x128, .f32⟩
  | .hbm, ⟨17, _⟩ => ⟨S4096x128, .f32⟩
  | .hbm, ⟨18, _⟩ => ⟨S128x4x4x128, .f32⟩
  | .hbm, ⟨19, _⟩ => ⟨S128x4x4x128, .f32⟩
  | .hbm, ⟨20, _⟩ => ⟨S128x4x1x4x128, .f32⟩
  | .hbm, ⟨21, _⟩ => ⟨S128x4x1x4x128, .f32⟩
  | .hbm, ⟨22, _⟩ => ⟨S128x4x2x4x128, .f32⟩
  | .hbm, ⟨23, _⟩ => ⟨S4096x128, .f32⟩
  | _, _ => ⟨S128x4x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FfnS.lean ====
abbrev S128x4x1024 : Shape := ⟨3, ![128, 4, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S512x1024 : Shape := ⟨2, ![512, 1024]⟩
abbrev S1024x5632 : Shape := ⟨2, ![1024, 5632]⟩
abbrev S2816x1024 : Shape := ⟨2, ![2816, 1024]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 12
  | .vmem => 11
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S512x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S128x4x1024 : Shape := ⟨3, ![128, 4, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x5632 : Shape := ⟨2, ![1024, 5632]⟩
abbrev S128x4x5632 : Shape := ⟨3, ![128, 4, 5632]⟩
abbrev S128x4x2816 : Shape := ⟨3, ![128, 4, 2816]⟩
abbrev S2816x1024 : Shape := ⟨2, ![2816, 1024]⟩
abbrev S512x1024 : Shape := ⟨2, ![512, 1024]⟩

abbrev nBuf : Space → Nat
  | .hbm => 59
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S128x4x1024, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x1024, .f32⟩
  | .hbm, ⟨18, _⟩ => ⟨S128x4x1024, .f32⟩
  | .hbm, ⟨19, _⟩ => ⟨S1x1x1024, .f32⟩
  | .hbm, ⟨20, _⟩ => ⟨S128x4x1024, .f32⟩
  | .hbm, ⟨21, _⟩ => ⟨S128x4x1024, .f32⟩
  | .hbm, ⟨22, _⟩ => ⟨S1024x5632, .f32⟩
  | .hbm, ⟨23, _⟩ => ⟨S128x4x5632, .f32⟩
  | .hbm, ⟨24, _⟩ => ⟨S128x4x2816, .f32⟩
  | .hbm, ⟨25, _⟩ => ⟨S128x4x2816, .f32⟩
  | .hbm, ⟨26, _⟩ => ⟨S128x4x2816, .f32⟩
  | .hbm, ⟨27, _⟩ => ⟨S128x4x2816, .f32⟩
  | .hbm, ⟨28, _⟩ => ⟨S_, .f32⟩
  | .hbm, ⟨29, _⟩ => ⟨S128x4x2816, .f32⟩
  | .hbm, ⟨30, _⟩ => ⟨S128x4x2816, .f32⟩
  | .hbm, ⟨31, _⟩ => ⟨S_, .f32⟩
  | .hbm, ⟨32, _⟩ => ⟨S128x4x2816, .f32⟩
  | .hbm, ⟨33, _⟩ => ⟨S128x4x2816, .f32⟩
  | .hbm, ⟨34, _⟩ => ⟨S128x4x2816, .f32⟩
  | .hbm, ⟨35, _⟩ => ⟨S128x4x2816, .f32⟩
  | .hbm, ⟨36, _⟩ => ⟨S2816x1024, .f32⟩
  | .hbm, ⟨37, _⟩ => ⟨S128x4x1024, .f32⟩
  | .hbm, ⟨38, _⟩ => ⟨S_, .f32⟩
  | .hbm, ⟨39, _⟩ => ⟨S128x4x1024, .f32⟩
  | .hbm, ⟨40, _⟩ => ⟨S128x4x1024, .f32⟩
  | .hbm, ⟨41, _⟩ => ⟨S128x4x1024, .f32⟩
  | .hbm, ⟨42, _⟩ => ⟨S128x4x1024, .f32⟩
  | .hbm, ⟨43, _⟩ => ⟨S_, .f32⟩
  | .hbm, ⟨44, _⟩ => ⟨S128x4, .f32⟩
  | .hbm, ⟨45, _⟩ => ⟨S128x4x1, .f32⟩
  | .hbm, ⟨46, _⟩ => ⟨S_, .f32⟩
  | .hbm, ⟨47, _⟩ => ⟨S128x4x1, .f32⟩
  | .hbm, ⟨48, _⟩ => ⟨S128x4x1, .f32⟩
  | .hbm, ⟨49, _⟩ => ⟨S_, .f32⟩
  | .hbm, ⟨50, _⟩ => ⟨S128x4x1, .f32⟩
  | .hbm, ⟨51, _⟩ => ⟨S128x4x1, .f32⟩
  | .hbm, ⟨52, _⟩ => ⟨S128x4x1, .f32⟩
  | .hbm, ⟨53, _⟩ => ⟨S128x4x1024, .f32⟩
  | .hbm, ⟨54, _⟩ => ⟨S128x4x1024, .f32⟩
  | .hbm, ⟨55, _⟩ => ⟨S1x1x1024, .f32⟩
  | .hbm, ⟨56, _⟩ => ⟨S128x4x1024, .f32⟩
  | .hbm, ⟨57, _⟩ => ⟨S128x4x1024, .f32⟩
  | .hbm, ⟨58, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== InprojS.lean ====
abbrev S128x4x1024 : Shape := ⟨3, ![128, 4, 1024]⟩
abbrev S1x1024 : Shape := ⟨2, ![1, 1024]⟩
abbrev S1x1024x10768 : Shape := ⟨3, ![1, 1024, 10768]⟩
abbrev S1024x10768 : Shape := ⟨2, ![1024, 10768]⟩
abbrev S1024x512 : Shape := ⟨2, ![1024, 512]⟩
abbrev S1024x3072 : Shape := ⟨2, ![1024, 3072]⟩
abbrev S1024x1024 : Shape := ⟨2, ![1024, 1024]⟩
abbrev S1024x2048 : Shape := ⟨2, ![1024, 2048]⟩
abbrev S1024x1536 : Shape := ⟨2, ![1024, 1536]⟩
abbrev S1024x10752 : Shape := ⟨2, ![1024, 10752]⟩
abbrev S10752x1024 : Shape := ⟨2, ![10752, 1024]⟩
abbrev S10768x1024 : Shape := ⟨2, ![10768, 1024]⟩
abbrev S16x1024 : Shape := ⟨2, ![16, 1024]⟩
abbrev S_ : Shape := ⟨0, ![]⟩
abbrev S224x1024 : Shape := ⟨2, ![224, 1024]⟩
abbrev S256x1024 : Shape := ⟨2, ![256, 1024]⟩
abbrev S512x1024 : Shape := ⟨2, ![512, 1024]⟩
abbrev S1024 : Shape := ⟨1, ![1024]⟩
abbrev S512x6144 : Shape := ⟨2, ![512, 6144]⟩
abbrev S512x4608 : Shape := ⟨2, ![512, 4608]⟩
abbrev S512x128 : Shape := ⟨2, ![512, 128]⟩
abbrev S1536x1024 : Shape := ⟨2, ![1536, 1024]⟩
abbrev S512x1536 : Shape := ⟨2, ![512, 1536]⟩
abbrev S512 : Shape := ⟨1, ![512]⟩
abbrev S512x1 : Shape := ⟨2, ![512, 1]⟩
abbrev S512x256 : Shape := ⟨2, ![512, 256]⟩

abbrev nBuf : Space → Nat
  | .hbm => 32
  | .vmem => 11
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x10768, .f32⟩
  | .hbm, ⟨3, _⟩ => ⟨S1024x10768, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x3072, .f32⟩
  | .hbm, ⟨11, _⟩ => ⟨S1024x1024, .f32⟩
  | .hbm, ⟨12, _⟩ => ⟨S1024x2048, .f32⟩
  | .hbm, ⟨13, _⟩ => ⟨S1024x1536, .f32⟩
  | .hbm, ⟨14, _⟩ => ⟨S1024x10752, .f32⟩
  | .hbm, ⟨15, _⟩ => ⟨S10752x1024, .f32⟩
  | .hbm, ⟨16, _⟩ => ⟨S10752x1024, .bf16⟩
  | .hbm, ⟨17, _⟩ => ⟨S10768x1024, .f32⟩
  | .hbm, ⟨18, _⟩ => ⟨S16x1024, .f32⟩
  | .hbm, ⟨19, _⟩ => ⟨S16x1024, .bf16⟩
  | .hbm, ⟨20, _⟩ => ⟨S16x1024, .f32⟩
  | .hbm, ⟨21, _⟩ => ⟨S16x1024, .f32⟩
  | .hbm, ⟨22, _⟩ => ⟨S16x1024, .bf16⟩
  | .hbm, ⟨23, _⟩ => ⟨S_, .bf16⟩
  | .hbm, ⟨24, _⟩ => ⟨S224x1024, .bf16⟩
  | .hbm, ⟨25, _⟩ => ⟨S256x1024, .bf16⟩
  | .hbm, ⟨26, _⟩ => ⟨S512x1024, .f32⟩
  | .hbm, ⟨27, _⟩ => ⟨S1024, .f32⟩
  | .hbm, ⟨28, _⟩ => ⟨S1x1024, .f32⟩
  | .hbm, ⟨29, _⟩ => ⟨S512x6144, .f32⟩
  | .hbm, ⟨30, _⟩ => ⟨S512x4608, .f32⟩
  | .hbm, ⟨31, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1536x1024, .bf16⟩
  | .local _ .vmem, ⟨3, _⟩ => ⟨S1536x1024, .bf16⟩
  | .local _ .vmem, ⟨4, _⟩ => ⟨S256x1024, .bf16⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x128, .f32⟩
  | .local _ .vmem, ⟨10, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25_0 : Ref sig .tc := ⟨.hbm, 29, rfl⟩
abbrev main_v25_1 : Ref sig .tc := ⟨.hbm, 30, rfl⟩
abbrev main_v25_2 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 7], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== InprojSRefIdeal.lean ====
abbrev S128x4x1024 : Shape := ⟨3, ![128, 4, 1024]⟩
abbrev S1x1024 : Shape := ⟨2, ![1, 1024]⟩
abbrev S1x1024x10768 : Shape := ⟨3, ![1, 1024, 10768]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x10768 : Shape := ⟨2, ![1024, 10768]⟩
abbrev S128x4x10768 : Shape := ⟨3, ![128, 4, 10768]⟩
abbrev S512x10768 : Shape := ⟨2, ![512, 10768]⟩
abbrev S512x1536 : Shape := ⟨2, ![512, 1536]⟩
abbrev S512x3072 : Shape := ⟨2, ![512, 3072]⟩
abbrev S512x1024 : Shape := ⟨2, ![512, 1024]⟩
abbrev S512x8 : Shape := ⟨2, ![512, 8]⟩
abbrev S512x2048 : Shape := ⟨2, ![512, 2048]⟩
abbrev S512x512 : Shape := ⟨2, ![512, 512]⟩
abbrev S512x6144 : Shape := ⟨2, ![512, 6144]⟩
abbrev S512x4608 : Shape := ⟨2, ![512, 4608]⟩

abbrev nBuf : Space → Nat
  | .hbm => 39
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x10768, .f32⟩
  | .hbm, ⟨3, _⟩ => ⟨S1024, .f32⟩
  | .hbm, ⟨4, _⟩ => ⟨S128x4x1024, .f32⟩
  | .hbm, ⟨5, _⟩ => ⟨S_, .f32⟩
  | .hbm, ⟨6, _⟩ => ⟨S128x4, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1, .f32⟩
  | .hbm, ⟨15, _⟩ => ⟨S128x4x1024, .f32⟩
  | .hbm, ⟨16, _⟩ => ⟨S128x4x1024, .f32⟩
  | .hbm, ⟨17, _⟩ => ⟨S1x1x1024, .f32⟩
  | .hbm, ⟨18, _⟩ => ⟨S128x4x1024, .f32⟩
  | .hbm, ⟨19, _⟩ => ⟨S128x4x1024, .f32⟩
  | .hbm, ⟨20, _⟩ => ⟨S1024x10768, .f32⟩
  | .hbm, ⟨21, _⟩ => ⟨S128x4x10768, .f32⟩
  | .hbm, ⟨22, _⟩ => ⟨S512x10768, .f32⟩
  | .hbm, ⟨23, _⟩ => ⟨S512x1536, .f32⟩
  | .hbm, ⟨24, _⟩ => ⟨S512x1536, .f32⟩
  | .hbm, ⟨25, _⟩ => ⟨S512x1536, .f32⟩
  | .hbm, ⟨26, _⟩ => ⟨S512x3072, .f32⟩
  | .hbm, ⟨27, _⟩ => ⟨S512x1024, .f32⟩
  | .hbm, ⟨28, _⟩ => ⟨S512x8, .f32⟩
  | .hbm, ⟨29, _⟩ => ⟨S512x8, .f32⟩
  | .hbm, ⟨30, _⟩ => ⟨S512x2048, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x6144, .f32⟩
  | .hbm, ⟨38, _⟩ => ⟨S512x4608, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== AttnP.lean ====
abbrev S4x4096x12x128 : Shape := ⟨4, ![4, 4096, 12, 128]⟩
abbrev S12 : Shape := ⟨1, ![12]⟩
abbrev S_ : Shape := ⟨0, ![]⟩
abbrev S16384x1536 : Shape := ⟨2, ![16384, 1536]⟩
abbrev S16384x512 : Shape := ⟨2, ![16384, 512]⟩
abbrev S16384x4608 : Shape := ⟨2, ![16384, 4608]⟩
abbrev S4x4096x4608 : Shape := ⟨3, ![4, 4096, 4608]⟩
abbrev S4x4096x512 : Shape := ⟨3, ![4, 4096, 512]⟩
abbrev S4x1024x128 : Shape := ⟨3, ![4, 1024, 128]⟩
abbrev S4x4096x128 : Shape := ⟨3, ![4, 4096, 128]⟩
abbrev S4x16384x128 : Shape := ⟨3, ![4, 16384, 128]⟩
abbrev S1x2048x128 : Shape := ⟨3, ![1, 2048, 128]⟩
abbrev S1x128x128 : Shape := ⟨3, ![1, 128, 128]⟩
abbrev S1x512x128 : Shape := ⟨3, ![1, 512, 128]⟩
abbrev S1x1024x128 : Shape := ⟨3, ![1, 1024, 128]⟩
abbrev S1x4096x128 : Shape := ⟨3, ![1, 4096, 128]⟩
abbrev S1x16384x128 : Shape := ⟨3, ![1, 16384, 128]⟩
abbrev S2048x128 : Shape := ⟨2, ![2048, 128]⟩
abbrev S128x128 : Shape := ⟨2, ![128, 128]⟩
abbrev S512x128 : Shape := ⟨2, ![512, 128]⟩
abbrev S128x256 : Shape := ⟨2, ![128, 256]⟩
abbrev S1 : Shape := ⟨1, ![1]⟩
abbrev S256x128 : Shape := ⟨2, ![256, 128]⟩
abbrev S128 : Shape := ⟨1, ![128]⟩
abbrev S128x1 : Shape := ⟨2, ![128, 1]⟩
abbrev S1x256x128 : Shape := ⟨3, ![1, 256, 128]⟩

abbrev nBuf : Space → Nat
  | .hbm => 36
  | .vmem => 41
  | .smem => 1
  | _ => 0

abbrev bufTy : (tb : Table) → Fin (tcTables nBuf tb) → BufTy
  | .hbm, ⟨0, _⟩ => ⟨S4x4096x12x128, .f32⟩
  | .hbm, ⟨1, _⟩ => ⟨S4x4096x12x128, .f32⟩
  | .hbm, ⟨2, _⟩ => ⟨S4x4096x12x128, .f32⟩
  | .hbm, ⟨3, _⟩ => ⟨S12, .f32⟩
  | .hbm, ⟨4, _⟩ => ⟨S_, .f32⟩
  | .hbm, ⟨5, _⟩ => ⟨S12, .f32⟩
  | .hbm, ⟨6, _⟩ => ⟨S12, .f32⟩
  | .hbm, ⟨7, _⟩ => ⟨S_, .f32⟩
  | .hbm, ⟨8, _⟩ => ⟨S12, .f32⟩
  | .hbm, ⟨9, _⟩ => ⟨S12, .f32⟩
  | .hbm, ⟨10, _⟩ => ⟨S_, .f32⟩
  | .hbm, ⟨11, _⟩ => ⟨S12, .f32⟩
  | .hbm, ⟨12, _⟩ => ⟨S12, .f32⟩
  | .hbm, ⟨13, _⟩ => ⟨S_, .f32⟩
  | .hbm, ⟨14, _⟩ => ⟨S12, .f32⟩
  | .hbm, ⟨15, _⟩ => ⟨S12, .f32⟩
  | .hbm, ⟨16, _⟩ => ⟨S12, .f32⟩
  | .hbm, ⟨17, _⟩ => ⟨S16384x1536, .f32⟩
  | .hbm, ⟨18, _⟩ => ⟨S16384x512, .f32⟩
  | .hbm, ⟨19, _⟩ => ⟨S16384x1536, .f32⟩
  | .hbm, ⟨20, _⟩ => ⟨S16384x512, .f32⟩
  | .hbm, ⟨21, _⟩ => ⟨S16384x1536, .f32⟩
  | .hbm, ⟨22, _⟩ => ⟨S16384x512, .f32⟩
  | .hbm, ⟨23, _⟩ => ⟨S16384x1536, .f32⟩
  | .hbm, ⟨24, _⟩ => ⟨S16384x512, .f32⟩
  | .hbm, ⟨25, _⟩ => ⟨S16384x1536, .f32⟩
  | .hbm, ⟨26, _⟩ => ⟨S16384x512, .f32⟩
  | .hbm, ⟨27, _⟩ => ⟨S16384x1536, .f32⟩
  | .hbm, ⟨28, _⟩ => ⟨S16384x512, .f32⟩
  | .hbm, ⟨29, _⟩ => ⟨S16384x1536, .f32⟩
  | .hbm, ⟨30, _⟩ => ⟨S16384x4608, .f32⟩
  | .hbm, ⟨31, _⟩ => ⟨S4x4096x4608, .f32⟩
  | .hbm, ⟨32, _⟩ => ⟨S4x4096x512, .f32⟩
  | .hbm, ⟨33, _⟩ => ⟨S4x1024x128, .f32⟩
  | .hbm, ⟨34, _⟩ => ⟨S4x4096x128, .f32⟩
  | .hbm, ⟨35, _⟩ => ⟨S4x16384x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x2048x128, .f32⟩
  | .local _ .vmem, ⟨21, _⟩ => ⟨S1x2048x128, .f32⟩
  | .local _ .vmem, ⟨22, _⟩ => ⟨S1x2048x128, .f32⟩
  | .local _ .vmem, ⟨23, _⟩ => ⟨S1x2048x128, .f32⟩
  | .local _ .vmem, ⟨24, _⟩ => ⟨S1x2048x128, .f32⟩
  | .local _ .vmem, ⟨25, _⟩ => ⟨S1x2048x128, .f32⟩
  | .local _ .vmem, ⟨26, _⟩ => ⟨S1x2048x128, .f32⟩
  | .local _ .vmem, ⟨27, _⟩ => ⟨S1x2048x128, .f32⟩
  | .local _ .vmem, ⟨28, _⟩ => ⟨S1x2048x128, .f32⟩
  | .local _ .vmem, ⟨29, _⟩ => ⟨S1x2048x128, .f32⟩
  | .local _ .vmem, ⟨30, _⟩ => ⟨S1x2048x128, .f32⟩
  | .local _ .vmem, ⟨31, _⟩ => ⟨S1x2048x128, .f32⟩
  | .local _ .vmem, ⟨32, _⟩ => ⟨S1x1024x128, .f32⟩
  | .local _ .vmem, ⟨33, _⟩ => ⟨S1x4096x128, .f32⟩
  | .local _ .vmem, ⟨34, _⟩ => ⟨S1x16384x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .smem, ⟨0, _⟩ => ⟨S12, .f32⟩
  | _, _ => ⟨S4x4096x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem18_0 : DmaSem sig := 34
abbrev cc0_sem19_0 : DmaSem sig := 35

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg1 : BitVec 32 := BitVec.ofNat 32 (i 1).val
  let c1_i32 : BitVec 32 := 1#32
  let v0 : BitVec 1 := Scalar.cmpi .eq arg1 c1_i32
  let v1 : BitVec 32 := Scalar.extui v0
  let c0_i32 : BitVec 32 := 0#32
  let v2 : BitVec 1 := Scalar.cmpi .ne v1 c0_i32
  v2

def k0_off1 (i : grid0.Coords) : Fin 3 → Nat :=
  let c0_1154 : Index := 0#32
  let arg2 : BitVec 32 := BitVec.ofNat 32 (i 2).val
  let v2150 : Index := Scalar.indexCast arg2
  let c0_1155 : Index := 0#32
  ![0, v2150.toNat, 0]
def k0_off2 (i : grid0.Coords) : Fin 3 → Nat :=
  let c0_1160 : Index := 0#32
  let c4_i32_1159 : BitVec 32 := 4#32
  let arg2 : BitVec 32 := BitVec.ofNat 32 (i 2).val
  let v2156 : BitVec 32 := Scalar.addi c4_i32_1159 arg2
  let v2157 : Index := Scalar.indexCast v2156
  let c0_1161 : Index := 0#32
  ![0, v2157.toNat, 0]
def k0_off3 (i : grid0.Coords) : Fin 3 → Nat :=
  let c0_1165 : Index := 0#32
  let arg2 : BitVec 32 := BitVec.ofNat 32 (i 2).val
  let v2163 : Index := Scalar.indexCast arg2
  let c0_1166 : Index := 0#32
  ![0, v2163.toNat, 0]
def k0_off4 (i : grid0.Coords) : Fin 3 → Nat :=
  let c0_1171 : Index := 0#32
  let c4_i32_1170 : BitVec 32 := 4#32
  let arg2 : BitVec 32 := BitVec.ofNat 32 (i 2).val
  let v2169 : BitVec 32 := Scalar.addi c4_i32_1170 arg2
  let v2170 : Index := Scalar.indexCast v2169
  let c0_1172 : Index := 0#32
  ![0, v2170.toNat, 0]
def k0_off5 (i : grid0.Coords) : Fin 3 → Nat :=
  let c0_1176 : Index := 0#32
  let arg2 : BitVec 32 := BitVec.ofNat 32 (i 2).val
  let v2176 : Index := Scalar.indexCast arg2
  let c0_1177 : Index := 0#32
  ![0, v2176.toNat, 0]
def k0_off6 (i : grid0.Coords) : Fin 3 → Nat :=
  let c0_1182 : Index := 0#32
  let c4_i32_1181 : BitVec 32 := 4#32
  let arg2 : BitVec 32 := BitVec.ofNat 32 (i 2).val
  let v2182 : BitVec 32 := Scalar.addi c4_i32_1181 arg2
  let v2183 : Index := Scalar.indexCast v2182
  let c0_1183 : Index := 0#32
  ![0, v2183.toNat, 0]
def k0_off7 (i : grid0.Coords) (c0_i32_4 : BitVec 32) : Fin 1 → Nat :=
  let arg2 : BitVec 32 := BitVec.ofNat 32 (i 2).val
  let v19 : BitVec 32 := Scalar.addi c0_i32_4 arg2
  let v20 : Index := Scalar.indexCast v19
  ![v20.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg2
  let c0_i32_1 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg2
  let c0_i32_0 : BitVec 32 := 0#32
  ![arg0.toNat, v2.toNat, v3.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg2
  let c0_i32_0 : BitVec 32 := 0#32
  ![arg0.toNat, v2.toNat, v3.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg2
  let c0_i32 : BitVec 32 := 0#32
  ![arg0.toNat, arg1.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg0.toNat, arg1.toNat, v0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  ![arg0.toNat, arg1.toNat, v0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c16_i32 : BitVec 32 := 16#32
  let v3 : BitVec 32 := Scalar.addi c16_i32 arg2
  let c0_i32_1 : BitVec 32 := 0#32
  ![arg0.toNat, v2.toNat, v3.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c20_i32 : BitVec 32 := 20#32
  let v3 : BitVec 32 := Scalar.addi c20_i32 arg2
  let c0_i32_1 : BitVec 32 := 0#32
  ![arg0.toNat, v2.toNat, v3.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 1 → Memref sig .tc .vmem S1x1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false, false]

abbrev stage0_18 : Fin 1 → Memref sig .tc .vmem S1x4096x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false, false]

abbrev stage0_19 : Fin 1 → Memref sig .tc .vmem S1x16384x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, false, false]
-- ==== AttnPRefIdeal.lean ====
abbrev S4x4096x12x128 : Shape := ⟨4, ![4, 4096, 12, 128]⟩
abbrev S4x128x4x128 : Shape := ⟨4, ![4, 128, 4, 128]⟩
abbrev S4x128x1x4x128 : Shape := ⟨5, ![4, 128, 1, 4, 128]⟩
abbrev S4x128x2x4x128 : Shape := ⟨5, ![4, 128, 2, 4, 128]⟩
abbrev S4x1024x128 : Shape := ⟨3, ![4, 1024, 128]⟩
abbrev S4x512x4x128 : Shape := ⟨4, ![4, 512, 4, 128]⟩
abbrev S4x512x1x4x128 : Shape := ⟨5, ![4, 512, 1, 4, 128]⟩
abbrev S4x512x2x4x128 : Shape := ⟨5, ![4, 512, 2, 4, 128]⟩
abbrev S4x4096x128 : Shape := ⟨3, ![4, 4096, 128]⟩
abbrev S4x2048x4x128 : Shape := ⟨4, ![4, 2048, 4, 128]⟩
abbrev S4x2048x1x4x128 : Shape := ⟨5, ![4, 2048, 1, 4, 128]⟩
abbrev S4x2048x2x4x128 : Shape := ⟨5, ![4, 2048, 2, 4, 128]⟩
abbrev S4x16384x128 : Shape := ⟨3, ![4, 16384, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x12x128, .f32⟩
  | .hbm, ⟨1, _⟩ => ⟨S4x4096x12x128, .f32⟩
  | .hbm, ⟨2, _⟩ => ⟨S4x4096x12x128, .f32⟩
  | .hbm, ⟨3, _⟩ => ⟨S4x128x4x128, .f32⟩
  | .hbm, ⟨4, _⟩ => ⟨S4x128x4x128, .f32⟩
  | .hbm, ⟨5, _⟩ => ⟨S4x128x1x4x128, .f32⟩
  | .hbm, ⟨6, _⟩ => ⟨S4x128x1x4x128, .f32⟩
  | .hbm, ⟨7, _⟩ => ⟨S4x128x2x4x128, .f32⟩
  | .hbm, ⟨8, _⟩ => ⟨S4x1024x128, .f32⟩
  | .hbm, ⟨9, _⟩ => ⟨S4x512x4x128, .f32⟩
  | .hbm, ⟨10, _⟩ => ⟨S4x512x4x128, .f32⟩
  | .hbm, ⟨11, _⟩ => ⟨S4x512x1x4x128, .f32⟩
  | .hbm, ⟨12, _⟩ => ⟨S4x512x1x4x128, .f32⟩
  | .hbm, ⟨13, _⟩ => ⟨S4x512x2x4x128, .f32⟩
  | .hbm, ⟨14, _⟩ => ⟨S4x4096x128, .f32⟩
  | .hbm, ⟨15, _⟩ => ⟨S4x2048x4x128, .f32⟩
  | .hbm, ⟨16, _⟩ => ⟨S4x2048x4x128, .f32⟩
  | .hbm, ⟨17, _⟩ => ⟨S4x2048x1x4x128, .f32⟩
  | .hbm, ⟨18, _⟩ => ⟨S4x2048x1x4x128, .f32⟩
  | .hbm, ⟨19, _⟩ => ⟨S4x2048x2x4x128, .f32⟩
  | .hbm, ⟨20, _⟩ => ⟨S4x16384x128, .f32⟩
  | _, _ => ⟨S4x4096x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Proof.Permute.Kernel.lean ====
/- The weight permutation's kernel: row `r` of its result is the row of the transposed weight that the element-indexed window
   names at that point, narrowed. -/
module

public import proofs.«01_k».proof.Proof.Gen.KernelIdeal.Frame
public import Idealize.ShloMosaic.Lib.Pipeline.ValueKit.Geometry
public import Idealize.ShloMosaic.Lib.Pipeline.ValueKit.Acc

@[expose] public section

noncomputable section

namespace Cert.KernelIdeal.Perm

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The table as the host code writes it. -/
abbrev pf : pre0.Contents (Elt F) := fun j => match j with
  | 0 => (fun i => lit0 (S21.rowMajor i) : (⟨S21, .i32⟩ : BufTy).Contents (Elt F))

theorem tbl_eq : tbl m = pf := by
  funext j
  obtain rfl : j = 0 := Subsingleton.elim _ _
  show StableHlo.after hostOps0 (fun b => m ((0 : Dev nD), b)) main_c = _
  after_results
  rfl

/-- The weight as the region finds it: the argument, reshaped and transposed. -/
theorem V_w (c : Dev nD) : V m c main_v1
    = transpose S10768x1024 [1, 0] (shapeCast S1024x10768 (m ((c : Thread nD τ).loc main_arg0)) shapeCasts_S1x1024x10768_S1024x10768)
        transposes_S1024x10768_S10768x1024_1_0 := by
  show StableHlo.after hostOps0 (fun b => m (c, b)) main_v1 = _
  after_results
  rfl

/-- The source row at which block `k` of the result begins. -/
def start (k : Fin 21) : Nat := (lit0 k).toNat

theorem coords_eq (i : grid0.Coords) : i = fun a => match a with | 0 => i 0 := by
  funext a; obtain rfl : a = 0 := Subsingleton.elim _ _; rfl

theorem mult_eq (i : grid0.Coords) : k0_mult1 (F := F) pf i = lit0 (i 0) := by
  rw [coords_eq i]
  generalize i 0 = k
  revert k
  intro k
  fin_cases k <;> rfl

theorem index_eq (h1 h2) (i : grid0.Coords) : cc0_transform_0 (F := F) h1 h2 pf i = ![start (i 0), 0] := by
  rw [coords_eq i]
  generalize i 0 = k
  revert k
  intro k
  fin_cases k <;> rfl

theorem ok : Ok m := by
  unfold Ok
  rw [tbl_eq]
  refine ⟨fun i => ?_, fun i => ⟨fun a => ?_, ?_⟩⟩
  · rw [mult_eq]
    generalize i 0 = k
    revert k
    decide
  · rw [index_eq]
    generalize i 0 = k
    revert k a
    decide
  · left; rfl

/-- Which element of the weight argument element `i` of the result is: its column `i 1` is a row of the weight, its row
    lies in block `i 0 / 512`, whose rows are the weight's columns from `start` on. -/
def src (i : S10752x1024.Idx) : S1x1024x10768.Idx := fun a => match a with
  | ⟨0, _⟩ => ⟨0, Nat.one_pos⟩
  | ⟨1, _⟩ => ⟨(i 1).val, (i 1).isLt⟩
  | ⟨2, _⟩ => ⟨start ⟨(i 0).val / 512, by have : (i 0).val < 10752 := (i 0).isLt; omega⟩ + (i 0).val % 512, by
      have h : ∀ k : Fin 21, start k + 512 ≤ 10768 := by decide
      have := h ⟨(i 0).val / 512, by have : (i 0).val < 10752 := (i 0).isLt; omega⟩
      show _ < 10768
      omega⟩

/-- The result: the permuted weight, each element rounded to bf16. -/
def out (c : Dev nD) : Buf (Elt F) ((c : Thread nD τ).loc main_v2) :=
  truncf (s := S10752x1024) .bf16 (fun i => m ((c : Thread nD τ).loc main_arg0) (src i)) bitsLt_bf16_f32

theorem hz : (![0, 0] : Fin 2 → Nat) = fun _ => 0 := funext fun a => by fin_cases a <;> rfl

/-- Block `t` of the result is block `t` along its rows. -/
theorem row_eq : ∀ t : Fin grid0.N, cc0_transform_1 (grid0.coords t) = ![t.val, 0] := by decide +kernel

theorem coord_eq : ∀ t : Fin grid0.N, (grid0.coords t 0).val = t.val := by decide +kernel

/-- What the body leaves at point `t`: the weight's rows from the block's start on, rounded to bf16. -/
theorem out_eq (c : Dev nD) (i : grid0.Coords) (arg2 : Memref sig .tc .vmem S512x1024 .f32) (harg2 : arg2.IsWhole)
    (arg3 : Memref sig .tc .vmem S512x1024 .bf16) (harg3 : arg3.IsWhole) (x0 : Vec F S512x1024 .f32) (xt0 : TbBuf0 (F := F) c tbM0_0) :
    out0_A_1 c i arg2 harg2 arg3 harg3 x0 xt0 = k0_pay1 x0 := by
  unfold out0_A_1
  rw [View.read_writes_eq_canon _ _ _ (cover0_A_1 c _ _ _ _ _ _ _)]
  unfold kernelRun0_A
  dsimp only
  sl_unfold_words
  rw [View.canon_unit_zero hz]
  exact congrArg k0_pay1 (by
    show View.ld (arg2.view.read (Elt F) (harg2.unread x0)) (Rect.unit ![0, 0] S512x1024.size _) = x0
    rw [harg2.read_unread, View.ld_unit_zero hz])

theorem outs_eq (hO : Ok m) (c : Dev nD) (t : Fin grid0.N) :
    outsAt0 m hO c t = k0_pay1 (iblk m hO c 0 t : Vec F S512x1024 .f32) :=
  out_eq ..

theorem index_in (hO : Ok m) (t : Fin grid0.N) : ((cfgM m hO).win 0).index t = ![start ⟨t.val, t.isLt⟩, 0] := by
  have e : ((cfgM m hO).win 0).index t = cc0_transform_0 k0_off1_inb numel1_S1 (tbl m) (grid0.coords t) := rfl
  rw [e, tbl_eq, index_eq, show grid0.coords t 0 = ⟨t.val, t.isLt⟩ from Fin.ext (coord_eq t)]
  rfl

theorem index_out (hO : Ok m) (t : Fin grid0.N) : ((cfgM m hO).win 1).index t = ![t.val, 0] := row_eq t

theorem iblk_apply (hO : Ok m) (c : Dev nD) (t : Fin grid0.N) (y : S512x1024.Idx) (j : S10768x1024.Idx)
    (h0 : (j 0).val = start ⟨t.val, t.isLt⟩ + (y 0).val) (h1 : (j 1).val = (y 1).val) :
    (iblk m hO c 0 t : Vec F S512x1024 .f32) y = V m c main_v1 j := by
  unfold iblk
  show V m c main_v1 ((((cfgM m hO).win 0).blk t).view.emb y) = V m c main_v1 j
  congr 1
  funext a
  apply Fin.ext
  refine (Pipeline.Window.rect_emb_val_off ((cfgM m hO).win 0) t y a).trans ?_
  rw [index_in]
  match a with
  | ⟨0, _⟩ => exact h0.symm
  | ⟨1, _⟩ => exact (Nat.zero_add _).trans h1.symm

theorem pay_apply (hO : Ok m) (c : Dev nD) (t : Fin grid0.N) (y : S512x1024.Idx) (i : S10752x1024.Idx)
    (e0 : (i 0).val = t.val * 512 + (y 0).val) (e1 : (i 1).val = (y 1).val) :
    k0_pay1 (iblk m hO c 0 t : Vec F S512x1024 .f32) y = out m c i := by
  have hy : (y 0).val < 512 := (y 0).isLt
  have ht : t.val < 21 := t.isLt
  have ev : (iblk m hO c 0 t : Vec F S512x1024 .f32) y = m ((c : Thread nD τ).loc main_arg0) (src i) := by
    have hs : (src i 2).val = start ⟨t.val, ht⟩ + (y 0).val := by
      show start ⟨(i 0).val / 512, _⟩ + (i 0).val % 512 = _
      have ed : (i 0).val / 512 = t.val := by omega
      have em : (i 0).val % 512 = (y 0).val := by omega
      rw [em]
      congr 2
      exact Fin.ext ed
    rw [iblk_apply m hO c t y (fun a => match a with | ⟨0, _⟩ => src i 2 | ⟨1, _⟩ => i 1) hs e1, V_w]
    rw [transpose_apply (k := fun a => match a with | ⟨0, _⟩ => i 1 | ⟨1, _⟩ => src i 2) (hk := fun b => by
      match b with
      | ⟨0, _⟩ => rfl
      | ⟨1, _⟩ => rfl)]
    refine shapeCast_apply _ _ _ (src i) ?_
    rw [Shape.rowMajor_val_three, Shape.rowMajor_val_two]
    show (0 * 1024 + (i 1).val) * 10768 + (src i 2).val = (i 1).val * 10768 + (src i 2).val
    omega
  have h : k0_pay1 (iblk m hO c 0 t : Vec F S512x1024 .f32)
      = truncf .bf16 (iblk m hO c 0 t : Vec F S512x1024 .f32) bitsLt_bf16_f32 := by
    unfold k0_pay1
    exact congrArg (fun v : FVec F S512x1024 .f32 => truncf .bf16 v bitsLt_bf16_f32) (shapeCast_self (s := S512x1024) _ _)
  rw [h]
  exact congrArg (FloatOps.truncf .bf16 bitsLt_bf16_f32) ev

/-- Where element `y` of block `t` of the result lies in it. -/
theorem emb_out (hO : Ok m) (t : Fin grid0.N) (y : S512x1024.Idx) (i : S10752x1024.Idx)
    (hi : i = (((cfgM m hO).win 1).blk t).view.emb y) : (i 0).val = t.val * 512 + (y 0).val ∧ (i 1).val = (y 1).val := by
  have h (a : Fin 2) : (i a).val = ((cfgM m hO).win 1).kind.off (![t.val, 0] a) (((cfgM m hO).win 1).size a) + (y a).val := by
    rw [hi, ← index_out m hO]
    exact Pipeline.Window.rect_emb_val_off ((cfgM m hO).win 1) t y a
  exact ⟨h 0, (h 1).trans (Nat.zero_add _)⟩

theorem final (hO : Ok m) (c : Dev nD) : (dats m hO 0 c).arrAt 1 (cfgM m hO).N = out m c := by
  refine (dats m hO 0 c).arrAt_eq_of_emb 1 _ (fun (t : Fin grid0.N) hf (y : S512x1024.Idx) => ?_) (fun (i : S10752x1024.Idx) => ?_)
  · blk_simp
    rw [after0_1]
    refine (congrFun (outs_eq m hO c t) y).trans ?_
    obtain ⟨e0, e1⟩ := emb_out m hO t y _ rfl
    exact pay_apply m hO c t y _ e0 e1
  · have h0 : (i 0 : Nat) < 10752 := (i 0).isLt
    have h1 : (i 1 : Nat) < 1024 := (i 1).isLt
    have hN : grid0.N = 21 := N_0
    refine ⟨(⟨(i 0 : Nat) / 512, by omega⟩ : Fin grid0.N), flush0_1 _ _, ?_⟩
    have hj : (⟨(i 0 : Nat) / 512, by omega⟩ : Fin grid0.N).val = (i 0 : Nat) / 512 := rfl
    generalize (⟨(i 0 : Nat) / 512, by omega⟩ : Fin grid0.N) = j at hj ⊢
    have hv : ∀ R : Rect main_v2.ty.shape, i ∈ R.set → i ∈ ((View.whole main_v2).slice R).set := fun R h => by
      rw [View.set_slice_whole]; exact h
    refine hv _ (Rect.mem_set_unit.2 fun a => ?_)
    show ((cfgM m hO).win 1).kind.off (((cfgM m hO).win 1).index j a) (((cfgM m hO).win 1).size a) ≤ (i a).val
      ∧ (i a).val < ((cfgM m hO).win 1).kind.off (((cfgM m hO).win 1).index j a) (((cfgM m hO).win 1).size a) + S512x1024.size a
    rw [index_out]
    match a with
    | ⟨0, _⟩ => show j.val * 512 ≤ (i 0).val ∧ (i 0).val < j.val * 512 + 512; omega
    | ⟨1, _⟩ => show 0 * 1024 ≤ (i 1).val ∧ (i 1).val < 0 * 1024 + 1024; omega

/-- The run, read: the result array at the permuted weight, the argument unchanged. -/
theorem run : θ_run defs (onTc (τ := τ) (main (F := F))) ⟨m, fun _ => 0, ρ⟩ fun r => ∀ c : Dev nD,
      r.2.mem ((c.tc : Thread nD τ).loc main_v2) = out m c
      ∧ r.2.mem ((c.tc : Thread nD τ).loc main_arg0) = m ((c.tc : Thread nD τ).loc main_arg0) :=
  (θ_run defs _ _).mono (fun _ h c => ⟨((h c).1 1).trans (final m (ok m) c),
      ((h c).2 main_arg0 (by decide : main_arg0 ∈ Pipeline.restRefs sig spec0)).trans (V_main_arg0 m c)⟩)
    (run_main m ρ (ok m))

end Cert.KernelIdeal.Perm
end
-- ==== Proof.Permute.Ref.lean ====
/- The weight permutation's reference: slices of the weight's columns joined in the new order, turned and narrowed, read element
   by element. -/
module

public import proofs.«01_k».proof.Proof.Permute.Kernel
public import proofs.«01_k».proof.Proof.Gen.ReferenceIdeal.Read

@[expose] public section

noncomputable section

namespace Cert.ReferenceIdeal.Perm

open Cert.ReferenceIdeal Cert.ReferenceIdeal.Gen Idealize.ShloMosaic Idealize.ShloMosaic.TcCoe Idealize.SL.Sem

variable {F : FTy → Type} [FloatOps F]

abbrev src := Cert.KernelIdeal.Perm.src
abbrev start := Cert.KernelIdeal.Perm.start

/-- Where each block of the result begins among the weight's columns. -/
theorem start_eq : ∀ k : Fin 21, start k = if k.val < 8 then 4608 + 512 * k.val else if k.val < 12 then 4624 + 512 * k.val
    else if k.val < 18 then 1536 + 512 * ((k.val - 12) / 2) + 1536 * ((k.val - 12) % 2) else 512 * (k.val - 18) := by
  decide

/-- The column of the weight that row `n` of the result is, with the blocks' table written out. -/
theorem src_col (i : S10752x1024.Idx) : (src i 2).val = (if (i 0).val / 512 < 8 then 4608 + 512 * ((i 0).val / 512)
    else if (i 0).val / 512 < 12 then 4624 + 512 * ((i 0).val / 512)
    else if (i 0).val / 512 < 18 then 1536 + 512 * (((i 0).val / 512 - 12) / 2) + 1536 * (((i 0).val / 512 - 12) % 2)
    else 512 * ((i 0).val / 512 - 18)) + (i 0).val % 512 :=
  congrArg (· + (i 0).val % 512) (start_eq ⟨(i 0).val / 512, by have : (i 0).val < 10752 := (i 0).isLt; omega⟩)

/-- The weight without its leading axis of one, at a row and a column. -/
theorem flat_apply (x : (⟨S1x1024x10768, .f32⟩ : BufTy).Contents (Elt F)) (i : S10752x1024.Idx) (j : S1024x10768.Idx)
    (h0 : (j 0).val = (i 1).val) (h1 : (j 1).val = (src i 2).val) : Read.val_main_v0 (F := F) x j = x (src i) := by
  rw [Read.val_main_v0_apply]
  congr 1
  have hj0 : (j 0).val < 1024 := (j 0).isLt
  have hj1 : (j 1).val < 10768 := (j 1).isLt
  funext a
  apply Fin.ext
  match a with
  | ⟨0, _⟩ => rfl
  | ⟨1, _⟩ => show ((j 0).val * 10768 + (j 1).val) / 10768 % 1024 = (i 1).val; omega
  | ⟨2, _⟩ => show ((j 0).val * 10768 + (j 1).val) % 10768 = (src i 2).val; omega

set_option maxHeartbeats 1000000 in
set_option maxRecDepth 65536 in
/-- Element `(r, n)` of the joined columns is the weight's element that the kernel's table names for element `(n, r)` of
    the result: ten pieces, one case each. -/
theorem joined_apply (x : (⟨S1x1024x10768, .f32⟩ : BufTy).Contents (Elt F)) (i : S10752x1024.Idx) (j : S1024x10752.Idx)
    (h0 : (j 0).val = (i 1).val) (h1 : (j 1).val = (i 0).val) :
    Read.val_main_v15 (F := F) x j = x (src i) := by
  have hi0 : (i 0).val < 10752 := (i 0).isLt
  have hc := src_col i
  unfold Read.val_main_v15
  by_cases hk0 : (i 0).val < 3072
  · refine (concatenate_apply_piece 1 _ _ j 0 (by simp) S1024x3072 (Read.val_main_v4 (F := F) x) rfl rfl 0 rfl
      (fun a => match a with | ⟨0, _⟩ => ⟨(j 0).val, (j 0).isLt⟩ | ⟨1, _⟩ => ⟨(i 0).val - 0, show _ < 3072 by omega⟩)
      (fun b hb => ?_) ?_).trans ?_
    · match b with
      | ⟨0, _⟩ => rfl
      | ⟨1, _⟩ => exact absurd rfl hb
    · show 0 + ((i 0).val - 0) = (j 1).val
      omega
    · rw [Read.val_main_v4_apply]
      refine flat_apply x i _ h0 ?_
      show 4608 + ((i 0).val - 0) = (src i 2).val
      split_ifs at hc <;> omega
  by_cases hk1 : (i 0).val < 4096
  · refine (concatenate_apply_piece 1 _ _ j 1 (by simp) S1024x1024 (Read.val_main_v5 (F := F) x) rfl rfl 3072 rfl
      (fun a => match a with | ⟨0, _⟩ => ⟨(j 0).val, (j 0).isLt⟩ | ⟨1, _⟩ => ⟨(i 0).val - 3072, show _ < 1024 by omega⟩)
      (fun b hb => ?_) ?_).trans ?_
    · match b with
      | ⟨0, _⟩ => rfl
      | ⟨1, _⟩ => exact absurd rfl hb
    · show 3072 + ((i 0).val - 3072) = (j 1).val
      omega
    · rw [Read.val_main_v5_apply]
      refine flat_apply x i _ h0 ?_
      show 7680 + ((i 0).val - 3072) = (src i 2).val
      split_ifs at hc <;> omega
  by_cases hk2 : (i 0).val < 6144
  · refine (concatenate_apply_piece 1 _ _ j 2 (by simp) S1024x2048 (Read.val_main_v8 (F := F) x) rfl rfl 4096 rfl
      (fun a => match a with | ⟨0, _⟩ => ⟨(j 0).val, (j 0).isLt⟩ | ⟨1, _⟩ => ⟨(i 0).val - 4096, show _ < 2048 by omega⟩)
      (fun b hb => ?_) ?_).trans ?_
    · match b with
      | ⟨0, _⟩ => rfl
      | ⟨1, _⟩ => exact absurd rfl hb
    · show 4096 + ((i 0).val - 4096) = (j 1).val
      omega
    · rw [Read.val_main_v8_apply]
      refine flat_apply x i _ h0 ?_
      show 8720 + ((i 0).val - 4096) = (src i 2).val
      split_ifs at hc <;> omega
  by_cases hk3 : (i 0).val < 6656
  · refine (concatenate_apply_piece 1 _ _ j 3 (by simp) S1024x512 (Read.val_main_v9 (F := F) x) rfl rfl 6144 rfl
      (fun a => match a with | ⟨0, _⟩ => ⟨(j 0).val, (j 0).isLt⟩ | ⟨1, _⟩ => ⟨(i 0).val - 6144, show _ < 512 by omega⟩)
      (fun b hb => ?_) ?_).trans ?_
    · match b with
      | ⟨0, _⟩ => rfl
      | ⟨1, _⟩ => exact absurd rfl hb
    · show 6144 + ((i 0).val - 6144) = (j 1).val
      omega
    · rw [Read.val_main_v9_apply, Read.val_main_v2_apply]
      refine flat_apply x i _ h0 ?_
      show 1536 + ((i 0).val - 6144) = (src i 2).val
      split_ifs at hc <;> omega
  by_cases hk4 : (i 0).val < 7168
  · refine (concatenate_apply_piece 1 _ _ j 4 (by simp) S1024x512 (Read.val_main_v10 (F := F) x) rfl rfl 6656 rfl
      (fun a => match a with | ⟨0, _⟩ => ⟨(j 0).val, (j 0).isLt⟩ | ⟨1, _⟩ => ⟨(i 0).val - 6656, show _ < 512 by omega⟩)
      (fun b hb => ?_) ?_).trans ?_
    · match b with
      | ⟨0, _⟩ => rfl
      | ⟨1, _⟩ => exact absurd rfl hb
    · show 6656 + ((i 0).val - 6656) = (j 1).val
      omega
    · rw [Read.val_main_v10_apply, Read.val_main_v3_apply]
      refine flat_apply x i _ h0 ?_
      show 3072 + ((i 0).val - 6656) = (src i 2).val
      split_ifs at hc <;> omega
  by_cases hk5 : (i 0).val < 7680
  · refine (concatenate_apply_piece 1 _ _ j 5 (by simp) S1024x512 (Read.val_main_v11 (F := F) x) rfl rfl 7168 rfl
      (fun a => match a with | ⟨0, _⟩ => ⟨(j 0).val, (j 0).isLt⟩ | ⟨1, _⟩ => ⟨(i 0).val - 7168, show _ < 512 by omega⟩)
      (fun b hb => ?_) ?_).trans ?_
    · match b with
      | ⟨0, _⟩ => rfl
      | ⟨1, _⟩ => exact absurd rfl hb
    · show 7168 + ((i 0).val - 7168) = (j 1).val
      omega
    · rw [Read.val_main_v11_apply, Read.val_main_v2_apply]
      refine flat_apply x i _ h0 ?_
      show 1536 + (512 + ((i 0).val - 7168)) = (src i 2).val
      split_ifs at hc <;> omega
  by_cases hk6 : (i 0).val < 8192
  · refine (concatenate_apply_piece 1 _ _ j 6 (by simp) S1024x512 (Read.val_main_v12 (F := F) x) rfl rfl 7680 rfl
      (fun a => match a with | ⟨0, _⟩ => ⟨(j 0).val, (j 0).isLt⟩ | ⟨1, _⟩ => ⟨(i 0).val - 7680, show _ < 512 by omega⟩)
      (fun b hb => ?_) ?_).trans ?_
    · match b with
      | ⟨0, _⟩ => rfl
      | ⟨1, _⟩ => exact absurd rfl hb
    · show 7680 + ((i 0).val - 7680) = (j 1).val
      omega
    · rw [Read.val_main_v12_apply, Read.val_main_v3_apply]
      refine flat_apply x i _ h0 ?_
      show 3072 + (512 + ((i 0).val - 7680)) = (src i 2).val
      split_ifs at hc <;> omega
  by_cases hk7 : (i 0).val < 8704
  · refine (concatenate_apply_piece 1 _ _ j 7 (by simp) S1024x512 (Read.val_main_v13 (F := F) x) rfl rfl 8192 rfl
      (fun a => match a with | ⟨0, _⟩ => ⟨(j 0).val, (j 0).isLt⟩ | ⟨1, _⟩ => ⟨(i 0).val - 8192, show _ < 512 by omega⟩)
      (fun b hb => ?_) ?_).trans ?_
    · match b with
      | ⟨0, _⟩ => rfl
      | ⟨1, _⟩ => exact absurd rfl hb
    · show 8192 + ((i 0).val - 8192) = (j 1).val
      omega
    · rw [Read.val_main_v13_apply, Read.val_main_v2_apply]
      refine flat_apply x i _ h0 ?_
      show 1536 + (1024 + ((i 0).val - 8192)) = (src i 2).val
      split_ifs at hc <;> omega
  by_cases hk8 : (i 0).val < 9216
  · refine (concatenate_apply_piece 1 _ _ j 8 (by simp) S1024x512 (Read.val_main_v14 (F := F) x) rfl rfl 8704 rfl
      (fun a => match a with | ⟨0, _⟩ => ⟨(j 0).val, (j 0).isLt⟩ | ⟨1, _⟩ => ⟨(i 0).val - 8704, show _ < 512 by omega⟩)
      (fun b hb => ?_) ?_).trans ?_
    · match b with
      | ⟨0, _⟩ => rfl
      | ⟨1, _⟩ => exact absurd rfl hb
    · show 8704 + ((i 0).val - 8704) = (j 1).val
      omega
    · rw [Read.val_main_v14_apply, Read.val_main_v3_apply]
      refine flat_apply x i _ h0 ?_
      show 3072 + (1024 + ((i 0).val - 8704)) = (src i 2).val
      split_ifs at hc <;> omega
  refine (concatenate_apply_piece 1 _ _ j 9 (by simp) S1024x1536 (Read.val_main_v1 (F := F) x) rfl rfl 9216 rfl
    (fun a => match a with | ⟨0, _⟩ => ⟨(j 0).val, (j 0).isLt⟩ | ⟨1, _⟩ => ⟨(i 0).val - 9216, show _ < 1536 by omega⟩)
    (fun b hb => ?_) ?_).trans ?_
  · match b with
    | ⟨0, _⟩ => rfl
    | ⟨1, _⟩ => exact absurd rfl hb
  · show 9216 + ((i 0).val - 9216) = (j 1).val
    omega
  · rw [Read.val_main_v1_apply]
    refine flat_apply x i _ h0 ?_
    show (i 0).val - 9216 = (src i 2).val
    split_ifs at hc <;> omega

/-- The reference's result is the kernel's. -/
theorem result_eq (x : (⟨S1x1024x10768, .f32⟩ : BufTy).Contents (Elt F)) :
    Read.val_main_v17 (F := F) x = truncf (s := S10752x1024) .bf16 (fun i => x (src i)) bitsLt_bf16_f32 := by
  funext i
  rw [Read.val_main_v17_apply, Read.val_main_v16_apply, joined_apply x i _ rfl rfl]
  rfl

variable (m : (ℓ : Loc nD τ sig) → Buf (Elt F) ℓ) (ρ : Dev nD → PrngReg)

/-- The run, read: the result array at the permuted weight, the argument unchanged. -/
theorem run : θ_run defs (onTc (τ := τ) (main (F := F))) ⟨m, fun _ => 0, ρ⟩ fun r => ∀ c : Dev nD,
      r.2.mem ((c.tc : Thread nD τ).loc main_v17)
        = truncf (s := S10752x1024) .bf16 (fun i => m ((c.tc : Thread nD τ).loc main_arg0) (src i)) bitsLt_bf16_f32
      ∧ r.2.mem ((c.tc : Thread nD τ).loc main_arg0) = m ((c.tc : Thread nD τ).loc main_arg0) :=
  (θ_run defs _ _).mono (fun _ h c => ⟨(h c).1.trans ((Read.val_main_v17_eq _).trans (result_eq _)), (h c).2⟩)
    (Value.run m ρ)

end Cert.ReferenceIdeal.Perm
end
-- ==== Proof.Permute.Claims.lean ====
/- The claims about the weight's permutation. The kernel copies twenty-one blocks of the transposed weight, each from the row
   that a table names, and rounds to bf16; the reference splits the weight's columns, joins the pieces in the kernel's order,
   transposes and rounds. Both result arrays are one function of the weight (`Perm.run`, twice), at any float values: the
   same words at the bit-exact instance, the same extended reals at the ideal one. The kernel's frame holds under its
   pipeline's side condition of the table (`Perm.ok`): every block named lies inside the weight. -/
module

public import proofs.«01_k».proof.Defs
public import proofs.«01_k».proof.Proof.Permute.Ref
public import proofs.«01_k».proof.Proof.Gen.Kernel
public import proofs.«01_k».proof.Proof.Gen.Reference
public import Idealize.ShloMosaic.Lib.Quiescent

@[expose] public section

noncomputable section

namespace Cert.Proof.Permute

open Idealize.ShloMosaic Idealize.ShloMosaic.TcCoe Idealize.SL.Sem

/-- The two printings' bodies are one table: the labels are one, and there the functions' texts are the same. -/
theorem bodies_eq : @Cert.Kernel.defs₀ Bits _ _ = @Cert.KernelIdeal.defs₀ Bits _ _ := by
  unfold Cert.Kernel.defs₀ Cert.KernelIdeal.defs₀
  refine congrArg Defs.onTc ?_
  funext l x
  obtain rfl : l = 0 := Subsingleton.elim _ _
  rfl

theorem defs_eq : @Cert.Kernel.defs Bits _ _ = @Cert.KernelIdeal.defs Bits _ _ :=
  congrArg (Pipeline.defs (@Cert.KernelIdeal.pcfgs Bits _ _)) bodies_eq

theorem main_eq : @Cert.Kernel.main Bits _ _ = @Cert.KernelIdeal.main Bits _ _ := by
  unfold Cert.Kernel.main Cert.KernelIdeal.main
  rfl

/-- The bit-exact program's frame, from the ideal printing's at the bit-exact instance. -/
theorem frame_kernel : Cert.quiescent_Kernel := fun m ρ _ => by
  have h := Cert.KernelIdeal.Gen.frame (F := Bits) m ρ (Cert.KernelIdeal.Perm.ok m)
  rw [← defs_eq, ← main_eq] at h
  exact h

/-- The ideal program's frame: the table admits its pipeline. -/
theorem frame_ideal : Cert.quiescent_KernelIdeal := fun m ρ _ =>
  Cert.KernelIdeal.Gen.frame (F := Ideal) m ρ (Cert.KernelIdeal.Perm.ok m)

theorem frame_ref_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Perm.run (F := Ideal) m ρ)

theorem frame_ref : Cert.quiescent_Reference := fun m ρ _ =>
  (θ_run Cert.ReferenceIdeal.defs _ _).mono (fun r h => ⟨fun c => (h c).2, sem_eq_zero_of_no_sems (by decide) r.2⟩)
    (Cert.ReferenceIdeal.Perm.run (F := Bits) m ρ)

/-- The kernel writes the reference's values. -/
theorem algebraic : Cert.algebraic_KernelIdeal_ReferenceIdeal := by
  intro m ρ m' ρ' _ hagree
  refine ⟨fun c => Cert.KernelIdeal.Perm.out m c, Cert.KernelIdeal.Perm.run (F := Ideal) m ρ, ?_⟩
  refine (θ_run Cert.ReferenceIdeal.defs _ _).mono (fun _ h c => ⟨(h c).1.trans ?_, (h c).2⟩) (Cert.ReferenceIdeal.Perm.run (F := Ideal) m' ρ')
  rw [hagree c]
  rfl

/-- The kernel writes the reference's words. -/
theorem bitexact : Cert.bitexact_Kernel_Reference := by
  intro m ρ m' ρ' _ hagree
  refine ⟨fun c => Cert.KernelIdeal.Perm.out (F := Bits) m c, ?_, ?_⟩
  · have h := Cert.KernelIdeal.Perm.run (F := Bits) m ρ
    rw [← defs_eq, ← main_eq] at h
    exact h
  refine (θ_run Cert.ReferenceIdeal.defs _ _).mono (fun _ h c => ⟨(h c).1.trans ?_, (h c).2⟩) (Cert.ReferenceIdeal.Perm.run (F := Bits) m' ρ')
  rw [hagree c]
  rfl

end Cert.Proof.Permute

end
-- ==== Proof.Common.lean ====
/- The layer's row functions over the extended reals, in which the value claims are stated on both sides: the root-mean-square
   norm of a row, the hidden activations of the gated feed-forward, its output summed over all hidden units and the cutting
   of that sum into the kernel's tiles, the mixing of the two branches, and the input projection with the order of its
   columns. -/
module

public import Idealize.ShloMosaic.Lib.Pointwise
public import Idealize.ShloMosaic.Lib.IdealHost

@[expose] public section

noncomputable section

namespace Cert.Common

open Idealize.ShloMosaic

/-- The norm's divisor, the row length. -/
abbrev len : EReal := Ideal.ofBits FTy.f32 0x44800000#32

/-- The norm's regulariser. -/
abbrev eps : EReal := Ideal.ofBits FTy.f32 0x358637BD#32

/-- One half. -/
abbrev half : EReal := Ideal.ofBits FTy.f32 0x3F000000#32

/-- A row, divided by the root of its mean square, times a weight. -/
def nrm (x w : Fin 1024 → EReal) (k : Fin 1024) : EReal :=
  x k * Ideal.rsqrt (Ideal.div (∑ j, x j * x j) len + eps) * w k

/-- The product of a row with column `f` of a matrix. -/
def dot (h : Fin 1024 → EReal) (w : Fin 1024 → Fin 5632 → EReal) (f : Fin 5632) : EReal := ∑ j, h j * w j f

/-- Hidden unit `f`: the gate column times its logistic, times the column 2816 further on. -/
def mid (h : Fin 1024 → EReal) (w : Fin 1024 → Fin 5632 → EReal) (f : Fin 2816) : EReal :=
  (dot h w ⟨f.val, by omega⟩ * Ideal.logistic (dot h w ⟨f.val, by omega⟩)) * dot h w ⟨2816 + f.val, by omega⟩

/-- What hidden unit `n` adds to output column `k` (`n` below 2816). -/
def unit (h : Fin 1024 → EReal) (w : Fin 1024 → Fin 5632 → EReal) (d : Fin 2816 → Fin 1024 → EReal) (k : Fin 1024) (n : ℕ) : EReal :=
  mid h w ⟨n % 2816, Nat.mod_lt _ (by decide)⟩ * d ⟨n % 2816, Nat.mod_lt _ (by decide)⟩ k

/-- The feed-forward's output column `k`. -/
def ffn (h : Fin 1024 → EReal) (w : Fin 1024 → Fin 5632 → EReal) (d : Fin 2816 → Fin 1024 → EReal) (k : Fin 1024) : EReal :=
  ∑ f, mid h w f * d f k

/-- A sum over `n` tiles of `m` is the sum over `n * m`. -/
theorem sum_tiles (g : ℕ → EReal) (m : ℕ) : ∀ n : ℕ, ∑ s ∈ Finset.range n, ∑ f : Fin m, g (m * s + f.val) = ∑ k ∈ Finset.range (n * m), g k
  | 0 => by simp
  | n + 1 => by
    rw [Finset.sum_range_succ, sum_tiles g m n, Nat.succ_mul, Finset.sum_range_add, Nat.mul_comm m n]
    exact congrArg (_ + ·) (Fin.sum_univ_eq_sum_range (fun f => g (n * m + f)) m)

/-- The eleven tiles of 256 hidden units make up the output. -/
theorem ffn_tiles (h : Fin 1024 → EReal) (w : Fin 1024 → Fin 5632 → EReal) (d : Fin 2816 → Fin 1024 → EReal) (k : Fin 1024) :
    ∑ s ∈ Finset.range 11, ∑ f : Fin 256, unit h w d k (256 * s + f.val) = ffn h w d k := by
  rw [sum_tiles (unit h w d k) 256 11, ← Fin.sum_univ_eq_sum_range (unit h w d k) (11 * 256)]
  refine Finset.sum_congr rfl fun f _ => ?_
  have hf : (⟨f.val % 2816, Nat.mod_lt _ (by decide)⟩ : Fin 2816) = f := Fin.ext (Nat.mod_eq_of_lt f.isLt)
  unfold unit
  rw [hf]

/-- One row of the mixing call: the branches' projections weighed by the gates' logistic function, added, projected and
    added to the residual. -/
def mix {a b d : ℕ} (x : Fin d → EReal) (oa : Fin a → EReal) (ob : Fin b → EReal) (ga gb : Fin d → EReal) (wa : Fin a → Fin d → EReal)
    (wb : Fin b → Fin d → EReal) (wo : Fin d → Fin d → EReal) (k : Fin d) : EReal :=
  x k + ∑ j, (Ideal.logistic (ga j) * (∑ i, oa i * wa i j) + Ideal.logistic (gb j) * ∑ i, ob i * wb i j) * wo j k

theorem mix_congr {a b d : ℕ} {x x' : Fin d → EReal} {oa oa' : Fin a → EReal} {ob ob' : Fin b → EReal} {ga ga' gb gb' : Fin d → EReal}
    {wa wa' : Fin a → Fin d → EReal} {wb wb' : Fin b → Fin d → EReal} {wo wo' : Fin d → Fin d → EReal}
    (hx : ∀ j, x j = x' j) (ha : ∀ j, oa j = oa' j) (hb : ∀ j, ob j = ob' j) (hga : ∀ j, ga j = ga' j) (hgb : ∀ j, gb j = gb' j)
    (hwa : ∀ i j, wa i j = wa' i j) (hwb : ∀ i j, wb i j = wb' i j) (hwo : ∀ i j, wo i j = wo' i j) :
    mix x oa ob ga gb wa wb wo = mix x' oa' ob' ga' gb' wa' wb' wo' := by
  obtain rfl := funext hx
  obtain rfl := funext ha
  obtain rfl := funext hb
  obtain rfl := funext hga
  obtain rfl := funext hgb
  obtain rfl := funext fun i => funext (hwa i)
  obtain rfl := funext fun i => funext (hwb i)
  obtain rfl := funext fun i => funext (hwo i)
  rfl

/-- The product of a normed row with a column. -/
def proj (x w W : Fin 1024 → EReal) : EReal := ∑ j, nrm x w j * W j

/-- The input projection's column that is column `k` of the recurrence's part: the convolved channels, their gates and
    the output gates, without the sixteen columns between. -/
def colB (k : ℕ) : ℕ := if k < 4096 then 4608 + k else 4624 + k

/-- The input projection's column that is column `k` of the attention's part: three pairs of 512 keys and 512 values,
    then the queries. -/
def colA (k : ℕ) : ℕ := if k < 3072 then 1536 + 1536 * (k / 512 % 2) + 512 * (k / 1024) + k % 512 else k - 3072

/-- The columns of both parts, one after the other. -/
def col (k : ℕ) : ℕ := if k < 6144 then colB k else colA (k - 6144)

end Cert.Common

end
-- ==== Proof.Ffn.Kernel.lean ====
/- The final feed-forward's kernel, read: its grid is eight blocks of 2048 rows by eleven tiles of 256 hidden units; the
   first tile's point norms the block's rows into a scratch, every point adds its tile's part of the output, and the last
   one adds the residual and norms. Over the extended reals each row of the result is therefore one function of the row and
   the weights (`G_apply`). -/
module

public import proofs.«01_k».proof.Proof.Gen.FfnIdeal.Value
public import Idealize.ShloMosaic.Lib.Pipeline.ValueKit.Geometry
public import Idealize.ShloMosaic.Lib.Pipeline.ValueKit.Acc
public import Idealize.ShloMosaic.Lib.Pointwise
public import proofs.«01_k».proof.Proof.Common

@[expose] public section

set_option maxRecDepth 16384

noncomputable section

namespace Cert.FfnIdeal.Tile

open Cert.FfnIdeal Cert.FfnIdeal.Gen Idealize.ShloMosaic Idealize.ShloMosaic.TcCoe Idealize.SL.Sem

variable {F : FTy → Type} [FloatOps F]

/-- The first point of a row block: the normed rows times the first tile of weights. -/
theorem out_A (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S2048x1024 .f32) (harg8 : arg8.IsWhole) (arg9 : Memref sig .tc .vmem S2048x1024 .bf16) (harg9 : arg9.IsWhole)
    (hc0 : cond0_0 i) (hc1 : ¬cond0_1 i) (x0 : Vec F S2048x1024 .f32) (x1 : Vec F S1x1024 .f32) (x2 : Vec F S1024x256 .f32) (x3 : Vec F S1024x256 .f32)
    (x4 : Vec F S256x1024 .f32) (x5 : Vec F S1x1024 .f32) :
    out0_A_6 c i arg2 harg2 arg3 harg3 arg4 harg4 arg5 harg5 arg6 harg6 arg7 harg7 arg8 harg8 arg9 harg9 hc0 hc1 x0 x1 x2 x3 x4 x5 = k0_pay3 (k0_pay1 x0 x1) x2 x3 k0_pay2 x4 := by
  frame_out

/-- The first point of a row block leaves the normed rows in the scratch. -/
theorem scratch_A (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S2048x1024 .f32) (harg8 : arg8.IsWhole) (arg9 : Memref sig .tc .vmem S2048x1024 .bf16) (harg9 : arg9.IsWhole)
    (hc0 : cond0_0 i) (hc1 : ¬cond0_1 i) (x0 : Vec F S2048x1024 .f32) (x1 : Vec F S1x1024 .f32) (x2 : Vec F S1024x256 .f32) (x3 : Vec F S1024x256 .f32)
    (x4 : Vec F S256x1024 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = k0_pay1 x0 x1 := by
  frame_out

/-- An inner point adds its tile's product. -/
theorem out_B (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S2048x1024 .f32) (harg8 : arg8.IsWhole) (arg9 : Memref sig .tc .vmem S2048x1024 .bf16) (harg9 : arg9.IsWhole)
    (hc0 : ¬cond0_0 i) (hc1 : ¬cond0_1 i) (x0 : Vec F S2048x1024 .f32) (x1 : Vec F S1x1024 .f32) (x2 : Vec F S1024x256 .f32) (x3 : Vec F S1024x256 .f32)
    (x4 : Vec F S256x1024 .f32) (x5 : Vec F S1x1024 .f32) (xo6 : Vec F S2048x1024 .f32) (xs0 : Vec F S2048x1024 .bf16) :
    out0_B_6 c i arg2 harg2 arg3 harg3 arg4 harg4 arg5 harg5 arg6 harg6 arg7 harg7 arg8 harg8 arg9 harg9 hc0 hc1 x0 x1 x2 x3 x4 x5 xo6 xs0 = k0_pay3 xs0 x2 x3 xo6 x4 := by
  frame_out

/-- The last point adds its tile's product, then the residual, then norms. -/
theorem out_C (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S2048x1024 .f32) (harg8 : arg8.IsWhole) (arg9 : Memref sig .tc .vmem S2048x1024 .bf16) (harg9 : arg9.IsWhole)
    (hc0 : ¬cond0_0 i) (hc1 : cond0_1 i) (x0 : Vec F S2048x1024 .f32) (x1 : Vec F S1x1024 .f32) (x2 : Vec F S1024x256 .f32) (x3 : Vec F S1024x256 .f32)
    (x4 : Vec F S256x1024 .f32) (x5 : Vec F S1x1024 .f32) (xo6 : Vec F S2048x1024 .f32) (xs0 : Vec F S2048x1024 .bf16) :
    out0_C_6 c i arg2 harg2 arg3 harg3 arg4 harg4 arg5 harg5 arg6 harg6 arg7 harg7 arg8 harg8 arg9 harg9 hc0 hc1 x0 x1 x2 x3 x4 x5 xo6 xs0 = k0_pay4 x0 (k0_pay3 xs0 x2 x3 xo6 x4) x5 := by
  frame_out

/-! ## The body's payloads at an element, over the extended reals -/

theorem pay1_apply (x : Vec Ideal S2048x1024 .f32) (nw : Vec Ideal S1x1024 .f32) (r : Fin 2048) (k : Fin 1024) :
    k0_pay1 x nw (ix2 r k) = Common.nrm (fun j => x (ix2 r j)) (fun j => nw (ix2 0 j)) k := by
  unfold_payloads
  pointwise
  rfl

theorem pay2_apply (i : S2048x1024.Idx) : k0_pay2 (F := Ideal) i = 0 := by
  unfold_payloads
  pointwise

theorem pay3_apply (h : Vec Ideal S2048x1024 .bf16) (wg wu : Vec Ideal S1024x256 .f32) (o : Vec Ideal S2048x1024 .f32)
    (wd : Vec Ideal S256x1024 .f32) (r : Fin 2048) (k : Fin 1024) :
    k0_pay3 h wg wu o wd (ix2 r k) = o (ix2 r k) + ∑ f : Fin 256,
      ((∑ j, h (ix2 r j) * wg (ix2 j f)) * Ideal.logistic (∑ j, h (ix2 r j) * wg (ix2 j f)) * ∑ j, h (ix2 r j) * wu (ix2 j f)) * wd (ix2 f k) := by
  unfold_payloads
  pointwise

theorem pay4_apply (x o : Vec Ideal S2048x1024 .f32) (w : Vec Ideal S1x1024 .f32) (r : Fin 2048) (k : Fin 1024) :
    k0_pay4 x o w (ix2 r k) = Common.nrm (fun j => x (ix2 r j) + Common.half * o (ix2 r j)) (fun j => w (ix2 0 j)) k := by
  unfold_payloads
  pointwise
  rfl

/-! ## The blocks of the arrays -/

section Blocks

variable (m : (ℓ : Loc nD τ sig) → Buf (Elt F) ℓ) (c : Dev nD)

theorem index0 : ∀ t : Fin grid0.N, cc0_transform_0 (grid0.coords t) = ![t.val / 11, 0] := by decide +kernel
theorem index1 : ∀ t : Fin grid0.N, cc0_transform_1 (grid0.coords t) = ![0, 0] := by decide +kernel
theorem index2 : ∀ t : Fin grid0.N, cc0_transform_2 (grid0.coords t) = ![0, t.val % 11] := by decide +kernel
theorem index3 : ∀ t : Fin grid0.N, cc0_transform_3 (grid0.coords t) = ![0, t.val % 11 + 11] := by decide +kernel
theorem index4 : ∀ t : Fin grid0.N, cc0_transform_4 (grid0.coords t) = ![t.val % 11, 0] := by decide +kernel
theorem index5 : ∀ t : Fin grid0.N, cc0_transform_5 (grid0.coords t) = ![0, 0] := by decide +kernel

theorem blk0 (t : Fin grid0.N) (r : Fin 2048) (k : Fin 1024) (R : Fin 16384) (K : Fin 1024) (hR : R.val = t.val / 11 * 2048 + r.val) (hK : K.val = 0 * 1024 + k.val) :
    (iblk m c 0 t : Vec F S2048x1024 .f32) (ix2 r k) = (V m c main_v0 : Vec F S16384x1024 .f32) (ix2 R K) := by
  unfold iblk
  show V m c main_v0 (((cfg0.win 0).blk t).view.emb (ix2 r k)) = V m c main_v0 (ix2 R K)
  congr 1
  funext a
  apply Fin.ext
  refine (Pipeline.Window.rect_emb_val (cfg0.win 0) t (ix2 r k) a).trans ?_
  rw [show (cfg0.win 0).index t = _ from index0 t]
  match a with
  | ⟨0, _⟩ => exact hR.symm
  | ⟨1, _⟩ => exact hK.symm

theorem blk1 (t : Fin grid0.N) (r : Fin 1) (k : Fin 1024) (R : Fin 1) (K : Fin 1024) (hR : R.val = 0 * 1 + r.val) (hK : K.val = 0 * 1024 + k.val) :
    (iblk m c 1 t : Vec F S1x1024 .f32) (ix2 r k) = (V m c main_v4 : Vec F S1x1024 .f32) (ix2 R K) := by
  unfold iblk
  show V m c main_v4 (((cfg0.win 1).blk t).view.emb (ix2 r k)) = V m c main_v4 (ix2 R K)
  congr 1
  funext a
  apply Fin.ext
  refine (Pipeline.Window.rect_emb_val (cfg0.win 1) t (ix2 r k) a).trans ?_
  rw [show (cfg0.win 1).index t = _ from index1 t]
  match a with
  | ⟨0, _⟩ => exact hR.symm
  | ⟨1, _⟩ => exact hK.symm

theorem blk2 (t : Fin grid0.N) (r : Fin 1024) (k : Fin 256) (R : Fin 1024) (K : Fin 5632) (hR : R.val = 0 * 1024 + r.val) (hK : K.val = t.val % 11 * 256 + k.val) :
    (iblk m c 2 t : Vec F S1024x256 .f32) (ix2 r k) = (V m c main_v2 : Vec F S1024x5632 .f32) (ix2 R K) := by
  unfold iblk
  show V m c main_v2 (((cfg0.win 2).blk t).view.emb (ix2 r k)) = V m c main_v2 (ix2 R K)
  congr 1
  funext a
  apply Fin.ext
  refine (Pipeline.Window.rect_emb_val (cfg0.win 2) t (ix2 r k) a).trans ?_
  rw [show (cfg0.win 2).index t = _ from index2 t]
  match a with
  | ⟨0, _⟩ => exact hR.symm
  | ⟨1, _⟩ => exact hK.symm

theorem blk3 (t : Fin grid0.N) (r : Fin 1024) (k : Fin 256) (R : Fin 1024) (K : Fin 5632) (hR : R.val = 0 * 1024 + r.val) (hK : K.val = (t.val % 11 + 11) * 256 + k.val) :
    (iblk m c 3 t : Vec F S1024x256 .f32) (ix2 r k) = (V m c main_v2 : Vec F S1024x5632 .f32) (ix2 R K) := by
  unfold iblk
  show V m c main_v2 (((cfg0.win 3).blk t).view.emb (ix2 r k)) = V m c main_v2 (ix2 R K)
  congr 1
  funext a
  apply Fin.ext
  refine (Pipeline.Window.rect_emb_val (cfg0.win 3) t (ix2 r k) a).trans ?_
  rw [show (cfg0.win 3).index t = _ from index3 t]
  match a with
  | ⟨0, _⟩ => exact hR.symm
  | ⟨1, _⟩ => exact hK.symm

theorem blk4 (t : Fin grid0.N) (r : Fin 256) (k : Fin 1024) (R : Fin 2816) (K : Fin 1024) (hR : R.val = t.val % 11 * 256 + r.val) (hK : K.val = 0 * 1024 + k.val) :
    (iblk m c 4 t : Vec F S256x1024 .f32) (ix2 r k) = (V m c main_v3 : Vec F S2816x1024 .f32) (ix2 R K) := by
  unfold iblk
  show V m c main_v3 (((cfg0.win 4).blk t).view.emb (ix2 r k)) = V m c main_v3 (ix2 R K)
  congr 1
  funext a
  apply Fin.ext
  refine (Pipeline.Window.rect_emb_val (cfg0.win 4) t (ix2 r k) a).trans ?_
  rw [show (cfg0.win 4).index t = _ from index4 t]
  match a with
  | ⟨0, _⟩ => exact hR.symm
  | ⟨1, _⟩ => exact hK.symm

theorem blk5 (t : Fin grid0.N) (r : Fin 1) (k : Fin 1024) (R : Fin 1) (K : Fin 1024) (hR : R.val = 0 * 1 + r.val) (hK : K.val = 0 * 1024 + k.val) :
    (iblk m c 5 t : Vec F S1x1024 .f32) (ix2 r k) = (V m c main_v5 : Vec F S1x1024 .f32) (ix2 R K) := by
  unfold iblk
  show V m c main_v5 (((cfg0.win 5).blk t).view.emb (ix2 r k)) = V m c main_v5 (ix2 R K)
  congr 1
  funext a
  apply Fin.ext
  refine (Pipeline.Window.rect_emb_val (cfg0.win 5) t (ix2 r k) a).trans ?_
  rw [show (cfg0.win 5).index t = _ from index5 t]
  match a with
  | ⟨0, _⟩ => exact hR.symm
  | ⟨1, _⟩ => exact hK.symm

end Blocks

/-! ## What the points leave -/

section State

variable (m : (ℓ : Loc nD τ sig) → Buf (Elt Ideal) ℓ) (c : Dev nD)

/-- Row `R` of the tokens. -/
def row (R : Fin 16384) : Fin 1024 → EReal := fun j => (V m c main_v0 : Vec Ideal S16384x1024 .f32) (ix2 R j)

/-- The norm's weight. -/
def wgt : Fin 1024 → EReal := fun j => (V m c main_v4 : Vec Ideal S1x1024 .f32) (ix2 0 j)

/-- The gate and up weights. -/
def win : Fin 1024 → Fin 5632 → EReal := fun j f => (V m c main_v2 : Vec Ideal S1024x5632 .f32) (ix2 j f)

/-- The down weight. -/
def wout : Fin 2816 → Fin 1024 → EReal := fun f k => (V m c main_v3 : Vec Ideal S2816x1024 .f32) (ix2 f k)

/-- The last norm's weight. -/
def wfin : Fin 1024 → EReal := fun j => (V m c main_v5 : Vec Ideal S1x1024 .f32) (ix2 0 j)

/-- Row `R`, normed. -/
abbrev hid (R : Fin 16384) : Fin 1024 → EReal := Common.nrm (row m c R) (wgt m c)

theorem first_apply (t : Fin grid0.N) (r : Fin 2048) (R : Fin 16384) (hR : R.val = t.val / 11 * 2048 + r.val) (k : Fin 1024) :
    k0_pay1 (iblk m c 0 t : Vec Ideal S2048x1024 .f32) (iblk m c 1 t : Vec Ideal S1x1024 .f32) (ix2 r k) = hid m c R k := by
  rw [pay1_apply]
  have e0 : (fun j => (iblk m c 0 t : Vec Ideal S2048x1024 .f32) (ix2 r j)) = row m c R :=
    funext fun j => blk0 m c t r j R j hR (by omega)
  have e1 : (fun j => (iblk m c 1 t : Vec Ideal S1x1024 .f32) (ix2 0 j)) = wgt m c :=
    funext fun j => blk1 m c t 0 j 0 j rfl (by omega)
  rw [e0, e1]

/-- A point adds its 256 hidden units. -/
theorem tile_apply (t : Fin grid0.N) (r : Fin 2048) (R : Fin 16384) (h : Vec Ideal S2048x1024 .bf16) (o : Vec Ideal S2048x1024 .f32)
    (hh : ∀ k, h (ix2 r k) = hid m c R k) (k : Fin 1024) :
    k0_pay3 h (iblk m c 2 t : Vec Ideal S1024x256 .f32) (iblk m c 3 t : Vec Ideal S1024x256 .f32) o (iblk m c 4 t : Vec Ideal S256x1024 .f32) (ix2 r k)
      = o (ix2 r k) + ∑ f : Fin 256, Common.unit (hid m c R) (win m c) (wout m c) k (256 * (t.val % 11) + f.val) := by
  rw [pay3_apply]
  refine congrArg (_ + ·) (Finset.sum_congr rfl fun f _ => ?_)
  have hf := f.isLt
  have ht : t.val % 11 < 11 := Nat.mod_lt _ (by decide)
  have hm : (256 * (t.val % 11) + f.val) % 2816 = 256 * (t.val % 11) + f.val := Nat.mod_eq_of_lt (by omega)
  have eg : (∑ j, h (ix2 r j) * (iblk m c 2 t : Vec Ideal S1024x256 .f32) (ix2 j f))
      = Common.dot (hid m c R) (win m c) ⟨(256 * (t.val % 11) + f.val) % 2816, by omega⟩ := by
    refine Finset.sum_congr rfl fun j _ => ?_
    rw [hh j, blk2 m c t j f j ⟨(256 * (t.val % 11) + f.val) % 2816, by omega⟩ (by omega) (by show _ % 2816 = _; omega)]
    rfl
  have eu : (∑ j, h (ix2 r j) * (iblk m c 3 t : Vec Ideal S1024x256 .f32) (ix2 j f))
      = Common.dot (hid m c R) (win m c) ⟨2816 + (256 * (t.val % 11) + f.val) % 2816, by omega⟩ := by
    refine Finset.sum_congr rfl fun j _ => ?_
    rw [hh j, blk3 m c t j f j ⟨2816 + (256 * (t.val % 11) + f.val) % 2816, by omega⟩ (by omega) (by show 2816 + _ % 2816 = _; omega)]
    rfl
  rw [eg, eu, blk4 m c t f k ⟨(256 * (t.val % 11) + f.val) % 2816, by omega⟩ k (by show _ % 2816 = _; omega) (by omega)]
  rfl

/-- After point `n`, the output block holds the sum over the tiles so far and the scratch the normed rows, but for the last
    point of a row block. -/
theorem state : ∀ (n : ℕ) (hn : n < cfg0.N), n % 11 < 10 → ∀ (r : Fin 2048) (R : Fin 16384), R.val = n / 11 * 2048 + r.val →
    (∀ k, (outsAt0 m c n hn).1 (ix2 r k) = ∑ s ∈ Finset.range (n % 11 + 1), ∑ f : Fin 256, Common.unit (hid m c R) (win m c) (wout m c) k (256 * s + f.val))
    ∧ (∀ k, (outsAt0 m c n hn).2 (ix2 r k) = hid m c R k) := by
  intro n
  induction n with
  | zero =>
    intro hn hlt r R hR
    rw [outsAt0_A m c ⟨0, hn⟩ rfl (by decide : ¬ 0 % 11 = 10)]
    dsimp only
    rw [out_A, scratch_A]
    have hs := first_apply m c ⟨0, hn⟩ r R hR
    refine ⟨fun k => ?_, hs⟩
    refine (tile_apply m c ⟨0, hn⟩ r R _ _ hs k).trans ?_
    rw [pay2_apply, zero_add, Finset.sum_range_one]
    rfl
  | succ n ih =>
    intro hn hlt r R hR
    by_cases h0 : (n + 1) % 11 = 0
    · rw [outsAt0_A m c ⟨n + 1, hn⟩ h0 (by show ¬ (n + 1) % 11 = 10; omega)]
      dsimp only
      rw [out_A, scratch_A]
      have hs := first_apply m c ⟨n + 1, hn⟩ r R hR
      refine ⟨fun k => ?_, hs⟩
      refine (tile_apply m c ⟨n + 1, hn⟩ r R _ _ hs k).trans ?_
      rw [pay2_apply, zero_add, h0, Finset.sum_range_one]
    · obtain ⟨h1, h2⟩ := ih (by omega) (by omega) r R (by omega)
      rw [Value.outsAt0_succ, Value.stAt0_B m c ⟨n + 1, hn⟩ _ h0 (by show ¬ (n + 1) % 11 = 10; omega)]
      dsimp only
      rw [out_B]
      refine ⟨fun k => ?_, h2⟩
      refine (tile_apply m c ⟨n + 1, hn⟩ r R _ _ h2 k).trans ?_
      rw [h1, show (n + 1) % 11 = n % 11 + 1 by omega, Finset.sum_range_succ _ (n % 11 + 1)]

/-- The result's row: the feed-forward added to the row by one half, and normed. -/
def res (R : Fin 16384) : Fin 1024 → EReal :=
  Common.nrm (fun j => row m c R j + Common.half * Common.ffn (hid m c R) (win m c) (wout m c) j) (wfin m c)

/-- The last point of a row block leaves the result's rows. -/
theorem last (n : ℕ) (hn : n < cfg0.N) (h10 : n % 11 = 10) (r : Fin 2048) (R : Fin 16384) (hR : R.val = n / 11 * 2048 + r.val) (k : Fin 1024) :
    (outsAt0 m c n hn).1 (ix2 r k) = res m c R k := by
  obtain ⟨n, rfl⟩ : ∃ l, n = l + 1 := ⟨n - 1, by omega⟩
  obtain ⟨h1, h2⟩ := state m c n (by omega) (by omega) r R (by omega)
  rw [Value.outsAt0_succ, Value.stAt0_C m c ⟨n + 1, hn⟩ _ (by show ¬ (n + 1) % 11 = 0; omega) h10]
  dsimp only
  rw [out_C, pay4_apply]
  have e0 : (fun j => (iblk m c 0 ⟨n + 1, hn⟩ : Vec Ideal S2048x1024 .f32) (ix2 r j)) = row m c R :=
    funext fun j => blk0 m c ⟨n + 1, hn⟩ r j R j hR (by omega)
  have e5 : (fun j => (iblk m c 5 ⟨n + 1, hn⟩ : Vec Ideal S1x1024 .f32) (ix2 0 j)) = wfin m c :=
    funext fun j => blk5 m c ⟨n + 1, hn⟩ 0 j 0 j rfl (by omega)
  rw [e5]
  refine congrArg (fun x => Common.nrm x (wfin m c) k) (funext fun j => ?_)
  refine congrArg₂ (fun a b : EReal => a + Common.half * b) (congrFun e0 j) ?_
  refine (tile_apply m c ⟨n + 1, hn⟩ r R _ _ h2 j).trans ?_
  rw [h1, ← Common.ffn_tiles]
  show _ + ∑ f : Fin 256, Common.unit _ _ _ j (256 * ((n + 1) % 11) + f.val) = _
  rw [h10, show n % 11 + 1 = 10 by omega, Finset.sum_range_succ _ 10]

/-- The result array, element by element. -/
theorem G_apply (R : Fin 16384) (k : Fin 1024) : (Value.G6 m c : Vec Ideal S16384x1024 .f32) (ix2 R k) = res m c R k := by
  have hR := R.isLt
  have hk := k.isLt
  have hp : Value.pt6Of (ix2 R k) = 11 * (R.val / 2048) + 10 := by
    show 11 * (1 * (R.val / 2048 - 0) + 1 * (k.val / 1024 - 0)) + 10 = _
    omega
  have hlt : Value.pt6Of (ix2 R k) < cfg0.N := by rw [hp]; exact lt_of_lt_of_eq (by omega) N_0.symm
  unfold Value.G6
  rw [dif_pos hlt, ← Value.outsAt0_sweep m c _ hlt]
  have hl : Value.loc6Of (ix2 R k) = ix2 ⟨R.val % 2048, Nat.mod_lt _ (by decide)⟩ k := by
    funext a
    match a with
    | ⟨0, _⟩ => rfl
    | ⟨1, _⟩ => exact Fin.ext (Nat.mod_eq_of_lt hk)
  rw [hl]
  exact last m c _ hlt (by rw [hp]; omega) _ R (by rw [hp]; show R.val = _ + R.val % 2048; omega) k

/-! ## The arrays as the region finds them: the arguments, reshaped -/

theorem cast_x (x : Vec Ideal S4x4096x1024 .f32) (R : Fin 16384) (k : Fin 1024) :
    shapeCast S16384x1024 x shapeCasts_S4x4096x1024_S16384x1024 (ix2 R k) = x (ix3 ⟨R.val / 4096, by omega⟩ ⟨R.val % 4096, by omega⟩ k) := by
  pointwise

theorem cast_nw (x : Vec Ideal S1x1024 .f32) (k : Fin 1024) :
    shapeCast S1x1024 (shapeCast S1024 x shapeCasts_S1x1024_S1024) shapeCasts_S1024_S1x1024 (ix2 0 k) = x (ix2 0 k) := by
  pointwise

theorem cast_gu (x : Vec Ideal S1x1024x5632 .f32) (j : Fin 1024) (f : Fin 5632) :
    shapeCast S1024x5632 x shapeCasts_S1x1024x5632_S1024x5632 (ix2 j f) = x (ix3 0 j f) := by
  pointwise

theorem cast_down (x : Vec Ideal S1x2816x1024 .f32) (f : Fin 2816) (k : Fin 1024) :
    shapeCast S2816x1024 x shapeCasts_S1x2816x1024_S2816x1024 (ix2 f k) = x (ix3 0 f k) := by
  pointwise

theorem cast_fw (x : Vec Ideal S1024 .f32) (k : Fin 1024) :
    shapeCast S1x1024 x shapeCasts_S1024_S1x1024 (ix2 0 k) = x (ix1 k) := by
  pointwise

theorem V_x : V m c main_v0 = shapeCast S16384x1024 (m ((c : Thread nD τ).loc main_arg0)) shapeCasts_S4x4096x1024_S16384x1024 := by
  show StableHlo.after hostOps0 (fun b => m (c, b)) main_v0 = _
  after_results
  rfl

theorem V_nw : V m c main_v4 = shapeCast S1x1024 (shapeCast S1024 (m ((c : Thread nD τ).loc main_arg1)) shapeCasts_S1x1024_S1024) shapeCasts_S1024_S1x1024 := by
  show StableHlo.after hostOps0 (fun b => m (c, b)) main_v4 = _
  after_results
  rfl

theorem V_gu : V m c main_v2 = shapeCast S1024x5632 (m ((c : Thread nD τ).loc main_arg2)) shapeCasts_S1x1024x5632_S1024x5632 := by
  show StableHlo.after hostOps0 (fun b => m (c, b)) main_v2 = _
  after_results
  rfl

theorem V_down : V m c main_v3 = shapeCast S2816x1024 (m ((c : Thread nD τ).loc main_arg3)) shapeCasts_S1x2816x1024_S2816x1024 := by
  show StableHlo.after hostOps0 (fun b => m (c, b)) main_v3 = _
  after_results
  rfl

theorem V_fw : V m c main_v5 = shapeCast S1x1024 (m ((c : Thread nD τ).loc main_arg4)) shapeCasts_S1024_S1x1024 := by
  show StableHlo.after hostOps0 (fun b => m (c, b)) main_v5 = _
  after_results
  rfl

theorem row_eq (R : Fin 16384) (k : Fin 1024) : row m c R k = (m ((c : Thread nD τ).loc main_arg0) : Vec Ideal S4x4096x1024 .f32) (ix3 ⟨R.val / 4096, by omega⟩ ⟨R.val % 4096, by omega⟩ k) := by
  unfold row
  rw [V_x]
  exact cast_x ..

theorem wgt_eq (k : Fin 1024) : wgt m c k = (m ((c : Thread nD τ).loc main_arg1) : Vec Ideal S1x1024 .f32) (ix2 0 k) := by
  unfold wgt
  rw [V_nw]
  exact cast_nw ..

theorem win_eq (j : Fin 1024) (f : Fin 5632) : win m c j f = (m ((c : Thread nD τ).loc main_arg2) : Vec Ideal S1x1024x5632 .f32) (ix3 0 j f) := by
  unfold win
  rw [V_gu]
  exact cast_gu ..

theorem wout_eq (f : Fin 2816) (k : Fin 1024) : wout m c f k = (m ((c : Thread nD τ).loc main_arg3) : Vec Ideal S1x2816x1024 .f32) (ix3 0 f k) := by
  unfold wout
  rw [V_down]
  exact cast_down ..

theorem wfin_eq (k : Fin 1024) : wfin m c k = (m ((c : Thread nD τ).loc main_arg4) : Vec Ideal S1024 .f32) (ix1 k) := by
  unfold wfin
  rw [V_fw]
  exact cast_fw ..

end State

end Cert.FfnIdeal.Tile
end
-- ==== Proof.Ffn.Ref.lean ====
/- The final feed-forward's reference, read: each row of its result is the same function of the row and the weights as the
   kernel's. -/
module

public import proofs.«01_k».proof.Proof.Gen.FfnRefIdeal.Run
public import proofs.«01_k».proof.Proof.Gen.FfnRefIdeal.Read
public import proofs.«01_k».proof.Proof.Common

@[expose] public section

set_option maxRecDepth 16384

noncomputable section

namespace Cert.FfnRefIdeal.Rows

open Cert.FfnRefIdeal Cert.FfnRefIdeal.Read Idealize.ShloMosaic Idealize.ShloMosaic.TcCoe Idealize.SL.Sem

variable (x0 : Vec Ideal S4x4096x1024 .f32) (x1 : Vec Ideal S1x1024 .f32) (x2 : Vec Ideal S1x1024x5632 .f32) (x3 : Vec Ideal S1x2816x1024 .f32)
  (x4 : Vec Ideal S1024 .f32)

theorem norm_apply (a : Fin 4) (b : Fin 4096) (k : Fin 1024) :
    val_main_v13 (F := Ideal) x0 x1 (ix3 a b k) = Common.nrm (fun j => x0 (ix3 a b j)) (fun j => x1 (ix2 0 j)) k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem dot_apply (a : Fin 4) (b : Fin 4096) (f : Fin 5632) :
    val_main_v15 (F := Ideal) x0 x1 x2 (ix3 a b f)
      = Common.dot (Common.nrm (fun j => x0 (ix3 a b j)) (fun j => x1 (ix2 0 j))) (fun j f => x2 (ix3 0 j f)) f := by
  pointwise [val_main_v15, val_main_v14]
  simp only [norm_apply]
  rfl

theorem mid_apply (a : Fin 4) (b : Fin 4096) (f : Fin 2816) :
    val_main_v19 (F := Ideal) x0 x1 x2 (ix3 a b f)
      = Common.mid (Common.nrm (fun j => x0 (ix3 a b j)) (fun j => x1 (ix2 0 j))) (fun j f => x2 (ix3 0 j f)) f := by
  pointwise [val_main_v19, val_main_v18, val_main_v17, val_main_v16, val_main_call0_v0, val_main_call0_v1, val_main_call0_v2, val_main_call0_v3, val_main_call0_v4, val_main_call0_v5,
    val_main_call0_cst, val_main_call0_cst_0]
  simp only [dot_apply]
  rfl

theorem sum_apply (a : Fin 4) (b : Fin 4096) (k : Fin 1024) :
    val_main_v24 (F := Ideal) x0 x1 x2 x3 (ix3 a b k)
      = x0 (ix3 a b k) + Common.half * Common.ffn (Common.nrm (fun j => x0 (ix3 a b j)) (fun j => x1 (ix2 0 j))) (fun j f => x2 (ix3 0 j f)) (fun f k => x3 (ix3 0 f k)) k := by
  pointwise [val_main_v24, val_main_v23, val_main_v22, val_main_v21, val_main_v20, val_main_cst_2]
  simp only [mid_apply]
  rfl

theorem res_apply (R : Fin 16384) (k : Fin 1024) :
    val_main_v38 (F := Ideal) x0 x1 x2 x3 x4 (ix2 R k)
      = Common.nrm (fun k => x0 (ix3 ⟨R.val / 4096, by omega⟩ ⟨R.val % 4096, by omega⟩ k) + Common.half * Common.ffn (Common.nrm (fun j => x0 (ix3 ⟨R.val / 4096, by omega⟩ ⟨R.val % 4096, by omega⟩ j)) (fun j => x1 (ix2 0 j))) (fun j f => x2 (ix3 0 j f)) (fun f k => x3 (ix3 0 f k)) k) (fun j => x4 (ix1 j)) k := by
  pointwise [val_main_v38, val_main_v37, val_main_v36, val_main_v35, val_main_v34, val_main_v33, val_main_v32, val_main_v31, val_main_v30, val_main_v29, val_main_v28, val_main_v27, val_main_v26, val_main_v25, val_main_cst_3, val_main_cst_4, val_main_cst_5]
  simp only [sum_apply]
  rfl

end Cert.FfnRefIdeal.Rows
end
-- ==== Proof.Ffn.Claims.lean ====
/- The claims about the final feed-forward (half-step residual and last norm): the kernel's and the reference's result
   arrays are the same rows (`Tile.G_apply`, `Rows.res_apply`) of the same arguments. -/
module

public import proofs.«01_k».proof.Defs
public import proofs.«01_k».proof.Proof.Ffn.Kernel
public import proofs.«01_k».proof.Proof.Ffn.Ref
public import proofs.«01_k».proof.Proof.Gen.Ffn
public import Idealize.ShloMosaic.Lib.Quiescent

@[expose] public section

noncomputable section

namespace Cert.Proof.Ffn

open Idealize.ShloMosaic Idealize.ShloMosaic.TcCoe Idealize.SL.Sem

/-- The two printings' bodies are one table: the labels are one, and there the functions' texts are the same. -/
theorem bodies_eq : Cert.Ffn.defs₀ (F := Bits) = Cert.FfnIdeal.defs₀ (F := Bits) := by
  unfold Cert.Ffn.defs₀ Cert.FfnIdeal.defs₀
  refine congrArg Defs.onTc ?_
  funext l x
  obtain rfl : l = 0 := Subsingleton.elim _ _
  rfl

theorem defs_eq : Cert.Ffn.defs (F := Bits) = Cert.FfnIdeal.defs (F := Bits) :=
  congrArg (Pipeline.defs (Cert.FfnIdeal.pcfgs (F := Bits))) bodies_eq

theorem main_eq : Cert.Ffn.main (F := Bits) = Cert.FfnIdeal.main (F := Bits) := by
  unfold Cert.Ffn.main Cert.FfnIdeal.main
  rfl

/-- The bit-exact program's frame, from the ideal printing's at the bit-exact instance. -/
theorem frame_kernel : Cert.quiescent_Ffn := fun m ρ _ => by
  have h := Cert.FfnIdeal.Gen.frame (F := Bits) m ρ
  rw [← defs_eq, ← main_eq] at h
  exact h

theorem frame_ideal : Cert.quiescent_FfnIdeal := fun m ρ _ => Cert.FfnIdeal.Gen.frame (F := Ideal) m ρ

theorem frame_ref_ideal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel's result is the reference's, element by element. -/
theorem result_eq (m : (ℓ : Loc Cert.FfnIdeal.nD Cert.FfnIdeal.τ Cert.FfnIdeal.sig) → Buf (Elt Ideal) ℓ) (c : Dev Cert.FfnIdeal.nD) :
    Cert.FfnRefIdeal.Read.val_main_v38 (F := Ideal) (m ((c.tc : Thread Cert.FfnIdeal.nD Cert.FfnIdeal.τ).loc Cert.FfnIdeal.main_arg0))
      (m ((c.tc : Thread Cert.FfnIdeal.nD Cert.FfnIdeal.τ).loc Cert.FfnIdeal.main_arg1)) (m ((c.tc : Thread Cert.FfnIdeal.nD Cert.FfnIdeal.τ).loc Cert.FfnIdeal.main_arg2))
      (m ((c.tc : Thread Cert.FfnIdeal.nD Cert.FfnIdeal.τ).loc Cert.FfnIdeal.main_arg3)) (m ((c.tc : Thread Cert.FfnIdeal.nD Cert.FfnIdeal.τ).loc Cert.FfnIdeal.main_arg4))
      = Cert.FfnIdeal.Value.G6 m c := by
  funext (i : Cert.FfnIdeal.S16384x1024.Idx)
  obtain ⟨R, k, rfl⟩ : ∃ (R : Fin 16384) (k : Fin 1024), i = ix2 R k := ⟨i 0, i 1, eq_ix2 i⟩
  refine (Cert.FfnRefIdeal.Rows.res_apply _ _ _ _ _ R k).trans (Eq.trans ?_ (Cert.FfnIdeal.Tile.G_apply m c R k).symm)
  unfold Cert.FfnIdeal.Tile.res Cert.FfnIdeal.Tile.hid
  rw [show Cert.FfnIdeal.Tile.row m c R = _ from funext fun j => Cert.FfnIdeal.Tile.row_eq m c R j,
    show Cert.FfnIdeal.Tile.wgt m c = _ from funext fun j => Cert.FfnIdeal.Tile.wgt_eq m c j,
    show Cert.FfnIdeal.Tile.win m c = _ from funext fun j => funext fun f => Cert.FfnIdeal.Tile.win_eq m c j f,
    show Cert.FfnIdeal.Tile.wout m c = _ from funext fun f => funext fun j => Cert.FfnIdeal.Tile.wout_eq m c f j,
    show Cert.FfnIdeal.Tile.wfin m c = _ from funext fun j => Cert.FfnIdeal.Tile.wfin_eq m c j]

/-- The kernel computes the reference's values. -/
theorem algebraic : Cert.algebraic_FfnIdeal_FfnRefIdeal := by
  intro m ρ m' ρ' _ hagree
  refine ⟨fun c => Cert.FfnIdeal.Value.G6 m c, Cert.FfnIdeal.Value.run (F := Ideal) m ρ, ?_⟩
  refine (θ_run Cert.FfnRefIdeal.defs _ _).mono (fun _ h c => ⟨(h c).1.trans ?_, (h c).2⟩) (Cert.FfnRefIdeal.Value.run (F := Ideal) m' ρ')
  rw [Cert.FfnRefIdeal.Read.val_main_v38_eq]
  obtain ⟨e0, e1, e2, e3, e4⟩ := hagree c
  rw [e0, e1, e2, e3, e4]
  exact result_eq m c

end Cert.Proof.Ffn

end
-- ==== Proof.FfnA.Kernel.lean ====
/- The first feed-forward's kernel, read: its grid is eight blocks of 2048 rows by eleven tiles of 256 hidden units; the
   first tile's point norms the block's rows into a scratch, every point adds its tile's part of the output, and the last
   one adds the residual. Over the extended reals each row of the result is therefore one function of the row and
   the weights (`G_apply`). -/
module

public import proofs.«01_k».proof.Proof.Gen.FfnAIdeal.Value
public import Idealize.ShloMosaic.Lib.Pipeline.ValueKit.Geometry
public import Idealize.ShloMosaic.Lib.Pipeline.ValueKit.Acc
public import Idealize.ShloMosaic.Lib.Pointwise
public import proofs.«01_k».proof.Proof.Common

@[expose] public section

set_option maxRecDepth 16384

noncomputable section

namespace Cert.FfnAIdeal.Tile

open Cert.FfnAIdeal Cert.FfnAIdeal.Gen Idealize.ShloMosaic Idealize.ShloMosaic.TcCoe Idealize.SL.Sem

variable {F : FTy → Type} [FloatOps F]

/-- The first point of a row block: the normed rows times the first tile of weights. -/
theorem out_A (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S2048x1024 .f32) (harg7 : arg7.IsWhole)
    (arg8 : Memref sig .tc .vmem S2048x1024 .bf16) (harg8 : arg8.IsWhole)
    (hc0 : cond0_0 i) (hc1 : ¬cond0_1 i) (x0 : Vec F S2048x1024 .f32) (x1 : Vec F S1x1024 .f32) (x2 : Vec F S1024x256 .f32) (x3 : Vec F S1024x256 .f32)
    (x4 : Vec F S256x1024 .f32) :
    out0_A_5 c i arg2 harg2 arg3 harg3 arg4 harg4 arg5 harg5 arg6 harg6 arg7 harg7 arg8 harg8 hc0 hc1 x0 x1 x2 x3 x4 = k0_pay3 (k0_pay1 x0 x1) x2 x3 k0_pay2 x4 := by
  frame_out

/-- The first point of a row block leaves the normed rows in the scratch. -/
theorem scratch_A (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S2048x1024 .f32) (harg7 : arg7.IsWhole)
    (arg8 : Memref sig .tc .vmem S2048x1024 .bf16) (harg8 : arg8.IsWhole)
    (hc0 : cond0_0 i) (hc1 : ¬cond0_1 i) (x0 : Vec F S2048x1024 .f32) (x1 : Vec F S1x1024 .f32) (x2 : Vec F S1024x256 .f32) (x3 : Vec F S1024x256 .f32)
    (x4 : Vec F S256x1024 .f32) :
    sout0_A_0 c i arg2 harg2 arg3 harg3 arg4 harg4 arg5 harg5 arg6 harg6 arg7 harg7 arg8 harg8 hc0 hc1 x0 x1 x2 x3 x4 = k0_pay1 x0 x1 := by
  frame_out

/-- An inner point adds its tile's product. -/
theorem out_B (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S2048x1024 .f32) (harg7 : arg7.IsWhole)
    (arg8 : Memref sig .tc .vmem S2048x1024 .bf16) (harg8 : arg8.IsWhole)
    (hc0 : ¬cond0_0 i) (hc1 : ¬cond0_1 i) (x0 : Vec F S2048x1024 .f32) (x1 : Vec F S1x1024 .f32) (x2 : Vec F S1024x256 .f32) (x3 : Vec F S1024x256 .f32)
    (x4 : Vec F S256x1024 .f32) (xo5 : Vec F S2048x1024 .f32) (xs0 : Vec F S2048x1024 .bf16) :
    out0_B_5 c i arg2 harg2 arg3 harg3 arg4 harg4 arg5 harg5 arg6 harg6 arg7 harg7 arg8 harg8 hc0 hc1 x0 x1 x2 x3 x4 xo5 xs0 = k0_pay3 xs0 x2 x3 xo5 x4 := by
  frame_out

/-- The last point adds its tile's product, then the residual. -/
theorem out_C (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S2048x1024 .f32) (harg7 : arg7.IsWhole)
    (arg8 : Memref sig .tc .vmem S2048x1024 .bf16) (harg8 : arg8.IsWhole)
    (hc0 : ¬cond0_0 i) (hc1 : cond0_1 i) (x0 : Vec F S2048x1024 .f32) (x1 : Vec F S1x1024 .f32) (x2 : Vec F S1024x256 .f32) (x3 : Vec F S1024x256 .f32)
    (x4 : Vec F S256x1024 .f32) (xo5 : Vec F S2048x1024 .f32) (xs0 : Vec F S2048x1024 .bf16) :
    out0_C_5 c i arg2 harg2 arg3 harg3 arg4 harg4 arg5 harg5 arg6 harg6 arg7 harg7 arg8 harg8 hc0 hc1 x0 x1 x2 x3 x4 xo5 xs0 = k0_pay4 x0 (k0_pay3 xs0 x2 x3 xo5 x4) := by
  frame_out

/-! ## The body's payloads at an element, over the extended reals -/

theorem pay1_apply (x : Vec Ideal S2048x1024 .f32) (nw : Vec Ideal S1x1024 .f32) (r : Fin 2048) (k : Fin 1024) :
    k0_pay1 x nw (ix2 r k) = Common.nrm (fun j => x (ix2 r j)) (fun j => nw (ix2 0 j)) k := by
  unfold_payloads
  pointwise
  rfl

theorem pay2_apply (i : S2048x1024.Idx) : k0_pay2 (F := Ideal) i = 0 := by
  unfold_payloads
  pointwise

theorem pay3_apply (h : Vec Ideal S2048x1024 .bf16) (wg wu : Vec Ideal S1024x256 .f32) (o : Vec Ideal S2048x1024 .f32)
    (wd : Vec Ideal S256x1024 .f32) (r : Fin 2048) (k : Fin 1024) :
    k0_pay3 h wg wu o wd (ix2 r k) = o (ix2 r k) + ∑ f : Fin 256,
      ((∑ j, h (ix2 r j) * wg (ix2 j f)) * Ideal.logistic (∑ j, h (ix2 r j) * wg (ix2 j f)) * ∑ j, h (ix2 r j) * wu (ix2 j f)) * wd (ix2 f k) := by
  unfold_payloads
  pointwise

theorem pay4_apply (x o : Vec Ideal S2048x1024 .f32) (r : Fin 2048) (k : Fin 1024) :
    k0_pay4 x o (ix2 r k) = x (ix2 r k) + Common.half * o (ix2 r k) := by
  unfold_payloads
  pointwise

/-! ## The blocks of the arrays -/

section Blocks

variable (m : (ℓ : Loc nD τ sig) → Buf (Elt F) ℓ) (c : Dev nD)

theorem index0 : ∀ t : Fin grid0.N, cc0_transform_0 (grid0.coords t) = ![t.val / 11, 0] := by decide +kernel
theorem index1 : ∀ t : Fin grid0.N, cc0_transform_1 (grid0.coords t) = ![0, 0] := by decide +kernel
theorem index2 : ∀ t : Fin grid0.N, cc0_transform_2 (grid0.coords t) = ![0, t.val % 11] := by decide +kernel
theorem index3 : ∀ t : Fin grid0.N, cc0_transform_3 (grid0.coords t) = ![0, t.val % 11 + 11] := by decide +kernel
theorem index4 : ∀ t : Fin grid0.N, cc0_transform_4 (grid0.coords t) = ![t.val % 11, 0] := by decide +kernel

theorem blk0 (t : Fin grid0.N) (r : Fin 2048) (k : Fin 1024) (R : Fin 16384) (K : Fin 1024) (hR : R.val = t.val / 11 * 2048 + r.val) (hK : K.val = 0 * 1024 + k.val) :
    (iblk m c 0 t : Vec F S2048x1024 .f32) (ix2 r k) = (V m c main_v0 : Vec F S16384x1024 .f32) (ix2 R K) := by
  unfold iblk
  show V m c main_v0 (((cfg0.win 0).blk t).view.emb (ix2 r k)) = V m c main_v0 (ix2 R K)
  congr 1
  funext a
  apply Fin.ext
  refine (Pipeline.Window.rect_emb_val (cfg0.win 0) t (ix2 r k) a).trans ?_
  rw [show (cfg0.win 0).index t = _ from index0 t]
  match a with
  | ⟨0, _⟩ => exact hR.symm
  | ⟨1, _⟩ => exact hK.symm

theorem blk1 (t : Fin grid0.N) (r : Fin 1) (k : Fin 1024) (R : Fin 1) (K : Fin 1024) (hR : R.val = 0 * 1 + r.val) (hK : K.val = 0 * 1024 + k.val) :
    (iblk m c 1 t : Vec F S1x1024 .f32) (ix2 r k) = (V m c main_v4 : Vec F S1x1024 .f32) (ix2 R K) := by
  unfold iblk
  show V m c main_v4 (((cfg0.win 1).blk t).view.emb (ix2 r k)) = V m c main_v4 (ix2 R K)
  congr 1
  funext a
  apply Fin.ext
  refine (Pipeline.Window.rect_emb_val (cfg0.win 1) t (ix2 r k) a).trans ?_
  rw [show (cfg0.win 1).index t = _ from index1 t]
  match a with
  | ⟨0, _⟩ => exact hR.symm
  | ⟨1, _⟩ => exact hK.symm

theorem blk2 (t : Fin grid0.N) (r : Fin 1024) (k : Fin 256) (R : Fin 1024) (K : Fin 5632) (hR : R.val = 0 * 1024 + r.val) (hK : K.val = t.val % 11 * 256 + k.val) :
    (iblk m c 2 t : Vec F S1024x256 .f32) (ix2 r k) = (V m c main_v2 : Vec F S1024x5632 .f32) (ix2 R K) := by
  unfold iblk
  show V m c main_v2 (((cfg0.win 2).blk t).view.emb (ix2 r k)) = V m c main_v2 (ix2 R K)
  congr 1
  funext a
  apply Fin.ext
  refine (Pipeline.Window.rect_emb_val (cfg0.win 2) t (ix2 r k) a).trans ?_
  rw [show (cfg0.win 2).index t = _ from index2 t]
  match a with
  | ⟨0, _⟩ => exact hR.symm
  | ⟨1, _⟩ => exact hK.symm

theorem blk3 (t : Fin grid0.N) (r : Fin 1024) (k : Fin 256) (R : Fin 1024) (K : Fin 5632) (hR : R.val = 0 * 1024 + r.val) (hK : K.val = (t.val % 11 + 11) * 256 + k.val) :
    (iblk m c 3 t : Vec F S1024x256 .f32) (ix2 r k) = (V m c main_v2 : Vec F S1024x5632 .f32) (ix2 R K) := by
  unfold iblk
  show V m c main_v2 (((cfg0.win 3).blk t).view.emb (ix2 r k)) = V m c main_v2 (ix2 R K)
  congr 1
  funext a
  apply Fin.ext
  refine (Pipeline.Window.rect_emb_val (cfg0.win 3) t (ix2 r k) a).trans ?_
  rw [show (cfg0.win 3).index t = _ from index3 t]
  match a with
  | ⟨0, _⟩ => exact hR.symm
  | ⟨1, _⟩ => exact hK.symm

theorem blk4 (t : Fin grid0.N) (r : Fin 256) (k : Fin 1024) (R : Fin 2816) (K : Fin 1024) (hR : R.val = t.val % 11 * 256 + r.val) (hK : K.val = 0 * 1024 + k.val) :
    (iblk m c 4 t : Vec F S256x1024 .f32) (ix2 r k) = (V m c main_v3 : Vec F S2816x1024 .f32) (ix2 R K) := by
  unfold iblk
  show V m c main_v3 (((cfg0.win 4).blk t).view.emb (ix2 r k)) = V m c main_v3 (ix2 R K)
  congr 1
  funext a
  apply Fin.ext
  refine (Pipeline.Window.rect_emb_val (cfg0.win 4) t (ix2 r k) a).trans ?_
  rw [show (cfg0.win 4).index t = _ from index4 t]
  match a with
  | ⟨0, _⟩ => exact hR.symm
  | ⟨1, _⟩ => exact hK.symm

end Blocks

/-! ## What the points leave -/

section State

variable (m : (ℓ : Loc nD τ sig) → Buf (Elt Ideal) ℓ) (c : Dev nD)

/-- Row `R` of the tokens. -/
def row (R : Fin 16384) : Fin 1024 → EReal := fun j => (V m c main_v0 : Vec Ideal S16384x1024 .f32) (ix2 R j)

/-- The norm's weight. -/
def wgt : Fin 1024 → EReal := fun j => (V m c main_v4 : Vec Ideal S1x1024 .f32) (ix2 0 j)

/-- The gate and up weights. -/
def win : Fin 1024 → Fin 5632 → EReal := fun j f => (V m c main_v2 : Vec Ideal S1024x5632 .f32) (ix2 j f)

/-- The down weight. -/
def wout : Fin 2816 → Fin 1024 → EReal := fun f k => (V m c main_v3 : Vec Ideal S2816x1024 .f32) (ix2 f k)

/-- Row `R`, normed. -/
abbrev hid (R : Fin 16384) : Fin 1024 → EReal := Common.nrm (row m c R) (wgt m c)

theorem first_apply (t : Fin grid0.N) (r : Fin 2048) (R : Fin 16384) (hR : R.val = t.val / 11 * 2048 + r.val) (k : Fin 1024) :
    k0_pay1 (iblk m c 0 t : Vec Ideal S2048x1024 .f32) (iblk m c 1 t : Vec Ideal S1x1024 .f32) (ix2 r k) = hid m c R k := by
  rw [pay1_apply]
  have e0 : (fun j => (iblk m c 0 t : Vec Ideal S2048x1024 .f32) (ix2 r j)) = row m c R :=
    funext fun j => blk0 m c t r j R j hR (by omega)
  have e1 : (fun j => (iblk m c 1 t : Vec Ideal S1x1024 .f32) (ix2 0 j)) = wgt m c :=
    funext fun j => blk1 m c t 0 j 0 j rfl (by omega)
  rw [e0, e1]

/-- A point adds its 256 hidden units. -/
theorem tile_apply (t : Fin grid0.N) (r : Fin 2048) (R : Fin 16384) (h : Vec Ideal S2048x1024 .bf16) (o : Vec Ideal S2048x1024 .f32)
    (hh : ∀ k, h (ix2 r k) = hid m c R k) (k : Fin 1024) :
    k0_pay3 h (iblk m c 2 t : Vec Ideal S1024x256 .f32) (iblk m c 3 t : Vec Ideal S1024x256 .f32) o (iblk m c 4 t : Vec Ideal S256x1024 .f32) (ix2 r k)
      = o (ix2 r k) + ∑ f : Fin 256, Common.unit (hid m c R) (win m c) (wout m c) k (256 * (t.val % 11) + f.val) := by
  rw [pay3_apply]
  refine congrArg (_ + ·) (Finset.sum_congr rfl fun f _ => ?_)
  have hf := f.isLt
  have ht : t.val % 11 < 11 := Nat.mod_lt _ (by decide)
  have hm : (256 * (t.val % 11) + f.val) % 2816 = 256 * (t.val % 11) + f.val := Nat.mod_eq_of_lt (by omega)
  have eg : (∑ j, h (ix2 r j) * (iblk m c 2 t : Vec Ideal S1024x256 .f32) (ix2 j f))
      = Common.dot (hid m c R) (win m c) ⟨(256 * (t.val % 11) + f.val) % 2816, by omega⟩ := by
    refine Finset.sum_congr rfl fun j _ => ?_
    rw [hh j, blk2 m c t j f j ⟨(256 * (t.val % 11) + f.val) % 2816, by omega⟩ (by omega) (by show _ % 2816 = _; omega)]
    rfl
  have eu : (∑ j, h (ix2 r j) * (iblk m c 3 t : Vec Ideal S1024x256 .f32) (ix2 j f))
      = Common.dot (hid m c R) (win m c) ⟨2816 + (256 * (t.val % 11) + f.val) % 2816, by omega⟩ := by
    refine Finset.sum_congr rfl fun j _ => ?_
    rw [hh j, blk3 m c t j f j ⟨2816 + (256 * (t.val % 11) + f.val) % 2816, by omega⟩ (by omega) (by show 2816 + _ % 2816 = _; omega)]
    rfl
  rw [eg, eu, blk4 m c t f k ⟨(256 * (t.val % 11) + f.val) % 2816, by omega⟩ k (by show _ % 2816 = _; omega) (by omega)]
  rfl

/-- After point `n`, the output block holds the sum over the tiles so far and the scratch the normed rows, but for the last
    point of a row block. -/
theorem state : ∀ (n : ℕ) (hn : n < cfg0.N), n % 11 < 10 → ∀ (r : Fin 2048) (R : Fin 16384), R.val = n / 11 * 2048 + r.val →
    (∀ k, (outsAt0 m c n hn).1 (ix2 r k) = ∑ s ∈ Finset.range (n % 11 + 1), ∑ f : Fin 256, Common.unit (hid m c R) (win m c) (wout m c) k (256 * s + f.val))
    ∧ (∀ k, (outsAt0 m c n hn).2 (ix2 r k) = hid m c R k) := by
  intro n
  induction n with
  | zero =>
    intro hn hlt r R hR
    rw [outsAt0_A m c ⟨0, hn⟩ rfl (by decide : ¬ 0 % 11 = 10)]
    dsimp only
    rw [out_A, scratch_A]
    have hs := first_apply m c ⟨0, hn⟩ r R hR
    refine ⟨fun k => ?_, hs⟩
    refine (tile_apply m c ⟨0, hn⟩ r R _ _ hs k).trans ?_
    rw [pay2_apply, zero_add, Finset.sum_range_one]
    rfl
  | succ n ih =>
    intro hn hlt r R hR
    by_cases h0 : (n + 1) % 11 = 0
    · rw [outsAt0_A m c ⟨n + 1, hn⟩ h0 (by show ¬ (n + 1) % 11 = 10; omega)]
      dsimp only
      rw [out_A, scratch_A]
      have hs := first_apply m c ⟨n + 1, hn⟩ r R hR
      refine ⟨fun k => ?_, hs⟩
      refine (tile_apply m c ⟨n + 1, hn⟩ r R _ _ hs k).trans ?_
      rw [pay2_apply, zero_add, h0, Finset.sum_range_one]
    · obtain ⟨h1, h2⟩ := ih (by omega) (by omega) r R (by omega)
      rw [Value.outsAt0_succ, Value.stAt0_B m c ⟨n + 1, hn⟩ _ h0 (by show ¬ (n + 1) % 11 = 10; omega)]
      dsimp only
      rw [out_B]
      refine ⟨fun k => ?_, h2⟩
      refine (tile_apply m c ⟨n + 1, hn⟩ r R _ _ h2 k).trans ?_
      rw [h1, show (n + 1) % 11 = n % 11 + 1 by omega, Finset.sum_range_succ _ (n % 11 + 1)]

/-- The result's row: the feed-forward added to the row by one half. -/
def res (R : Fin 16384) : Fin 1024 → EReal := fun j => row m c R j + Common.half * Common.ffn (hid m c R) (win m c) (wout m c) j

/-- The last point of a row block leaves the result's rows. -/
theorem last (n : ℕ) (hn : n < cfg0.N) (h10 : n % 11 = 10) (r : Fin 2048) (R : Fin 16384) (hR : R.val = n / 11 * 2048 + r.val) (k : Fin 1024) :
    (outsAt0 m c n hn).1 (ix2 r k) = res m c R k := by
  obtain ⟨n, rfl⟩ : ∃ l, n = l + 1 := ⟨n - 1, by omega⟩
  obtain ⟨h1, h2⟩ := state m c n (by omega) (by omega) r R (by omega)
  rw [Value.outsAt0_succ, Value.stAt0_C m c ⟨n + 1, hn⟩ _ (by show ¬ (n + 1) % 11 = 0; omega) h10]
  dsimp only
  rw [out_C, pay4_apply]
  have e0 : (fun j => (iblk m c 0 ⟨n + 1, hn⟩ : Vec Ideal S2048x1024 .f32) (ix2 r j)) = row m c R :=
    funext fun j => blk0 m c ⟨n + 1, hn⟩ r j R j hR (by omega)
  refine congrArg₂ (fun a b : EReal => a + Common.half * b) (congrFun e0 k) ?_
  refine (tile_apply m c ⟨n + 1, hn⟩ r R _ _ h2 k).trans ?_
  rw [h1, ← Common.ffn_tiles]
  show _ + ∑ f : Fin 256, Common.unit _ _ _ k (256 * ((n + 1) % 11) + f.val) = _
  rw [h10, show n % 11 + 1 = 10 by omega, Finset.sum_range_succ _ 10]

/-- The result array, element by element. -/
theorem G_apply (R : Fin 16384) (k : Fin 1024) : (Value.G5 m c : Vec Ideal S16384x1024 .f32) (ix2 R k) = res m c R k := by
  have hR := R.isLt
  have hk := k.isLt
  have hp : Value.pt5Of (ix2 R k) = 11 * (R.val / 2048) + 10 := by
    show 11 * (1 * (R.val / 2048 - 0) + 1 * (k.val / 1024 - 0)) + 10 = _
    omega
  have hlt : Value.pt5Of (ix2 R k) < cfg0.N := by rw [hp]; exact lt_of_lt_of_eq (by omega) N_0.symm
  unfold Value.G5
  rw [dif_pos hlt, ← Value.outsAt0_sweep m c _ hlt]
  have hl : Value.loc5Of (ix2 R k) = ix2 ⟨R.val % 2048, Nat.mod_lt _ (by decide)⟩ k := by
    funext a
    match a with
    | ⟨0, _⟩ => rfl
    | ⟨1, _⟩ => exact Fin.ext (Nat.mod_eq_of_lt hk)
  rw [hl]
  exact last m c _ hlt (by rw [hp]; omega) _ R (by rw [hp]; show R.val = _ + R.val % 2048; omega) k

/-! ## The arrays as the region finds them: the arguments, reshaped -/

theorem cast_x (x : Vec Ideal S4x4096x1024 .f32) (R : Fin 16384) (k : Fin 1024) :
    shapeCast S16384x1024 x shapeCasts_S4x4096x1024_S16384x1024 (ix2 R k) = x (ix3 ⟨R.val / 4096, by omega⟩ ⟨R.val % 4096, by omega⟩ k) := by
  pointwise

theorem cast_nw (x : Vec Ideal S1x1024 .f32) (k : Fin 1024) :
    shapeCast S1x1024 (shapeCast S1024 x shapeCasts_S1x1024_S1024) shapeCasts_S1024_S1x1024 (ix2 0 k) = x (ix2 0 k) := by
  pointwise

theorem cast_gu (x : Vec Ideal S1x1024x5632 .f32) (j : Fin 1024) (f : Fin 5632) :
    shapeCast S1024x5632 x shapeCasts_S1x1024x5632_S1024x5632 (ix2 j f) = x (ix3 0 j f) := by
  pointwise

theorem cast_down (x : Vec Ideal S1x2816x1024 .f32) (f : Fin 2816) (k : Fin 1024) :
    shapeCast S2816x1024 x shapeCasts_S1x2816x1024_S2816x1024 (ix2 f k) = x (ix3 0 f k) := by
  pointwise

theorem V_x : V m c main_v0 = shapeCast S16384x1024 (m ((c : Thread nD τ).loc main_arg0)) shapeCasts_S4x4096x1024_S16384x1024 := by
  show StableHlo.after hostOps0 (fun b => m (c, b)) main_v0 = _
  after_results
  rfl

theorem V_nw : V m c main_v4 = shapeCast S1x1024 (shapeCast S1024 (m ((c : Thread nD τ).loc main_arg1)) shapeCasts_S1x1024_S1024) shapeCasts_S1024_S1x1024 := by
  show StableHlo.after hostOps0 (fun b => m (c, b)) main_v4 = _
  after_results
  rfl

theorem V_gu : V m c main_v2 = shapeCast S1024x5632 (m ((c : Thread nD τ).loc main_arg2)) shapeCasts_S1x1024x5632_S1024x5632 := by
  show StableHlo.after hostOps0 (fun b => m (c, b)) main_v2 = _
  after_results
  rfl

theorem V_down : V m c main_v3 = shapeCast S2816x1024 (m ((c : Thread nD τ).loc main_arg3)) shapeCasts_S1x2816x1024_S2816x1024 := by
  show StableHlo.after hostOps0 (fun b => m (c, b)) main_v3 = _
  after_results
  rfl

theorem row_eq (R : Fin 16384) (k : Fin 1024) : row m c R k = (m ((c : Thread nD τ).loc main_arg0) : Vec Ideal S4x4096x1024 .f32) (ix3 ⟨R.val / 4096, by omega⟩ ⟨R.val % 4096, by omega⟩ k) := by
  unfold row
  rw [V_x]
  exact cast_x ..

theorem wgt_eq (k : Fin 1024) : wgt m c k = (m ((c : Thread nD τ).loc main_arg1) : Vec Ideal S1x1024 .f32) (ix2 0 k) := by
  unfold wgt
  rw [V_nw]
  exact cast_nw ..

theorem win_eq (j : Fin 1024) (f : Fin 5632) : win m c j f = (m ((c : Thread nD τ).loc main_arg2) : Vec Ideal S1x1024x5632 .f32) (ix3 0 j f) := by
  unfold win
  rw [V_gu]
  exact cast_gu ..

theorem wout_eq (f : Fin 2816) (k : Fin 1024) : wout m c f k = (m ((c : Thread nD τ).loc main_arg3) : Vec Ideal S1x2816x1024 .f32) (ix3 0 f k) := by
  unfold wout
  rw [V_down]
  exact cast_down ..

end State

end Cert.FfnAIdeal.Tile
end
-- ==== Proof.FfnA.Ref.lean ====
/- The first feed-forward's reference, read: each row of its result is the same function of the row and the weights as the
   kernel's. -/
module

public import proofs.«01_k».proof.Proof.Gen.FfnARefIdeal.Run
public import proofs.«01_k».proof.Proof.Gen.FfnARefIdeal.Read
public import proofs.«01_k».proof.Proof.Common

@[expose] public section

set_option maxRecDepth 16384

noncomputable section

namespace Cert.FfnARefIdeal.Rows

open Cert.FfnARefIdeal Cert.FfnARefIdeal.Read Idealize.ShloMosaic Idealize.ShloMosaic.TcCoe Idealize.SL.Sem

variable (x0 : Vec Ideal S4x4096x1024 .f32) (x1 : Vec Ideal S1x1024 .f32) (x2 : Vec Ideal S1x1024x5632 .f32) (x3 : Vec Ideal S1x2816x1024 .f32)

theorem norm_apply (a : Fin 4) (b : Fin 4096) (k : Fin 1024) :
    val_main_v13 (F := Ideal) x0 x1 (ix3 a b k) = Common.nrm (fun j => x0 (ix3 a b j)) (fun j => x1 (ix2 0 j)) k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem dot_apply (a : Fin 4) (b : Fin 4096) (f : Fin 5632) :
    val_main_v15 (F := Ideal) x0 x1 x2 (ix3 a b f)
      = Common.dot (Common.nrm (fun j => x0 (ix3 a b j)) (fun j => x1 (ix2 0 j))) (fun j f => x2 (ix3 0 j f)) f := by
  pointwise [val_main_v15, val_main_v14]
  simp only [norm_apply]
  rfl

theorem mid_apply (a : Fin 4) (b : Fin 4096) (f : Fin 2816) :
    val_main_v19 (F := Ideal) x0 x1 x2 (ix3 a b f)
      = Common.mid (Common.nrm (fun j => x0 (ix3 a b j)) (fun j => x1 (ix2 0 j))) (fun j f => x2 (ix3 0 j f)) f := by
  pointwise [val_main_v19, val_main_v18, val_main_v17, val_main_v16, val_main_call0_v0, val_main_call0_v1, val_main_call0_v2, val_main_call0_v3, val_main_call0_v4, val_main_call0_v5,
    val_main_call0_cst, val_main_call0_cst_0]
  simp only [dot_apply]
  rfl

theorem sum_apply (a : Fin 4) (b : Fin 4096) (k : Fin 1024) :
    val_main_v24 (F := Ideal) x0 x1 x2 x3 (ix3 a b k)
      = x0 (ix3 a b k) + Common.half * Common.ffn (Common.nrm (fun j => x0 (ix3 a b j)) (fun j => x1 (ix2 0 j))) (fun j f => x2 (ix3 0 j f)) (fun f k => x3 (ix3 0 f k)) k := by
  pointwise [val_main_v24, val_main_v23, val_main_v22, val_main_v21, val_main_v20, val_main_cst_2]
  simp only [mid_apply]
  rfl

theorem res_apply (R : Fin 16384) (k : Fin 1024) :
    val_main_v25 (F := Ideal) x0 x1 x2 x3 (ix2 R k)
      = x0 (ix3 ⟨R.val / 4096, by omega⟩ ⟨R.val % 4096, by omega⟩ k) + Common.half * Common.ffn (Common.nrm (fun j => x0 (ix3 ⟨R.val / 4096, by omega⟩ ⟨R.val % 4096, by omega⟩ j)) (fun j => x1 (ix2 0 j)))
          (fun j f => x2 (ix3 0 j f)) (fun f k => x3 (ix3 0 f k)) k := by
  pointwise [val_main_v25]
  simp only [sum_apply]

end Cert.FfnARefIdeal.Rows
end
-- ==== Proof.FfnA.Claims.lean ====
/- The claims about the first feed-forward (half-step residual): the kernel's and the reference's result
   arrays are the same rows (`Tile.G_apply`, `Rows.res_apply`) of the same arguments. -/
module

public import proofs.«01_k».proof.Defs
public import proofs.«01_k».proof.Proof.FfnA.Kernel
public import proofs.«01_k».proof.Proof.FfnA.Ref
public import proofs.«01_k».proof.Proof.Gen.FfnA
public import Idealize.ShloMosaic.Lib.Quiescent

@[expose] public section

noncomputable section

namespace Cert.Proof.FfnA

open Idealize.ShloMosaic Idealize.ShloMosaic.TcCoe Idealize.SL.Sem

/-- The two printings' bodies are one table: the labels are one, and there the functions' texts are the same. -/
theorem bodies_eq : Cert.FfnA.defs₀ (F := Bits) = Cert.FfnAIdeal.defs₀ (F := Bits) := by
  unfold Cert.FfnA.defs₀ Cert.FfnAIdeal.defs₀
  refine congrArg Defs.onTc ?_
  funext l x
  obtain rfl : l = 0 := Subsingleton.elim _ _
  rfl

theorem defs_eq : Cert.FfnA.defs (F := Bits) = Cert.FfnAIdeal.defs (F := Bits) :=
  congrArg (Pipeline.defs (Cert.FfnAIdeal.pcfgs (F := Bits))) bodies_eq

theorem main_eq : Cert.FfnA.main (F := Bits) = Cert.FfnAIdeal.main (F := Bits) := by
  unfold Cert.FfnA.main Cert.FfnAIdeal.main
  rfl

/-- The bit-exact program's frame, from the ideal printing's at the bit-exact instance. -/
theorem frame_kernel : Cert.quiescent_FfnA := fun m ρ _ => by
  have h := Cert.FfnAIdeal.Gen.frame (F := Bits) m ρ
  rw [← defs_eq, ← main_eq] at h
  exact h

theorem frame_ideal : Cert.quiescent_FfnAIdeal := fun m ρ _ => Cert.FfnAIdeal.Gen.frame (F := Ideal) m ρ

theorem frame_ref_ideal : Cert.quiescent_FfnARefIdeal := fun m ρ _ =>
  (θ_run Cert.FfnARefIdeal.defs _ _).mono (fun r h => ⟨fun c => (h c).2, sem_eq_zero_of_no_sems (by decide) r.2⟩)
    (Cert.FfnARefIdeal.Value.run (F := Ideal) m ρ)

/-- The kernel's result is the reference's, element by element. -/
theorem result_eq (m : (ℓ : Loc Cert.FfnAIdeal.nD Cert.FfnAIdeal.τ Cert.FfnAIdeal.sig) → Buf (Elt Ideal) ℓ) (c : Dev Cert.FfnAIdeal.nD) :
    Cert.FfnARefIdeal.Read.val_main_v25 (F := Ideal) (m ((c.tc : Thread Cert.FfnAIdeal.nD Cert.FfnAIdeal.τ).loc Cert.FfnAIdeal.main_arg0))
      (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2))
      (m ((c.tc : Thread Cert.FfnAIdeal.nD Cert.FfnAIdeal.τ).loc Cert.FfnAIdeal.main_arg3))
      = Cert.FfnAIdeal.Value.G5 m c := by
  funext (i : Cert.FfnAIdeal.S16384x1024.Idx)
  obtain ⟨R, k, rfl⟩ : ∃ (R : Fin 16384) (k : Fin 1024), i = ix2 R k := ⟨i 0, i 1, eq_ix2 i⟩
  refine (Cert.FfnARefIdeal.Rows.res_apply _ _ _ _ R k).trans (Eq.trans ?_ (Cert.FfnAIdeal.Tile.G_apply m c R k).symm)
  unfold Cert.FfnAIdeal.Tile.res Cert.FfnAIdeal.Tile.hid
  rw [show Cert.FfnAIdeal.Tile.row m c R = _ from funext fun j => Cert.FfnAIdeal.Tile.row_eq m c R j,
    show Cert.FfnAIdeal.Tile.wgt m c = _ from funext fun j => Cert.FfnAIdeal.Tile.wgt_eq m c j,
    show Cert.FfnAIdeal.Tile.win m c = _ from funext fun j => funext fun f => Cert.FfnAIdeal.Tile.win_eq m c j f,
    show Cert.FfnAIdeal.Tile.wout m c = _ from funext fun f => funext fun j => Cert.FfnAIdeal.Tile.wout_eq m c f j]

/-- The kernel computes the reference's values. -/
theorem algebraic : Cert.algebraic_FfnAIdeal_FfnARefIdeal := by
  intro m ρ m' ρ' _ hagree
  refine ⟨fun c => Cert.FfnAIdeal.Value.G5 m c, Cert.FfnAIdeal.Value.run (F := Ideal) m ρ, ?_⟩
  refine (θ_run Cert.FfnARefIdeal.defs _ _).mono (fun _ h c => ⟨(h c).1.trans ?_, (h c).2⟩) (Cert.FfnARefIdeal.Value.run (F := Ideal) m' ρ')
  refine (Cert.FfnARefIdeal.Read.val_main_v25_eq _ _ _ _).trans ?_
  obtain ⟨e0, e1, e2, e3⟩ := hagree c
  rw [e0, e1, e2, e3]
  exact result_eq m c

end Cert.Proof.FfnA

end
-- ==== Proof.Mix.Kernel.lean ====
/- The mixing call's kernel, read: each of its sixteen points takes 1024 rows of the two branches' outputs, projects them,
   weighs the projections by the logistic function of the gates, projects the sum and adds it to the residual. Over the
   extended reals each row of the result is one function of the rows and the weights (`G_apply`). -/
module

public import proofs.«01_k».proof.Proof.Gen.MixIdeal.Value
public import Idealize.ShloMosaic.Lib.Pipeline.ValueKit.Geometry
public import Idealize.ShloMosaic.Lib.Pipeline.ValueKit.Acc
public import Idealize.ShloMosaic.Lib.Pointwise
public import proofs.«01_k».proof.Proof.Common

@[expose] public section

set_option maxRecDepth 16384

noncomputable section

namespace Cert.MixIdeal.Tile

open Cert.MixIdeal Cert.MixIdeal.Gen Idealize.ShloMosaic Idealize.ShloMosaic.TcCoe Idealize.SL.Sem

variable {F : FTy → Type} [FloatOps F]

/-- What a point leaves: one payload of its blocks. -/
theorem out_eq (x0 : Vec F S1024x1024 .f32) (x1 : Vec F S1024x512 .f32) (x2 : Vec F S1024x1024 .f32) (x3 x4 : Vec F S1024x1024 .bf16) (x5 : Vec F S512x1024 .bf16)
    (x6 x7 : Vec F S1024x1024 .bf16) : out0_8 x0 x1 x2 x3 x4 x5 x6 x7 = k0_pay1 x1 x5 x2 x6 x3 x4 x0 x7 := by
  frame_out

theorem pay_apply (x0 : Vec Ideal S1024x1024 .f32) (x1 : Vec Ideal S1024x512 .f32) (x2 : Vec Ideal S1024x1024 .f32) (x3 x4 : Vec Ideal S1024x1024 .bf16) (x5 : Vec Ideal S512x1024 .bf16)
    (x6 x7 : Vec Ideal S1024x1024 .bf16) (r k : Fin 1024) : k0_pay1 x1 x5 x2 x6 x3 x4 x0 x7 (ix2 r k)
      = Common.mix (fun j => x0 (ix2 r j)) (fun j => x1 (ix2 r j)) (fun j => x2 (ix2 r j)) (fun j => x3 (ix2 r j)) (fun j => x4 (ix2 r j))
          (fun i j => x5 (ix2 i j)) (fun i j => x6 (ix2 i j)) (fun i j => x7 (ix2 i j)) k := by
  unfold_payloads
  pointwise
  rfl

/-! ## The blocks of the arrays -/

section Blocks

variable (m : (ℓ : Loc nD τ sig) → Buf (Elt F) ℓ) (c : Dev nD)

theorem index0 : ∀ t : Fin grid0.N, cc0_transform_0 (grid0.coords t) = ![t.val, 0] := by decide +kernel
theorem index1 : ∀ t : Fin grid0.N, cc0_transform_1 (grid0.coords t) = ![t.val, 0] := by decide +kernel
theorem index2 : ∀ t : Fin grid0.N, cc0_transform_2 (grid0.coords t) = ![t.val, 0] := by decide +kernel
theorem index3 : ∀ t : Fin grid0.N, cc0_transform_3 (grid0.coords t) = ![t.val, 4] := by decide +kernel
theorem index4 : ∀ t : Fin grid0.N, cc0_transform_4 (grid0.coords t) = ![t.val, 5] := by decide +kernel
theorem index5 : ∀ t : Fin grid0.N, cc0_transform_5 (grid0.coords t) = ![0, 0] := by decide +kernel
theorem index6 : ∀ t : Fin grid0.N, cc0_transform_6 (grid0.coords t) = ![0, 0] := by decide +kernel
theorem index7 : ∀ t : Fin grid0.N, cc0_transform_7 (grid0.coords t) = ![0, 0] := by decide +kernel
theorem index8 : ∀ t : Fin grid0.N, cc0_transform_8 (grid0.coords t) = ![t.val, 0] := by decide +kernel

theorem blk0 (t : Fin grid0.N) (r : Fin 1024) (k : Fin 1024) (R : Fin 16384) (K : Fin 1024) (hR : R.val = t.val * 1024 + r.val) (hK : K.val = 0 * 1024 + k.val) :
    (iblk m c 0 t : Vec F S1024x1024 .f32) (ix2 r k) = (V m c main_v4 : Vec F S16384x1024 .f32) (ix2 R K) := by
  unfold iblk
  show V m c main_v4 (((cfg0.win 0).blk t).view.emb (ix2 r k)) = V m c main_v4 (ix2 R K)
  congr 1
  funext a
  apply Fin.ext
  refine (Pipeline.Window.rect_emb_val (cfg0.win 0) t (ix2 r k) a).trans ?_
  rw [show (cfg0.win 0).index t = _ from index0 t]
  match a with
  | ⟨0, _⟩ => exact hR.symm
  | ⟨1, _⟩ => exact hK.symm

theorem blk1 (t : Fin grid0.N) (r : Fin 1024) (k : Fin 512) (R : Fin 16384) (K : Fin 512) (hR : R.val = t.val * 1024 + r.val) (hK : K.val = 0 * 512 + k.val) :
    (iblk m c 1 t : Vec F S1024x512 .f32) (ix2 r k) = (V m c main_v5 : Vec F S16384x512 .f32) (ix2 R K) := by
  unfold iblk
  show V m c main_v5 (((cfg0.win 1).blk t).view.emb (ix2 r k)) = V m c main_v5 (ix2 R K)
  congr 1
  funext a
  apply Fin.ext
  refine (Pipeline.Window.rect_emb_val (cfg0.win 1) t (ix2 r k) a).trans ?_
  rw [show (cfg0.win 1).index t = _ from index1 t]
  match a with
  | ⟨0, _⟩ => exact hR.symm
  | ⟨1, _⟩ => exact hK.symm

theorem blk2 (t : Fin grid0.N) (r : Fin 1024) (k : Fin 1024) (R : Fin 16384) (K : Fin 1024) (hR : R.val = t.val * 1024 + r.val) (hK : K.val = 0 * 1024 + k.val) :
    (iblk m c 2 t : Vec F S1024x1024 .f32) (ix2 r k) = (V m c main_v6 : Vec F S16384x1024 .f32) (ix2 R K) := by
  unfold iblk
  show V m c main_v6 (((cfg0.win 2).blk t).view.emb (ix2 r k)) = V m c main_v6 (ix2 R K)
  congr 1
  funext a
  apply Fin.ext
  refine (Pipeline.Window.rect_emb_val (cfg0.win 2) t (ix2 r k) a).trans ?_
  rw [show (cfg0.win 2).index t = _ from index2 t]
  match a with
  | ⟨0, _⟩ => exact hR.symm
  | ⟨1, _⟩ => exact hK.symm

theorem blk3 (t : Fin grid0.N) (r : Fin 1024) (k : Fin 1024) (R : Fin 16384) (K : Fin 6144) (hR : R.val = t.val * 1024 + r.val) (hK : K.val = 4 * 1024 + k.val) :
    (iblk m c 3 t : Vec F S1024x1024 .bf16) (ix2 r k) = (V m c main_v3 : Vec F S16384x6144 .bf16) (ix2 R K) := by
  unfold iblk
  show V m c main_v3 (((cfg0.win 3).blk t).view.emb (ix2 r k)) = V m c main_v3 (ix2 R K)
  congr 1
  funext a
  apply Fin.ext
  refine (Pipeline.Window.rect_emb_val (cfg0.win 3) t (ix2 r k) a).trans ?_
  rw [show (cfg0.win 3).index t = _ from index3 t]
  match a with
  | ⟨0, _⟩ => exact hR.symm
  | ⟨1, _⟩ => exact hK.symm

theorem blk4 (t : Fin grid0.N) (r : Fin 1024) (k : Fin 1024) (R : Fin 16384) (K : Fin 6144) (hR : R.val = t.val * 1024 + r.val) (hK : K.val = 5 * 1024 + k.val) :
    (iblk m c 4 t : Vec F S1024x1024 .bf16) (ix2 r k) = (V m c main_v3 : Vec F S16384x6144 .bf16) (ix2 R K) := by
  unfold iblk
  show V m c main_v3 (((cfg0.win 4).blk t).view.emb (ix2 r k)) = V m c main_v3 (ix2 R K)
  congr 1
  funext a
  apply Fin.ext
  refine (Pipeline.Window.rect_emb_val (cfg0.win 4) t (ix2 r k) a).trans ?_
  rw [show (cfg0.win 4).index t = _ from index4 t]
  match a with
  | ⟨0, _⟩ => exact hR.symm
  | ⟨1, _⟩ => exact hK.symm

theorem blk5 (t : Fin grid0.N) (r : Fin 512) (k : Fin 1024) (R : Fin 512) (K : Fin 1024) (hR : R.val = 0 * 512 + r.val) (hK : K.val = 0 * 1024 + k.val) :
    (iblk m c 5 t : Vec F S512x1024 .bf16) (ix2 r k) = (V m c main_v8 : Vec F S512x1024 .bf16) (ix2 R K) := by
  unfold iblk
  show V m c main_v8 (((cfg0.win 5).blk t).view.emb (ix2 r k)) = V m c main_v8 (ix2 R K)
  congr 1
  funext a
  apply Fin.ext
  refine (Pipeline.Window.rect_emb_val (cfg0.win 5) t (ix2 r k) a).trans ?_
  rw [show (cfg0.win 5).index t = _ from index5 t]
  match a with
  | ⟨0, _⟩ => exact hR.symm
  | ⟨1, _⟩ => exact hK.symm

theorem blk6 (t : Fin grid0.N) (r : Fin 1024) (k : Fin 1024) (R : Fin 1024) (K : Fin 1024) (hR : R.val = 0 * 1024 + r.val) (hK : K.val = 0 * 1024 + k.val) :
    (iblk m c 6 t : Vec F S1024x1024 .bf16) (ix2 r k) = (V m c main_v10 : Vec F S1024x1024 .bf16) (ix2 R K) := by
  unfold iblk
  show V m c main_v10 (((cfg0.win 6).blk t).view.emb (ix2 r k)) = V m c main_v10 (ix2 R K)
  congr 1
  funext a
  apply Fin.ext
  refine (Pipeline.Window.rect_emb_val (cfg0.win 6) t (ix2 r k) a).trans ?_
  rw [show (cfg0.win 6).index t = _ from index6 t]
  match a with
  | ⟨0, _⟩ => exact hR.symm
  | ⟨1, _⟩ => exact hK.symm

theorem blk7 (t : Fin grid0.N) (r : Fin 1024) (k : Fin 1024) (R : Fin 1024) (K : Fin 1024) (hR : R.val = 0 * 1024 + r.val) (hK : K.val = 0 * 1024 + k.val) :
    (iblk m c 7 t : Vec F S1024x1024 .bf16) (ix2 r k) = (V m c main_v12 : Vec F S1024x1024 .bf16) (ix2 R K) := by
  unfold iblk
  show V m c main_v12 (((cfg0.win 7).blk t).view.emb (ix2 r k)) = V m c main_v12 (ix2 R K)
  congr 1
  funext a
  apply Fin.ext
  refine (Pipeline.Window.rect_emb_val (cfg0.win 7) t (ix2 r k) a).trans ?_
  rw [show (cfg0.win 7).index t = _ from index7 t]
  match a with
  | ⟨0, _⟩ => exact hR.symm
  | ⟨1, _⟩ => exact hK.symm

end Blocks

/-! ## The result -/

section State

variable (m : (ℓ : Loc nD τ sig) → Buf (Elt Ideal) ℓ) (c : Dev nD)

/-- The result's row `R`, from the arrays as the region finds them. -/
def res (R : Fin 16384) : Fin 1024 → EReal :=
  Common.mix (fun j => (V m c main_v4 : Vec Ideal S16384x1024 .f32) (ix2 R j)) (fun j => (V m c main_v5 : Vec Ideal S16384x512 .f32) (ix2 R j))
    (fun j => (V m c main_v6 : Vec Ideal S16384x1024 .f32) (ix2 R j))
    (fun j => (V m c main_v3 : Vec Ideal S16384x6144 .bf16) (ix2 R ⟨4096 + j.val, by omega⟩)) (fun j => (V m c main_v3 : Vec Ideal S16384x6144 .bf16) (ix2 R ⟨5120 + j.val, by omega⟩))
    (fun i j => (V m c main_v8 : Vec Ideal S512x1024 .bf16) (ix2 i j)) (fun i j => (V m c main_v10 : Vec Ideal S1024x1024 .bf16) (ix2 i j))
    (fun i j => (V m c main_v12 : Vec Ideal S1024x1024 .bf16) (ix2 i j))

/-- What point `t` leaves in row `r` of its block is row `1024 t + r` of the result. -/
theorem point (t : Fin grid0.N) (r k : Fin 1024) (R : Fin 16384) (hR : R.val = t.val * 1024 + r.val) :
    out0_8 (iblk m c 0 t) (iblk m c 1 t) (iblk m c 2 t) (iblk m c 3 t) (iblk m c 4 t) (iblk m c 5 t) (iblk m c 6 t) (iblk m c 7 t) (ix2 r k) = res m c R k := by
  rw [out_eq]
  refine (pay_apply _ _ _ _ _ _ _ _ r k).trans ?_
  unfold res
  rw [show (fun j => (iblk m c 0 t : Vec Ideal S1024x1024 .f32) (ix2 r j)) = _ from funext fun j => blk0 m c t r j R j hR (by omega),
    show (fun j => (iblk m c 1 t : Vec Ideal S1024x512 .f32) (ix2 r j)) = _ from funext fun j => blk1 m c t r j R j hR (by omega),
    show (fun j => (iblk m c 2 t : Vec Ideal S1024x1024 .f32) (ix2 r j)) = _ from funext fun j => blk2 m c t r j R j hR (by omega),
    show (fun j => (iblk m c 3 t : Vec Ideal S1024x1024 .bf16) (ix2 r j)) = _ from funext fun j => blk3 m c t r j R ⟨4096 + j.val, by omega⟩ hR rfl,
    show (fun j => (iblk m c 4 t : Vec Ideal S1024x1024 .bf16) (ix2 r j)) = _ from funext fun j => blk4 m c t r j R ⟨5120 + j.val, by omega⟩ hR rfl,
    show (fun i j => (iblk m c 5 t : Vec Ideal S512x1024 .bf16) (ix2 i j)) = _ from funext fun i => funext fun j => blk5 m c t i j i j (by omega) (by omega),
    show (fun i j => (iblk m c 6 t : Vec Ideal S1024x1024 .bf16) (ix2 i j)) = _ from funext fun i => funext fun j => blk6 m c t i j i j (by omega) (by omega),
    show (fun i j => (iblk m c 7 t : Vec Ideal S1024x1024 .bf16) (ix2 i j)) = _ from funext fun i => funext fun j => blk7 m c t i j i j (by omega) (by omega)]

/-- The result array. -/
def G : Buf (Elt Ideal) ((c : Thread nD τ).loc main_v13) := fun i : S16384x1024.Idx => res m c (i 0) (i 1)

theorem final : (dats m 0 c).arrAt 8 cfg0.N = G m c := by
  refine (dats m 0 c).arrAt_eq_of_covers 8 _ (by decide +kernel) fun (t : Fin grid0.N) hf (y : S1024x1024.Idx) => ?_
  blk_simp
  rw [after0_8]
  obtain ⟨r, k, rfl⟩ : ∃ (r k : Fin 1024), y = ix2 r k := ⟨y 0, y 1, eq_ix2 y⟩
  have hp : ∀ (i : S16384x1024.Idx), i = ((cfg0.win 8).blk t).view.emb (ix2 r k) → (i 0).val = t.val * 1024 + r.val ∧ (i 1).val = 0 * 1024 + k.val := by
    intro i hi
    subst hi
    have h := fun a => Pipeline.Window.rect_emb_val (cfg0.win 8) t (ix2 r k) a
    rw [show (cfg0.win 8).index t = _ from index8 t] at h
    exact ⟨h 0, h 1⟩
  have h := hp _ rfl
  refine (point m c t r k _ h.1).trans ?_
  refine congrArg (res m c _) (Fin.ext ?_)
  exact (h.2.trans (by omega)).symm

/-! ## The arrays as the region finds them: the arguments, reshaped -/

theorem cast_x (x : Vec Ideal S4x4096x1024 .f32) (R : Fin 16384) (k : Fin 1024) :
    shapeCast S16384x1024 x shapeCasts_S4x4096x1024_S16384x1024 (ix2 R k) = x (ix3 ⟨R.val / 4096, by omega⟩ ⟨R.val % 4096, by omega⟩ k) := by
  pointwise

theorem cast_a (x : Vec Ideal S4x4096x512 .f32) (R : Fin 16384) (k : Fin 512) :
    shapeCast S16384x512 x shapeCasts_S4x4096x512_S16384x512 (ix2 R k) = x (ix3 ⟨R.val / 4096, by omega⟩ ⟨R.val % 4096, by omega⟩ k) := by
  pointwise

theorem cast_g (x : Vec Ideal S4x4096x2048 .f32) (R : Fin 16384) (k : Fin 2048) :
    shapeCast S16384x2048 x shapeCasts_S4x4096x2048_S16384x2048 (ix2 R k) = x (ix3 ⟨R.val / 4096, by omega⟩ ⟨R.val % 4096, by omega⟩ k) := by
  pointwise

theorem join_apply (z : Vec Ideal S16384x4096 .bf16) (x : Vec Ideal S16384x2048 .bf16) (R : Fin 16384) (k : Fin 2048) :
    concatenate S16384x6144 1 [⟨S16384x4096, z⟩, ⟨S16384x2048, x⟩] concatenates_S16384x4096_S16384x2048_S16384x6144_d1 (ix2 R ⟨4096 + k.val, by omega⟩) = x (ix2 R k) := by
  pointwise

theorem cast_w (x : Vec Ideal S1x1024x1024 .f32) (j : Fin 1024) (k : Fin 1024) :
    shapeCast S1024x1024 x shapeCasts_S1x1024x1024_S1024x1024 (ix2 j k) = x (ix3 0 j k) := by
  pointwise

theorem cast_wa (x : Vec Ideal S1x512x1024 .f32) (j : Fin 512) (k : Fin 1024) :
    shapeCast S512x1024 x shapeCasts_S1x512x1024_S512x1024 (ix2 j k) = x (ix3 0 j k) := by
  pointwise

theorem V_x : (V m c main_v4 : Vec Ideal S16384x1024 .f32) = shapeCast S16384x1024 (m ((c : Thread nD τ).loc main_arg0) : Vec Ideal S4x4096x1024 .f32) shapeCasts_S4x4096x1024_S16384x1024 := by
  show StableHlo.after hostOps0 (fun b => m (c, b)) main_v4 = _
  after_results
  rfl

theorem V_a : (V m c main_v5 : Vec Ideal S16384x512 .f32) = shapeCast S16384x512 (m ((c : Thread nD τ).loc main_arg1) : Vec Ideal S4x4096x512 .f32) shapeCasts_S4x4096x512_S16384x512 := by
  show StableHlo.after hostOps0 (fun b => m (c, b)) main_v5 = _
  after_results
  rfl

theorem V_b : (V m c main_v6 : Vec Ideal S16384x1024 .f32) = shapeCast S16384x1024 (m ((c : Thread nD τ).loc main_arg2) : Vec Ideal S4x4096x1024 .f32) shapeCasts_S4x4096x1024_S16384x1024 := by
  show StableHlo.after hostOps0 (fun b => m (c, b)) main_v6 = _
  after_results
  rfl

theorem V_g : (V m c main_v3 : Vec Ideal S16384x6144 .bf16) = concatenate S16384x6144 1 [⟨S16384x4096, (broadcastInDim S16384x4096 ![] bcast_S_S16384x4096 (constant (F := Ideal) S_ .bf16 0x0000#16) : Vec Ideal S16384x4096 .bf16)⟩,
      ⟨S16384x2048, (truncf (F := Ideal) (φ := .f32) .bf16 (shapeCast S16384x2048 (m ((c : Thread nD τ).loc main_arg3) : Vec Ideal S4x4096x2048 .f32) shapeCasts_S4x4096x2048_S16384x2048) bitsLt_bf16_f32 : Vec Ideal S16384x2048 .bf16)⟩]
      concatenates_S16384x4096_S16384x2048_S16384x6144_d1 := by
  show StableHlo.after hostOps0 (fun b => m (c, b)) main_v3 = _
  after_results
  rfl

theorem V_wa : (V m c main_v8 : Vec Ideal S512x1024 .bf16) = truncf (F := Ideal) (φ := .f32) .bf16 (shapeCast S512x1024 (m ((c : Thread nD τ).loc main_arg4) : Vec Ideal S1x512x1024 .f32) shapeCasts_S1x512x1024_S512x1024) bitsLt_bf16_f32 := by
  show StableHlo.after hostOps0 (fun b => m (c, b)) main_v8 = _
  after_results
  rfl

theorem V_wb : (V m c main_v10 : Vec Ideal S1024x1024 .bf16) = truncf (F := Ideal) (φ := .f32) .bf16 (shapeCast S1024x1024 (m ((c : Thread nD τ).loc main_arg5) : Vec Ideal S1x1024x1024 .f32) shapeCasts_S1x1024x1024_S1024x1024) bitsLt_bf16_f32 := by
  show StableHlo.after hostOps0 (fun b => m (c, b)) main_v10 = _
  after_results
  rfl

theorem V_wo : (V m c main_v12 : Vec Ideal S1024x1024 .bf16) = truncf (F := Ideal) (φ := .f32) .bf16 (shapeCast S1024x1024 (m ((c : Thread nD τ).loc main_arg6) : Vec Ideal S1x1024x1024 .f32) shapeCasts_S1x1024x1024_S1024x1024) bitsLt_bf16_f32 := by
  show StableHlo.after hostOps0 (fun b => m (c, b)) main_v12 = _
  after_results
  rfl

/-- The result, element by element, from the arguments. -/
theorem res_eq (R : Fin 16384) : res m c R = Common.mix (fun j => (m ((c : Thread nD τ).loc main_arg0) : Vec Ideal S4x4096x1024 .f32) (ix3 ⟨R.val / 4096, by omega⟩ ⟨R.val % 4096, by omega⟩ j))
    (fun j => (m ((c : Thread nD τ).loc main_arg1) : Vec Ideal S4x4096x512 .f32) (ix3 ⟨R.val / 4096, by omega⟩ ⟨R.val % 4096, by omega⟩ j)) (fun j => (m ((c : Thread nD τ).loc main_arg2) : Vec Ideal S4x4096x1024 .f32) (ix3 ⟨R.val / 4096, by omega⟩ ⟨R.val % 4096, by omega⟩ j))
    (fun j => (m ((c : Thread nD τ).loc main_arg3) : Vec Ideal S4x4096x2048 .f32) (ix3 ⟨R.val / 4096, by omega⟩ ⟨R.val % 4096, by omega⟩ ⟨j.val, by omega⟩)) (fun j => (m ((c : Thread nD τ).loc main_arg3) : Vec Ideal S4x4096x2048 .f32) (ix3 ⟨R.val / 4096, by omega⟩ ⟨R.val % 4096, by omega⟩ ⟨1024 + j.val, by omega⟩))
    (fun i j => (m ((c : Thread nD τ).loc main_arg4) : Vec Ideal S1x512x1024 .f32) (ix3 0 i j)) (fun i j => (m ((c : Thread nD τ).loc main_arg5) : Vec Ideal S1x1024x1024 .f32) (ix3 0 i j)) (fun i j => (m ((c : Thread nD τ).loc main_arg6) : Vec Ideal S1x1024x1024 .f32) (ix3 0 i j)) := by
  unfold res
  refine Common.mix_congr (fun j => (congrFun (V_x m c) _).trans (cast_x _ R j)) (fun j => (congrFun (V_a m c) _).trans (cast_a _ R j))
    (fun j => (congrFun (V_b m c) _).trans (cast_x _ R j)) (fun j => ?_) (fun j => ?_)
    (fun i j => (congrFun (V_wa m c) _).trans (cast_wa _ i j)) (fun i j => (congrFun (V_wb m c) _).trans (cast_w _ i j))
    (fun i j => (congrFun (V_wo m c) _).trans (cast_w _ i j))
  · exact (congrFun (V_g m c) _).trans ((join_apply _ _ R ⟨j.val, by omega⟩).trans (cast_g _ R ⟨j.val, by omega⟩))
  · rw [show (⟨5120 + j.val, by omega⟩ : Fin 6144) = ⟨4096 + (⟨1024 + j.val, by omega⟩ : Fin 2048).val, by show 4096 + (1024 + j.val) < 6144; omega⟩ from
      Fin.ext (by show 5120 + j.val = 4096 + (1024 + j.val); omega)]
    exact (congrFun (V_g m c) _).trans ((join_apply _ _ R ⟨1024 + j.val, by omega⟩).trans (cast_g _ R ⟨1024 + j.val, by omega⟩))

end State

end Cert.MixIdeal.Tile

end
-- ==== Proof.Mix.Ref.lean ====
/- The mixing call's reference, read: each row of its result is the same function of the rows and the weights as the
   kernel's. -/
module

public import proofs.«01_k».proof.Proof.Gen.MixRefIdeal.Run
public import proofs.«01_k».proof.Proof.Gen.MixRefIdeal.Read
public import proofs.«01_k».proof.Proof.Common

@[expose] public section

set_option maxRecDepth 16384

noncomputable section

namespace Cert.MixRefIdeal.Rows

open Cert.MixRefIdeal Cert.MixRefIdeal.Read Idealize.ShloMosaic Idealize.ShloMosaic.TcCoe Idealize.SL.Sem

variable (x0 : Vec Ideal S4x4096x1024 .f32) (x1 : Vec Ideal S4x4096x512 .f32) (x2 : Vec Ideal S4x4096x1024 .f32) (x3 : Vec Ideal S4x4096x2048 .f32)
  (x4 : Vec Ideal S1x512x1024 .f32) (x5 x6 : Vec Ideal S1x1024x1024 .f32)

theorem gate_apply (a : Fin 4) (b : Fin 4096) (k : Fin 2048) : val_main_v5 (F := Ideal) x3 (ix3 a b k) = Ideal.logistic (x3 (ix3 a b k)) := by
  pointwise [val_main_v5, val_main_v4, val_main_v3, val_main_v2, val_main_v1, val_main_v0, val_main_cst, val_main_cst_0]
  rfl

theorem a_apply (a : Fin 4) (b : Fin 4096) (k : Fin 1024) : val_main_v8 (F := Ideal) x1 x4 (ix3 a b k) = ∑ j : Fin 512, x1 (ix3 a b j) * x4 (ix3 0 j k) := by
  pointwise [val_main_v8, val_main_v7]

theorem b_apply (a : Fin 4) (b : Fin 4096) (k : Fin 1024) : val_main_v12 (F := Ideal) x2 x5 (ix3 a b k) = ∑ j : Fin 1024, x2 (ix3 a b j) * x5 (ix3 0 j k) := by
  pointwise [val_main_v12, val_main_v11]

theorem merged_apply (a : Fin 4) (b : Fin 4096) (k : Fin 1024) : val_main_v14 (F := Ideal) x1 x2 x3 x4 x5 (ix3 a b k)
    = Ideal.logistic (x3 (ix3 a b ⟨k.val, by omega⟩)) * (∑ j : Fin 512, x1 (ix3 a b j) * x4 (ix3 0 j k))
      + Ideal.logistic (x3 (ix3 a b ⟨1024 + k.val, by omega⟩)) * (∑ j : Fin 1024, x2 (ix3 a b j) * x5 (ix3 0 j k)) := by
  pointwise [val_main_v14, val_main_v13, val_main_v10, val_main_v9, val_main_v6]
  simp only [gate_apply, a_apply, b_apply]

theorem res_apply (R : Fin 16384) (k : Fin 1024) :
    val_main_v18 (F := Ideal) x0 x1 x2 x3 x4 x5 x6 (ix2 R k)
      = Common.mix (fun j => x0 (ix3 ⟨R.val / 4096, by omega⟩ ⟨R.val % 4096, by omega⟩ j)) (fun j => x1 (ix3 ⟨R.val / 4096, by omega⟩ ⟨R.val % 4096, by omega⟩ j)) (fun j => x2 (ix3 ⟨R.val / 4096, by omega⟩ ⟨R.val % 4096, by omega⟩ j))
          (fun j => x3 (ix3 ⟨R.val / 4096, by omega⟩ ⟨R.val % 4096, by omega⟩ ⟨j.val, by omega⟩)) (fun j => x3 (ix3 ⟨R.val / 4096, by omega⟩ ⟨R.val % 4096, by omega⟩ ⟨1024 + j.val, by omega⟩))
          (fun i j => x4 (ix3 0 i j)) (fun i j => x5 (ix3 0 i j)) (fun i j => x6 (ix3 0 i j)) k := by
  pointwise [val_main_v18, val_main_v17, val_main_v16, val_main_v15]
  simp only [merged_apply]
  rfl

end Cert.MixRefIdeal.Rows

end
-- ==== Proof.Mix.Claims.lean ====
/- The claims about the mixing call: the kernel's and the reference's result
   arrays are the same rows (`Tile.res_eq`, `Rows.res_apply`) of the same arguments. -/
module

public import proofs.«01_k».proof.Defs
public import proofs.«01_k».proof.Proof.Mix.Kernel
public import proofs.«01_k».proof.Proof.Mix.Ref
public import proofs.«01_k».proof.Proof.Gen.Mix
public import Idealize.ShloMosaic.Lib.Quiescent

@[expose] public section

noncomputable section

namespace Cert.Proof.Mix

open Idealize.ShloMosaic Idealize.ShloMosaic.TcCoe Idealize.SL.Sem

/-- The two printings' bodies are one table: the labels are one, and there the functions' texts are the same. -/
theorem bodies_eq : Cert.Mix.defs₀ (F := Bits) = Cert.MixIdeal.defs₀ (F := Bits) := by
  unfold Cert.Mix.defs₀ Cert.MixIdeal.defs₀
  refine congrArg Defs.onTc ?_
  funext l x
  obtain rfl : l = 0 := Subsingleton.elim _ _
  rfl

theorem defs_eq : Cert.Mix.defs (F := Bits) = Cert.MixIdeal.defs (F := Bits) :=
  congrArg (Pipeline.defs (Cert.MixIdeal.pcfgs (F := Bits))) bodies_eq

theorem main_eq : Cert.Mix.main (F := Bits) = Cert.MixIdeal.main (F := Bits) := by
  unfold Cert.Mix.main Cert.MixIdeal.main
  rfl

/-- The bit-exact program's frame, from the ideal printing's at the bit-exact instance. -/
theorem frame_kernel : Cert.quiescent_Mix := fun m ρ _ => by
  have h := Cert.MixIdeal.Gen.frame (F := Bits) m ρ
  rw [← defs_eq, ← main_eq] at h
  exact h

theorem frame_ideal : Cert.quiescent_MixIdeal := fun m ρ _ => Cert.MixIdeal.Gen.frame (F := Ideal) m ρ

theorem frame_ref_ideal : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The kernel's result is the reference's, element by element. -/
theorem result_eq (m : (ℓ : Loc Cert.MixIdeal.nD Cert.MixIdeal.τ Cert.MixIdeal.sig) → Buf (Elt Ideal) ℓ) (c : Dev Cert.MixIdeal.nD) :
    Cert.MixRefIdeal.Read.val_main_v18 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1))
      (m ((c.tc : Thread Cert.MixIdeal.nD Cert.MixIdeal.τ).loc Cert.MixIdeal.main_arg2)) (m ((c.tc : Thread Cert.MixIdeal.nD Cert.MixIdeal.τ).loc Cert.MixIdeal.main_arg3))
      (m ((c.tc : Thread Cert.MixIdeal.nD Cert.MixIdeal.τ).loc Cert.MixIdeal.main_arg4)) (m ((c.tc : Thread Cert.MixIdeal.nD Cert.MixIdeal.τ).loc Cert.MixIdeal.main_arg5))
      (m ((c.tc : Thread Cert.MixIdeal.nD Cert.MixIdeal.τ).loc Cert.MixIdeal.main_arg6)) = Cert.MixIdeal.Tile.G m c := by
  funext (i : Cert.MixIdeal.S16384x1024.Idx)
  obtain ⟨R, k, rfl⟩ : ∃ (R : Fin 16384) (k : Fin 1024), i = ix2 R k := ⟨i 0, i 1, eq_ix2 i⟩
  exact (Cert.MixRefIdeal.Rows.res_apply _ _ _ _ _ _ _ R k).trans (congrFun (Cert.MixIdeal.Tile.res_eq m c R) k).symm

/-- The kernel computes the reference's values. -/
theorem algebraic : Cert.algebraic_MixIdeal_MixRefIdeal := by
  intro m ρ m' ρ' _ hagree
  refine ⟨fun c => Cert.MixIdeal.Tile.G m c, ?_, ?_⟩
  · exact (θ_run Cert.MixIdeal.defs _ _).mono (fun _ h c => ⟨(h c).1.trans (Cert.MixIdeal.Tile.final m c), (h c).2⟩)
      (Cert.MixIdeal.Value.run_blocks (F := Ideal) m ρ)
  refine (θ_run Cert.MixRefIdeal.defs _ _).mono (fun _ h c => ⟨(h c).1.trans ?_, (h c).2⟩) (Cert.MixRefIdeal.Value.run (F := Ideal) m' ρ')
  refine (Cert.MixRefIdeal.Read.val_main_v18_eq _ _ _ _ _ _ _).trans ?_
  obtain ⟨e0, e1, e2, e3, e4, e5, e6⟩ := hagree c
  rw [e0, e1, e2, e3, e4, e5, e6]
  exact result_eq m c

end Cert.Proof.Mix

end
-- ==== Proof.Inproj.Body.lean ====
/- The input projection's body: each point multiplies the normed rows, kept in scratch from the point that begins them, by
   768 of the weight's rows. What each of its four kinds of points stores is stated here, for any floats. -/
module

public import proofs.«01_k».proof.Proof.Gen.InprojIdeal.Frame
public import Idealize.ShloMosaic.Lib.Pipeline.ValueKit.Acc
public import Idealize.ShloMosaic.Lib.VecWindow

@[expose] public section

set_option maxRecDepth 16384

noncomputable section

namespace Cert.InprojIdeal.Body

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values stored -/

/-- The rows divided by their root mean square and weighed. -/
def normed (x : Vec F S2048x1024 .f32) (w : Vec F S1x1024 .f32) : FVec F S2048x1024 .f32 :=
  have x' : FVec F S2048x1024 .f32 := shapeCast S2048x1024 x shapeCasts_S2048x1024_S2048x1024
  have w' : FVec F S1x1024 .f32 := shapeCast S1x1024 w shapeCasts_S1x1024_S1x1024
  have q : FVec F S2048 .f32 := multiReduction .add [1] S2048 (mulf x' x') 0x00000000#32 reduces_S2048x1024_S2048 (.inl rfl) rfl
  have mean : FVec F S2048x1 .f32 := divf (shapeCast S2048x1 q shapeCasts_S2048_S2048x1) (broadcast S2048x1 (Scalar.ofBits .f32 0x44800000#32 : F .f32))
  have inv : FVec F S2048x1 .f32 := rsqrt (addf mean (broadcast S2048x1 (Scalar.ofBits .f32 0x358637BD#32 : F .f32)))
  mulf (mulf x' (broadcastTo S2048x1024 inv broadcasts_S2048x1_S2048x1024)) (broadcastTo S2048x1024 w' broadcasts_S1x1024_S2048x1024)

/-- The normed rows, narrowed. -/
def narrow (x : Vec F S2048x1024 .f32) (w : Vec F S1x1024 .f32) : FVec F S2048x1024 .bf16 :=
  truncf .bf16 (normed x w) bitsLt_bf16_f32

/-- The rows kept in scratch: the narrowed rows. -/
def kept (x : Vec F S2048x1024 .f32) (w : Vec F S1x1024 .f32) : FVec F S2048x1024 .bf16 :=
  shapeCast S2048x1024 (narrow x w) shapeCasts_S2048x1024_S2048x1024

/-- The sixteen columns of the gates: a product in two narrow parts, rotated and added. -/
def gates (x : Vec F S2048x1024 .f32) (w : Vec F S1x1024 .f32) (b b' : Vec F S256x1024 .bf16) : FVec F S2048x128 .f32 :=
  have lo : FVec F S2048x1024 .bf16 := truncf .bf16 (subf (normed x w) (extf .f32 (narrow x w) bitsLt_bf16_f32)) bitsLt_bf16_f32
  have part (h : FVec F S2048x1024 .bf16) (b : Vec F S256x1024 .bf16) : FVec F S2048x128 .f32 := extractStridedSlice S2048x128 ![0, 0]
    (matmul dot_S2048x1024_S256x1024_S2048x256_1_1_0_0_n_n none h (shapeCast S256x1024 b shapeCasts_S256x1024_S256x1024 : FVec F S256x1024 .bf16) (constant S2048x256 .f32 0x00000000#32)) slices_S2048x256_o0_0_S2048x128
  have p : FVec F S2048x128 .f32 := part (narrow x w) b
  select (cmpi .slt (iota .tc S2048x128 32 [1] iota_S2048x128_d1_w32) (broadcast S2048x128 (16#32 : BitVec 32)))
    (addf (addf p (dynamicRotate 1 (112#32 : BitVec 32) none p rotates_S2048x128_d1)) (part lo b')) (broadcast S2048x128 (Scalar.ofBits .f32 0x00000000#32 : F .f32))

/-- The rows in scratch times 768 rows of the weight. -/
def wide (h : Vec F S2048x1024 .bf16) (b : Vec F S768x1024 .bf16) : FVec F S2048x768 .f32 :=
  matmul dot_S2048x1024_S768x1024_S2048x768_1_1_0_0_n_n none h (shapeCast S768x1024 b shapeCasts_S768x1024_S768x1024 : FVec F S768x1024 .bf16) (constant S2048x768 .f32 0x00000000#32)

/-- The same product, narrowed. -/
def wideNarrow (h : Vec F S2048x1024 .bf16) (b : Vec F S768x1024 .bf16) : FVec F S2048x768 .bf16 :=
  truncf .bf16 (wide h b) bitsLt_bf16_f32

/-- The last eight of sixteen rows' products. -/
def lastOf (h : Vec F S16x1024 .bf16) (b : Vec F S768x1024 .bf16) : FVec F S8x768 .f32 :=
  extractStridedSlice S8x768 ![8, 0] (matmul dot_S16x1024_S768x1024_S16x768_1_1_0_0_n_n none h (shapeCast S768x1024 b shapeCasts_S768x1024_S768x1024 : FVec F S768x1024 .bf16) (constant S16x768 .f32 0x00000000#32)) slices_S16x768_o8_0_S8x768

/-- The last eight rows of the product in scratch, unnarrowed. -/
def last (h : Vec F S2048x1024 .bf16) (b : Vec F S768x1024 .bf16) : FVec F S8x768 .f32 :=
  lastOf (View.ld h (Rect.unit (s := S2048x1024) ![2032, 0] S16x1024.size inb_S2048x1024_S16x1024_2032_0)) b

/-! ## The body over these values -/

variable (i : grid0.Coords) (arg2 : Memref sig .tc .vmem S2048x1024 .f32) (harg2 : arg2.IsWhole) (arg3 : Memref sig .tc .vmem S1x1024 .f32) (harg3 : arg3.IsWhole) (arg4 : Memref sig .tc .vmem S768x1024 .bf16) (harg4 : arg4.IsWhole) (arg5 : Memref sig .tc .vmem S256x1024 .bf16) (harg5 : arg5.IsWhole) (arg6 : Memref sig .tc .vmem S2048x768 .bf16) (harg6 : arg6.IsWhole) (arg7 : Memref sig .tc .vmem S2048x768 .f32) (harg7 : arg7.IsWhole) (arg8 : Memref sig .tc .vmem S2048x128 .f32) (harg8 : arg8.IsWhole) (arg9 : Memref sig .tc .vmem S8x768 .f32) (harg9 : arg9.IsWhole) (arg10 : Memref sig .tc .vmem S2048x1024 .bf16) (harg10 : arg10.IsWhole)

/-- The body as loads and stores of the values above. -/
def text : Prog (TpuEff nD τ sig (Elt F) Λ₀ .tc) PUnit := do
  if _h : k0_cond1 i = 1#1 then do
    let x : Vec F S2048x1024 .f32 ← Prog.lift (.load arg2 (Rect.unit (s := S2048x1024) ![0, 0] S2048x1024.size inb_S2048x1024_S2048x1024_0_0).toLoadRect (View.loadsAt_vmem h_S2048x1024))
    let w : Vec F S1x1024 .f32 ← Prog.lift (.load arg3 (Rect.unit (s := S1x1024) ![0, 0] S1x1024.size inb_S1x1024_S1x1024_0_0).toLoadRect (View.loadsAt_vmem h_S1x1024))
    let _ : Vec F S2048x1024 .bf16 ← Prog.lift (.load arg10 (Rect.unit (s := S2048x1024) ![0, 0] S2048x1024.size inb_S2048x1024_S2048x1024_0_0).toLoadRect (View.loadsAt_vmem h_S2048x1024))
    Prog.lift (.store arg10 (Rect.unit (s := S2048x1024) ![0, 0] S2048x1024.size inb_S2048x1024_S2048x1024_0_0) (kept x w) Finset.univ (View.stores_vmem h_S2048x1024 (harg10.storeExact_slice rfl _ packedbf16_S2048x1024_S2048x1024_0_0) (fun _ => rfl)) (.inl rfl))
    let b : Vec F S256x1024 .bf16 ← Prog.lift (.load arg5 (Rect.unit (s := S256x1024) ![0, 0] S256x1024.size inb_S256x1024_S256x1024_0_0).toLoadRect (View.loadsAt_vmem h_S256x1024))
    let b' : Vec F S256x1024 .bf16 ← Prog.lift (.load arg5 (Rect.unit (s := S256x1024) ![0, 0] S256x1024.size inb_S256x1024_S256x1024_0_0).toLoadRect (View.loadsAt_vmem h_S256x1024))
    let _ : Vec F S2048x128 .f32 ← Prog.lift (.load arg8 (Rect.unit (s := S2048x128) ![0, 0] S2048x128.size inb_S2048x128_S2048x128_0_0).toLoadRect (View.loadsAt_vmem h_S2048x128))
    Prog.lift (.store arg8 (Rect.unit (s := S2048x128) ![0, 0] S2048x128.size inb_S2048x128_S2048x128_0_0) (gates x w b b') Finset.univ (View.stores_vmem_bits_univ h_S2048x128 rfl) (.inl rfl))
    pure ⟨⟩
  else pure ⟨⟩
  if _h : k0_cond2 i = 1#1 then do
    let h : Vec F S2048x1024 .bf16 ← Prog.lift (.load arg10 (Rect.unit (s := S2048x1024) ![0, 0] S2048x1024.size inb_S2048x1024_S2048x1024_0_0).toLoadRect (View.loadsAt_vmem h_S2048x1024))
    let b : Vec F S768x1024 .bf16 ← Prog.lift (.load arg4 (Rect.unit (s := S768x1024) ![0, 0] S768x1024.size inb_S768x1024_S768x1024_0_0).toLoadRect (View.loadsAt_vmem h_S768x1024))
    let _ : Vec F S2048x768 .bf16 ← Prog.lift (.load arg6 (Rect.unit (s := S2048x768) ![0, 0] S2048x768.size inb_S2048x768_S2048x768_0_0).toLoadRect (View.loadsAt_vmem h_S2048x768))
    Prog.lift (.store arg6 (Rect.unit (s := S2048x768) ![0, 0] S2048x768.size inb_S2048x768_S2048x768_0_0) (wideNarrow h b) Finset.univ (View.stores_vmem h_S2048x768 (harg6.storeExact_slice rfl _ packedbf16_S2048x768_S2048x768_0_0) (fun _ => rfl)) (.inl rfl))
    pure ⟨⟩
  else pure ⟨⟩
  if _h : k0_cond3 i = 1#1 then do
    let h : Vec F S2048x1024 .bf16 ← Prog.lift (.load arg10 (Rect.unit (s := S2048x1024) ![0, 0] S2048x1024.size inb_S2048x1024_S2048x1024_0_0).toLoadRect (View.loadsAt_vmem h_S2048x1024))
    let b : Vec F S768x1024 .bf16 ← Prog.lift (.load arg4 (Rect.unit (s := S768x1024) ![0, 0] S768x1024.size inb_S768x1024_S768x1024_0_0).toLoadRect (View.loadsAt_vmem h_S768x1024))
    let _ : Vec F S2048x768 .f32 ← Prog.lift (.load arg7 (Rect.unit (s := S2048x768) ![0, 0] S2048x768.size inb_S2048x768_S2048x768_0_0).toLoadRect (View.loadsAt_vmem h_S2048x768))
    Prog.lift (.store arg7 (Rect.unit (s := S2048x768) ![0, 0] S2048x768.size inb_S2048x768_S2048x768_0_0) (wide h b) Finset.univ (View.stores_vmem_bits_univ h_S2048x768 rfl) (.inl rfl))
    pure ⟨⟩
  else pure ⟨⟩
  if _h : k0_cond4 i = 1#1 then do
    let h : Vec F S16x1024 .bf16 ← Prog.lift (.load arg10 (Rect.unit (s := S2048x1024) ![2032, 0] S16x1024.size inb_S2048x1024_S16x1024_2032_0).toLoadRect (View.loadsAt_vmem h_S16x1024))
    let b : Vec F S768x1024 .bf16 ← Prog.lift (.load arg4 (Rect.unit (s := S768x1024) ![0, 0] S768x1024.size inb_S768x1024_S768x1024_0_0).toLoadRect (View.loadsAt_vmem h_S768x1024))
    let _ : Vec F S8x768 .f32 ← Prog.lift (.load arg9 (Rect.unit (s := S8x768) ![0, 0] S8x768.size inb_S8x768_S8x768_0_0).toLoadRect (View.loadsAt_vmem h_S8x768))
    Prog.lift (.store arg9 (Rect.unit (s := S8x768) ![0, 0] S8x768.size inb_S8x768_S8x768_0_0) (lastOf h b) Finset.univ (View.stores_vmem_bits_univ h_S8x768 rfl) (.inl rfl))
    pure ⟨⟩
  else pure ⟨⟩
  pure ⟨⟩

set_option maxRecDepth 65536 in
theorem text_eq : cc0_inproj (F := F) i arg2 harg2 arg3 harg3 arg4 harg4 arg5 harg5 arg6 harg6 arg7 harg7 arg8 harg8 arg9 harg9 arg10 harg10 = text (F := F) i arg2 arg3 arg4 arg5 arg6 harg6 arg7 arg8 arg9 arg10 harg10 := rfl

set_option maxHeartbeats 1000000 in
/-- The first point of a row of blocks: it fills the scratch and stores the gates, a block of the first result and one of the last rows. -/
theorem run_first (c : Dev nD) (hc1 : k0_cond1 i = 1#1) (hc2 : k0_cond2 i = 1#1) (hc3 : ¬k0_cond3 i = 1#1) (hc4 : k0_cond4 i = 1#1)
    (x : Vec F S2048x1024 .f32) (w : Vec F S1x1024 .f32) (b : Vec F S768x1024 .bf16) (g : Vec F S256x1024 .bf16) (E : Set ℕ) (K : PUnit → sProp 𝕄) :
    iprop(owns (c : Thread nD τ) arg2 fullShare x ∗ owns (c : Thread nD τ) arg3 fullShare w ∗ owns (c : Thread nD τ) arg4 fullShare b ∗ owns (c : Thread nD τ) arg5 fullShare g ∗ (∃ d, owns (c : Thread nD τ) arg6 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare w ∗ owns (c : Thread nD τ) arg4 fullShare b ∗ owns (c : Thread nD τ) arg5 fullShare g ∗ owns (c : Thread nD τ) arg6 fullShare (wideNarrow (kept x w) b) ∗ owns (c : Thread nD τ) arg8 fullShare (gates x w g g) ∗ owns (c : Thread nD τ) arg9 fullShare (last (kept x w) b) ∗ owns (c : Thread nD τ) arg10 fullShare (kept x w)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  rw [text_eq]; unfold text
  unfold owns
  iintro ⟨⟨%f0, %hf0, H0⟩, ⟨%f1, %hf1, H1⟩, ⟨%f2, %hf2, H2⟩, ⟨%f3, %hf3, H3⟩, ⟨%d0, %e0, -, O0⟩, ⟨%d1, %e1, -, O1⟩, ⟨%d2, %e2, -, O2⟩, ⟨%ds, %fs, -, S⟩, Hk⟩
  obtain rfl := harg2.eq_unread hf0; obtain rfl := harg3.eq_unread hf1; obtain rfl := harg4.eq_unread hf2; obtain rfl := harg5.eq_unread hf3
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [O0]
  · iexists _; isplitr
    swap; · iexact O0
    ipureintro; (refine (View.read_writes_full _ _ _ _ _).trans ?_; simp (disch := decide) only [View.readAt_eq_ld, View.read_writes_full, Memref.IsWhole.read_unread, View.ld_unit_lit', last]; unfold run_first.sl.h run_first.sl.S_1; simp (disch := decide) only [View.readCov, View.readAt_eq_ld, View.read_writes_full, Memref.IsWhole.read_unread, View.ld_unit_lit']; try rw [View.read_writes_full])
  isplitl [O1]
  · iexists _; isplitr
    swap; · iexact O1
    ipureintro; (refine (View.read_writes_full _ _ _ _ _).trans ?_; simp (disch := decide) only [View.readAt_eq_ld, View.read_writes_full, Memref.IsWhole.read_unread, View.ld_unit_lit', last])
  isplitl [O2]
  · iexists _; isplitr
    swap; · iexact O2
    ipureintro; (refine (View.read_writes_full _ _ _ _ _).trans ?_; simp (disch := decide) only [View.readAt_eq_ld, View.read_writes_full, Memref.IsWhole.read_unread, View.ld_unit_lit', last]; unfold run_first.sl.h_1 run_first.sl.S_1; simp (disch := decide) only [View.readCov, View.readAt_eq_ld, View.read_writes_full, Memref.IsWhole.read_unread, View.ld_unit_lit']; try rw [View.read_writes_full])
  iexists _; isplitr
  swap; · iexact S
  ipureintro; (refine (View.read_writes_full _ _ _ _ _).trans ?_; simp (disch := decide) only [View.readAt_eq_ld, View.read_writes_full, Memref.IsWhole.read_unread, View.ld_unit_lit', last])

set_option maxHeartbeats 1000000 in
/-- The next three points: a block of the first result and one of the last rows. -/
theorem run_early (c : Dev nD) (hc1 : ¬k0_cond1 i = 1#1) (hc2 : k0_cond2 i = 1#1) (hc3 : ¬k0_cond3 i = 1#1) (hc4 : k0_cond4 i = 1#1)
    (b : Vec F S768x1024 .bf16) (h : Vec F S2048x1024 .bf16) (E : Set ℕ) (K : PUnit → sProp 𝕄) :
    iprop(owns (c : Thread nD τ) arg4 fullShare b ∗ (∃ d, owns (c : Thread nD τ) arg6 fullShare d) ∗ (∃ d, owns (c : Thread nD τ) arg9 fullShare d) ∗ owns (c : Thread nD τ) arg10 fullShare h
        ∗ (iprop(owns (c : Thread nD τ) arg4 fullShare b ∗ owns (c : Thread nD τ) arg6 fullShare (wideNarrow h b) ∗ owns (c : Thread nD τ) arg9 fullShare (last h b) ∗ owns (c : Thread nD τ) arg10 fullShare (h)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  rw [text_eq]; unfold text
  unfold owns
  iintro ⟨⟨%f0, %hf0, H0⟩, ⟨%d0, %e0, -, O0⟩, ⟨%d1, %e1, -, O1⟩, ⟨%fs, %hfs, S⟩, Hk⟩
  obtain rfl := harg4.eq_unread hf0; obtain rfl := harg10.eq_unread hfs
  sl_exec (disch := first | sl_exact hc1 | sl_exact hc2 | sl_exact hc3 | sl_exact hc4)
  sl_step
  iapply Hk
  isplitl [H0]
  · iexists _; isplitr; · ipureintro; exact harg4.read_unread _
    iexact H0
  isplitl [O0]
  · iexists _; isplitr
    swap; · iexact O0
    ipureintro; (refine (View.read_writes_full _ _ _ _ _).trans ?_; simp (disch := decide) only [View.readAt_eq_ld, View.read_writes_full, Memref.IsWhole.read_unread, View.ld_unit_lit', last])
  isplitl [O1]
  · iexists _; isplitr
    swap; · iexact O1
    ipureintro; (refine (View.read_writes_full _ _ _ _ _).trans ?_; simp (disch := decide) only [View.readAt_eq_ld, View.read_writes_full, Memref.IsWhole.read_unread, View.ld_unit_lit', last])
  iexists _; isplitr; · ipureintro; exact harg10.read_unread _
  iexact S

set_option maxHeartbeats 1000000 in
/-- The next four points: a block of the first result. -/
theorem run_mid (c : Dev nD) (hc1 : ¬k0_cond1 i = 1#1) (hc2 : k0_cond2 i = 1#1) (hc3 : ¬k0_cond3 i = 1#1) (hc4 : ¬k0_cond4 i = 1#1)
    (b : Vec F S768x1024 .bf16) (h : Vec F S2048x1024 .bf16) (E : Set ℕ) (K : PUnit → sProp 𝕄) :
    iprop(owns (c : Thread nD τ) arg4 fullShare b ∗ (∃ d, owns (c : Thread nD τ) arg6 fullShare d) ∗ owns (c : Thread nD τ) arg10 fullShare h
        ∗ (iprop(owns (c : Thread nD τ) arg4 fullShare b ∗ owns (c : Thread nD τ) arg6 fullShare (wideNarrow h b) ∗ owns (c : Thread nD τ) arg10 fullShare (h)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  rw [text_eq]; unfold text
  unfold owns
  iintro ⟨⟨%f0, %hf0, H0⟩, ⟨%d0, %e0, -, O0⟩, ⟨%fs, %hfs, S⟩, Hk⟩
  obtain rfl := harg4.eq_unread hf0; obtain rfl := harg10.eq_unread hfs
  sl_exec (disch := first | sl_exact hc1 | sl_exact hc2 | sl_exact hc3 | sl_exact hc4)
  sl_step
  iapply Hk
  isplitl [H0]
  · iexists _; isplitr; · ipureintro; exact harg4.read_unread _
    iexact H0
  isplitl [O0]
  · iexists _; isplitr
    swap; · iexact O0
    ipureintro; (refine (View.read_writes_full _ _ _ _ _).trans ?_; simp (disch := decide) only [View.readAt_eq_ld, View.read_writes_full, Memref.IsWhole.read_unread, View.ld_unit_lit', last])
  iexists _; isplitr; · ipureintro; exact harg10.read_unread _
  iexact S

set_option maxHeartbeats 1000000 in
/-- The last six points: a block of the second result. -/
theorem run_late (c : Dev nD) (hc1 : ¬k0_cond1 i = 1#1) (hc2 : ¬k0_cond2 i = 1#1) (hc3 : k0_cond3 i = 1#1) (hc4 : ¬k0_cond4 i = 1#1)
    (b : Vec F S768x1024 .bf16) (h : Vec F S2048x1024 .bf16) (E : Set ℕ) (K : PUnit → sProp 𝕄) :
    iprop(owns (c : Thread nD τ) arg4 fullShare b ∗ (∃ d, owns (c : Thread nD τ) arg7 fullShare d) ∗ owns (c : Thread nD τ) arg10 fullShare h
        ∗ (iprop(owns (c : Thread nD τ) arg4 fullShare b ∗ owns (c : Thread nD τ) arg7 fullShare (wide h b) ∗ owns (c : Thread nD τ) arg10 fullShare (h)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  rw [text_eq]; unfold text
  unfold owns
  iintro ⟨⟨%f0, %hf0, H0⟩, ⟨%d0, %e0, -, O0⟩, ⟨%fs, %hfs, S⟩, Hk⟩
  obtain rfl := harg4.eq_unread hf0; obtain rfl := harg10.eq_unread hfs
  sl_exec (disch := first | sl_exact hc1 | sl_exact hc2 | sl_exact hc3 | sl_exact hc4)
  sl_step
  iapply Hk
  isplitl [H0]
  · iexists _; isplitr; · ipureintro; exact harg4.read_unread _
    iexact H0
  isplitl [O0]
  · iexists _; isplitr
    swap; · iexact O0
    ipureintro; (refine (View.read_writes_full _ _ _ _ _).trans ?_; simp (disch := decide) only [View.readAt_eq_ld, View.read_writes_full, Memref.IsWhole.read_unread, View.ld_unit_lit', last])
  iexists _; isplitr; · ipureintro; exact harg10.read_unread _
  iexact S

end Cert.InprojIdeal.Body
end
-- ==== Proof.Inproj.Frame.lean ====
/- The input projection's run: what each window's buffer holds after every point, the scratch carried from a row of blocks'
   first point to its last, and the frame, for any floats. -/
module

public import proofs.«01_k».proof.Proof.Inproj.Body
public import Idealize.ShloMosaic.Lib.Claim

@[expose] public section

set_option maxRecDepth 16384

noncomputable section

namespace Cert.InprojIdeal.Body

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N : cfg0.N = 112 := N_0

theorem cond1 : ∀ t : Fin cfg0.N, k0_cond1 (grid0.coords t) = 1#1 ↔ t.val % 14 = 0 :=
  (fun t => by
    have ht : t.val < 112 := Nat.lt_of_lt_of_eq t.isLt N_0
    have e1 : (grid0.coords t 1).val = t.val / 1 % 14 := Pipeline.Grid.coords_val t 1 (by decide) rfl
    simp only [k0_cond1, e1]
    word_cmp
   : ∀ t : Fin grid0.N, k0_cond1 (grid0.coords t) = 1#1 ↔ t.val % 14 = 0)

theorem cond2 : ∀ t : Fin cfg0.N, k0_cond2 (grid0.coords t) = 1#1 ↔ t.val % 14 < 8 :=
  (fun t => by
    have ht : t.val < 112 := Nat.lt_of_lt_of_eq t.isLt N_0
    have e1 : (grid0.coords t 1).val = t.val / 1 % 14 := Pipeline.Grid.coords_val t 1 (by decide) rfl
    simp only [k0_cond2, e1]
    word_cmp
   : ∀ t : Fin grid0.N, k0_cond2 (grid0.coords t) = 1#1 ↔ t.val % 14 < 8)

theorem cond3 : ∀ t : Fin cfg0.N, k0_cond3 (grid0.coords t) = 1#1 ↔ 8 ≤ t.val % 14 :=
  (fun t => by
    have ht : t.val < 112 := Nat.lt_of_lt_of_eq t.isLt N_0
    have e1 : (grid0.coords t 1).val = t.val / 1 % 14 := Pipeline.Grid.coords_val t 1 (by decide) rfl
    simp only [k0_cond3, e1]
    word_cmp
   : ∀ t : Fin grid0.N, k0_cond3 (grid0.coords t) = 1#1 ↔ 8 ≤ t.val % 14)

theorem cond4 : ∀ t : Fin cfg0.N, k0_cond4 (grid0.coords t) = 1#1 ↔ t.val % 14 < 4 :=
  (fun t => by
    have ht : t.val < 112 := Nat.lt_of_lt_of_eq t.isLt N_0
    have e1 : (grid0.coords t 1).val = t.val / 1 % 14 := Pipeline.Grid.coords_val t 1 (by decide) rfl
    simp only [k0_cond4, e1]
    word_cmp
   : ∀ t : Fin grid0.N, k0_cond4 (grid0.coords t) = 1#1 ↔ t.val % 14 < 4)

theorem idle4 (t : Fin cfg0.N) : cfg0.idle 4 (grid0.coords t) = !(k0_cond2 (grid0.coords t) == 1#1) := rfl
theorem idle5 (t : Fin cfg0.N) : cfg0.idle 5 (grid0.coords t) = !(k0_cond3 (grid0.coords t) == 1#1) := rfl
theorem idle6 (t : Fin cfg0.N) : cfg0.idle 6 (grid0.coords t) = !(k0_cond1 (grid0.coords t) == 1#1) := rfl
theorem idle7 (t : Fin cfg0.N) : cfg0.idle 7 (grid0.coords t) = !(k0_cond4 (grid0.coords t) == 1#1) := rfl

/-- Between a window's last change in a row of blocks and the row's last point nothing is written back. -/
theorem flush4 : ∀ t : Fin cfg0.N, 7 ≤ t.val % 14 → t.val % 14 < 13 → (cfg0.win 4).flush t = false :=
  (by decide +kernel : ∀ t : Fin grid0.N, 7 ≤ t.val % 14 → t.val % 14 < 13 → win0_4.flush t = false)
theorem flush5 : ∀ t : Fin cfg0.N, t.val % 14 < 8 → (cfg0.win 5).flush t = false :=
  (by decide +kernel : ∀ t : Fin grid0.N, t.val % 14 < 8 → win0_5.flush t = false)
theorem flush6 : ∀ t : Fin cfg0.N, 0 ≤ t.val % 14 → t.val % 14 < 13 → (cfg0.win 6).flush t = false :=
  (by decide +kernel : ∀ t : Fin grid0.N, 0 ≤ t.val % 14 → t.val % 14 < 13 → win0_6.flush t = false)
theorem flush7 : ∀ t : Fin cfg0.N, 3 ≤ t.val % 14 → t.val % 14 < 13 → (cfg0.win 7).flush t = false :=
  (by decide +kernel : ∀ t : Fin grid0.N, 3 ≤ t.val % 14 → t.val % 14 < 13 → win0_7.flush t = false)

/-- The point of `t`'s row of blocks at `t`'s own place, or at place `k` once that is past. -/
def upto (k : ℕ) (t : Fin cfg0.N) : Fin cfg0.N := ⟨14 * (t.val / 14) + min (t.val % 14) k, by have := t.isLt; omega⟩

theorem upto_of {k : ℕ} {t : Fin cfg0.N} (h : t.val % 14 ≤ k) : upto k t = t := Fin.ext (by unfold upto; dsimp only; omega)

theorem upto_step {k j : ℕ} (hj : j ≤ k) {t t' : Fin cfg0.N} (e : t'.val + 1 = t.val) (h : k < t.val % 14) : upto j t = upto j t' :=
  Fin.ext (by unfold upto; dsimp only; omega)

/-! ## What the buffers hold -/

/-- The scratch after point `t`: the rows of `t`'s row of blocks. -/
def scr (c : Dev nD) (t : Fin cfg0.N) : Vec F S2048x1024 .bf16 := kept (iblk m c 0 (upto 0 t)) (iblk m c 1 (upto 0 t))

theorem scr_first (c : Dev nD) {t : Fin cfg0.N} (h : t.val % 14 = 0) : scr m c t = kept (iblk m c 0 t) (iblk m c 1 t) :=
  congrArg (fun s => kept (iblk m c 0 s) (iblk m c 1 s)) (upto_of (k := 0) (t := t) (by omega))

theorem scr_step (c : Dev nD) {t t' : Fin cfg0.N} (e : t'.val + 1 = t.val) (h : 0 < t.val % 14) : scr m c t = scr m c t' :=
  congrArg (fun s => kept (iblk m c 0 s) (iblk m c 1 s)) (upto_step (k := 0) le_rfl e h)

/-- The four results' blocks after point `t`. -/
def res4 (c : Dev nD) (t : Fin cfg0.N) : Vec F S2048x768 .bf16 := wideNarrow (scr m c t) (iblk m c 2 (upto 7 t))
def res5 (c : Dev nD) (t : Fin cfg0.N) : Vec F S2048x768 .f32 := wide (scr m c t) (iblk m c 2 t)
def res6 (c : Dev nD) (t : Fin cfg0.N) : Vec F S2048x128 .f32 :=
  gates (iblk m c 0 (upto 0 t)) (iblk m c 1 (upto 0 t)) (iblk m c 3 (upto 0 t)) (iblk m c 3 (upto 0 t))
def res7 (c : Dev nD) (t : Fin cfg0.N) : Vec F S8x768 .f32 := last (scr m c t) (iblk m c 2 (upto 3 t))

abbrev mem0 (t : Fin cfg0.N) : Memref sig .tc .vmem S2048x1024 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x1024 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S768x1024 .bf16 := win0_2.stage (cfg0.slots t 2)
abbrev whole2 (t : Fin cfg0.N) : (mem2 t).IsWhole := hstage0_2 ((cfg0.slots t 2).cast nbuf0_2)
abbrev mem3 (t : Fin cfg0.N) : Memref sig .tc .vmem S256x1024 .bf16 := win0_3.stage (cfg0.slots t 3)
abbrev whole3 (t : Fin cfg0.N) : (mem3 t).IsWhole := hstage0_3 ((cfg0.slots t 3).cast nbuf0_3)
abbrev mem4 (t : Fin cfg0.N) : Memref sig .tc .vmem S2048x768 .bf16 := win0_4.stage (cfg0.slots t 4)
abbrev whole4 (t : Fin cfg0.N) : (mem4 t).IsWhole := hstage0_4 ((cfg0.slots t 4).cast nbuf0_4)
abbrev mem5 (t : Fin cfg0.N) : Memref sig .tc .vmem S2048x768 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S2048x128 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S8x768 .f32 := win0_7.stage (cfg0.slots t 7)
abbrev whole7 (t : Fin cfg0.N) : (mem7 t).IsWhole := hstage0_7 ((cfg0.slots t 7).cast nbuf0_7)
abbrev scrMem : Memref sig .tc .vmem S2048x1024 .bf16 := Memref.whole cc0_scratch0

/-- The scoped buffers the region is handed: the scratch at anything, and the generator's register. -/
theorem scoped_eq (c : Dev nD) :
    (Pipeline.ΦA spec0 c : sProp 𝕄)
      = iprop(iprop((∃ d, owns (c : Thread nD τ) scrMem fullShare d)) ∗ (∃ r, prngReg c r)) := by
  unfold Pipeline.ΦA; rw [scopedRest0_eq]; simp only [scrMem, owns_whole]; try rfl

/-- The invariant: nothing known of the scratch before the first point, then its rows. -/
def inv (c : Dev nD) : (n : ℕ) → n ≤ cfg0.N → sProp 𝕄
  | 0, _ => Pipeline.ΦA spec0 c
  | n + 1, hn => iprop(iprop(owns (c : Thread nD τ) scrMem fullShare (scr m c ⟨n, hn⟩)) ∗ (∃ r, prngReg c r))

theorem inv_any (c : Dev nD) : (n : ℕ) → (h : n ≤ cfg0.N) → inv m c n h ⊢ iprop(iprop((∃ d, owns (c : Thread nD τ) scrMem fullShare d)) ∗ (∃ r, prngReg c r))
  | 0, _ => by rw [← scoped_eq]; exact .rfl
  | n + 1, hn => by
    unfold inv
    iintro ⟨H, Hg⟩
    isplitl [H]
    · iexists _; iexact H
    iexact Hg

theorem inv_at (c : Dev nD) (t : Fin cfg0.N) (h : 0 < t.val % 14) : inv m c t.val (Nat.le_of_lt t.isLt)
    = iprop(iprop(owns (c : Thread nD τ) scrMem fullShare (scr m c t)) ∗ (∃ r, prngReg c r)) := by
  obtain ⟨n, hn⟩ := t
  cases n with
  | zero => exact absurd h (by simp)
  | succ n => rw [scr_step m c (t' := ⟨n, Nat.lt_of_succ_lt hn⟩) rfl h]; rfl

/-- The arrays as the region finds them, and every buffer after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res4 m c t
    | ⟨5, _⟩ => res5 m c t
    | ⟨6, _⟩ => res6 m c t
    | ⟨7, _⟩ => res7 m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = res4 m c t := by dsimp only [dats]
theorem after5 (c : Dev nD) (t : Fin cfg0.N) : (dats m 0 c).after 5 t = res5 m c t := by dsimp only [dats]
theorem after6 (c : Dev nD) (t : Fin cfg0.N) : (dats m 0 c).after 6 t = res6 m c t := by dsimp only [dats]
theorem after7 (c : Dev nD) (t : Fin cfg0.N) : (dats m 0 c).after 7 t = res7 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## Buffers a point leaves alone -/

/-- A result idle from place `J` of a row of blocks on, not written back before the row's last point, holds there what its
    last change left. -/
theorem before_run {c : Dev nD} (dat : Dat τ (Elt F) Unit ℕ (UR sig nD τ) ℕ cfg0 c) (w : Fin cfg0.W) (J : ℕ) (hJ : 0 < J)
    (hin : ∀ t, (cfg0.win w).fetch t = false)
    (hlive : ∀ t : Fin cfg0.N, t.val % 14 < J → cfg0.idle w (grid0.coords t) = false)
    (hidle : ∀ t : Fin cfg0.N, J ≤ t.val % 14 → cfg0.idle w (grid0.coords t) = true)
    (hflush : ∀ t : Fin cfg0.N, J - 1 ≤ t.val % 14 → t.val % 14 < 13 → (cfg0.win w).flush t = false)
    (hkept : ∀ t d, dat.kept w t d = dat.after w t)
    (hafter : ∀ t t' : Fin cfg0.N, t'.val + 1 = t.val → J ≤ t.val % 14 → dat.after w t = dat.after w t') :
    ∀ (n : ℕ) (t : Fin cfg0.N), t.val = n → J ≤ t.val % 14 → ∀ d, dat.before w t d = dat.after w t := by
  intro n
  induction n with
  | zero => intro t ht h d; exfalso; rw [ht] at h; simp at h; omega
  | succ n ih =>
    intro t ht h d
    have hlt : n < cfg0.N := by have := t.isLt; omega
    have e : (⟨t.val - 1, Nat.lt_of_le_of_lt (Nat.sub_le _ _) t.isLt⟩ : Fin cfg0.N) = ⟨n, hlt⟩ := Fin.ext (by dsimp only; omega)
    have hf : (cfg0.win w).flush ⟨n, hlt⟩ = false := hflush _ (by dsimp only; omega) (by dsimp only; omega)
    rw [dat.before_of_pos w t (by omega) (hin t) d, e, hf, if_neg Bool.false_ne_true]
    rw [hafter t ⟨n, hlt⟩ (by dsimp only; omega) h]
    unfold Dat.left
    by_cases hn : J ≤ n % 14
    · rw [hidle ⟨n, hlt⟩ hn]; exact ih ⟨n, hlt⟩ rfl hn d
    · rw [hlive ⟨n, hlt⟩ (by dsimp only; omega)]; exact hkept _ d

theorem leaves_live {c : Dev nD} (dat : Dat τ (Elt F) Unit ℕ (UR sig nD τ) ℕ cfg0 c) (w : Fin cfg0.W) (t : Fin cfg0.N)
    (hi : cfg0.idle w (grid0.coords t) = false) :
    owns (c : Thread nD τ) ((cfg0.win w).stage (cfg0.slots t w)) fullShare (dat.after w t) ⊢ dat.leavesExact w t := by
  unfold Dat.leavesExact
  rw [show cfg0.idle w (cfg0.grid.coords t) = false from hi]

theorem leaves_idle {c : Dev nD} (dat : Dat τ (Elt F) Unit ℕ (UR sig nD τ) ℕ cfg0 c) (w : Fin cfg0.W) (t : Fin cfg0.N)
    (hi : cfg0.idle w (grid0.coords t) = true) (d) (hb : (cfg0.win w).flush t = true → dat.before w t d = dat.after w t) :
    owns (c : Thread nD τ) ((cfg0.win w).stage (cfg0.slots t w)) fullShare (dat.before w t d) ⊢ dat.leavesExact w t := by
  unfold Dat.leavesExact
  rw [show cfg0.idle w (cfg0.grid.coords t) = true from hi]
  cases hf : (cfg0.win w).flush t with
  | false => dsimp only; iintro H; iexists d; iexact H
  | true => rw [hb hf]

theorem live4 (t : Fin cfg0.N) (h : t.val % 14 < 8) : cfg0.idle 4 (grid0.coords t) = false := by
  rw [idle4, (cond2 t).mpr h]; rfl
theorem rest4 (t : Fin cfg0.N) (h : ¬t.val % 14 < 8) : cfg0.idle 4 (grid0.coords t) = true := by
  rw [idle4, beq_eq_false_iff_ne.mpr fun e => h ((cond2 t).mp e)]; rfl
theorem live5 (t : Fin cfg0.N) (h : 8 ≤ t.val % 14) : cfg0.idle 5 (grid0.coords t) = false := by
  rw [idle5, (cond3 t).mpr h]; rfl
theorem rest5 (t : Fin cfg0.N) (h : ¬8 ≤ t.val % 14) : cfg0.idle 5 (grid0.coords t) = true := by
  rw [idle5, beq_eq_false_iff_ne.mpr fun e => h ((cond3 t).mp e)]; rfl
theorem live6 (t : Fin cfg0.N) (h : t.val % 14 = 0) : cfg0.idle 6 (grid0.coords t) = false := by
  rw [idle6, (cond1 t).mpr h]; rfl
theorem rest6 (t : Fin cfg0.N) (h : ¬t.val % 14 = 0) : cfg0.idle 6 (grid0.coords t) = true := by
  rw [idle6, beq_eq_false_iff_ne.mpr fun e => h ((cond1 t).mp e)]; rfl
theorem live7 (t : Fin cfg0.N) (h : t.val % 14 < 4) : cfg0.idle 7 (grid0.coords t) = false := by
  rw [idle7, (cond4 t).mpr h]; rfl
theorem rest7 (t : Fin cfg0.N) (h : ¬t.val % 14 < 4) : cfg0.idle 7 (grid0.coords t) = true := by
  rw [idle7, beq_eq_false_iff_ne.mpr fun e => h ((cond4 t).mp e)]; rfl
theorem leave4 (c : Dev nD) (t : Fin cfg0.N) (h : 8 ≤ t.val % 14) (d) :
    owns (c : Thread nD τ) (mem4 t) fullShare ((dats m 0 c).before 4 t d) ⊢ (dats m 0 c).leavesExact 4 t :=
  leaves_idle _ 4 t (rest4 t (by omega)) d fun _ => before_run (dats m 0 c) 4 8 (by decide) (fun _ => rfl) (fun t h => live4 t (by omega))
    (fun t h => rest4 t (by omega)) (fun t h h' => flush4 t (by omega) h') (fun _ _ => rfl)
    (fun t t' e h => by rw [after4, after4]; exact by unfold res4; rw [scr_step m c e (by omega), upto_step (k := 7) (j := 7) le_rfl e (by omega)]) _ t rfl h d
theorem leave6 (c : Dev nD) (t : Fin cfg0.N) (h : 1 ≤ t.val % 14) (d) :
    owns (c : Thread nD τ) (mem6 t) fullShare ((dats m 0 c).before 6 t d) ⊢ (dats m 0 c).leavesExact 6 t :=
  leaves_idle _ 6 t (rest6 t (by omega)) d fun _ => before_run (dats m 0 c) 6 1 (by decide) (fun _ => rfl) (fun t h => live6 t (by omega))
    (fun t h => rest6 t (by omega)) (fun t h h' => flush6 t (by omega) h') (fun _ _ => rfl)
    (fun t t' e h => by rw [after6, after6]; exact by unfold res6; rw [upto_step (k := 0) (j := 0) le_rfl e (by omega)]) _ t rfl h d
theorem leave7 (c : Dev nD) (t : Fin cfg0.N) (h : 4 ≤ t.val % 14) (d) :
    owns (c : Thread nD τ) (mem7 t) fullShare ((dats m 0 c).before 7 t d) ⊢ (dats m 0 c).leavesExact 7 t :=
  leaves_idle _ 7 t (rest7 t (by omega)) d fun _ => before_run (dats m 0 c) 7 4 (by decide) (fun _ => rfl) (fun t h => live7 t (by omega))
    (fun t h => rest7 t (by omega)) (fun t h h' => flush7 t (by omega) h') (fun _ _ => rfl)
    (fun t t' e h => by rw [after7, after7]; exact by unfold res7; rw [scr_step m c e (by omega), upto_step (k := 3) (j := 3) le_rfl e (by omega)]) _ t rfl h d
theorem leave5 (c : Dev nD) (t : Fin cfg0.N) (h : t.val % 14 < 8) (d) :
    owns (c : Thread nD τ) (mem5 t) fullShare ((dats m 0 c).before 5 t d) ⊢ (dats m 0 c).leavesExact 5 t :=
  leaves_idle _ 5 t (rest5 t (by omega)) d fun hf => absurd hf (by rw [flush5 t h]; exact Bool.false_ne_true)

theorem give4 (c : Dev nD) (t : Fin cfg0.N) (h : t.val % 14 < 8) :
    owns (c : Thread nD τ) (mem4 t) fullShare (res4 m c t) ⊢ (dats m 0 c).leavesExact 4 t :=
  after4 m c t ▸ leaves_live (dats m 0 c) 4 t (live4 t h)
theorem give5 (c : Dev nD) (t : Fin cfg0.N) (h : 8 ≤ t.val % 14) :
    owns (c : Thread nD τ) (mem5 t) fullShare (res5 m c t) ⊢ (dats m 0 c).leavesExact 5 t :=
  after5 m c t ▸ leaves_live (dats m 0 c) 5 t (live5 t h)
theorem give6 (c : Dev nD) (t : Fin cfg0.N) (h : t.val % 14 = 0) :
    owns (c : Thread nD τ) (mem6 t) fullShare (res6 m c t) ⊢ (dats m 0 c).leavesExact 6 t :=
  after6 m c t ▸ leaves_live (dats m 0 c) 6 t (live6 t h)
theorem give7 (c : Dev nD) (t : Fin cfg0.N) (h : t.val % 14 < 4) :
    owns (c : Thread nD τ) (mem7 t) fullShare (res7 m c t) ⊢ (dats m 0 c).leavesExact 7 t :=
  after7 m c t ▸ leaves_live (dats m 0 c) 7 t (live7 t h)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ (dats m 0 c).leavesExact 4 t
    ∗ (dats m 0 c).leavesExact 5 t
    ∗ (dats m 0 c).leavesExact 6 t
    ∗ (dats m 0 c).leavesExact 7 t)

set_option maxHeartbeats 1600000 in
theorem sound_first (c : Dev nD) (t : Fin cfg0.N) (h : t.val % 14 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = iprop(iprop(owns (c : Thread nD τ) scrMem fullShare (scr m c t)) ∗ (∃ r, prngReg c r)) from rfl]
  rw [inv_castSucc m c t]
  refine (sep_mono (inv_any m c _ _) .rfl).trans ?_
  iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first (grid0.coords t) _ (whole0 t) _ (whole1 t) _ (whole2 t) _ (whole3 t) _ (whole4 t) _ (whole5 t) _ (whole6 t) _ (whole7 t) scrMem (Memref.isWhole_whole _) c ((cond1 t).mpr (by omega)) ((cond2 t).mpr (by omega)) (fun e => absurd ((cond3 t).mp e) (by omega)) ((cond4 t).mpr (by omega)) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H6]; · iexists _; iexact H6
  isplitl [H7]; · iexists _; iexact H7
  isplitl [S]; · iexact S
  iintro ⟨H0, H1, H2, H3, H4, H6, H7, S⟩
  isplitl [S Hg]
  · isplitl [S]
    · rw [scr_first m c h]; iexact S
    iexact Hg
  isplitl [Ho]; · iexact Ho
  isplitl [H0]; · iexact H0
  isplitl [H1]; · iexact H1
  isplitl [H2]; · iexact H2
  isplitl [H3]; · iexact H3
  isplitl [H4]
  · iapply (give4 m c t (by omega))
    unfold res4; rw [scr_first m c h, upto_of (k := 7) (t := t) (by omega)]; iexact H4
  isplitl [H5]
  · iapply (leave5 m c t (by omega) d5)
    iexact H5
  isplitl [H6]
  · iapply (give6 m c t (by omega))
    unfold res6; rw [upto_of (k := 0) (t := t) (by omega)]; iexact H6
  iapply (give7 m c t (by omega))
  unfold res7; rw [scr_first m c h, upto_of (k := 3) (t := t) (by omega)]; iexact H7

set_option maxHeartbeats 1600000 in
theorem sound_early (c : Dev nD) (t : Fin cfg0.N) (h : 1 ≤ t.val % 14) (h' : t.val % 14 < 4) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = iprop(iprop(owns (c : Thread nD τ) scrMem fullShare (scr m c t)) ∗ (∃ r, prngReg c r)) from rfl]
  rw [inv_castSucc m c t, inv_at m c t (by omega)]
  iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_early (grid0.coords t) _ (whole0 t) _ (whole1 t) _ (whole2 t) _ (whole3 t) _ (whole4 t) _ (whole5 t) _ (whole6 t) _ (whole7 t) scrMem (Memref.isWhole_whole _) c (fun e => absurd ((cond1 t).mp e) (by omega)) ((cond2 t).mpr (by omega)) (fun e => absurd ((cond3 t).mp e) (by omega)) ((cond4 t).mpr (by omega)) (iblk m c 2 t) (scr m c t) Set.univ _)
  isplitl [H2]; · iexact H2
  isplitl [H4]; · iexists _; iexact H4
  isplitl [H7]; · iexists _; iexact H7
  isplitl [S]; · iexact S
  iintro ⟨H2, H4, H7, S⟩
  isplitl [S Hg]
  · isplitl [S]
    · iexact S
    iexact Hg
  isplitl [Ho]; · iexact Ho
  isplitl [H0]; · iexact H0
  isplitl [H1]; · iexact H1
  isplitl [H2]; · iexact H2
  isplitl [H3]; · iexact H3
  isplitl [H4]
  · iapply (give4 m c t (by omega))
    unfold res4; rw [upto_of (k := 7) (t := t) (by omega)]; iexact H4
  isplitl [H5]
  · iapply (leave5 m c t (by omega) d5)
    iexact H5
  isplitl [H6]
  · iapply (leave6 m c t (by omega) d6)
    iexact H6
  iapply (give7 m c t (by omega))
  unfold res7; rw [upto_of (k := 3) (t := t) (by omega)]; iexact H7

set_option maxHeartbeats 1600000 in
theorem sound_mid (c : Dev nD) (t : Fin cfg0.N) (h : 4 ≤ t.val % 14) (h' : t.val % 14 < 8) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = iprop(iprop(owns (c : Thread nD τ) scrMem fullShare (scr m c t)) ∗ (∃ r, prngReg c r)) from rfl]
  rw [inv_castSucc m c t, inv_at m c t (by omega)]
  iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid (grid0.coords t) _ (whole0 t) _ (whole1 t) _ (whole2 t) _ (whole3 t) _ (whole4 t) _ (whole5 t) _ (whole6 t) _ (whole7 t) scrMem (Memref.isWhole_whole _) c (fun e => absurd ((cond1 t).mp e) (by omega)) ((cond2 t).mpr (by omega)) (fun e => absurd ((cond3 t).mp e) (by omega)) (fun e => absurd ((cond4 t).mp e) (by omega)) (iblk m c 2 t) (scr m c t) Set.univ _)
  isplitl [H2]; · iexact H2
  isplitl [H4]; · iexists _; iexact H4
  isplitl [S]; · iexact S
  iintro ⟨H2, H4, S⟩
  isplitl [S Hg]
  · isplitl [S]
    · iexact S
    iexact Hg
  isplitl [Ho]; · iexact Ho
  isplitl [H0]; · iexact H0
  isplitl [H1]; · iexact H1
  isplitl [H2]; · iexact H2
  isplitl [H3]; · iexact H3
  isplitl [H4]
  · iapply (give4 m c t (by omega))
    unfold res4; rw [upto_of (k := 7) (t := t) (by omega)]; iexact H4
  isplitl [H5]
  · iapply (leave5 m c t (by omega) d5)
    iexact H5
  isplitl [H6]
  · iapply (leave6 m c t (by omega) d6)
    iexact H6
  iapply (leave7 m c t (by omega) d7)
  iexact H7

set_option maxHeartbeats 1600000 in
theorem sound_late (c : Dev nD) (t : Fin cfg0.N) (h : 8 ≤ t.val % 14) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = iprop(iprop(owns (c : Thread nD τ) scrMem fullShare (scr m c t)) ∗ (∃ r, prngReg c r)) from rfl]
  rw [inv_castSucc m c t, inv_at m c t (by omega)]
  iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_late (grid0.coords t) _ (whole0 t) _ (whole1 t) _ (whole2 t) _ (whole3 t) _ (whole4 t) _ (whole5 t) _ (whole6 t) _ (whole7 t) scrMem (Memref.isWhole_whole _) c (fun e => absurd ((cond1 t).mp e) (by omega)) (fun e => absurd ((cond2 t).mp e) (by omega)) ((cond3 t).mpr (by omega)) (fun e => absurd ((cond4 t).mp e) (by omega)) (iblk m c 2 t) (scr m c t) Set.univ _)
  isplitl [H2]; · iexact H2
  isplitl [H5]; · iexists _; iexact H5
  isplitl [S]; · iexact S
  iintro ⟨H2, H5, S⟩
  isplitl [S Hg]
  · isplitl [S]
    · iexact S
    iexact Hg
  isplitl [Ho]; · iexact Ho
  isplitl [H0]; · iexact H0
  isplitl [H1]; · iexact H1
  isplitl [H2]; · iexact H2
  isplitl [H3]; · iexact H3
  isplitl [H4]
  · iapply (leave4 m c t (by omega) d4)
    iexact H4
  isplitl [H5]
  · iapply (give5 m c t (by omega))
    unfold res5; iexact H5
  isplitl [H6]
  · iapply (leave6 m c t (by omega) d6)
    iexact H6
  iapply (leave7 m c t (by omega) d7)
  iexact H7

theorem sound_body (c : Dev nD) (t : Fin cfg0.N) :
    bodyPre m c t ⊢ wp frame (wpE (defs₀ (F := F)) Variants.none c none) Set.univ (bodyAt0 t) (fun _ => bodyPost m c t) := by
  by_cases h0 : t.val % 14 = 0
  · exact sound_first m c t h0
  by_cases h4 : t.val % 14 < 4
  · exact sound_early m c t (by omega) h4
  by_cases h8 : t.val % 14 < 8
  · exact sound_mid m c t (by omega) h8
  exact sound_late m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  rw [scoped_eq, show (dats m 0 c).Φ (Fin.last cfg0.N) = inv m c (Fin.last cfg0.N).val (Nat.le_of_lt_succ (Fin.last cfg0.N).isLt) from rfl]
  exact inv_any m c _ _

/-! ## The run -/

set_option backward.isDefEq.respectTransparency.types false in
/-- Every run ends with the results the buffers' contents say, everything else as it was found, the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := inv_in m) (hout := inv_out m)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.InprojIdeal.Body

end
-- ==== Proof.Inproj.Kernel.lean ====
/- The input projection's kernel, read over the extended reals: each of its results is, element by element, the product of a
   normed row with a column of the weight, the columns in the order in which the later calls take them. -/
module

public import proofs.«01_k».proof.Proof.Inproj.Frame
public import Idealize.ShloMosaic.Lib.Pipeline.ValueKit.Geometry
public import Idealize.ShloMosaic.Lib.Pointwise
public import proofs.«01_k».proof.Proof.Common

@[expose] public section

set_option maxRecDepth 16384

noncomputable section

namespace Cert.InprojIdeal.Body

open Cert.InprojIdeal Cert.InprojIdeal.Gen Idealize.ShloMosaic Idealize.ShloMosaic.TcCoe Idealize.SL.Sem

/-! ## The stored values, element by element -/

theorem kept_apply (x : Vec Ideal S2048x1024 .f32) (w : Vec Ideal S1x1024 .f32) (r : Fin 2048) (k : Fin 1024) :
    kept x w (ix2 r k) = Common.nrm (fun j => x (ix2 r j)) (fun j => w (ix2 0 j)) k := by
  unfold kept narrow normed
  pointwise
  rfl

theorem wide_apply (h : Vec Ideal S2048x1024 .bf16) (b : Vec Ideal S768x1024 .bf16) (r : Fin 2048) (k : Fin 768) :
    wide h b (ix2 r k) = ∑ j : Fin 1024, h (ix2 r j) * b (ix2 k j) := by
  unfold wide
  pointwise

theorem wideNarrow_apply (h : Vec Ideal S2048x1024 .bf16) (b : Vec Ideal S768x1024 .bf16) (r : Fin 2048) (k : Fin 768) :
    wideNarrow h b (ix2 r k) = ∑ j : Fin 1024, h (ix2 r j) * b (ix2 k j) :=
  wide_apply h b r k

theorem lastOf_apply (h : Vec Ideal S16x1024 .bf16) (b : Vec Ideal S768x1024 .bf16) (r : Fin 8) (k : Fin 768) :
    lastOf h b (ix2 r k) = ∑ j : Fin 1024, h (ix2 ⟨8 + r.val, by omega⟩ j) * b (ix2 k j) := by
  unfold lastOf
  pointwise

theorem last_apply (h : Vec Ideal S2048x1024 .bf16) (b : Vec Ideal S768x1024 .bf16) (r : Fin 8) (k : Fin 768) :
    last h b (ix2 r k) = ∑ j : Fin 1024, h (ix2 ⟨2040 + r.val, by omega⟩ j) * b (ix2 k j) := by
  unfold last
  refine (lastOf_apply _ b r k).trans (Finset.sum_congr rfl fun j _ => congrArg (· * b (ix2 k j)) ?_)
  show h _ = h _
  congr 1
  funext a
  apply Fin.ext
  match a with
  | ⟨0, _⟩ => show 2032 + 1 * (8 + r.val) = 2040 + r.val; omega
  | ⟨1, _⟩ => show 0 + 1 * j.val = j.val; omega

/-! ## The blocks of the arrays -/

section State

variable (m : (ℓ : Loc nD τ sig) → Buf (Elt Ideal) ℓ) (c : Dev nD)

theorem index0 : ∀ t : Fin grid0.N, cc0_transform_0 (grid0.coords t) = ![t.val / 14, 0] := by decide +kernel

theorem index1 : ∀ t : Fin grid0.N, cc0_transform_1 (grid0.coords t) = ![0, 0] := by decide +kernel

theorem index2 : ∀ t : Fin grid0.N, cc0_transform_2 (grid0.coords t) = ![t.val % 14, 0] := by decide +kernel

theorem index4 : ∀ t : Fin grid0.N, cc0_transform_4 (grid0.coords t) = ![t.val / 14, min (t.val % 14) 7] := by decide +kernel

theorem index5 : ∀ t : Fin grid0.N, cc0_transform_5 (grid0.coords t) = ![t.val / 14, t.val % 14 - 8] := by decide +kernel

theorem index7 : ∀ t : Fin grid0.N, cc0_transform_7 (grid0.coords t) = ![t.val / 14, min (t.val % 14) 3] := by decide +kernel

theorem blk0 (t : Fin grid0.N) (r : Fin 2048) (j : Fin 1024) (R : Fin 16384) (hR : R.val = t.val / 14 * 2048 + r.val) :
    (iblk m c 0 t : Vec Ideal S2048x1024 .f32) (ix2 r j) = (V m c main_v22 : Vec Ideal S16384x1024 .f32) (ix2 R j) := by
  unfold iblk
  show V m c main_v22 (((cfg0.win 0).blk t).view.emb (ix2 r j)) = V m c main_v22 (ix2 R j)
  congr 1
  funext a
  apply Fin.ext
  refine (Pipeline.Window.rect_emb_val (cfg0.win 0) t (ix2 r j) a).trans ?_
  rw [show (cfg0.win 0).index t = _ from index0 t]
  match a with
  | ⟨0, _⟩ => exact hR.symm
  | ⟨1, _⟩ => show 0 * 1024 + j.val = j.val; omega

theorem blk1 (t : Fin grid0.N) (j : Fin 1024) :
    (iblk m c 1 t : Vec Ideal S1x1024 .f32) (ix2 (0 : Fin 1) j) = (V m c main_v24 : Vec Ideal S1x1024 .f32) (ix2 (0 : Fin 1) j) := by
  unfold iblk
  show V m c main_v24 (((cfg0.win 1).blk t).view.emb (ix2 (0 : Fin 1) j)) = V m c main_v24 (ix2 (0 : Fin 1) j)
  congr 1
  funext a
  apply Fin.ext
  refine (Pipeline.Window.rect_emb_val (cfg0.win 1) t (ix2 (0 : Fin 1) j) a).trans ?_
  rw [show (cfg0.win 1).index t = _ from index1 t]
  match a with
  | ⟨0, _⟩ => exact rfl
  | ⟨1, _⟩ => show 0 * 1024 + j.val = j.val; omega

theorem blk2 (t : Fin grid0.N) (r : Fin 768) (j : Fin 1024) (R : Fin 10752) (hR : R.val = t.val % 14 * 768 + r.val) :
    (iblk m c 2 t : Vec Ideal S768x1024 .bf16) (ix2 r j) = (V m c main_v13 : Vec Ideal S10752x1024 .bf16) (ix2 R j) := by
  unfold iblk
  show V m c main_v13 (((cfg0.win 2).blk t).view.emb (ix2 r j)) = V m c main_v13 (ix2 R j)
  congr 1
  funext a
  apply Fin.ext
  refine (Pipeline.Window.rect_emb_val (cfg0.win 2) t (ix2 r j) a).trans ?_
  rw [show (cfg0.win 2).index t = _ from index2 t]
  match a with
  | ⟨0, _⟩ => exact hR.symm
  | ⟨1, _⟩ => show 0 * 1024 + j.val = j.val; omega

/-! ## The results -/

/-- Row `R` of the rows, normed. -/
def row (R : Fin 16384) : Fin 1024 → EReal :=
  Common.nrm (fun j => (V m c main_v22 : Vec Ideal S16384x1024 .f32) (ix2 R j)) (fun j => (V m c main_v24 : Vec Ideal S1x1024 .f32) (ix2 (0 : Fin 1) j))

/-- The normed row `R` times row `C` of the laid-out weight. -/
def out (R : Fin 16384) (C : Fin 10752) : EReal :=
  ∑ j : Fin 1024, row m c R j * (V m c main_v13 : Vec Ideal S10752x1024 .bf16) (ix2 C j)

theorem div_upto (k : ℕ) (t : Fin cfg0.N) : (upto k t).val / 14 = t.val / 14 := by
  unfold upto
  dsimp only
  omega

theorem mod_upto (k : ℕ) (t : Fin cfg0.N) : (upto k t).val % 14 = min (t.val % 14) k := by
  unfold upto
  dsimp only
  omega

/-- The scratch after point `t` holds the normed rows of its row of blocks. -/
theorem scr_apply (t : Fin cfg0.N) (r : Fin 2048) (j : Fin 1024) (R : Fin 16384) (hR : R.val = t.val / 14 * 2048 + r.val) :
    scr m c t (ix2 r j) = row m c R j := by
  unfold scr row
  refine (kept_apply _ _ r j).trans ?_
  exact congrArg₂ (fun x w => Common.nrm x w j) (funext fun i => blk0 m c (upto 0 t) r i R (by rw [div_upto]; exact hR))
    (funext fun i => blk1 m c (upto 0 t) i)

theorem point4 (t : Fin cfg0.N) (r : Fin 2048) (k : Fin 768) (R : Fin 16384) (C : Fin 10752) (hR : R.val = t.val / 14 * 2048 + r.val)
    (hC : C.val = min (t.val % 14) 7 * 768 + k.val) : res4 m c t (ix2 r k) = out m c R C := by
  unfold res4 out
  refine (wideNarrow_apply _ _ r k).trans (Finset.sum_congr rfl fun j _ => ?_)
  rw [scr_apply m c t r j R hR]
  exact congrArg (row m c R j * ·) (blk2 m c (upto 7 t) k j C (by rw [mod_upto]; exact hC))

theorem point5 (t : Fin cfg0.N) (r : Fin 2048) (k : Fin 768) (R : Fin 16384) (C : Fin 10752) (hR : R.val = t.val / 14 * 2048 + r.val)
    (hC : C.val = t.val % 14 * 768 + k.val) : res5 m c t (ix2 r k) = out m c R C := by
  unfold res5 out
  refine (wide_apply _ _ r k).trans (Finset.sum_congr rfl fun j _ => ?_)
  rw [scr_apply m c t r j R hR]
  exact congrArg (row m c R j * ·) (blk2 m c t k j C hC)

theorem point7 (t : Fin cfg0.N) (r : Fin 8) (k : Fin 768) (R : Fin 16384) (C : Fin 10752) (hR : R.val = t.val / 14 * 2048 + (2040 + r.val))
    (hC : C.val = min (t.val % 14) 3 * 768 + k.val) : res7 m c t (ix2 r k) = out m c R C := by
  unfold res7 out
  refine (last_apply _ _ r k).trans (Finset.sum_congr rfl fun j _ => ?_)
  have e : scr m c t (ix2 (⟨2040 + r.val, by omega⟩ : Fin 2048) j) = row m c R j := scr_apply m c t _ j R hR
  have e' : (iblk m c 2 (upto 3 t) : Vec Ideal S768x1024 .bf16) (ix2 k j) = (V m c main_v13 : Vec Ideal S10752x1024 .bf16) (ix2 C j) :=
    blk2 m c (upto 3 t) k j C (by rw [mod_upto]; exact hC)
  exact congrArg₂ (· * ·) e e'

/-- The first result: the first 6144 columns. -/
def G4 : Vec Ideal S16384x6144 .bf16 := fun i => out m c (i 0) ⟨(i 1).val, by have : (i 1).val < 6144 := (i 1).isLt; omega⟩

theorem final4 : ((dats m 0 c).arrAt 4 cfg0.N : Vec Ideal S16384x6144 .bf16) = G4 m c := by
  refine (dats m 0 c).arrAt_eq_of_covers 4 _ (by decide +kernel) fun (t : Fin grid0.N) hf (y : S2048x768.Idx) => ?_
  blk_simp
  rw [after4]
  obtain ⟨r, k, rfl⟩ : ∃ (r : Fin 2048) (k : Fin 768), y = ix2 r k := ⟨y 0, y 1, eq_ix2 y⟩
  have hp : ∀ (i : S16384x6144.Idx), i = ((cfg0.win 4).blk t).view.emb (ix2 r k) → (i 0).val = t.val / 14 * 2048 + r.val ∧ (i 1).val = min (t.val % 14) 7 * 768 + k.val := by
    intro i hi
    subst hi
    have h := fun a => Pipeline.Window.rect_emb_val (cfg0.win 4) t (ix2 r k) a
    rw [show (cfg0.win 4).index t = _ from index4 t] at h
    exact ⟨h 0, h 1⟩
  have h := hp _ rfl
  exact point4 m c t r k _ _ h.1 h.2

/-- The second result: the other 4608 columns. -/
def G5 : Vec Ideal S16384x4608 .f32 := fun i => out m c (i 0) ⟨6144 + (i 1).val, by have : (i 1).val < 4608 := (i 1).isLt; omega⟩

theorem final5 : ((dats m 0 c).arrAt 5 cfg0.N : Vec Ideal S16384x4608 .f32) = G5 m c := by
  refine (dats m 0 c).arrAt_eq_of_covers 5 _ (by decide +kernel) fun (t : Fin grid0.N) hf (y : S2048x768.Idx) => ?_
  blk_simp
  rw [after5]
  obtain ⟨r, k, rfl⟩ : ∃ (r : Fin 2048) (k : Fin 768), y = ix2 r k := ⟨y 0, y 1, eq_ix2 y⟩
  have hp : ∀ (i : S16384x4608.Idx), i = ((cfg0.win 5).blk t).view.emb (ix2 r k) → (i 0).val = t.val / 14 * 2048 + r.val ∧ (i 1).val = (t.val % 14 - 8) * 768 + k.val := by
    intro i hi
    subst hi
    have h := fun a => Pipeline.Window.rect_emb_val (cfg0.win 5) t (ix2 r k) a
    rw [show (cfg0.win 5).index t = _ from index5 t] at h
    exact ⟨h 0, h 1⟩
  have h := hp _ rfl
  have h8 : 8 ≤ t.val % 14 := by
    by_contra hlt
    exact absurd hf (by rw [flush5 t (by omega)]; decide)
  refine point5 m c t r k _ _ h.1 (Eq.trans (congrArg (6144 + ·) h.2) ?_)
  omega

/-- The last eight rows of every 2048, in the first 3072 columns. -/
def G7 : Vec Ideal S64x3072 .f32 := fun i => out m c ⟨(i 0).val / 8 * 2048 + (2040 + (i 0).val % 8), by have : (i 0).val < 64 := (i 0).isLt; omega⟩ ⟨(i 1).val, by have : (i 1).val < 3072 := (i 1).isLt; omega⟩

theorem final7 : ((dats m 0 c).arrAt 7 cfg0.N : Vec Ideal S64x3072 .f32) = G7 m c := by
  refine (dats m 0 c).arrAt_eq_of_covers 7 _ (by decide +kernel) fun (t : Fin grid0.N) hf (y : S8x768.Idx) => ?_
  blk_simp
  rw [after7]
  obtain ⟨r, k, rfl⟩ : ∃ (r : Fin 8) (k : Fin 768), y = ix2 r k := ⟨y 0, y 1, eq_ix2 y⟩
  have hp : ∀ (i : S64x3072.Idx), i = ((cfg0.win 7).blk t).view.emb (ix2 r k) → (i 0).val = t.val / 14 * 8 + r.val ∧ (i 1).val = min (t.val % 14) 3 * 768 + k.val := by
    intro i hi
    subst hi
    have h := fun a => Pipeline.Window.rect_emb_val (cfg0.win 7) t (ix2 r k) a
    rw [show (cfg0.win 7).index t = _ from index7 t] at h
    exact ⟨h 0, h 1⟩
  have h := hp _ rfl
  refine point7 m c t r k _ _ (Eq.trans (congrArg (fun n => n / 8 * 2048 + (2040 + n % 8)) h.1) ?_) h.2
  omega

/-! ## The weight's columns, laid out -/

/-- The weight as a matrix. -/
def flat (x : Vec Ideal S1x1024x10768 .f32) : Vec Ideal S1024x10768 .f32 := shapeCast S1024x10768 x shapeCasts_S1x1024x10768_S1024x10768

theorem flat_apply (x : Vec Ideal S1x1024x10768 .f32) (j : Fin 1024) (D : Fin 10768) : flat x (ix2 j D) = x (ix3 0 j D) := by
  unfold flat
  pointwise

def piece0 (x : Vec Ideal S1x1024x10768 .f32) : Vec Ideal S1024x3072 .f32 := extractStridedSlice S1024x3072 ![0, 4608] (flat x) slices_S1024x10768_S1024x3072_0_4608

theorem piece0_apply (x : Vec Ideal S1x1024x10768 .f32) (j : Fin 1024) (k : Fin 3072) (D : Fin 10768) (h : D.val = 4608 + k.val) : piece0 x (ix2 j k) = x (ix3 0 j D) := by
  rw [show D = ⟨4608 + k.val, by omega⟩ from Fin.ext h]
  refine Eq.trans ?_ (flat_apply x j ⟨4608 + k.val, by omega⟩)
  unfold piece0
  pointwise

def piece1 (x : Vec Ideal S1x1024x10768 .f32) : Vec Ideal S1024x1024 .f32 := extractStridedSlice S1024x1024 ![0, 7680] (flat x) slices_S1024x10768_S1024x1024_0_7680

theorem piece1_apply (x : Vec Ideal S1x1024x10768 .f32) (j : Fin 1024) (k : Fin 1024) (D : Fin 10768) (h : D.val = 7680 + k.val) : piece1 x (ix2 j k) = x (ix3 0 j D) := by
  rw [show D = ⟨7680 + k.val, by omega⟩ from Fin.ext h]
  refine Eq.trans ?_ (flat_apply x j ⟨7680 + k.val, by omega⟩)
  unfold piece1
  pointwise

def piece2 (x : Vec Ideal S1x1024x10768 .f32) : Vec Ideal S1024x2048 .f32 := extractStridedSlice S1024x2048 ![0, 8720] (flat x) slices_S1024x10768_S1024x2048_0_8720

theorem piece2_apply (x : Vec Ideal S1x1024x10768 .f32) (j : Fin 1024) (k : Fin 2048) (D : Fin 10768) (h : D.val = 8720 + k.val) : piece2 x (ix2 j k) = x (ix3 0 j D) := by
  rw [show D = ⟨8720 + k.val, by omega⟩ from Fin.ext h]
  refine Eq.trans ?_ (flat_apply x j ⟨8720 + k.val, by omega⟩)
  unfold piece2
  pointwise

def piece3 (x : Vec Ideal S1x1024x10768 .f32) : Vec Ideal S1024x512 .f32 := extractStridedSlice S1024x512 ![0, 1536] (flat x) slices_S1024x10768_S1024x512_0_1536

theorem piece3_apply (x : Vec Ideal S1x1024x10768 .f32) (j : Fin 1024) (k : Fin 512) (D : Fin 10768) (h : D.val = 1536 + k.val) : piece3 x (ix2 j k) = x (ix3 0 j D) := by
  rw [show D = ⟨1536 + k.val, by omega⟩ from Fin.ext h]
  refine Eq.trans ?_ (flat_apply x j ⟨1536 + k.val, by omega⟩)
  unfold piece3
  pointwise

def piece4 (x : Vec Ideal S1x1024x10768 .f32) : Vec Ideal S1024x512 .f32 := extractStridedSlice S1024x512 ![0, 3072] (flat x) slices_S1024x10768_S1024x512_0_3072

theorem piece4_apply (x : Vec Ideal S1x1024x10768 .f32) (j : Fin 1024) (k : Fin 512) (D : Fin 10768) (h : D.val = 3072 + k.val) : piece4 x (ix2 j k) = x (ix3 0 j D) := by
  rw [show D = ⟨3072 + k.val, by omega⟩ from Fin.ext h]
  refine Eq.trans ?_ (flat_apply x j ⟨3072 + k.val, by omega⟩)
  unfold piece4
  pointwise

def piece5 (x : Vec Ideal S1x1024x10768 .f32) : Vec Ideal S1024x512 .f32 := extractStridedSlice S1024x512 ![0, 2048] (flat x) slices_S1024x10768_S1024x512_0_2048

theorem piece5_apply (x : Vec Ideal S1x1024x10768 .f32) (j : Fin 1024) (k : Fin 512) (D : Fin 10768) (h : D.val = 2048 + k.val) : piece5 x (ix2 j k) = x (ix3 0 j D) := by
  rw [show D = ⟨2048 + k.val, by omega⟩ from Fin.ext h]
  refine Eq.trans ?_ (flat_apply x j ⟨2048 + k.val, by omega⟩)
  unfold piece5
  pointwise

def piece6 (x : Vec Ideal S1x1024x10768 .f32) : Vec Ideal S1024x512 .f32 := extractStridedSlice S1024x512 ![0, 3584] (flat x) slices_S1024x10768_S1024x512_0_3584

theorem piece6_apply (x : Vec Ideal S1x1024x10768 .f32) (j : Fin 1024) (k : Fin 512) (D : Fin 10768) (h : D.val = 3584 + k.val) : piece6 x (ix2 j k) = x (ix3 0 j D) := by
  rw [show D = ⟨3584 + k.val, by omega⟩ from Fin.ext h]
  refine Eq.trans ?_ (flat_apply x j ⟨3584 + k.val, by omega⟩)
  unfold piece6
  pointwise

def piece7 (x : Vec Ideal S1x1024x10768 .f32) : Vec Ideal S1024x512 .f32 := extractStridedSlice S1024x512 ![0, 2560] (flat x) slices_S1024x10768_S1024x512_0_2560

theorem piece7_apply (x : Vec Ideal S1x1024x10768 .f32) (j : Fin 1024) (k : Fin 512) (D : Fin 10768) (h : D.val = 2560 + k.val) : piece7 x (ix2 j k) = x (ix3 0 j D) := by
  rw [show D = ⟨2560 + k.val, by omega⟩ from Fin.ext h]
  refine Eq.trans ?_ (flat_apply x j ⟨2560 + k.val, by omega⟩)
  unfold piece7
  pointwise

def piece8 (x : Vec Ideal S1x1024x10768 .f32) : Vec Ideal S1024x512 .f32 := extractStridedSlice S1024x512 ![0, 4096] (flat x) slices_S1024x10768_S1024x512_0_4096

theorem piece8_apply (x : Vec Ideal S1x1024x10768 .f32) (j : Fin 1024) (k : Fin 512) (D : Fin 10768) (h : D.val = 4096 + k.val) : piece8 x (ix2 j k) = x (ix3 0 j D) := by
  rw [show D = ⟨4096 + k.val, by omega⟩ from Fin.ext h]
  refine Eq.trans ?_ (flat_apply x j ⟨4096 + k.val, by omega⟩)
  unfold piece8
  pointwise

def piece9 (x : Vec Ideal S1x1024x10768 .f32) : Vec Ideal S1024x1536 .f32 := extractStridedSlice S1024x1536 ![0, 0] (flat x) slices_S1024x10768_S1024x1536_0_0

theorem piece9_apply (x : Vec Ideal S1x1024x10768 .f32) (j : Fin 1024) (k : Fin 1536) (D : Fin 10768) (h : D.val = 0 + k.val) : piece9 x (ix2 j k) = x (ix3 0 j D) := by
  rw [show D = ⟨0 + k.val, by omega⟩ from Fin.ext h]
  refine Eq.trans ?_ (flat_apply x j ⟨0 + k.val, by omega⟩)
  unfold piece9
  pointwise

/-- The pieces joined. -/
def joined (x : Vec Ideal S1x1024x10768 .f32) : Vec Ideal S1024x10752 .f32 :=
  concatenate S1024x10752 1 [⟨S1024x3072, piece0 x⟩, ⟨S1024x1024, piece1 x⟩, ⟨S1024x2048, piece2 x⟩, ⟨S1024x512, piece3 x⟩, ⟨S1024x512, piece4 x⟩, ⟨S1024x512, piece5 x⟩, ⟨S1024x512, piece6 x⟩, ⟨S1024x512, piece7 x⟩, ⟨S1024x512, piece8 x⟩, ⟨S1024x1536, piece9 x⟩]
    concatenates_S1024x3072_S1024x1024_S1024x2048_S1024x512_S1024x512_S1024x512_S1024x512_S1024x512_S1024x512_S1024x1536_S1024x10752_d1

set_option maxHeartbeats 1000000 in
set_option maxRecDepth 65536 in
theorem joined_apply (x : Vec Ideal S1x1024x10768 .f32) (j : Fin 1024) (C : Fin 10752) (D : Fin 10768) (hD : D.val = Common.col C.val) :
    joined x (ix2 j C) = x (ix3 0 j D) := by
  have hC := C.isLt
  unfold Common.col Common.colA Common.colB at hD
  unfold joined
  by_cases h0 : C.val < 3072
  · refine (concatenate_apply_piece 1 _ _ (ix2 j C) 0 (by simp) S1024x3072 (piece0 x) rfl rfl 0 rfl
      (ix2 j ⟨C.val - 0, by omega⟩) (fun b hb => ?_) ?_).trans ?_
    · match b with
      | ⟨0, _⟩ => rfl
      | ⟨1, _⟩ => exact absurd rfl hb
    · show 0 + (C.val - 0) = C.val
      omega
    · refine piece0_apply x j _ D ?_
      show D.val = 4608 + (C.val - 0)
      split_ifs at hD <;> omega
  by_cases h1 : C.val < 4096
  · refine (concatenate_apply_piece 1 _ _ (ix2 j C) 1 (by simp) S1024x1024 (piece1 x) rfl rfl 3072 rfl
      (ix2 j ⟨C.val - 3072, by omega⟩) (fun b hb => ?_) ?_).trans ?_
    · match b with
      | ⟨0, _⟩ => rfl
      | ⟨1, _⟩ => exact absurd rfl hb
    · show 3072 + (C.val - 3072) = C.val
      omega
    · refine piece1_apply x j _ D ?_
      show D.val = 7680 + (C.val - 3072)
      split_ifs at hD <;> omega
  by_cases h2 : C.val < 6144
  · refine (concatenate_apply_piece 1 _ _ (ix2 j C) 2 (by simp) S1024x2048 (piece2 x) rfl rfl 4096 rfl
      (ix2 j ⟨C.val - 4096, by omega⟩) (fun b hb => ?_) ?_).trans ?_
    · match b with
      | ⟨0, _⟩ => rfl
      | ⟨1, _⟩ => exact absurd rfl hb
    · show 4096 + (C.val - 4096) = C.val
      omega
    · refine piece2_apply x j _ D ?_
      show D.val = 8720 + (C.val - 4096)
      split_ifs at hD <;> omega
  by_cases h3 : C.val < 6656
  · refine (concatenate_apply_piece 1 _ _ (ix2 j C) 3 (by simp) S1024x512 (piece3 x) rfl rfl 6144 rfl
      (ix2 j ⟨C.val - 6144, by omega⟩) (fun b hb => ?_) ?_).trans ?_
    · match b with
      | ⟨0, _⟩ => rfl
      | ⟨1, _⟩ => exact absurd rfl hb
    · show 6144 + (C.val - 6144) = C.val
      omega
    · refine piece3_apply x j _ D ?_
      show D.val = 1536 + (C.val - 6144)
      split_ifs at hD <;> omega
  by_cases h4 : C.val < 7168
  · refine (concatenate_apply_piece 1 _ _ (ix2 j C) 4 (by simp) S1024x512 (piece4 x) rfl rfl 6656 rfl
      (ix2 j ⟨C.val - 6656, by omega⟩) (fun b hb => ?_) ?_).trans ?_
    · match b with
      | ⟨0, _⟩ => rfl
      | ⟨1, _⟩ => exact absurd rfl hb
    · show 6656 + (C.val - 6656) = C.val
      omega
    · refine piece4_apply x j _ D ?_
      show D.val = 3072 + (C.val - 6656)
      split_ifs at hD <;> omega
  by_cases h5 : C.val < 7680
  · refine (concatenate_apply_piece 1 _ _ (ix2 j C) 5 (by simp) S1024x512 (piece5 x) rfl rfl 7168 rfl
      (ix2 j ⟨C.val - 7168, by omega⟩) (fun b hb => ?_) ?_).trans ?_
    · match b with
      | ⟨0, _⟩ => rfl
      | ⟨1, _⟩ => exact absurd rfl hb
    · show 7168 + (C.val - 7168) = C.val
      omega
    · refine piece5_apply x j _ D ?_
      show D.val = 2048 + (C.val - 7168)
      split_ifs at hD <;> omega
  by_cases h6 : C.val < 8192
  · refine (concatenate_apply_piece 1 _ _ (ix2 j C) 6 (by simp) S1024x512 (piece6 x) rfl rfl 7680 rfl
      (ix2 j ⟨C.val - 7680, by omega⟩) (fun b hb => ?_) ?_).trans ?_
    · match b with
      | ⟨0, _⟩ => rfl
      | ⟨1, _⟩ => exact absurd rfl hb
    · show 7680 + (C.val - 7680) = C.val
      omega
    · refine piece6_apply x j _ D ?_
      show D.val = 3584 + (C.val - 7680)
      split_ifs at hD <;> omega
  by_cases h7 : C.val < 8704
  · refine (concatenate_apply_piece 1 _ _ (ix2 j C) 7 (by simp) S1024x512 (piece7 x) rfl rfl 8192 rfl
      (ix2 j ⟨C.val - 8192, by omega⟩) (fun b hb => ?_) ?_).trans ?_
    · match b with
      | ⟨0, _⟩ => rfl
      | ⟨1, _⟩ => exact absurd rfl hb
    · show 8192 + (C.val - 8192) = C.val
      omega
    · refine piece7_apply x j _ D ?_
      show D.val = 2560 + (C.val - 8192)
      split_ifs at hD <;> omega
  by_cases h8 : C.val < 9216
  · refine (concatenate_apply_piece 1 _ _ (ix2 j C) 8 (by simp) S1024x512 (piece8 x) rfl rfl 8704 rfl
      (ix2 j ⟨C.val - 8704, by omega⟩) (fun b hb => ?_) ?_).trans ?_
    · match b with
      | ⟨0, _⟩ => rfl
      | ⟨1, _⟩ => exact absurd rfl hb
    · show 8704 + (C.val - 8704) = C.val
      omega
    · refine piece8_apply x j _ D ?_
      show D.val = 4096 + (C.val - 8704)
      split_ifs at hD <;> omega
  refine (concatenate_apply_piece 1 _ _ (ix2 j C) 9 (by simp) S1024x1536 (piece9 x) rfl rfl 9216 rfl
    (ix2 j ⟨C.val - 9216, by omega⟩) (fun b hb => ?_) ?_).trans ?_
  · match b with
    | ⟨0, _⟩ => rfl
    | ⟨1, _⟩ => exact absurd rfl hb
  · show 9216 + (C.val - 9216) = C.val
    omega
  · refine piece9_apply x j _ D ?_
    show D.val = 0 + (C.val - 9216)
    split_ifs at hD <;> omega

theorem V_w : (V m c main_v13 : Vec Ideal S10752x1024 .bf16) = truncf (F := Ideal) (φ := .f32) .bf16 (transpose S10752x1024 [1, 0]
      (joined (m ((c : Thread nD τ).loc main_arg2) : Vec Ideal S1x1024x10768 .f32)) transposes_S1024x10752_S10752x1024_1_0) bitsLt_bf16_f32 := by
  show StableHlo.after hostOps0 (fun b => m (c, b)) main_v13 = _
  after_results
  rfl

theorem turned (y : Vec Ideal S1024x10752 .f32) (C : Fin 10752) (j : Fin 1024) :
    truncf (F := Ideal) (φ := .f32) .bf16 (transpose S10752x1024 [1, 0] y transposes_S1024x10752_S10752x1024_1_0) bitsLt_bf16_f32 (ix2 C j) = y (ix2 j C) := by
  pointwise

theorem V_x : (V m c main_v22 : Vec Ideal S16384x1024 .f32) = shapeCast S16384x1024 (m ((c : Thread nD τ).loc main_arg0) : Vec Ideal S4x4096x1024 .f32) shapeCasts_S4x4096x1024_S16384x1024 := by
  show StableHlo.after hostOps0 (fun b => m (c, b)) main_v22 = _
  after_results
  rfl

theorem V_n : (V m c main_v24 : Vec Ideal S1x1024 .f32) = shapeCast S1x1024 (shapeCast S1024 (m ((c : Thread nD τ).loc main_arg1) : Vec Ideal S1x1024 .f32) shapeCasts_S1x1024_S1024) shapeCasts_S1024_S1x1024 := by
  show StableHlo.after hostOps0 (fun b => m (c, b)) main_v24 = _
  after_results
  rfl

theorem cast_x (x : Vec Ideal S4x4096x1024 .f32) (R : Fin 16384) (k : Fin 1024) :
    shapeCast S16384x1024 x shapeCasts_S4x4096x1024_S16384x1024 (ix2 R k) = x (ix3 ⟨R.val / 4096, by omega⟩ ⟨R.val % 4096, by omega⟩ k) := by
  pointwise

theorem cast_n (x : Vec Ideal S1x1024 .f32) (k : Fin 1024) :
    shapeCast S1x1024 (shapeCast S1024 x shapeCasts_S1x1024_S1024) shapeCasts_S1024_S1x1024 (ix2 0 k) = x (ix2 0 k) := by
  pointwise

/-- A result's element, from the arguments. -/
theorem out_eq (R : Fin 16384) (C : Fin 10752) (D : Fin 10768) (hD : D.val = Common.col C.val) : out m c R C
    = Common.proj (fun j => (m ((c : Thread nD τ).loc main_arg0) : Vec Ideal S4x4096x1024 .f32) (ix3 ⟨R.val / 4096, by omega⟩ ⟨R.val % 4096, by omega⟩ j))
        (fun j => (m ((c : Thread nD τ).loc main_arg1) : Vec Ideal S1x1024 .f32) (ix2 0 j))
        (fun j => (m ((c : Thread nD τ).loc main_arg2) : Vec Ideal S1x1024x10768 .f32) (ix3 0 j D)) := by
  unfold out row Common.proj
  refine Finset.sum_congr rfl fun j _ => ?_
  congr 1
  · congr 1
    · funext i
      exact (congrFun (V_x m c) _).trans (cast_x _ R i)
    · funext i
      exact (congrFun (V_n m c) _).trans (cast_n _ i)
  · exact (congrFun (V_w m c) _).trans ((turned _ C j).trans (joined_apply _ j C D hD))

end State

end Cert.InprojIdeal.Body

end
-- ==== Proof.Inproj.Ref.lean ====
/- The input projection's reference, read: every element of its three results is the product of a normed row with a column of
   the weight. -/
module

public import proofs.«01_k».proof.Proof.Gen.InprojRefIdeal.Run
public import proofs.«01_k».proof.Proof.Gen.InprojRefIdeal.Read
public import proofs.«01_k».proof.Proof.Common

@[expose] public section

set_option maxRecDepth 16384

noncomputable section

namespace Cert.InprojRefIdeal.Rows

open Cert.InprojRefIdeal Cert.InprojRefIdeal.Read Idealize.ShloMosaic Idealize.ShloMosaic.TcCoe Idealize.SL.Sem

variable (x0 : Vec Ideal S4x4096x1024 .f32) (x1 : Vec Ideal S1x1024 .f32) (x2 : Vec Ideal S1x1024x10768 .f32)

theorem inv_apply (a : Fin 4) (b : Fin 4096) : val_main_v8 (F := Ideal) x0 (ix3 a b 0)
    = Ideal.rsqrt (Ideal.div (∑ j : Fin 1024, x0 (ix3 a b j) * x0 (ix3 a b j)) Common.len + Common.eps) := by
  pointwise [val_main_v8, val_main_v7, val_main_v6, val_main_v5, val_main_v4, val_main_v3, val_main_v2, val_main_v1, val_main_cst, val_main_cst_0, val_main_cst_1]

theorem normed_apply (a : Fin 4) (b : Fin 4096) (k : Fin 1024) : val_main_v13 (F := Ideal) x0 x1 (ix3 a b k)
    = Common.nrm (fun j => x0 (ix3 a b j)) (fun j => x1 (ix2 0 j)) k := by
  pointwise [val_main_v13, val_main_v12, val_main_v11, val_main_v10, val_main_v9, val_main_v0]
  simp only [inv_apply]
  rfl

theorem all_apply (a : Fin 4) (b : Fin 4096) (D : Fin 10768) : val_main_v15 (F := Ideal) x0 x1 x2 (ix3 a b D)
    = Common.proj (fun j => x0 (ix3 a b j)) (fun j => x1 (ix2 0 j)) (fun j => x2 (ix3 0 j D)) := by
  pointwise [val_main_v15, val_main_v14]
  simp only [normed_apply]
  rfl

/-- Row `R`, column `D` of the projection. -/
def el (R : Fin 16384) (D : Fin 10768) : EReal :=
  Common.proj (fun j => x0 (ix3 ⟨R.val / 4096, by omega⟩ ⟨R.val % 4096, by omega⟩ j)) (fun j => x1 (ix2 0 j)) (fun j => x2 (ix3 0 j D))

theorem flat_apply (R : Fin 16384) (D : Fin 10768) : val_main_v16 (F := Ideal) x0 x1 x2 (ix2 R D) = el x0 x1 x2 R D := by
  refine Eq.trans ?_ (all_apply x0 x1 x2 ⟨R.val / 4096, by omega⟩ ⟨R.val % 4096, by omega⟩ D)
  pointwise [val_main_v16]

theorem part17 (R : Fin 16384) (k : Fin 1536) (D : Fin 10768) (h : D.val = 0 + k.val) : val_main_v17 (F := Ideal) x0 x1 x2 (ix2 R k) = el x0 x1 x2 R D := by
  rw [show D = ⟨0 + k.val, by omega⟩ from Fin.ext h]
  refine Eq.trans ?_ (flat_apply x0 x1 x2 R ⟨0 + k.val, by omega⟩)
  pointwise [val_main_v17]

theorem part18 (R : Fin 16384) (k : Fin 1536) (D : Fin 10768) (h : D.val = 1536 + k.val) : val_main_v18 (F := Ideal) x0 x1 x2 (ix2 R k) = el x0 x1 x2 R D := by
  rw [show D = ⟨1536 + k.val, by omega⟩ from Fin.ext h]
  refine Eq.trans ?_ (flat_apply x0 x1 x2 R ⟨1536 + k.val, by omega⟩)
  pointwise [val_main_v18]

theorem part19 (R : Fin 16384) (k : Fin 1536) (D : Fin 10768) (h : D.val = 3072 + k.val) : val_main_v19 (F := Ideal) x0 x1 x2 (ix2 R k) = el x0 x1 x2 R D := by
  rw [show D = ⟨3072 + k.val, by omega⟩ from Fin.ext h]
  refine Eq.trans ?_ (flat_apply x0 x1 x2 R ⟨3072 + k.val, by omega⟩)
  pointwise [val_main_v19]

theorem part20 (R : Fin 16384) (k : Fin 3072) (D : Fin 10768) (h : D.val = 4608 + k.val) : val_main_v20 (F := Ideal) x0 x1 x2 (ix2 R k) = el x0 x1 x2 R D := by
  rw [show D = ⟨4608 + k.val, by omega⟩ from Fin.ext h]
  refine Eq.trans ?_ (flat_apply x0 x1 x2 R ⟨4608 + k.val, by omega⟩)
  pointwise [val_main_v20]

theorem part21 (R : Fin 16384) (k : Fin 1024) (D : Fin 10768) (h : D.val = 7680 + k.val) : val_main_v21 (F := Ideal) x0 x1 x2 (ix2 R k) = el x0 x1 x2 R D := by
  rw [show D = ⟨7680 + k.val, by omega⟩ from Fin.ext h]
  refine Eq.trans ?_ (flat_apply x0 x1 x2 R ⟨7680 + k.val, by omega⟩)
  pointwise [val_main_v21]

theorem part24 (R : Fin 16384) (k : Fin 2048) (D : Fin 10768) (h : D.val = 8720 + k.val) : val_main_v24 (F := Ideal) x0 x1 x2 (ix2 R k) = el x0 x1 x2 R D := by
  rw [show D = ⟨8720 + k.val, by omega⟩ from Fin.ext h]
  refine Eq.trans ?_ (flat_apply x0 x1 x2 R ⟨8720 + k.val, by omega⟩)
  pointwise [val_main_v24]

theorem part25 (R : Fin 16384) (k : Fin 512) (D : Fin 10768) (h : D.val = 1536 + k.val) : val_main_v25 (F := Ideal) x0 x1 x2 (ix2 R k) = el x0 x1 x2 R D := by
  rw [show D = ⟨1536 + k.val, by omega⟩ from Fin.ext h]
  refine Eq.trans ?_ (flat_apply x0 x1 x2 R ⟨1536 + k.val, by omega⟩)
  pointwise [val_main_v25, val_main_v18]

theorem part26 (R : Fin 16384) (k : Fin 512) (D : Fin 10768) (h : D.val = 3072 + k.val) : val_main_v26 (F := Ideal) x0 x1 x2 (ix2 R k) = el x0 x1 x2 R D := by
  rw [show D = ⟨3072 + k.val, by omega⟩ from Fin.ext h]
  refine Eq.trans ?_ (flat_apply x0 x1 x2 R ⟨3072 + k.val, by omega⟩)
  pointwise [val_main_v26, val_main_v19]

theorem part27 (R : Fin 16384) (k : Fin 512) (D : Fin 10768) (h : D.val = 2048 + k.val) : val_main_v27 (F := Ideal) x0 x1 x2 (ix2 R k) = el x0 x1 x2 R D := by
  rw [show D = ⟨2048 + k.val, by omega⟩ from Fin.ext h]
  refine Eq.trans ?_ (flat_apply x0 x1 x2 R ⟨2048 + k.val, by omega⟩)
  pointwise [val_main_v27, val_main_v18]
  exact congrArg (fun D => val_main_v16 (F := Ideal) x0 x1 x2 (ix2 R D)) (Fin.ext (by show 1536 + (512 + k.val) = 2048 + k.val; omega))

theorem part28 (R : Fin 16384) (k : Fin 512) (D : Fin 10768) (h : D.val = 3584 + k.val) : val_main_v28 (F := Ideal) x0 x1 x2 (ix2 R k) = el x0 x1 x2 R D := by
  rw [show D = ⟨3584 + k.val, by omega⟩ from Fin.ext h]
  refine Eq.trans ?_ (flat_apply x0 x1 x2 R ⟨3584 + k.val, by omega⟩)
  pointwise [val_main_v28, val_main_v19]
  exact congrArg (fun D => val_main_v16 (F := Ideal) x0 x1 x2 (ix2 R D)) (Fin.ext (by show 3072 + (512 + k.val) = 3584 + k.val; omega))

theorem part29 (R : Fin 16384) (k : Fin 512) (D : Fin 10768) (h : D.val = 2560 + k.val) : val_main_v29 (F := Ideal) x0 x1 x2 (ix2 R k) = el x0 x1 x2 R D := by
  rw [show D = ⟨2560 + k.val, by omega⟩ from Fin.ext h]
  refine Eq.trans ?_ (flat_apply x0 x1 x2 R ⟨2560 + k.val, by omega⟩)
  pointwise [val_main_v29, val_main_v18]
  exact congrArg (fun D => val_main_v16 (F := Ideal) x0 x1 x2 (ix2 R D)) (Fin.ext (by show 1536 + (1024 + k.val) = 2560 + k.val; omega))

theorem part30 (R : Fin 16384) (k : Fin 512) (D : Fin 10768) (h : D.val = 4096 + k.val) : val_main_v30 (F := Ideal) x0 x1 x2 (ix2 R k) = el x0 x1 x2 R D := by
  rw [show D = ⟨4096 + k.val, by omega⟩ from Fin.ext h]
  refine Eq.trans ?_ (flat_apply x0 x1 x2 R ⟨4096 + k.val, by omega⟩)
  pointwise [val_main_v30, val_main_v19]
  exact congrArg (fun D => val_main_v16 (F := Ideal) x0 x1 x2 (ix2 R D)) (Fin.ext (by show 3072 + (1024 + k.val) = 4096 + k.val; omega))

set_option maxHeartbeats 1000000 in
set_option maxRecDepth 65536 in
/-- The recurrence's part of the projection. -/
theorem b_apply (R : Fin 16384) (C : Fin 6144) (D : Fin 10768) (hD : D.val = Common.colB C.val) :
    val_main_v31 (F := Ideal) x0 x1 x2 (ix2 R C) = el x0 x1 x2 R D := by
  have hC := C.isLt
  unfold Common.colB at hD
  unfold val_main_v31
  by_cases h0 : C.val < 3072
  · refine (concatenate_apply_piece 1 _ _ (ix2 R C) 0 (by simp) S16384x3072 (val_main_v20 (F := Ideal) x0 x1 x2) rfl rfl 0 rfl
      (ix2 R ⟨C.val - 0, by omega⟩) (fun b hb => ?_) ?_).trans ?_
    · match b with
      | ⟨0, _⟩ => rfl
      | ⟨1, _⟩ => exact absurd rfl hb
    · show 0 + (C.val - 0) = C.val
      omega
    · refine part20 x0 x1 x2 R _ D ?_
      show D.val = 4608 + (C.val - 0)
      split_ifs at hD <;> omega
  by_cases h1 : C.val < 4096
  · refine (concatenate_apply_piece 1 _ _ (ix2 R C) 1 (by simp) S16384x1024 (val_main_v21 (F := Ideal) x0 x1 x2) rfl rfl 3072 rfl
      (ix2 R ⟨C.val - 3072, by omega⟩) (fun b hb => ?_) ?_).trans ?_
    · match b with
      | ⟨0, _⟩ => rfl
      | ⟨1, _⟩ => exact absurd rfl hb
    · show 3072 + (C.val - 3072) = C.val
      omega
    · refine part21 x0 x1 x2 R _ D ?_
      show D.val = 7680 + (C.val - 3072)
      split_ifs at hD <;> omega
  refine (concatenate_apply_piece 1 _ _ (ix2 R C) 2 (by simp) S16384x2048 (val_main_v24 (F := Ideal) x0 x1 x2) rfl rfl 4096 rfl
    (ix2 R ⟨C.val - 4096, by omega⟩) (fun b hb => ?_) ?_).trans ?_
  · match b with
    | ⟨0, _⟩ => rfl
    | ⟨1, _⟩ => exact absurd rfl hb
  · show 4096 + (C.val - 4096) = C.val
    omega
  · refine part24 x0 x1 x2 R _ D ?_
    show D.val = 8720 + (C.val - 4096)
    split_ifs at hD <;> omega

set_option maxHeartbeats 1000000 in
set_option maxRecDepth 65536 in
/-- The attention's part of the projection. -/
theorem a_apply (R : Fin 16384) (C : Fin 4608) (D : Fin 10768) (hD : D.val = Common.colA C.val) :
    val_main_v33 (F := Ideal) x0 x1 x2 (ix2 R C) = el x0 x1 x2 R D := by
  have hC := C.isLt
  unfold Common.colA at hD
  unfold val_main_v33
  by_cases h0 : C.val < 512
  · refine (concatenate_apply_piece 1 _ _ (ix2 R C) 0 (by simp) S16384x512 (val_main_v25 (F := Ideal) x0 x1 x2) rfl rfl 0 rfl
      (ix2 R ⟨C.val - 0, by omega⟩) (fun b hb => ?_) ?_).trans ?_
    · match b with
      | ⟨0, _⟩ => rfl
      | ⟨1, _⟩ => exact absurd rfl hb
    · show 0 + (C.val - 0) = C.val
      omega
    · refine part25 x0 x1 x2 R _ D ?_
      show D.val = 1536 + (C.val - 0)
      split_ifs at hD <;> omega
  by_cases h1 : C.val < 1024
  · refine (concatenate_apply_piece 1 _ _ (ix2 R C) 1 (by simp) S16384x512 (val_main_v26 (F := Ideal) x0 x1 x2) rfl rfl 512 rfl
      (ix2 R ⟨C.val - 512, by omega⟩) (fun b hb => ?_) ?_).trans ?_
    · match b with
      | ⟨0, _⟩ => rfl
      | ⟨1, _⟩ => exact absurd rfl hb
    · show 512 + (C.val - 512) = C.val
      omega
    · refine part26 x0 x1 x2 R _ D ?_
      show D.val = 3072 + (C.val - 512)
      split_ifs at hD <;> omega
  by_cases h2 : C.val < 1536
  · refine (concatenate_apply_piece 1 _ _ (ix2 R C) 2 (by simp) S16384x512 (val_main_v27 (F := Ideal) x0 x1 x2) rfl rfl 1024 rfl
      (ix2 R ⟨C.val - 1024, by omega⟩) (fun b hb => ?_) ?_).trans ?_
    · match b with
      | ⟨0, _⟩ => rfl
      | ⟨1, _⟩ => exact absurd rfl hb
    · show 1024 + (C.val - 1024) = C.val
      omega
    · refine part27 x0 x1 x2 R _ D ?_
      show D.val = 2048 + (C.val - 1024)
      split_ifs at hD <;> omega
  by_cases h3 : C.val < 2048
  · refine (concatenate_apply_piece 1 _ _ (ix2 R C) 3 (by simp) S16384x512 (val_main_v28 (F := Ideal) x0 x1 x2) rfl rfl 1536 rfl
      (ix2 R ⟨C.val - 1536, by omega⟩) (fun b hb => ?_) ?_).trans ?_
    · match b with
      | ⟨0, _⟩ => rfl
      | ⟨1, _⟩ => exact absurd rfl hb
    · show 1536 + (C.val - 1536) = C.val
      omega
    · refine part28 x0 x1 x2 R _ D ?_
      show D.val = 3584 + (C.val - 1536)
      split_ifs at hD <;> omega
  by_cases h4 : C.val < 2560
  · refine (concatenate_apply_piece 1 _ _ (ix2 R C) 4 (by simp) S16384x512 (val_main_v29 (F := Ideal) x0 x1 x2) rfl rfl 2048 rfl
      (ix2 R ⟨C.val - 2048, by omega⟩) (fun b hb => ?_) ?_).trans ?_
    · match b with
      | ⟨0, _⟩ => rfl
      | ⟨1, _⟩ => exact absurd rfl hb
    · show 2048 + (C.val - 2048) = C.val
      omega
    · refine part29 x0 x1 x2 R _ D ?_
      show D.val = 2560 + (C.val - 2048)
      split_ifs at hD <;> omega
  by_cases h5 : C.val < 3072
  · refine (concatenate_apply_piece 1 _ _ (ix2 R C) 5 (by simp) S16384x512 (val_main_v30 (F := Ideal) x0 x1 x2) rfl rfl 2560 rfl
      (ix2 R ⟨C.val - 2560, by omega⟩) (fun b hb => ?_) ?_).trans ?_
    · match b with
      | ⟨0, _⟩ => rfl
      | ⟨1, _⟩ => exact absurd rfl hb
    · show 2560 + (C.val - 2560) = C.val
      omega
    · refine part30 x0 x1 x2 R _ D ?_
      show D.val = 4096 + (C.val - 2560)
      split_ifs at hD <;> omega
  refine (concatenate_apply_piece 1 _ _ (ix2 R C) 6 (by simp) S16384x1536 (val_main_v17 (F := Ideal) x0 x1 x2) rfl rfl 3072 rfl
    (ix2 R ⟨C.val - 3072, by omega⟩) (fun b hb => ?_) ?_).trans ?_
  · match b with
    | ⟨0, _⟩ => rfl
    | ⟨1, _⟩ => exact absurd rfl hb
  · show 3072 + (C.val - 3072) = C.val
    omega
  · refine part17 x0 x1 x2 R _ D ?_
    show D.val = 0 + (C.val - 3072)
    split_ifs at hD <;> omega

/-- The narrowed part is the part. -/
theorem bn_apply (R : Fin 16384) (C : Fin 6144) (D : Fin 10768) (hD : D.val = Common.colB C.val) :
    val_main_v32 (F := Ideal) x0 x1 x2 (ix2 R C) = el x0 x1 x2 R D :=
  b_apply x0 x1 x2 R C D hD

/-- The last eight rows of every 2048. -/
theorem tail_apply (q : Fin 64) (k : Fin 3072) (R : Fin 16384) (D : Fin 10768) (hR : R.val = q.val / 8 * 2048 + (2040 + q.val % 8)) (hD : D.val = 4608 + k.val) :
    val_main_v36 (F := Ideal) x0 x1 x2 (ix2 q k) = el x0 x1 x2 R D := by
  refine Eq.trans ?_ (part20 x0 x1 x2 R k D hD)
  rw [val_main_v36_apply, val_main_v35_apply, val_main_v34_apply]
  congr 1
  have hq := q.isLt
  have hk := k.isLt
  funext a
  apply Fin.ext
  match a with
  | ⟨0, _⟩ =>
    show (((q.val * 3072 + k.val) / 24576 * 2048 + (2040 + (q.val * 3072 + k.val) / 3072 % 8)) * 3072 + (q.val * 3072 + k.val) % 3072) / 3072 = R.val
    omega
  | ⟨1, _⟩ =>
    show (((q.val * 3072 + k.val) / 24576 * 2048 + (2040 + (q.val * 3072 + k.val) / 3072 % 8)) * 3072 + (q.val * 3072 + k.val) % 3072) % 3072 = k.val
    omega

end Cert.InprojRefIdeal.Rows

end
-- ==== Proof.Inproj.Claims.lean ====
/- The claims about the input projection: the kernel's three results that later calls take and the reference's are, element by
   element, the same products of the same arguments (`Body.out_eq`, `Rows.b_apply`, `Rows.a_apply`, `Rows.tail_apply`). -/
module

public import proofs.«01_k».proof.Defs
public import proofs.«01_k».proof.Proof.Inproj.Kernel
public import proofs.«01_k».proof.Proof.Inproj.Ref
public import proofs.«01_k».proof.Proof.Gen.Inproj
public import Idealize.ShloMosaic.Lib.Quiescent

@[expose] public section

noncomputable section

namespace Cert.Proof.Inproj

open Idealize.ShloMosaic Idealize.ShloMosaic.TcCoe Idealize.SL.Sem
open Cert.InprojIdeal Cert.InprojIdeal.Gen Cert.InprojIdeal.Body

/-- The two printings' bodies are one table: the labels are one, and there the functions' texts are the same. -/
theorem bodies_eq : Cert.Inproj.defs₀ (F := Bits) = Cert.InprojIdeal.defs₀ (F := Bits) := by
  unfold Cert.Inproj.defs₀ Cert.InprojIdeal.defs₀
  refine congrArg Defs.onTc ?_
  funext l x
  obtain rfl : l = 0 := Subsingleton.elim _ _
  rfl

theorem defs_eq : Cert.Inproj.defs (F := Bits) = Cert.InprojIdeal.defs (F := Bits) :=
  congrArg (Pipeline.defs (Cert.InprojIdeal.pcfgs (F := Bits))) bodies_eq

theorem main_eq : Cert.Inproj.main (F := Bits) = Cert.InprojIdeal.main (F := Bits) := by
  unfold Cert.Inproj.main Cert.InprojIdeal.main
  rfl

/-- The bit-exact program's frame, from the ideal printing's at the bit-exact instance. -/
theorem frame_kernel : Cert.quiescent_Inproj := fun m ρ _ => by
  have h := Cert.InprojIdeal.Body.frame (F := Bits) m ρ
  rw [← defs_eq, ← main_eq] at h
  exact h

theorem frame_ideal : Cert.quiescent_InprojIdeal := fun m ρ _ => Cert.InprojIdeal.Body.frame (F := Ideal) m ρ

theorem frame_ref_ideal : Cert.quiescent_InprojRefIdeal := fun m ρ _ =>
  (θ_run Cert.InprojRefIdeal.defs _ _).mono (fun r h => ⟨fun c => (h c).2.2.2, sem_eq_zero_of_no_sems (by decide) r.2⟩)
    (Cert.InprojRefIdeal.Value.run (F := Ideal) m ρ)

variable (m : (ℓ : Loc nD τ sig) → Buf (Elt Ideal) ℓ) (c : Dev nD)

theorem result_b : Cert.InprojRefIdeal.Read.val_main_v32 (F := Ideal) (m ((c.tc : Thread nD τ).loc main_arg0)) (m ((c.tc : Thread nD τ).loc main_arg1)) (m ((c.tc : Thread nD τ).loc main_arg2))
    = G4 m c := by
  funext (i : S16384x6144.Idx)
  obtain ⟨R, k, rfl⟩ : ∃ (R : Fin 16384) (k : Fin 6144), i = ix2 R k := ⟨i 0, i 1, eq_ix2 i⟩
  have hk := k.isLt
  refine (Cert.InprojRefIdeal.Rows.bn_apply _ _ _ R k ⟨Common.colB k.val, by unfold Common.colB; split_ifs <;> omega⟩ rfl).trans (out_eq m c R ⟨k.val, by omega⟩ _ ?_).symm
  show Common.colB k.val = Common.col k.val
  unfold Common.col
  rw [if_pos hk]

theorem result_a : Cert.InprojRefIdeal.Read.val_main_v33 (F := Ideal) (m ((c.tc : Thread nD τ).loc main_arg0)) (m ((c.tc : Thread nD τ).loc main_arg1)) (m ((c.tc : Thread nD τ).loc main_arg2))
    = G5 m c := by
  funext (i : S16384x4608.Idx)
  obtain ⟨R, k, rfl⟩ : ∃ (R : Fin 16384) (k : Fin 4608), i = ix2 R k := ⟨i 0, i 1, eq_ix2 i⟩
  have hk := k.isLt
  refine (Cert.InprojRefIdeal.Rows.a_apply _ _ _ R k ⟨Common.colA k.val, by unfold Common.colA; split_ifs <;> omega⟩ rfl).trans (out_eq m c R ⟨6144 + k.val, by omega⟩ _ ?_).symm
  show Common.colA k.val = Common.col (6144 + k.val)
  unfold Common.col
  rw [if_neg (by omega), Nat.add_sub_cancel_left]

theorem result_tail : Cert.InprojRefIdeal.Read.val_main_v36 (F := Ideal) (m ((c.tc : Thread nD τ).loc main_arg0)) (m ((c.tc : Thread nD τ).loc main_arg1)) (m ((c.tc : Thread nD τ).loc main_arg2))
    = G7 m c := by
  funext (i : S64x3072.Idx)
  obtain ⟨q, k, rfl⟩ : ∃ (q : Fin 64) (k : Fin 3072), i = ix2 q k := ⟨i 0, i 1, eq_ix2 i⟩
  have hq := q.isLt
  have hk := k.isLt
  refine (Cert.InprojRefIdeal.Rows.tail_apply _ _ _ q k ⟨q.val / 8 * 2048 + (2040 + q.val % 8), by omega⟩ ⟨4608 + k.val, by omega⟩ rfl rfl).trans
    (out_eq m c _ ⟨k.val, by omega⟩ _ ?_).symm
  show 4608 + k.val = Common.col k.val
  unfold Common.col Common.colB
  rw [if_pos (by omega), if_pos (by omega)]

/-- The kernel's run, with its three results. -/
theorem run (ρ : Dev nD → PrngReg) : θ_run defs (onTc (τ := τ) (main (F := Ideal))) ⟨m, fun _ => 0, ρ⟩ (fun r => ∀ c : Dev nD,
    r.2.mem ((c.tc : Thread nD τ).loc main_v25_0) = G4 m c
    ∧ r.2.mem ((c.tc : Thread nD τ).loc main_v25_1) = G5 m c
    ∧ r.2.mem ((c.tc : Thread nD τ).loc main_v25_3) = G7 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (θ_run_and (run_quiescent (F := Ideal) m ρ) (Cert.InprojIdeal.Body.frame (F := Ideal) m ρ))
  obtain ⟨⟨hp, _⟩, hf, _⟩ := h
  exact ⟨((hp c).1 4).trans (final4 m c), ((hp c).1 5).trans (final5 m c), ((hp c).1 7).trans (final7 m c), (hf c).1, (hf c).2.1, (hf c).2.2⟩

/-- The kernel computes the reference's values. -/
theorem algebraic : Cert.algebraic_InprojIdeal_InprojRefIdeal := by
  intro m ρ m' ρ' _ hagree
  refine ⟨fun c => G4 m c, fun c => G5 m c, fun c => G7 m c, run m ρ, ?_⟩
  refine (θ_run Cert.InprojRefIdeal.defs _ _).mono (fun _ h c => ⟨(h c).1.trans ?_, (h c).2.1.trans ?_, (h c).2.2.1.trans ?_, (h c).2.2.2⟩) (Cert.InprojRefIdeal.Value.run (F := Ideal) m' ρ')
  · rw [Cert.InprojRefIdeal.Read.val_main_v32_eq]
    obtain ⟨e0, e1, e2⟩ := hagree c
    rw [e0, e1, e2]
    exact result_b m c
  · rw [Cert.InprojRefIdeal.Read.val_main_v33_eq]
    obtain ⟨e0, e1, e2⟩ := hagree c
    rw [e0, e1, e2]
    exact result_a m c
  · rw [Cert.InprojRefIdeal.Read.val_main_v36_eq]
    obtain ⟨e0, e1, e2⟩ := hagree c
    rw [e0, e1, e2]
    exact result_tail m c

end Cert.Proof.Inproj

end
-- ==== Proof.Attn.Rows.lean ====
/- What one point of the decoding step's attention call leaves in its three blocks of kept rows: row `k` is lanes
   `k % 8 * 128` and on of row `k / 8` of the block it reads, in the group's columns. -/
module

public import proofs.«01_k».proof.Proof.Gen.AttnIdeal.Value
public import Idealize.ShloMosaic.Lib.Pipeline.ValueKit.Geometry
public import Idealize.ShloMosaic.Lib.Pipeline.ValueKit.Acc
public import Idealize.ShloMosaic.Lib.Pointwise
public import Idealize.ShloMosaic.Lib.Writes

@[expose] public section

set_option maxRecDepth 16384
set_option maxHeartbeats 1000000

noncomputable section

namespace Cert.AttnIdeal.Body

open Cert.AttnIdeal Cert.AttnIdeal.Gen Idealize.ShloMosaic Idealize.ShloMosaic.TcCoe Idealize.SL.Sem

/-- A row placed in every sublane. -/
def spread (r : Vec Ideal S1x128 .f32) : FVec Ideal S8x128 .f32 :=
  broadcastTo S8x128 (shapeCast S1x128 (shapeCast S1x128 r shapeCasts_S1x128_S1x128 : FVec Ideal S1x128 .f32) shapeCasts_S1x128_S1x128 : FVec Ideal S1x128 .f32) broadcasts_S1x128_S8x128

/-- Which elements lie in sublane `n`. -/
def inSub (n : BitVec 32) : IVec S8x128 1 := cmpi .eq (iota .tc S8x128 32 [0] iota_S8x128_d0_w32) (broadcast S8x128 n)

/-- Eight rows, one per sublane. -/
def pick (r0 r1 r2 r3 r4 r5 r6 r7 : Vec Ideal S1x128 .f32) : FVec Ideal S8x128 .f32 :=
  select (inSub 7#32) (spread r7) (select (inSub 6#32) (spread r6) (select (inSub 5#32) (spread r5) (select (inSub 4#32) (spread r4)
    (select (inSub 3#32) (spread r3) (select (inSub 2#32) (spread r2) (select (inSub 1#32) (spread r1) (select (inSub 0#32) (spread r0)
      (broadcast S8x128 (Scalar.ofBits (F := Ideal) .f32 0x00000000#32)))))))))

theorem spread_apply (r : Vec Ideal S1x128 .f32) (i : Fin 8) (e : Fin 128) : spread r (ix2 i e) = r (ix2 0 e) := by
  unfold spread
  pointwise

theorem inSub_apply (n : BitVec 32) (i : Fin 8) (e : Fin 128) : inSub n (ix2 i e) = BitVec.ofBool (BitVec.ofNat 32 i.val == n) := by
  unfold inSub
  pointwise
  try rfl

theorem select_at (c : IVec S8x128 1) (a b : FVec Ideal S8x128 .f32) (y : S8x128.Idx) : select c a b y = Scalar.select (c y) (a y) (b y) := rfl

theorem pick_apply (r0 r1 r2 r3 r4 r5 r6 r7 : Vec Ideal S1x128 .f32) (f : Fin 8 → Fin 128 → EReal)
    (h0 : ∀ e, r0 (ix2 0 e) = f 0 e) (h1 : ∀ e, r1 (ix2 0 e) = f 1 e) (h2 : ∀ e, r2 (ix2 0 e) = f 2 e) (h3 : ∀ e, r3 (ix2 0 e) = f 3 e)
    (h4 : ∀ e, r4 (ix2 0 e) = f 4 e) (h5 : ∀ e, r5 (ix2 0 e) = f 5 e) (h6 : ∀ e, r6 (ix2 0 e) = f 6 e) (h7 : ∀ e, r7 (ix2 0 e) = f 7 e)
    (i : Fin 8) (e : Fin 128) : pick r0 r1 r2 r3 r4 r5 r6 r7 (ix2 i e) = f i e := by
  unfold pick
  simp only [select_at, inSub_apply, spread_apply, h0, h1, h2, h3, h4, h5, h6, h7]
  fin_cases i <;> rfl

/-- A stretch of a row, loaded. -/
theorem ld_row (X : Vec Ideal S16x3072 .f32) (t o : ℕ) (inb : ∀ a, (![t, o] : Fin S16x3072.rank → ℕ) a + (![1, 128] : Fin S16x3072.rank → ℕ) a ≤ S16x3072.size a) (e : Fin 128)
    (y : S16x3072.Idx) (h0 : (y 0).val = t) (h1 : (y 1).val = o + e.val) :
    (View.ld X (Rect.unit ![t, o] ![1, 128] inb) : Vec Ideal S1x128 .f32) (ix2 0 e) = X y := by
  show X _ = X y
  congr 1
  funext a
  apply Fin.ext
  match a with
  | ⟨0, _⟩ => exact (show t + 1 * 0 = (y 0).val by omega)
  | ⟨1, _⟩ => exact (show o + 1 * e.val = (y 1).val by omega)

/-- Where row `k`, lane `e` of group 0 is read. -/
def at0 (k e : Fin 128) : S16x3072.Idx := ix2 ⟨k.val / 8, by omega⟩ ⟨0 + k.val % 8 * 128 + e.val, by omega⟩

/-- The rows of group 0. -/
def rows0 (X : Vec Ideal S16x3072 .f32) : Vec Ideal S128x128 .f32 := fun y => X (at0 (y 0) (y 1))

/-- Eight stretches of row `t`, one per sublane, are the group's rows `8 t` and on. -/
theorem tile0 (X : Vec Ideal S16x3072 .f32) (t : ℕ) (ht : t < 16)
    (hr : ∀ c : Fin 8, ∀ a, (![t, 0 + c.val * 128] : Fin S16x3072.rank → ℕ) a + (![1, 128] : Fin S16x3072.rank → ℕ) a ≤ S16x3072.size a)
    (inb : ∀ a, (![8 * t, 0] : Fin S128x128.rank → ℕ) a + (![8, 128] : Fin S128x128.rank → ℕ) a ≤ S128x128.size a) (x : S8x128.Idx) :
    pick (View.ld X (Rect.unit ![t, 0 + (0 : Fin 8).val * 128] ![1, 128] (hr 0))) (View.ld X (Rect.unit ![t, 0 + (1 : Fin 8).val * 128] ![1, 128] (hr 1)))
      (View.ld X (Rect.unit ![t, 0 + (2 : Fin 8).val * 128] ![1, 128] (hr 2))) (View.ld X (Rect.unit ![t, 0 + (3 : Fin 8).val * 128] ![1, 128] (hr 3)))
      (View.ld X (Rect.unit ![t, 0 + (4 : Fin 8).val * 128] ![1, 128] (hr 4))) (View.ld X (Rect.unit ![t, 0 + (5 : Fin 8).val * 128] ![1, 128] (hr 5)))
      (View.ld X (Rect.unit ![t, 0 + (6 : Fin 8).val * 128] ![1, 128] (hr 6))) (View.ld X (Rect.unit ![t, 0 + (7 : Fin 8).val * 128] ![1, 128] (hr 7))) x
      = rows0 X ((Rect.unit ![8 * t, 0] ![8, 128] inb : Rect S128x128).emb x) := by
  obtain ⟨i, e, rfl⟩ : ∃ (i : Fin 8) (e : Fin 128), x = ix2 i e := ⟨x 0, x 1, eq_ix2 x⟩
  have row : ∀ (c : Fin 8) (e : Fin 128), (View.ld X (Rect.unit ![t, 0 + c.val * 128] ![1, 128] (hr c)) : Vec Ideal S1x128 .f32) (ix2 0 e)
      = X (at0 ⟨8 * t + c.val, by omega⟩ e) := fun c e =>
    ld_row X _ _ _ e _ (by show (8 * t + c.val) / 8 = t; omega) (by show 0 + (8 * t + c.val) % 8 * 128 + e.val = 0 + c.val * 128 + e.val; omega)
  refine (pick_apply _ _ _ _ _ _ _ _ (fun c e => X (at0 ⟨8 * t + c.val, by omega⟩ e)) (row 0) (row 1) (row 2) (row 3) (row 4) (row 5) (row 6) (row 7) i e).trans ?_
  show X (at0 ⟨8 * t + i.val, by omega⟩ e) = X (at0 _ _)
  refine congrArg₂ (fun k e => X (at0 k e)) (Fin.ext ?_) (Fin.ext ?_)
  · show 8 * t + i.val = 8 * t + 1 * i.val
    omega
  · show e.val = 0 + 1 * e.val
    omega

theorem out7_rows (c : Dev nD) (i : grid0.Coords) (arg1 : Memref sig .tc .smem S12 .f32) (harg1 : arg1.IsWhole) (arg2 : Memref sig .tc .vmem S16x1536 .f32) (harg2 : arg2.IsWhole) (arg3 : Memref sig .tc .vmem S16x3072 .f32) (harg3 : arg3.IsWhole) (arg4 : Memref sig .tc .vmem S4x128x1x8x128 .f32) (harg4 : arg4.IsWhole) (arg5 : Memref sig .tc .vmem S4x128x4x8x128 .f32) (harg5 : arg5.IsWhole) (arg6 : Memref sig .tc .vmem S4x128x4x8x128 .f32) (harg6 : arg6.IsWhole) (arg7 : Memref sig .tc .vmem S16x512 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole)
    (x0 : Vec Ideal S12 .f32) (x1 : Vec Ideal S16x1536 .f32) (x2 : Vec Ideal S16x3072 .f32) (x3 : Vec Ideal S4x128x1x8x128 .f32) (x4 : Vec Ideal S4x128x4x8x128 .f32) (x5 : Vec Ideal S4x128x4x8x128 .f32) (y : S128x128.Idx) :
    out0_A_7 c i arg1 harg1 arg2 harg2 arg3 harg3 arg4 harg4 arg5 harg5 arg6 harg6 arg7 harg7 arg8 harg8 arg9 harg9 arg10 harg10 x0 x1 x2 x3 x4 x5 y = rows0 x2 y := by
  unfold out0_A_7
  refine View.read_writes_apply_of_pieces VO0_7 _ (rows0 x2) _ ?_ y (cover0_A_7 c i arg1 harg1 arg2 harg2 arg3 harg3 arg4 harg4 arg5 harg5 arg6 harg6 arg7 harg7 arg8 harg8 arg9 harg9 arg10 harg10 x0 x1 x2 x3 x4 x5 y)
  frame_out
  simp only [List.forall_mem_cons]
  refine ⟨fun x => tile0 x2 15 (by decide) (by decide) (by decide) x, fun x => tile0 x2 14 (by decide) (by decide) (by decide) x, fun x => tile0 x2 13 (by decide) (by decide) (by decide) x, fun x => tile0 x2 12 (by decide) (by decide) (by decide) x, fun x => tile0 x2 11 (by decide) (by decide) (by decide) x, fun x => tile0 x2 10 (by decide) (by decide) (by decide) x, fun x => tile0 x2 9 (by decide) (by decide) (by decide) x, fun x => tile0 x2 8 (by decide) (by decide) (by decide) x, fun x => tile0 x2 7 (by decide) (by decide) (by decide) x, fun x => tile0 x2 6 (by decide) (by decide) (by decide) x, fun x => tile0 x2 5 (by decide) (by decide) (by decide) x, fun x => tile0 x2 4 (by decide) (by decide) (by decide) x, fun x => tile0 x2 3 (by decide) (by decide) (by decide) x, fun x => tile0 x2 2 (by decide) (by decide) (by decide) x, fun x => tile0 x2 1 (by decide) (by decide) (by decide) x, fun x => tile0 x2 0 (by decide) (by decide) (by decide) x, fun p h => absurd h List.not_mem_nil⟩

theorem out7_apply (c : Dev nD) (i : grid0.Coords) (arg1 : Memref sig .tc .smem S12 .f32) (harg1 : arg1.IsWhole) (arg2 : Memref sig .tc .vmem S16x1536 .f32) (harg2 : arg2.IsWhole) (arg3 : Memref sig .tc .vmem S16x3072 .f32) (harg3 : arg3.IsWhole) (arg4 : Memref sig .tc .vmem S4x128x1x8x128 .f32) (harg4 : arg4.IsWhole) (arg5 : Memref sig .tc .vmem S4x128x4x8x128 .f32) (harg5 : arg5.IsWhole) (arg6 : Memref sig .tc .vmem S4x128x4x8x128 .f32) (harg6 : arg6.IsWhole) (arg7 : Memref sig .tc .vmem S16x512 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole)
    (x0 : Vec Ideal S12 .f32) (x1 : Vec Ideal S16x1536 .f32) (x2 : Vec Ideal S16x3072 .f32) (x3 : Vec Ideal S4x128x1x8x128 .f32) (x4 : Vec Ideal S4x128x4x8x128 .f32) (x5 : Vec Ideal S4x128x4x8x128 .f32) (k e : Fin 128) :
    out0_A_7 c i arg1 harg1 arg2 harg2 arg3 harg3 arg4 harg4 arg5 harg5 arg6 harg6 arg7 harg7 arg8 harg8 arg9 harg9 arg10 harg10 x0 x1 x2 x3 x4 x5 (ix2 k e) = x2 (at0 k e) :=
  out7_rows c i arg1 harg1 arg2 harg2 arg3 harg3 arg4 harg4 arg5 harg5 arg6 harg6 arg7 harg7 arg8 harg8 arg9 harg9 arg10 harg10 x0 x1 x2 x3 x4 x5 (ix2 k e)

/-- Where row `k`, lane `e` of group 1 is read. -/
def at1 (k e : Fin 128) : S16x3072.Idx := ix2 ⟨k.val / 8, by omega⟩ ⟨1024 + k.val % 8 * 128 + e.val, by omega⟩

/-- The rows of group 1. -/
def rows1 (X : Vec Ideal S16x3072 .f32) : Vec Ideal S128x128 .f32 := fun y => X (at1 (y 0) (y 1))

/-- Eight stretches of row `t`, one per sublane, are the group's rows `8 t` and on. -/
theorem tile1 (X : Vec Ideal S16x3072 .f32) (t : ℕ) (ht : t < 16)
    (hr : ∀ c : Fin 8, ∀ a, (![t, 1024 + c.val * 128] : Fin S16x3072.rank → ℕ) a + (![1, 128] : Fin S16x3072.rank → ℕ) a ≤ S16x3072.size a)
    (inb : ∀ a, (![8 * t, 0] : Fin S128x128.rank → ℕ) a + (![8, 128] : Fin S128x128.rank → ℕ) a ≤ S128x128.size a) (x : S8x128.Idx) :
    pick (View.ld X (Rect.unit ![t, 1024 + (0 : Fin 8).val * 128] ![1, 128] (hr 0))) (View.ld X (Rect.unit ![t, 1024 + (1 : Fin 8).val * 128] ![1, 128] (hr 1)))
      (View.ld X (Rect.unit ![t, 1024 + (2 : Fin 8).val * 128] ![1, 128] (hr 2))) (View.ld X (Rect.unit ![t, 1024 + (3 : Fin 8).val * 128] ![1, 128] (hr 3)))
      (View.ld X (Rect.unit ![t, 1024 + (4 : Fin 8).val * 128] ![1, 128] (hr 4))) (View.ld X (Rect.unit ![t, 1024 + (5 : Fin 8).val * 128] ![1, 128] (hr 5)))
      (View.ld X (Rect.unit ![t, 1024 + (6 : Fin 8).val * 128] ![1, 128] (hr 6))) (View.ld X (Rect.unit ![t, 1024 + (7 : Fin 8).val * 128] ![1, 128] (hr 7))) x
      = rows1 X ((Rect.unit ![8 * t, 0] ![8, 128] inb : Rect S128x128).emb x) := by
  obtain ⟨i, e, rfl⟩ : ∃ (i : Fin 8) (e : Fin 128), x = ix2 i e := ⟨x 0, x 1, eq_ix2 x⟩
  have row : ∀ (c : Fin 8) (e : Fin 128), (View.ld X (Rect.unit ![t, 1024 + c.val * 128] ![1, 128] (hr c)) : Vec Ideal S1x128 .f32) (ix2 0 e)
      = X (at1 ⟨8 * t + c.val, by omega⟩ e) := fun c e =>
    ld_row X _ _ _ e _ (by show (8 * t + c.val) / 8 = t; omega) (by show 1024 + (8 * t + c.val) % 8 * 128 + e.val = 1024 + c.val * 128 + e.val; omega)
  refine (pick_apply _ _ _ _ _ _ _ _ (fun c e => X (at1 ⟨8 * t + c.val, by omega⟩ e)) (row 0) (row 1) (row 2) (row 3) (row 4) (row 5) (row 6) (row 7) i e).trans ?_
  show X (at1 ⟨8 * t + i.val, by omega⟩ e) = X (at1 _ _)
  refine congrArg₂ (fun k e => X (at1 k e)) (Fin.ext ?_) (Fin.ext ?_)
  · show 8 * t + i.val = 8 * t + 1 * i.val
    omega
  · show e.val = 0 + 1 * e.val
    omega

theorem out8_rows (c : Dev nD) (i : grid0.Coords) (arg1 : Memref sig .tc .smem S12 .f32) (harg1 : arg1.IsWhole) (arg2 : Memref sig .tc .vmem S16x1536 .f32) (harg2 : arg2.IsWhole) (arg3 : Memref sig .tc .vmem S16x3072 .f32) (harg3 : arg3.IsWhole) (arg4 : Memref sig .tc .vmem S4x128x1x8x128 .f32) (harg4 : arg4.IsWhole) (arg5 : Memref sig .tc .vmem S4x128x4x8x128 .f32) (harg5 : arg5.IsWhole) (arg6 : Memref sig .tc .vmem S4x128x4x8x128 .f32) (harg6 : arg6.IsWhole) (arg7 : Memref sig .tc .vmem S16x512 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole)
    (x0 : Vec Ideal S12 .f32) (x1 : Vec Ideal S16x1536 .f32) (x2 : Vec Ideal S16x3072 .f32) (x3 : Vec Ideal S4x128x1x8x128 .f32) (x4 : Vec Ideal S4x128x4x8x128 .f32) (x5 : Vec Ideal S4x128x4x8x128 .f32) (y : S128x128.Idx) :
    out0_A_8 c i arg1 harg1 arg2 harg2 arg3 harg3 arg4 harg4 arg5 harg5 arg6 harg6 arg7 harg7 arg8 harg8 arg9 harg9 arg10 harg10 x0 x1 x2 x3 x4 x5 y = rows1 x2 y := by
  unfold out0_A_8
  refine View.read_writes_apply_of_pieces VO0_8 _ (rows1 x2) _ ?_ y (cover0_A_8 c i arg1 harg1 arg2 harg2 arg3 harg3 arg4 harg4 arg5 harg5 arg6 harg6 arg7 harg7 arg8 harg8 arg9 harg9 arg10 harg10 x0 x1 x2 x3 x4 x5 y)
  frame_out
  simp only [List.forall_mem_cons]
  refine ⟨fun x => tile1 x2 15 (by decide) (by decide) (by decide) x, fun x => tile1 x2 14 (by decide) (by decide) (by decide) x, fun x => tile1 x2 13 (by decide) (by decide) (by decide) x, fun x => tile1 x2 12 (by decide) (by decide) (by decide) x, fun x => tile1 x2 11 (by decide) (by decide) (by decide) x, fun x => tile1 x2 10 (by decide) (by decide) (by decide) x, fun x => tile1 x2 9 (by decide) (by decide) (by decide) x, fun x => tile1 x2 8 (by decide) (by decide) (by decide) x, fun x => tile1 x2 7 (by decide) (by decide) (by decide) x, fun x => tile1 x2 6 (by decide) (by decide) (by decide) x, fun x => tile1 x2 5 (by decide) (by decide) (by decide) x, fun x => tile1 x2 4 (by decide) (by decide) (by decide) x, fun x => tile1 x2 3 (by decide) (by decide) (by decide) x, fun x => tile1 x2 2 (by decide) (by decide) (by decide) x, fun x => tile1 x2 1 (by decide) (by decide) (by decide) x, fun x => tile1 x2 0 (by decide) (by decide) (by decide) x, fun p h => absurd h List.not_mem_nil⟩

theorem out8_apply (c : Dev nD) (i : grid0.Coords) (arg1 : Memref sig .tc .smem S12 .f32) (harg1 : arg1.IsWhole) (arg2 : Memref sig .tc .vmem S16x1536 .f32) (harg2 : arg2.IsWhole) (arg3 : Memref sig .tc .vmem S16x3072 .f32) (harg3 : arg3.IsWhole) (arg4 : Memref sig .tc .vmem S4x128x1x8x128 .f32) (harg4 : arg4.IsWhole) (arg5 : Memref sig .tc .vmem S4x128x4x8x128 .f32) (harg5 : arg5.IsWhole) (arg6 : Memref sig .tc .vmem S4x128x4x8x128 .f32) (harg6 : arg6.IsWhole) (arg7 : Memref sig .tc .vmem S16x512 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole)
    (x0 : Vec Ideal S12 .f32) (x1 : Vec Ideal S16x1536 .f32) (x2 : Vec Ideal S16x3072 .f32) (x3 : Vec Ideal S4x128x1x8x128 .f32) (x4 : Vec Ideal S4x128x4x8x128 .f32) (x5 : Vec Ideal S4x128x4x8x128 .f32) (k e : Fin 128) :
    out0_A_8 c i arg1 harg1 arg2 harg2 arg3 harg3 arg4 harg4 arg5 harg5 arg6 harg6 arg7 harg7 arg8 harg8 arg9 harg9 arg10 harg10 x0 x1 x2 x3 x4 x5 (ix2 k e) = x2 (at1 k e) :=
  out8_rows c i arg1 harg1 arg2 harg2 arg3 harg3 arg4 harg4 arg5 harg5 arg6 harg6 arg7 harg7 arg8 harg8 arg9 harg9 arg10 harg10 x0 x1 x2 x3 x4 x5 (ix2 k e)

/-- Where row `k`, lane `e` of group 2 is read. -/
def at2 (k e : Fin 128) : S16x3072.Idx := ix2 ⟨k.val / 8, by omega⟩ ⟨2048 + k.val % 8 * 128 + e.val, by omega⟩

/-- The rows of group 2. -/
def rows2 (X : Vec Ideal S16x3072 .f32) : Vec Ideal S128x128 .f32 := fun y => X (at2 (y 0) (y 1))

/-- Eight stretches of row `t`, one per sublane, are the group's rows `8 t` and on. -/
theorem tile2 (X : Vec Ideal S16x3072 .f32) (t : ℕ) (ht : t < 16)
    (hr : ∀ c : Fin 8, ∀ a, (![t, 2048 + c.val * 128] : Fin S16x3072.rank → ℕ) a + (![1, 128] : Fin S16x3072.rank → ℕ) a ≤ S16x3072.size a)
    (inb : ∀ a, (![8 * t, 0] : Fin S128x128.rank → ℕ) a + (![8, 128] : Fin S128x128.rank → ℕ) a ≤ S128x128.size a) (x : S8x128.Idx) :
    pick (View.ld X (Rect.unit ![t, 2048 + (0 : Fin 8).val * 128] ![1, 128] (hr 0))) (View.ld X (Rect.unit ![t, 2048 + (1 : Fin 8).val * 128] ![1, 128] (hr 1)))
      (View.ld X (Rect.unit ![t, 2048 + (2 : Fin 8).val * 128] ![1, 128] (hr 2))) (View.ld X (Rect.unit ![t, 2048 + (3 : Fin 8).val * 128] ![1, 128] (hr 3)))
      (View.ld X (Rect.unit ![t, 2048 + (4 : Fin 8).val * 128] ![1, 128] (hr 4))) (View.ld X (Rect.unit ![t, 2048 + (5 : Fin 8).val * 128] ![1, 128] (hr 5)))
      (View.ld X (Rect.unit ![t, 2048 + (6 : Fin 8).val * 128] ![1, 128] (hr 6))) (View.ld X (Rect.unit ![t, 2048 + (7 : Fin 8).val * 128] ![1, 128] (hr 7))) x
      = rows2 X ((Rect.unit ![8 * t, 0] ![8, 128] inb : Rect S128x128).emb x) := by
  obtain ⟨i, e, rfl⟩ : ∃ (i : Fin 8) (e : Fin 128), x = ix2 i e := ⟨x 0, x 1, eq_ix2 x⟩
  have row : ∀ (c : Fin 8) (e : Fin 128), (View.ld X (Rect.unit ![t, 2048 + c.val * 128] ![1, 128] (hr c)) : Vec Ideal S1x128 .f32) (ix2 0 e)
      = X (at2 ⟨8 * t + c.val, by omega⟩ e) := fun c e =>
    ld_row X _ _ _ e _ (by show (8 * t + c.val) / 8 = t; omega) (by show 2048 + (8 * t + c.val) % 8 * 128 + e.val = 2048 + c.val * 128 + e.val; omega)
  refine (pick_apply _ _ _ _ _ _ _ _ (fun c e => X (at2 ⟨8 * t + c.val, by omega⟩ e)) (row 0) (row 1) (row 2) (row 3) (row 4) (row 5) (row 6) (row 7) i e).trans ?_
  show X (at2 ⟨8 * t + i.val, by omega⟩ e) = X (at2 _ _)
  refine congrArg₂ (fun k e => X (at2 k e)) (Fin.ext ?_) (Fin.ext ?_)
  · show 8 * t + i.val = 8 * t + 1 * i.val
    omega
  · show e.val = 0 + 1 * e.val
    omega

theorem out9_rows (c : Dev nD) (i : grid0.Coords) (arg1 : Memref sig .tc .smem S12 .f32) (harg1 : arg1.IsWhole) (arg2 : Memref sig .tc .vmem S16x1536 .f32) (harg2 : arg2.IsWhole) (arg3 : Memref sig .tc .vmem S16x3072 .f32) (harg3 : arg3.IsWhole) (arg4 : Memref sig .tc .vmem S4x128x1x8x128 .f32) (harg4 : arg4.IsWhole) (arg5 : Memref sig .tc .vmem S4x128x4x8x128 .f32) (harg5 : arg5.IsWhole) (arg6 : Memref sig .tc .vmem S4x128x4x8x128 .f32) (harg6 : arg6.IsWhole) (arg7 : Memref sig .tc .vmem S16x512 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole)
    (x0 : Vec Ideal S12 .f32) (x1 : Vec Ideal S16x1536 .f32) (x2 : Vec Ideal S16x3072 .f32) (x3 : Vec Ideal S4x128x1x8x128 .f32) (x4 : Vec Ideal S4x128x4x8x128 .f32) (x5 : Vec Ideal S4x128x4x8x128 .f32) (y : S128x128.Idx) :
    out0_A_9 c i arg1 harg1 arg2 harg2 arg3 harg3 arg4 harg4 arg5 harg5 arg6 harg6 arg7 harg7 arg8 harg8 arg9 harg9 arg10 harg10 x0 x1 x2 x3 x4 x5 y = rows2 x2 y := by
  unfold out0_A_9
  refine View.read_writes_apply_of_pieces VO0_9 _ (rows2 x2) _ ?_ y (cover0_A_9 c i arg1 harg1 arg2 harg2 arg3 harg3 arg4 harg4 arg5 harg5 arg6 harg6 arg7 harg7 arg8 harg8 arg9 harg9 arg10 harg10 x0 x1 x2 x3 x4 x5 y)
  frame_out
  simp only [List.forall_mem_cons]
  refine ⟨fun x => tile2 x2 15 (by decide) (by decide) (by decide) x, fun x => tile2 x2 14 (by decide) (by decide) (by decide) x, fun x => tile2 x2 13 (by decide) (by decide) (by decide) x, fun x => tile2 x2 12 (by decide) (by decide) (by decide) x, fun x => tile2 x2 11 (by decide) (by decide) (by decide) x, fun x => tile2 x2 10 (by decide) (by decide) (by decide) x, fun x => tile2 x2 9 (by decide) (by decide) (by decide) x, fun x => tile2 x2 8 (by decide) (by decide) (by decide) x, fun x => tile2 x2 7 (by decide) (by decide) (by decide) x, fun x => tile2 x2 6 (by decide) (by decide) (by decide) x, fun x => tile2 x2 5 (by decide) (by decide) (by decide) x, fun x => tile2 x2 4 (by decide) (by decide) (by decide) x, fun x => tile2 x2 3 (by decide) (by decide) (by decide) x, fun x => tile2 x2 2 (by decide) (by decide) (by decide) x, fun x => tile2 x2 1 (by decide) (by decide) (by decide) x, fun x => tile2 x2 0 (by decide) (by decide) (by decide) x, fun p h => absurd h List.not_mem_nil⟩

theorem out9_apply (c : Dev nD) (i : grid0.Coords) (arg1 : Memref sig .tc .smem S12 .f32) (harg1 : arg1.IsWhole) (arg2 : Memref sig .tc .vmem S16x1536 .f32) (harg2 : arg2.IsWhole) (arg3 : Memref sig .tc .vmem S16x3072 .f32) (harg3 : arg3.IsWhole) (arg4 : Memref sig .tc .vmem S4x128x1x8x128 .f32) (harg4 : arg4.IsWhole) (arg5 : Memref sig .tc .vmem S4x128x4x8x128 .f32) (harg5 : arg5.IsWhole) (arg6 : Memref sig .tc .vmem S4x128x4x8x128 .f32) (harg6 : arg6.IsWhole) (arg7 : Memref sig .tc .vmem S16x512 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole)
    (x0 : Vec Ideal S12 .f32) (x1 : Vec Ideal S16x1536 .f32) (x2 : Vec Ideal S16x3072 .f32) (x3 : Vec Ideal S4x128x1x8x128 .f32) (x4 : Vec Ideal S4x128x4x8x128 .f32) (x5 : Vec Ideal S4x128x4x8x128 .f32) (k e : Fin 128) :
    out0_A_9 c i arg1 harg1 arg2 harg2 arg3 harg3 arg4 harg4 arg5 harg5 arg6 harg6 arg7 harg7 arg8 harg8 arg9 harg9 arg10 harg10 x0 x1 x2 x3 x4 x5 (ix2 k e) = x2 (at2 k e) :=
  out9_rows c i arg1 harg1 arg2 harg2 arg3 harg3 arg4 harg4 arg5 harg5 arg6 harg6 arg7 harg7 arg8 harg8 arg9 harg9 arg10 harg10 x0 x1 x2 x3 x4 x5 (ix2 k e)

end Cert.AttnIdeal.Body

end
-- ==== Proof.Attn.Host.lean ====
/- The array the decoding step's attention call reads its rows from: per row the keys and the values of the three groups,
   512 columns each, and then the queries. -/
module

public import proofs.«01_k».proof.Proof.Gen.AttnIdeal.Launch
public import Idealize.ShloMosaic.Lib.Pipeline.Value
public import Idealize.ShloMosaic.Lib.Pointwise

@[expose] public section

set_option maxRecDepth 16384

noncomputable section

namespace Cert.AttnIdeal.Body

open Cert.AttnIdeal Cert.AttnIdeal.Gen Idealize.ShloMosaic Idealize.ShloMosaic.TcCoe Idealize.SL.Sem

/-- The heads of a row side by side. -/
def flat (x : Vec Ideal S128x4x12x128 .f32) : Vec Ideal S512x1536 .f32 := shapeCast S512x1536 x shapeCasts_S128x4x12x128_S512x1536

theorem flat_apply (x : Vec Ideal S128x4x12x128 .f32) (r : Fin 512) (C : Fin 1536) :
    flat x (ix2 r C) = x (ix4 ⟨r.val / 4, by omega⟩ ⟨r.val % 4, by omega⟩ ⟨C.val / 128, by omega⟩ ⟨C.val % 128, by omega⟩) := by
  have hr := r.isLt
  have hC := C.isLt
  unfold flat
  refine shapeCast_apply x _ _ _ ?_
  rewrite [Shape.rowMajor_val_four, Shape.rowMajor_val_two]
  show ((r.val / 4 * 4 + r.val % 4) * 12 + C.val / 128) * 128 + C.val % 128 = r.val * 1536 + C.val
  omega

def part0 (x : Vec Ideal S128x4x12x128 .f32) : Vec Ideal S512x512 .f32 := extractStridedSlice S512x512 ![0, 0] (flat x) slices_S512x1536_S512x512_0_0

theorem part0_apply (x : Vec Ideal S128x4x12x128 .f32) (r : Fin 512) (k : Fin 512) (H : Fin 12) (hH : H.val = 0 + k.val / 128) :
    part0 x (ix2 r k) = x (ix4 ⟨r.val / 4, by omega⟩ ⟨r.val % 4, by omega⟩ H ⟨k.val % 128, by omega⟩) := by
  unfold part0
  refine (extractStridedSlice_apply ![0, 0] (flat x) slices_S512x1536_S512x512_0_0 (ix2 r k) (ix2 r ⟨0 + k.val, by omega⟩) (fun a => ?_)).trans ?_
  · match a with
    | ⟨0, _⟩ => show r.val = 0 + r.val; omega
    | ⟨1, _⟩ => rfl
  · rw [flat_apply, show H = ⟨(0 + k.val) / 128, by omega⟩ from Fin.ext (by show H.val = (0 + k.val) / 128; omega)]
    exact congrArg (fun e => x (ix4 _ _ _ e)) (Fin.ext (by show (0 + k.val) % 128 = k.val % 128; omega))

def part1 (x : Vec Ideal S128x4x12x128 .f32) : Vec Ideal S512x512 .f32 := extractStridedSlice S512x512 ![0, 512] (flat x) slices_S512x1536_S512x512_0_512

theorem part1_apply (x : Vec Ideal S128x4x12x128 .f32) (r : Fin 512) (k : Fin 512) (H : Fin 12) (hH : H.val = 4 + k.val / 128) :
    part1 x (ix2 r k) = x (ix4 ⟨r.val / 4, by omega⟩ ⟨r.val % 4, by omega⟩ H ⟨k.val % 128, by omega⟩) := by
  unfold part1
  refine (extractStridedSlice_apply ![0, 512] (flat x) slices_S512x1536_S512x512_0_512 (ix2 r k) (ix2 r ⟨512 + k.val, by omega⟩) (fun a => ?_)).trans ?_
  · match a with
    | ⟨0, _⟩ => show r.val = 0 + r.val; omega
    | ⟨1, _⟩ => rfl
  · rw [flat_apply, show H = ⟨(512 + k.val) / 128, by omega⟩ from Fin.ext (by show H.val = (512 + k.val) / 128; omega)]
    exact congrArg (fun e => x (ix4 _ _ _ e)) (Fin.ext (by show (512 + k.val) % 128 = k.val % 128; omega))

def part2 (x : Vec Ideal S128x4x12x128 .f32) : Vec Ideal S512x512 .f32 := extractStridedSlice S512x512 ![0, 1024] (flat x) slices_S512x1536_S512x512_0_1024

theorem part2_apply (x : Vec Ideal S128x4x12x128 .f32) (r : Fin 512) (k : Fin 512) (H : Fin 12) (hH : H.val = 8 + k.val / 128) :
    part2 x (ix2 r k) = x (ix4 ⟨r.val / 4, by omega⟩ ⟨r.val % 4, by omega⟩ H ⟨k.val % 128, by omega⟩) := by
  unfold part2
  refine (extractStridedSlice_apply ![0, 1024] (flat x) slices_S512x1536_S512x512_0_1024 (ix2 r k) (ix2 r ⟨1024 + k.val, by omega⟩) (fun a => ?_)).trans ?_
  · match a with
    | ⟨0, _⟩ => show r.val = 0 + r.val; omega
    | ⟨1, _⟩ => rfl
  · rw [flat_apply, show H = ⟨(1024 + k.val) / 128, by omega⟩ from Fin.ext (by show H.val = (1024 + k.val) / 128; omega)]
    exact congrArg (fun e => x (ix4 _ _ _ e)) (Fin.ext (by show (1024 + k.val) % 128 = k.val % 128; omega))

/-- The parts joined. -/
def joined (q k v : Vec Ideal S128x4x12x128 .f32) : Vec Ideal S512x4608 .f32 :=
  concatenate S512x4608 1 [⟨S512x512, part0 k⟩, ⟨S512x512, part0 v⟩, ⟨S512x512, part1 k⟩, ⟨S512x512, part1 v⟩, ⟨S512x512, part2 k⟩, ⟨S512x512, part2 v⟩, ⟨S512x1536, flat q⟩]
    concatenates_S512x512_S512x512_S512x512_S512x512_S512x512_S512x512_S512x1536_S512x4608_d1

/-- Column `g * 1024 + c * 128 + e` of row `r`: lane `e` of key `c` of group `g`, or of value `c - 4`. -/
def lane (k v : Vec Ideal S128x4x12x128 .f32) (g : Fin 3) (r : Fin 512) (c : Fin 8) (e : Fin 128) : EReal :=
  if c.val < 4 then k (ix4 ⟨r.val / 4, by omega⟩ ⟨r.val % 4, by omega⟩ ⟨g.val * 4 + c.val % 4, by omega⟩ e)
  else v (ix4 ⟨r.val / 4, by omega⟩ ⟨r.val % 4, by omega⟩ ⟨g.val * 4 + c.val % 4, by omega⟩ e)

theorem joined0 (q k v : Vec Ideal S128x4x12x128 .f32) (r : Fin 512) (c : Fin 8) (e : Fin 128) (C : Fin 4608) (hC : C.val = 0 + c.val * 128 + e.val) :
    joined q k v (ix2 r C) = lane k v 0 r c e := by
  have hc := c.isLt
  have he := e.isLt
  unfold joined lane
  split_ifs with h
  · refine (concatenate_apply_piece 1 _ _ (ix2 r C) 0 (by simp) S512x512 (part0 k) rfl rfl 0 rfl
      (ix2 r ⟨C.val - 0, by omega⟩) (fun b hb => ?_) ?_).trans ?_
    · match b with
      | ⟨0, _⟩ => rfl
      | ⟨1, _⟩ => exact absurd rfl hb
    · show 0 + (C.val - 0) = C.val
      omega
    · refine (part0_apply k r _ ⟨0 + c.val % 4, by omega⟩ (by show 0 + c.val % 4 = 0 + (C.val - 0) / 128; omega)).trans ?_
      exact congrArg (fun e => k (ix4 _ _ _ e)) (Fin.ext (by show (C.val - 0) % 128 = e.val; omega))
  · refine (concatenate_apply_piece 1 _ _ (ix2 r C) 1 (by simp) S512x512 (part0 v) rfl rfl 512 rfl
      (ix2 r ⟨C.val - 512, by omega⟩) (fun b hb => ?_) ?_).trans ?_
    · match b with
      | ⟨0, _⟩ => rfl
      | ⟨1, _⟩ => exact absurd rfl hb
    · show 512 + (C.val - 512) = C.val
      omega
    · refine (part0_apply v r _ ⟨0 + c.val % 4, by omega⟩ (by show 0 + c.val % 4 = 0 + (C.val - 512) / 128; omega)).trans ?_
      exact congrArg (fun e => v (ix4 _ _ _ e)) (Fin.ext (by show (C.val - 512) % 128 = e.val; omega))

theorem joined1 (q k v : Vec Ideal S128x4x12x128 .f32) (r : Fin 512) (c : Fin 8) (e : Fin 128) (C : Fin 4608) (hC : C.val = 1024 + c.val * 128 + e.val) :
    joined q k v (ix2 r C) = lane k v 1 r c e := by
  have hc := c.isLt
  have he := e.isLt
  unfold joined lane
  split_ifs with h
  · refine (concatenate_apply_piece 1 _ _ (ix2 r C) 2 (by simp) S512x512 (part1 k) rfl rfl 1024 rfl
      (ix2 r ⟨C.val - 1024, by omega⟩) (fun b hb => ?_) ?_).trans ?_
    · match b with
      | ⟨0, _⟩ => rfl
      | ⟨1, _⟩ => exact absurd rfl hb
    · show 1024 + (C.val - 1024) = C.val
      omega
    · refine (part1_apply k r _ ⟨4 + c.val % 4, by omega⟩ (by show 4 + c.val % 4 = 4 + (C.val - 1024) / 128; omega)).trans ?_
      exact congrArg (fun e => k (ix4 _ _ _ e)) (Fin.ext (by show (C.val - 1024) % 128 = e.val; omega))
  · refine (concatenate_apply_piece 1 _ _ (ix2 r C) 3 (by simp) S512x512 (part1 v) rfl rfl 1536 rfl
      (ix2 r ⟨C.val - 1536, by omega⟩) (fun b hb => ?_) ?_).trans ?_
    · match b with
      | ⟨0, _⟩ => rfl
      | ⟨1, _⟩ => exact absurd rfl hb
    · show 1536 + (C.val - 1536) = C.val
      omega
    · refine (part1_apply v r _ ⟨4 + c.val % 4, by omega⟩ (by show 4 + c.val % 4 = 4 + (C.val - 1536) / 128; omega)).trans ?_
      exact congrArg (fun e => v (ix4 _ _ _ e)) (Fin.ext (by show (C.val - 1536) % 128 = e.val; omega))

theorem joined2 (q k v : Vec Ideal S128x4x12x128 .f32) (r : Fin 512) (c : Fin 8) (e : Fin 128) (C : Fin 4608) (hC : C.val = 2048 + c.val * 128 + e.val) :
    joined q k v (ix2 r C) = lane k v 2 r c e := by
  have hc := c.isLt
  have he := e.isLt
  unfold joined lane
  split_ifs with h
  · refine (concatenate_apply_piece 1 _ _ (ix2 r C) 4 (by simp) S512x512 (part2 k) rfl rfl 2048 rfl
      (ix2 r ⟨C.val - 2048, by omega⟩) (fun b hb => ?_) ?_).trans ?_
    · match b with
      | ⟨0, _⟩ => rfl
      | ⟨1, _⟩ => exact absurd rfl hb
    · show 2048 + (C.val - 2048) = C.val
      omega
    · refine (part2_apply k r _ ⟨8 + c.val % 4, by omega⟩ (by show 8 + c.val % 4 = 8 + (C.val - 2048) / 128; omega)).trans ?_
      exact congrArg (fun e => k (ix4 _ _ _ e)) (Fin.ext (by show (C.val - 2048) % 128 = e.val; omega))
  · refine (concatenate_apply_piece 1 _ _ (ix2 r C) 5 (by simp) S512x512 (part2 v) rfl rfl 2560 rfl
      (ix2 r ⟨C.val - 2560, by omega⟩) (fun b hb => ?_) ?_).trans ?_
    · match b with
      | ⟨0, _⟩ => rfl
      | ⟨1, _⟩ => exact absurd rfl hb
    · show 2560 + (C.val - 2560) = C.val
      omega
    · refine (part2_apply v r _ ⟨8 + c.val % 4, by omega⟩ (by show 8 + c.val % 4 = 8 + (C.val - 2560) / 128; omega)).trans ?_
      exact congrArg (fun e => v (ix4 _ _ _ e)) (Fin.ext (by show (C.val - 2560) % 128 = e.val; omega))

end Cert.AttnIdeal.Body

end
-- ==== Proof.Attn.Kernel.lean ====
/- The decoding step's kept rows, as the kernel leaves them: each of its three row arrays holds, row by row, the group's keys
   and values of the row array it reads (`Host.lean`). -/
module

public import proofs.«01_k».proof.Proof.Attn.Rows
public import proofs.«01_k».proof.Proof.Attn.Host

@[expose] public section

set_option maxRecDepth 16384

noncomputable section

namespace Cert.AttnIdeal.Body

open Cert.AttnIdeal Cert.AttnIdeal.Gen Idealize.ShloMosaic Idealize.ShloMosaic.TcCoe Idealize.SL.Sem

variable (m : (ℓ : Loc nD τ sig) → Buf (Elt Ideal) ℓ) (c : Dev nD)

theorem index2 : ∀ t : Fin grid0.N, cc0_transform_2 (grid0.coords t) = ![t.val, 0] := by decide +kernel

theorem index7 : ∀ t : Fin grid0.N, cc0_transform_7 (grid0.coords t) = ![t.val, 0] := by decide +kernel

theorem index8 : ∀ t : Fin grid0.N, cc0_transform_8 (grid0.coords t) = ![t.val, 0] := by decide +kernel

theorem index9 : ∀ t : Fin grid0.N, cc0_transform_9 (grid0.coords t) = ![t.val, 0] := by decide +kernel

/-- The keys and values of a point's sixteen rows. -/
theorem blk2 (t : Fin grid0.N) (r : Fin 16) (j : Fin 3072) (R : Fin 512) (C : Fin 4608) (hR : R.val = t.val * 16 + r.val) (hC : C.val = j.val) :
    (X0_2 m c t : Vec Ideal S16x3072 .f32) (ix2 r j) = (V m c main_v23 : Vec Ideal S512x4608 .f32) (ix2 R C) := by
  unfold X0_2 Pipeline.Window.fill
  rw [dif_pos (moved0_2 t _)]
  unfold iblk
  show V m c main_v23 (((cfg0.win 2).blk t).view.emb _) = V m c main_v23 (ix2 R C)
  congr 1
  funext a
  apply Fin.ext
  refine (Pipeline.Window.rect_emb_val (cfg0.win 2) t _ a).trans ?_
  rw [show (cfg0.win 2).index t = _ from index2 t]
  match a with
  | ⟨0, _⟩ => exact hR.symm
  | ⟨1, _⟩ => show 0 * 3072 + j.val = C.val; omega

theorem V_u : (V m c main_v23 : Vec Ideal S512x4608 .f32) = joined (m ((c : Thread nD τ).loc main_arg0) : Vec Ideal S128x4x12x128 .f32)
    (m ((c : Thread nD τ).loc main_arg1) : Vec Ideal S128x4x12x128 .f32) (m ((c : Thread nD τ).loc main_arg2) : Vec Ideal S128x4x12x128 .f32) := by
  show StableHlo.after hostOps0 (fun b => m (c, b)) main_v23 = _
  after_results
  rfl

/-- The rows of group 0. -/
def G7 : Vec Ideal S4096x128 .f32 := fun i =>
  lane (m ((c : Thread nD τ).loc main_arg1) : Vec Ideal S128x4x12x128 .f32) (m ((c : Thread nD τ).loc main_arg2) : Vec Ideal S128x4x12x128 .f32) 0
    ⟨(i 0).val / 8, by have : (i 0).val < 4096 := (i 0).isLt; omega⟩ ⟨(i 0).val % 8, by omega⟩ (i 1)

theorem point7 (t : Fin grid0.N) (k e : Fin 128) (i : S4096x128.Idx) (h0 : (i 0).val = t.val * 128 + k.val) (h1 : (i 1).val = e.val) :
    (X0_2 m c t : Vec Ideal S16x3072 .f32) (at0 k e) = G7 m c i := by
  have hk := k.isLt
  have he := e.isLt
  have hi : (i 0).val < 4096 := (i 0).isLt
  unfold at0 G7
  rw [show i 1 = e from Fin.ext h1]
  refine (blk2 m c t _ _ ⟨(i 0).val / 8, by omega⟩ ⟨0 + k.val % 8 * 128 + e.val, by omega⟩ (by show (i 0).val / 8 = t.val * 16 + k.val / 8; omega) rfl).trans ?_
  rw [V_u]
  refine joined0 _ _ _ _ ⟨(i 0).val % 8, by omega⟩ e _ ?_
  show 0 + k.val % 8 * 128 + e.val = 0 + (i 0).val % 8 * 128 + e.val
  omega

theorem after7 (t : Fin cfg0.N) : ((dats m 0 c).after 7 t : Vec Ideal S128x128 .f32) = rows0 (X0_2 m c t : Vec Ideal S16x3072 .f32) := by
  rw [after0_7]
  simp only [outsAt0]
  funext y
  exact out7_rows c (grid0.coords t) _ _ _ _ _ _ _ _ _ _ _ _ _ _ _ _ _ _ _ _ _ _ _ _ _ _ y

theorem final7 : ((dats m 0 c).arrAt 7 cfg0.N : Vec Ideal S4096x128 .f32) = G7 m c := by
  refine (dats m 0 c).arrAt_eq_of_covers 7 _ (by decide +kernel) fun (t : Fin grid0.N) hf (y : S128x128.Idx) => ?_
  blk_simp
  rw [after7]
  obtain ⟨k, e, rfl⟩ : ∃ (k e : Fin 128), y = ix2 k e := ⟨y 0, y 1, eq_ix2 y⟩
  have hp : ∀ (i : S4096x128.Idx), i = ((cfg0.win 7).blk t).view.emb (ix2 k e) → (i 0).val = t.val * 128 + k.val ∧ (i 1).val = e.val := by
    intro i hi
    subst hi
    have h := fun a => Pipeline.Window.rect_emb_val (cfg0.win 7) t (ix2 k e) a
    rw [show (cfg0.win 7).index t = _ from index7 t] at h
    exact ⟨h 0, (h 1).trans (by show 0 * 128 + e.val = e.val; omega)⟩
  have h := hp _ rfl
  exact point7 m c t k e _ h.1 h.2

/-- The rows of group 1. -/
def G8 : Vec Ideal S4096x128 .f32 := fun i =>
  lane (m ((c : Thread nD τ).loc main_arg1) : Vec Ideal S128x4x12x128 .f32) (m ((c : Thread nD τ).loc main_arg2) : Vec Ideal S128x4x12x128 .f32) 1
    ⟨(i 0).val / 8, by have : (i 0).val < 4096 := (i 0).isLt; omega⟩ ⟨(i 0).val % 8, by omega⟩ (i 1)

theorem point8 (t : Fin grid0.N) (k e : Fin 128) (i : S4096x128.Idx) (h0 : (i 0).val = t.val * 128 + k.val) (h1 : (i 1).val = e.val) :
    (X0_2 m c t : Vec Ideal S16x3072 .f32) (at1 k e) = G8 m c i := by
  have hk := k.isLt
  have he := e.isLt
  have hi : (i 0).val < 4096 := (i 0).isLt
  unfold at1 G8
  rw [show i 1 = e from Fin.ext h1]
  refine (blk2 m c t _ _ ⟨(i 0).val / 8, by omega⟩ ⟨1024 + k.val % 8 * 128 + e.val, by omega⟩ (by show (i 0).val / 8 = t.val * 16 + k.val / 8; omega) rfl).trans ?_
  rw [V_u]
  refine joined1 _ _ _ _ ⟨(i 0).val % 8, by omega⟩ e _ ?_
  show 1024 + k.val % 8 * 128 + e.val = 1024 + (i 0).val % 8 * 128 + e.val
  omega

theorem after8 (t : Fin cfg0.N) : ((dats m 0 c).after 8 t : Vec Ideal S128x128 .f32) = rows1 (X0_2 m c t : Vec Ideal S16x3072 .f32) := by
  rw [after0_8]
  simp only [outsAt0]
  funext y
  exact out8_rows c (grid0.coords t) _ _ _ _ _ _ _ _ _ _ _ _ _ _ _ _ _ _ _ _ _ _ _ _ _ _ y

theorem final8 : ((dats m 0 c).arrAt 8 cfg0.N : Vec Ideal S4096x128 .f32) = G8 m c := by
  refine (dats m 0 c).arrAt_eq_of_covers 8 _ (by decide +kernel) fun (t : Fin grid0.N) hf (y : S128x128.Idx) => ?_
  blk_simp
  rw [after8]
  obtain ⟨k, e, rfl⟩ : ∃ (k e : Fin 128), y = ix2 k e := ⟨y 0, y 1, eq_ix2 y⟩
  have hp : ∀ (i : S4096x128.Idx), i = ((cfg0.win 8).blk t).view.emb (ix2 k e) → (i 0).val = t.val * 128 + k.val ∧ (i 1).val = e.val := by
    intro i hi
    subst hi
    have h := fun a => Pipeline.Window.rect_emb_val (cfg0.win 8) t (ix2 k e) a
    rw [show (cfg0.win 8).index t = _ from index8 t] at h
    exact ⟨h 0, (h 1).trans (by show 0 * 128 + e.val = e.val; omega)⟩
  have h := hp _ rfl
  exact point8 m c t k e _ h.1 h.2

/-- The rows of group 2. -/
def G9 : Vec Ideal S4096x128 .f32 := fun i =>
  lane (m ((c : Thread nD τ).loc main_arg1) : Vec Ideal S128x4x12x128 .f32) (m ((c : Thread nD τ).loc main_arg2) : Vec Ideal S128x4x12x128 .f32) 2
    ⟨(i 0).val / 8, by have : (i 0).val < 4096 := (i 0).isLt; omega⟩ ⟨(i 0).val % 8, by omega⟩ (i 1)

theorem point9 (t : Fin grid0.N) (k e : Fin 128) (i : S4096x128.Idx) (h0 : (i 0).val = t.val * 128 + k.val) (h1 : (i 1).val = e.val) :
    (X0_2 m c t : Vec Ideal S16x3072 .f32) (at2 k e) = G9 m c i := by
  have hk := k.isLt
  have he := e.isLt
  have hi : (i 0).val < 4096 := (i 0).isLt
  unfold at2 G9
  rw [show i 1 = e from Fin.ext h1]
  refine (blk2 m c t _ _ ⟨(i 0).val / 8, by omega⟩ ⟨2048 + k.val % 8 * 128 + e.val, by omega⟩ (by show (i 0).val / 8 = t.val * 16 + k.val / 8; omega) rfl).trans ?_
  rw [V_u]
  refine joined2 _ _ _ _ ⟨(i 0).val % 8, by omega⟩ e _ ?_
  show 2048 + k.val % 8 * 128 + e.val = 2048 + (i 0).val % 8 * 128 + e.val
  omega

theorem after9 (t : Fin cfg0.N) : ((dats m 0 c).after 9 t : Vec Ideal S128x128 .f32) = rows2 (X0_2 m c t : Vec Ideal S16x3072 .f32) := by
  rw [after0_9]
  simp only [outsAt0]
  funext y
  exact out9_rows c (grid0.coords t) _ _ _ _ _ _ _ _ _ _ _ _ _ _ _ _ _ _ _ _ _ _ _ _ _ _ y

theorem final9 : ((dats m 0 c).arrAt 9 cfg0.N : Vec Ideal S4096x128 .f32) = G9 m c := by
  refine (dats m 0 c).arrAt_eq_of_covers 9 _ (by decide +kernel) fun (t : Fin grid0.N) hf (y : S128x128.Idx) => ?_
  blk_simp
  rw [after9]
  obtain ⟨k, e, rfl⟩ : ∃ (k e : Fin 128), y = ix2 k e := ⟨y 0, y 1, eq_ix2 y⟩
  have hp : ∀ (i : S4096x128.Idx), i = ((cfg0.win 9).blk t).view.emb (ix2 k e) → (i 0).val = t.val * 128 + k.val ∧ (i 1).val = e.val := by
    intro i hi
    subst hi
    have h := fun a => Pipeline.Window.rect_emb_val (cfg0.win 9) t (ix2 k e) a
    rw [show (cfg0.win 9).index t = _ from index9 t] at h
    exact ⟨h 0, (h 1).trans (by show 0 * 128 + e.val = e.val; omega)⟩
  have h := hp _ rfl
  exact point9 m c t k e _ h.1 h.2

end Cert.AttnIdeal.Body

end
-- ==== Proof.Attn.Ref.lean ====
/- The decoding step's kept rows, as the reference forms them: row `R` of a group holds, for sequence `R / 32` and token
   `R / 8 % 4`, the group's four keys and then its four values. -/
module

public import proofs.«01_k».proof.Proof.Gen.AttnRefIdeal.Run
public import proofs.«01_k».proof.Proof.Gen.AttnRefIdeal.Read
public import Idealize.ShloMosaic.Lib.Pointwise

@[expose] public section

set_option maxRecDepth 16384

noncomputable section

namespace Cert.AttnRefIdeal.Rows

open Cert.AttnRefIdeal Cert.AttnRefIdeal.Read Idealize.ShloMosaic Idealize.ShloMosaic.TcCoe Idealize.SL.Sem

/-- Row `R`, lane `e` of group `g`: a key of the group, or a value. -/
def el (k v : Vec Ideal S128x4x12x128 .f32) (g : Fin 3) (R : Fin 4096) (e : Fin 128) : EReal :=
  if R.val % 8 < 4 then k (ix4 ⟨R.val / 32, by omega⟩ ⟨R.val / 8 % 4, by omega⟩ ⟨g.val * 4 + R.val % 4, by omega⟩ e)
  else v (ix4 ⟨R.val / 32, by omega⟩ ⟨R.val / 8 % 4, by omega⟩ ⟨g.val * 4 + R.val % 4, by omega⟩ e)

variable (x1 x2 : Vec Ideal S128x4x12x128 .f32)

theorem key0 (b : Fin 128) (s h : Fin 4) (e : Fin 128) (H : Fin 12) (hH : H.val = 0 + h.val) :
    val_main_v2 (F := Ideal) x1 (ix5 b s 0 h e) = x1 (ix4 b s H e) := by
  rw [show H = ⟨0 + h.val, by omega⟩ from Fin.ext hH]
  pointwise [val_main_v2, val_main_v0]

theorem value0 (b : Fin 128) (s h : Fin 4) (e : Fin 128) (H : Fin 12) (hH : H.val = 0 + h.val) :
    val_main_v3 (F := Ideal) x2 (ix5 b s 0 h e) = x2 (ix4 b s H e) := by
  rw [show H = ⟨0 + h.val, by omega⟩ from Fin.ext hH]
  pointwise [val_main_v3, val_main_v1]

theorem row0 (R : Fin 4096) (e : Fin 128) : val_main_v5 (F := Ideal) x1 x2 (ix2 R e) = el x1 x2 0 R e := by
  have hR := R.isLt
  have he := e.isLt
  rw [val_main_v5_apply]
  unfold val_main_v4 el
  split_ifs with h
  · refine (concatenate_apply_piece 2 _ _ (idx_main_v5 (ix2 R e)) 0 (by simp) S128x4x1x4x128 (val_main_v2 (F := Ideal) x1) rfl rfl 0 rfl
      (ix5 ⟨R.val / 32, by omega⟩ ⟨R.val / 8 % 4, by omega⟩ 0 ⟨R.val % 4, by omega⟩ e) (fun b hb => ?_) ?_).trans ?_
    · match b with
      | ⟨0, _⟩ => show R.val / 32 = (R.val * 128 + e.val) / 4096; omega
      | ⟨1, _⟩ => show R.val / 8 % 4 = (R.val * 128 + e.val) / 1024 % 4; omega
      | ⟨2, _⟩ => exact absurd rfl hb
      | ⟨3, _⟩ => show R.val % 4 = (R.val * 128 + e.val) / 128 % 4; omega
      | ⟨4, _⟩ => show e.val = (R.val * 128 + e.val) % 128; omega
    · show 0 + 0 = (R.val * 128 + e.val) / 512 % 2
      omega
    · exact key0 x1 _ _ _ e _ rfl
  · refine (concatenate_apply_piece 2 _ _ (idx_main_v5 (ix2 R e)) 1 (by simp) S128x4x1x4x128 (val_main_v3 (F := Ideal) x2) rfl rfl 1 rfl
      (ix5 ⟨R.val / 32, by omega⟩ ⟨R.val / 8 % 4, by omega⟩ 0 ⟨R.val % 4, by omega⟩ e) (fun b hb => ?_) ?_).trans ?_
    · match b with
      | ⟨0, _⟩ => show R.val / 32 = (R.val * 128 + e.val) / 4096; omega
      | ⟨1, _⟩ => show R.val / 8 % 4 = (R.val * 128 + e.val) / 1024 % 4; omega
      | ⟨2, _⟩ => exact absurd rfl hb
      | ⟨3, _⟩ => show R.val % 4 = (R.val * 128 + e.val) / 128 % 4; omega
      | ⟨4, _⟩ => show e.val = (R.val * 128 + e.val) % 128; omega
    · show 1 + 0 = (R.val * 128 + e.val) / 512 % 2
      omega
    · exact value0 x2 _ _ _ e _ rfl

theorem key1 (b : Fin 128) (s h : Fin 4) (e : Fin 128) (H : Fin 12) (hH : H.val = 4 + h.val) :
    val_main_v8 (F := Ideal) x1 (ix5 b s 0 h e) = x1 (ix4 b s H e) := by
  rw [show H = ⟨4 + h.val, by omega⟩ from Fin.ext hH]
  pointwise [val_main_v8, val_main_v6]

theorem value1 (b : Fin 128) (s h : Fin 4) (e : Fin 128) (H : Fin 12) (hH : H.val = 4 + h.val) :
    val_main_v9 (F := Ideal) x2 (ix5 b s 0 h e) = x2 (ix4 b s H e) := by
  rw [show H = ⟨4 + h.val, by omega⟩ from Fin.ext hH]
  pointwise [val_main_v9, val_main_v7]

theorem row1 (R : Fin 4096) (e : Fin 128) : val_main_v11 (F := Ideal) x1 x2 (ix2 R e) = el x1 x2 1 R e := by
  have hR := R.isLt
  have he := e.isLt
  rw [val_main_v11_apply]
  unfold val_main_v10 el
  split_ifs with h
  · refine (concatenate_apply_piece 2 _ _ (idx_main_v11 (ix2 R e)) 0 (by simp) S128x4x1x4x128 (val_main_v8 (F := Ideal) x1) rfl rfl 0 rfl
      (ix5 ⟨R.val / 32, by omega⟩ ⟨R.val / 8 % 4, by omega⟩ 0 ⟨R.val % 4, by omega⟩ e) (fun b hb => ?_) ?_).trans ?_
    · match b with
      | ⟨0, _⟩ => show R.val / 32 = (R.val * 128 + e.val) / 4096; omega
      | ⟨1, _⟩ => show R.val / 8 % 4 = (R.val * 128 + e.val) / 1024 % 4; omega
      | ⟨2, _⟩ => exact absurd rfl hb
      | ⟨3, _⟩ => show R.val % 4 = (R.val * 128 + e.val) / 128 % 4; omega
      | ⟨4, _⟩ => show e.val = (R.val * 128 + e.val) % 128; omega
    · show 0 + 0 = (R.val * 128 + e.val) / 512 % 2
      omega
    · exact key1 x1 _ _ _ e _ rfl
  · refine (concatenate_apply_piece 2 _ _ (idx_main_v11 (ix2 R e)) 1 (by simp) S128x4x1x4x128 (val_main_v9 (F := Ideal) x2) rfl rfl 1 rfl
      (ix5 ⟨R.val / 32, by omega⟩ ⟨R.val / 8 % 4, by omega⟩ 0 ⟨R.val % 4, by omega⟩ e) (fun b hb => ?_) ?_).trans ?_
    · match b with
      | ⟨0, _⟩ => show R.val / 32 = (R.val * 128 + e.val) / 4096; omega
      | ⟨1, _⟩ => show R.val / 8 % 4 = (R.val * 128 + e.val) / 1024 % 4; omega
      | ⟨2, _⟩ => exact absurd rfl hb
      | ⟨3, _⟩ => show R.val % 4 = (R.val * 128 + e.val) / 128 % 4; omega
      | ⟨4, _⟩ => show e.val = (R.val * 128 + e.val) % 128; omega
    · show 1 + 0 = (R.val * 128 + e.val) / 512 % 2
      omega
    · exact value1 x2 _ _ _ e _ rfl

theorem key2 (b : Fin 128) (s h : Fin 4) (e : Fin 128) (H : Fin 12) (hH : H.val = 8 + h.val) :
    val_main_v14 (F := Ideal) x1 (ix5 b s 0 h e) = x1 (ix4 b s H e) := by
  rw [show H = ⟨8 + h.val, by omega⟩ from Fin.ext hH]
  pointwise [val_main_v14, val_main_v12]

theorem value2 (b : Fin 128) (s h : Fin 4) (e : Fin 128) (H : Fin 12) (hH : H.val = 8 + h.val) :
    val_main_v15 (F := Ideal) x2 (ix5 b s 0 h e) = x2 (ix4 b s H e) := by
  rw [show H = ⟨8 + h.val, by omega⟩ from Fin.ext hH]
  pointwise [val_main_v15, val_main_v13]

theorem row2 (R : Fin 4096) (e : Fin 128) : val_main_v17 (F := Ideal) x1 x2 (ix2 R e) = el x1 x2 2 R e := by
  have hR := R.isLt
  have he := e.isLt
  rw [val_main_v17_apply]
  unfold val_main_v16 el
  split_ifs with h
  · refine (concatenate_apply_piece 2 _ _ (idx_main_v17 (ix2 R e)) 0 (by simp) S128x4x1x4x128 (val_main_v14 (F := Ideal) x1) rfl rfl 0 rfl
      (ix5 ⟨R.val / 32, by omega⟩ ⟨R.val / 8 % 4, by omega⟩ 0 ⟨R.val % 4, by omega⟩ e) (fun b hb => ?_) ?_).trans ?_
    · match b with
      | ⟨0, _⟩ => show R.val / 32 = (R.val * 128 + e.val) / 4096; omega
      | ⟨1, _⟩ => show R.val / 8 % 4 = (R.val * 128 + e.val) / 1024 % 4; omega
      | ⟨2, _⟩ => exact absurd rfl hb
      | ⟨3, _⟩ => show R.val % 4 = (R.val * 128 + e.val) / 128 % 4; omega
      | ⟨4, _⟩ => show e.val = (R.val * 128 + e.val) % 128; omega
    · show 0 + 0 = (R.val * 128 + e.val) / 512 % 2
      omega
    · exact key2 x1 _ _ _ e _ rfl
  · refine (concatenate_apply_piece 2 _ _ (idx_main_v17 (ix2 R e)) 1 (by simp) S128x4x1x4x128 (val_main_v15 (F := Ideal) x2) rfl rfl 1 rfl
      (ix5 ⟨R.val / 32, by omega⟩ ⟨R.val / 8 % 4, by omega⟩ 0 ⟨R.val % 4, by omega⟩ e) (fun b hb => ?_) ?_).trans ?_
    · match b with
      | ⟨0, _⟩ => show R.val / 32 = (R.val * 128 + e.val) / 4096; omega
      | ⟨1, _⟩ => show R.val / 8 % 4 = (R.val * 128 + e.val) / 1024 % 4; omega
      | ⟨2, _⟩ => exact absurd rfl hb
      | ⟨3, _⟩ => show R.val % 4 = (R.val * 128 + e.val) / 128 % 4; omega
      | ⟨4, _⟩ => show e.val = (R.val * 128 + e.val) % 128; omega
    · show 1 + 0 = (R.val * 128 + e.val) / 512 % 2
      omega
    · exact value2 x2 _ _ _ e _ rfl

end Cert.AttnRefIdeal.Rows

end
-- ==== Proof.Attn.Claims.lean ====
/- The claims about the decoding step's attention call: its three arrays of kept rows are the reference's, element by element
   (`Body.final7` to `Body.final9`, `Rows.row0` to `Rows.row2`). -/
module

public import proofs.«01_k».proof.Defs
public import proofs.«01_k».proof.Proof.Attn.Kernel
public import proofs.«01_k».proof.Proof.Attn.Ref
public import proofs.«01_k».proof.Proof.Gen.Attn
public import Idealize.ShloMosaic.Lib.Quiescent

@[expose] public section

noncomputable section

namespace Cert.Proof.Attn

open Idealize.ShloMosaic Idealize.ShloMosaic.TcCoe Idealize.SL.Sem
open Cert.AttnIdeal Cert.AttnIdeal.Gen Cert.AttnIdeal.Body

/-- The two printings' bodies are one table: the labels are one, and there the functions' texts are the same. -/
theorem bodies_eq : Cert.Attn.defs₀ (F := Bits) = Cert.AttnIdeal.defs₀ (F := Bits) := by
  unfold Cert.Attn.defs₀ Cert.AttnIdeal.defs₀
  refine congrArg Defs.onTc ?_
  funext l x
  obtain rfl : l = 0 := Subsingleton.elim _ _
  sl_kernel_rfl

theorem defs_eq : Cert.Attn.defs (F := Bits) = Cert.AttnIdeal.defs (F := Bits) :=
  congrArg (Pipeline.defs (Cert.AttnIdeal.pcfgs (F := Bits))) bodies_eq

theorem main_eq : Cert.Attn.main (F := Bits) = Cert.AttnIdeal.main (F := Bits) := by
  unfold Cert.Attn.main Cert.AttnIdeal.main
  sl_kernel_rfl

/-- The bit-exact program's frame, from the ideal printing's at the bit-exact instance. -/
theorem frame_kernel : Cert.quiescent_Attn := fun m ρ _ => by
  have h := Cert.AttnIdeal.Gen.frame (F := Bits) m ρ
  rw [← defs_eq, ← main_eq] at h
  exact h

theorem frame_ideal : Cert.quiescent_AttnIdeal := fun m ρ _ => Cert.AttnIdeal.Gen.frame (F := Ideal) m ρ

theorem frame_ref_ideal : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

variable (m : (ℓ : Loc nD τ sig) → Buf (Elt Ideal) ℓ) (c : Dev nD)

/-- The kernel's rows and the reference's are one function of the keys and the values. -/
theorem lane_eq (k v : Vec Ideal S128x4x12x128 .f32) (g : Fin 3) (R : Fin 4096) (e : Fin 128) (r : Fin 512) (d : Fin 8)
    (hr : r.val = R.val / 8) (hd : d.val = R.val % 8) : Cert.AttnRefIdeal.Rows.el k v g R e = lane k v g r d e := by
  have hR := R.isLt
  rw [show r = ⟨R.val / 8, by omega⟩ from Fin.ext hr, show d = ⟨R.val % 8, by omega⟩ from Fin.ext hd]
  unfold Cert.AttnRefIdeal.Rows.el lane
  have e0 : (⟨R.val / 8 / 4, by omega⟩ : Fin 128) = ⟨R.val / 32, by omega⟩ := Fin.ext (by show R.val / 8 / 4 = R.val / 32; omega)
  have e1 : (⟨g.val * 4 + R.val % 8 % 4, by omega⟩ : Fin 12) = ⟨g.val * 4 + R.val % 4, by omega⟩ :=
    Fin.ext (by show g.val * 4 + R.val % 8 % 4 = g.val * 4 + R.val % 4; omega)
  dsimp only
  rw [e0, e1]

theorem result0 : Cert.AttnRefIdeal.Read.val_main_v5 (F := Ideal) (m ((c.tc : Thread nD τ).loc main_arg1)) (m ((c.tc : Thread nD τ).loc main_arg2)) = G7 m c := by
  funext (i : S4096x128.Idx)
  obtain ⟨R, e, rfl⟩ : ∃ (R : Fin 4096) (e : Fin 128), i = ix2 R e := ⟨i 0, i 1, eq_ix2 i⟩
  exact (Cert.AttnRefIdeal.Rows.row0 _ _ R e).trans (lane_eq _ _ 0 R e _ _ rfl rfl)

theorem result1 : Cert.AttnRefIdeal.Read.val_main_v11 (F := Ideal) (m ((c.tc : Thread nD τ).loc main_arg1)) (m ((c.tc : Thread nD τ).loc main_arg2)) = G8 m c := by
  funext (i : S4096x128.Idx)
  obtain ⟨R, e, rfl⟩ : ∃ (R : Fin 4096) (e : Fin 128), i = ix2 R e := ⟨i 0, i 1, eq_ix2 i⟩
  exact (Cert.AttnRefIdeal.Rows.row1 _ _ R e).trans (lane_eq _ _ 1 R e _ _ rfl rfl)

theorem result2 : Cert.AttnRefIdeal.Read.val_main_v17 (F := Ideal) (m ((c.tc : Thread nD τ).loc main_arg1)) (m ((c.tc : Thread nD τ).loc main_arg2)) = G9 m c := by
  funext (i : S4096x128.Idx)
  obtain ⟨R, e, rfl⟩ : ∃ (R : Fin 4096) (e : Fin 128), i = ix2 R e := ⟨i 0, i 1, eq_ix2 i⟩
  exact (Cert.AttnRefIdeal.Rows.row2 _ _ R e).trans (lane_eq _ _ 2 R e _ _ rfl rfl)

/-- The kernel's run, with its three arrays of rows. -/
theorem run (ρ : Dev nD → PrngReg) : θ_run defs (onTc (τ := τ) (main (F := Ideal))) ⟨m, fun _ => 0, ρ⟩ (fun r => ∀ c : Dev nD,
    r.2.mem ((c.tc : Thread nD τ).loc main_v30_1) = G7 m c
    ∧ r.2.mem ((c.tc : Thread nD τ).loc main_v30_2) = G8 m c
    ∧ r.2.mem ((c.tc : Thread nD τ).loc main_v30_3) = G9 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun r h c => ?_) (Cert.AttnIdeal.Value.run_blocks (F := Ideal) m ρ)
  obtain ⟨_, h7, h8, h9, hf⟩ := h c
  exact ⟨h7.trans (final7 m c), h8.trans (final8 m c), h9.trans (final9 m c), hf⟩

/-- The kernel computes the reference's values. -/
theorem algebraic : Cert.algebraic_AttnIdeal_AttnRefIdeal := by
  intro m ρ m' ρ' _ hagree
  refine ⟨fun c => G7 m c, fun c => G8 m c, fun c => G9 m c, run m ρ, ?_⟩
  refine (θ_run Cert.AttnRefIdeal.defs _ _).mono (fun _ h c => ⟨(h c).1.trans ?_, (h c).2.1.trans ?_, (h c).2.2.1.trans ?_, (h c).2.2.2⟩) (Cert.AttnRefIdeal.Value.run (F := Ideal) m' ρ')
  · rw [Cert.AttnRefIdeal.Read.val_main_v5_eq, (hagree c).2.1, (hagree c).2.2.1]
    exact result0 m c
  · rw [Cert.AttnRefIdeal.Read.val_main_v11_eq, (hagree c).2.1, (hagree c).2.2.1]
    exact result1 m c
  · rw [Cert.AttnRefIdeal.Read.val_main_v17_eq, (hagree c).2.1, (hagree c).2.2.1]
    exact result2 m c

end Cert.Proof.Attn

end
-- ==== Proof.FfnS.Kernel.lean ====
/- The final feed-forward's kernel at a decoding step's 512 rows, read: its grid is one block of rows by eleven tiles of 256 hidden units; the
   first tile's point norms the block's rows into a scratch, every point adds its tile's part of the output, and the last
   one adds the residual and norms. Over the extended reals each row of the result is therefore one function of the row and
   the weights (`G_apply`). -/
module

public import proofs.«01_k».proof.Proof.Gen.FfnSIdeal.Value
public import Idealize.ShloMosaic.Lib.Pipeline.ValueKit.Geometry
public import Idealize.ShloMosaic.Lib.Pipeline.ValueKit.Acc
public import Idealize.ShloMosaic.Lib.Pointwise
public import proofs.«01_k».proof.Proof.Common

@[expose] public section

set_option maxRecDepth 16384

noncomputable section

namespace Cert.FfnSIdeal.Tile

open Cert.FfnSIdeal Cert.FfnSIdeal.Gen Idealize.ShloMosaic Idealize.ShloMosaic.TcCoe Idealize.SL.Sem

variable {F : FTy → Type} [FloatOps F]

/-- The first point of a row block: the normed rows times the first tile of weights. -/
theorem out_A (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S512x1024 .f32) (harg8 : arg8.IsWhole) (arg9 : Memref sig .tc .vmem S512x1024 .bf16) (harg9 : arg9.IsWhole)
    (hc0 : cond0_0 i) (hc1 : ¬cond0_1 i) (x0 : Vec F S512x1024 .f32) (x1 : Vec F S1x1024 .f32) (x2 : Vec F S1024x256 .f32) (x3 : Vec F S1024x256 .f32)
    (x4 : Vec F S256x1024 .f32) (x5 : Vec F S1x1024 .f32) :
    out0_A_6 c i arg2 harg2 arg3 harg3 arg4 harg4 arg5 harg5 arg6 harg6 arg7 harg7 arg8 harg8 arg9 harg9 hc0 hc1 x0 x1 x2 x3 x4 x5 = k0_pay3 (k0_pay1 x0 x1) x2 x3 k0_pay2 x4 := by
  frame_out

/-- The first point of a row block leaves the normed rows in the scratch. -/
theorem scratch_A (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S512x1024 .f32) (harg8 : arg8.IsWhole) (arg9 : Memref sig .tc .vmem S512x1024 .bf16) (harg9 : arg9.IsWhole)
    (hc0 : cond0_0 i) (hc1 : ¬cond0_1 i) (x0 : Vec F S512x1024 .f32) (x1 : Vec F S1x1024 .f32) (x2 : Vec F S1024x256 .f32) (x3 : Vec F S1024x256 .f32)
    (x4 : Vec F S256x1024 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = k0_pay1 x0 x1 := by
  frame_out

/-- An inner point adds its tile's product. -/
theorem out_B (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S512x1024 .f32) (harg8 : arg8.IsWhole) (arg9 : Memref sig .tc .vmem S512x1024 .bf16) (harg9 : arg9.IsWhole)
    (hc0 : ¬cond0_0 i) (hc1 : ¬cond0_1 i) (x0 : Vec F S512x1024 .f32) (x1 : Vec F S1x1024 .f32) (x2 : Vec F S1024x256 .f32) (x3 : Vec F S1024x256 .f32)
    (x4 : Vec F S256x1024 .f32) (x5 : Vec F S1x1024 .f32) (xo6 : Vec F S512x1024 .f32) (xs0 : Vec F S512x1024 .bf16) :
    out0_B_6 c i arg2 harg2 arg3 harg3 arg4 harg4 arg5 harg5 arg6 harg6 arg7 harg7 arg8 harg8 arg9 harg9 hc0 hc1 x0 x1 x2 x3 x4 x5 xo6 xs0 = k0_pay3 xs0 x2 x3 xo6 x4 := by
  frame_out

/-- The last point adds its tile's product, then the residual, then norms. -/
theorem out_C (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1024x256 .f32) (harg4 : arg4.IsWhole) (arg5 : Memref sig .tc .vmem S1024x256 .f32) (harg5 : arg5.IsWhole)
    (arg6 : Memref sig .tc .vmem S256x1024 .f32) (harg6 : arg6.IsWhole) (arg7 : Memref sig .tc .vmem S1x1024 .f32) (harg7 : arg7.IsWhole)
    (arg8 : Memref sig .tc .vmem S512x1024 .f32) (harg8 : arg8.IsWhole) (arg9 : Memref sig .tc .vmem S512x1024 .bf16) (harg9 : arg9.IsWhole)
    (hc0 : ¬cond0_0 i) (hc1 : cond0_1 i) (x0 : Vec F S512x1024 .f32) (x1 : Vec F S1x1024 .f32) (x2 : Vec F S1024x256 .f32) (x3 : Vec F S1024x256 .f32)
    (x4 : Vec F S256x1024 .f32) (x5 : Vec F S1x1024 .f32) (xo6 : Vec F S512x1024 .f32) (xs0 : Vec F S512x1024 .bf16) :
    out0_C_6 c i arg2 harg2 arg3 harg3 arg4 harg4 arg5 harg5 arg6 harg6 arg7 harg7 arg8 harg8 arg9 harg9 hc0 hc1 x0 x1 x2 x3 x4 x5 xo6 xs0 = k0_pay4 x0 (k0_pay3 xs0 x2 x3 xo6 x4) x5 := by
  frame_out

/-! ## The body's payloads at an element, over the extended reals -/

theorem pay1_apply (x : Vec Ideal S512x1024 .f32) (nw : Vec Ideal S1x1024 .f32) (r : Fin 512) (k : Fin 1024) :
    k0_pay1 x nw (ix2 r k) = Common.nrm (fun j => x (ix2 r j)) (fun j => nw (ix2 0 j)) k := by
  unfold_payloads
  pointwise
  rfl

theorem pay2_apply (i : S512x1024.Idx) : k0_pay2 (F := Ideal) i = 0 := by
  unfold_payloads
  pointwise

theorem pay3_apply (h : Vec Ideal S512x1024 .bf16) (wg wu : Vec Ideal S1024x256 .f32) (o : Vec Ideal S512x1024 .f32)
    (wd : Vec Ideal S256x1024 .f32) (r : Fin 512) (k : Fin 1024) :
    k0_pay3 h wg wu o wd (ix2 r k) = o (ix2 r k) + ∑ f : Fin 256,
      ((∑ j, h (ix2 r j) * wg (ix2 j f)) * Ideal.logistic (∑ j, h (ix2 r j) * wg (ix2 j f)) * ∑ j, h (ix2 r j) * wu (ix2 j f)) * wd (ix2 f k) := by
  unfold_payloads
  pointwise

theorem pay4_apply (x o : Vec Ideal S512x1024 .f32) (w : Vec Ideal S1x1024 .f32) (r : Fin 512) (k : Fin 1024) :
    k0_pay4 x o w (ix2 r k) = Common.nrm (fun j => x (ix2 r j) + Common.half * o (ix2 r j)) (fun j => w (ix2 0 j)) k := by
  unfold_payloads
  pointwise
  rfl

/-! ## The blocks of the arrays -/

section Blocks

variable (m : (ℓ : Loc nD τ sig) → Buf (Elt F) ℓ) (c : Dev nD)

theorem index0 : ∀ t : Fin grid0.N, cc0_transform_0 (grid0.coords t) = ![t.val / 11, 0] := by decide +kernel
theorem index1 : ∀ t : Fin grid0.N, cc0_transform_1 (grid0.coords t) = ![0, 0] := by decide +kernel
theorem index2 : ∀ t : Fin grid0.N, cc0_transform_2 (grid0.coords t) = ![0, t.val % 11] := by decide +kernel
theorem index3 : ∀ t : Fin grid0.N, cc0_transform_3 (grid0.coords t) = ![0, t.val % 11 + 11] := by decide +kernel
theorem index4 : ∀ t : Fin grid0.N, cc0_transform_4 (grid0.coords t) = ![t.val % 11, 0] := by decide +kernel
theorem index5 : ∀ t : Fin grid0.N, cc0_transform_5 (grid0.coords t) = ![0, 0] := by decide +kernel

theorem blk0 (t : Fin grid0.N) (r : Fin 512) (k : Fin 1024) (R : Fin 512) (K : Fin 1024) (hR : R.val = t.val / 11 * 512 + r.val) (hK : K.val = 0 * 1024 + k.val) :
    (iblk m c 0 t : Vec F S512x1024 .f32) (ix2 r k) = (V m c main_v0 : Vec F S512x1024 .f32) (ix2 R K) := by
  unfold iblk
  show V m c main_v0 (((cfg0.win 0).blk t).view.emb (ix2 r k)) = V m c main_v0 (ix2 R K)
  congr 1
  funext a
  apply Fin.ext
  refine (Pipeline.Window.rect_emb_val (cfg0.win 0) t (ix2 r k) a).trans ?_
  rw [show (cfg0.win 0).index t = _ from index0 t]
  match a with
  | ⟨0, _⟩ => exact hR.symm
  | ⟨1, _⟩ => exact hK.symm

theorem blk1 (t : Fin grid0.N) (r : Fin 1) (k : Fin 1024) (R : Fin 1) (K : Fin 1024) (hR : R.val = 0 * 1 + r.val) (hK : K.val = 0 * 1024 + k.val) :
    (iblk m c 1 t : Vec F S1x1024 .f32) (ix2 r k) = (V m c main_v4 : Vec F S1x1024 .f32) (ix2 R K) := by
  unfold iblk
  show V m c main_v4 (((cfg0.win 1).blk t).view.emb (ix2 r k)) = V m c main_v4 (ix2 R K)
  congr 1
  funext a
  apply Fin.ext
  refine (Pipeline.Window.rect_emb_val (cfg0.win 1) t (ix2 r k) a).trans ?_
  rw [show (cfg0.win 1).index t = _ from index1 t]
  match a with
  | ⟨0, _⟩ => exact hR.symm
  | ⟨1, _⟩ => exact hK.symm

theorem blk2 (t : Fin grid0.N) (r : Fin 1024) (k : Fin 256) (R : Fin 1024) (K : Fin 5632) (hR : R.val = 0 * 1024 + r.val) (hK : K.val = t.val % 11 * 256 + k.val) :
    (iblk m c 2 t : Vec F S1024x256 .f32) (ix2 r k) = (V m c main_v2 : Vec F S1024x5632 .f32) (ix2 R K) := by
  unfold iblk
  show V m c main_v2 (((cfg0.win 2).blk t).view.emb (ix2 r k)) = V m c main_v2 (ix2 R K)
  congr 1
  funext a
  apply Fin.ext
  refine (Pipeline.Window.rect_emb_val (cfg0.win 2) t (ix2 r k) a).trans ?_
  rw [show (cfg0.win 2).index t = _ from index2 t]
  match a with
  | ⟨0, _⟩ => exact hR.symm
  | ⟨1, _⟩ => exact hK.symm

theorem blk3 (t : Fin grid0.N) (r : Fin 1024) (k : Fin 256) (R : Fin 1024) (K : Fin 5632) (hR : R.val = 0 * 1024 + r.val) (hK : K.val = (t.val % 11 + 11) * 256 + k.val) :
    (iblk m c 3 t : Vec F S1024x256 .f32) (ix2 r k) = (V m c main_v2 : Vec F S1024x5632 .f32) (ix2 R K) := by
  unfold iblk
  show V m c main_v2 (((cfg0.win 3).blk t).view.emb (ix2 r k)) = V m c main_v2 (ix2 R K)
  congr 1
  funext a
  apply Fin.ext
  refine (Pipeline.Window.rect_emb_val (cfg0.win 3) t (ix2 r k) a).trans ?_
  rw [show (cfg0.win 3).index t = _ from index3 t]
  match a with
  | ⟨0, _⟩ => exact hR.symm
  | ⟨1, _⟩ => exact hK.symm

theorem blk4 (t : Fin grid0.N) (r : Fin 256) (k : Fin 1024) (R : Fin 2816) (K : Fin 1024) (hR : R.val = t.val % 11 * 256 + r.val) (hK : K.val = 0 * 1024 + k.val) :
    (iblk m c 4 t : Vec F S256x1024 .f32) (ix2 r k) = (V m c main_v3 : Vec F S2816x1024 .f32) (ix2 R K) := by
  unfold iblk
  show V m c main_v3 (((cfg0.win 4).blk t).view.emb (ix2 r k)) = V m c main_v3 (ix2 R K)
  congr 1
  funext a
  apply Fin.ext
  refine (Pipeline.Window.rect_emb_val (cfg0.win 4) t (ix2 r k) a).trans ?_
  rw [show (cfg0.win 4).index t = _ from index4 t]
  match a with
  | ⟨0, _⟩ => exact hR.symm
  | ⟨1, _⟩ => exact hK.symm

theorem blk5 (t : Fin grid0.N) (r : Fin 1) (k : Fin 1024) (R : Fin 1) (K : Fin 1024) (hR : R.val = 0 * 1 + r.val) (hK : K.val = 0 * 1024 + k.val) :
    (iblk m c 5 t : Vec F S1x1024 .f32) (ix2 r k) = (V m c main_v5 : Vec F S1x1024 .f32) (ix2 R K) := by
  unfold iblk
  show V m c main_v5 (((cfg0.win 5).blk t).view.emb (ix2 r k)) = V m c main_v5 (ix2 R K)
  congr 1
  funext a
  apply Fin.ext
  refine (Pipeline.Window.rect_emb_val (cfg0.win 5) t (ix2 r k) a).trans ?_
  rw [show (cfg0.win 5).index t = _ from index5 t]
  match a with
  | ⟨0, _⟩ => exact hR.symm
  | ⟨1, _⟩ => exact hK.symm

end Blocks

/-! ## What the points leave -/

section State

variable (m : (ℓ : Loc nD τ sig) → Buf (Elt Ideal) ℓ) (c : Dev nD)

/-- Row `R` of the tokens. -/
def row (R : Fin 512) : Fin 1024 → EReal := fun j => (V m c main_v0 : Vec Ideal S512x1024 .f32) (ix2 R j)

/-- The norm's weight. -/
def wgt : Fin 1024 → EReal := fun j => (V m c main_v4 : Vec Ideal S1x1024 .f32) (ix2 0 j)

/-- The gate and up weights. -/
def win : Fin 1024 → Fin 5632 → EReal := fun j f => (V m c main_v2 : Vec Ideal S1024x5632 .f32) (ix2 j f)

/-- The down weight. -/
def wout : Fin 2816 → Fin 1024 → EReal := fun f k => (V m c main_v3 : Vec Ideal S2816x1024 .f32) (ix2 f k)

/-- The last norm's weight. -/
def wfin : Fin 1024 → EReal := fun j => (V m c main_v5 : Vec Ideal S1x1024 .f32) (ix2 0 j)

/-- Row `R`, normed. -/
abbrev hid (R : Fin 512) : Fin 1024 → EReal := Common.nrm (row m c R) (wgt m c)

theorem first_apply (t : Fin grid0.N) (r : Fin 512) (R : Fin 512) (hR : R.val = t.val / 11 * 512 + r.val) (k : Fin 1024) :
    k0_pay1 (iblk m c 0 t : Vec Ideal S512x1024 .f32) (iblk m c 1 t : Vec Ideal S1x1024 .f32) (ix2 r k) = hid m c R k := by
  rw [pay1_apply]
  have e0 : (fun j => (iblk m c 0 t : Vec Ideal S512x1024 .f32) (ix2 r j)) = row m c R :=
    funext fun j => blk0 m c t r j R j hR (by omega)
  have e1 : (fun j => (iblk m c 1 t : Vec Ideal S1x1024 .f32) (ix2 0 j)) = wgt m c :=
    funext fun j => blk1 m c t 0 j 0 j rfl (by omega)
  rw [e0, e1]

/-- A point adds its 256 hidden units. -/
theorem tile_apply (t : Fin grid0.N) (r : Fin 512) (R : Fin 512) (h : Vec Ideal S512x1024 .bf16) (o : Vec Ideal S512x1024 .f32)
    (hh : ∀ k, h (ix2 r k) = hid m c R k) (k : Fin 1024) :
    k0_pay3 h (iblk m c 2 t : Vec Ideal S1024x256 .f32) (iblk m c 3 t : Vec Ideal S1024x256 .f32) o (iblk m c 4 t : Vec Ideal S256x1024 .f32) (ix2 r k)
      = o (ix2 r k) + ∑ f : Fin 256, Common.unit (hid m c R) (win m c) (wout m c) k (256 * (t.val % 11) + f.val) := by
  rw [pay3_apply]
  refine congrArg (_ + ·) (Finset.sum_congr rfl fun f _ => ?_)
  have hf := f.isLt
  have ht : t.val % 11 < 11 := Nat.mod_lt _ (by decide)
  have hm : (256 * (t.val % 11) + f.val) % 2816 = 256 * (t.val % 11) + f.val := Nat.mod_eq_of_lt (by omega)
  have eg : (∑ j, h (ix2 r j) * (iblk m c 2 t : Vec Ideal S1024x256 .f32) (ix2 j f))
      = Common.dot (hid m c R) (win m c) ⟨(256 * (t.val % 11) + f.val) % 2816, by omega⟩ := by
    refine Finset.sum_congr rfl fun j _ => ?_
    rw [hh j, blk2 m c t j f j ⟨(256 * (t.val % 11) + f.val) % 2816, by omega⟩ (by omega) (by show _ % 2816 = _; omega)]
    rfl
  have eu : (∑ j, h (ix2 r j) * (iblk m c 3 t : Vec Ideal S1024x256 .f32) (ix2 j f))
      = Common.dot (hid m c R) (win m c) ⟨2816 + (256 * (t.val % 11) + f.val) % 2816, by omega⟩ := by
    refine Finset.sum_congr rfl fun j _ => ?_
    rw [hh j, blk3 m c t j f j ⟨2816 + (256 * (t.val % 11) + f.val) % 2816, by omega⟩ (by omega) (by show 2816 + _ % 2816 = _; omega)]
    rfl
  rw [eg, eu, blk4 m c t f k ⟨(256 * (t.val % 11) + f.val) % 2816, by omega⟩ k (by show _ % 2816 = _; omega) (by omega)]
  rfl

/-- After point `n`, the output block holds the sum over the tiles so far and the scratch the normed rows, but for the last
    point of a row block. -/
theorem state : ∀ (n : ℕ) (hn : n < cfg0.N), n % 11 < 10 → ∀ (r : Fin 512) (R : Fin 512), R.val = n / 11 * 512 + r.val →
    (∀ k, (outsAt0 m c n hn).1 (ix2 r k) = ∑ s ∈ Finset.range (n % 11 + 1), ∑ f : Fin 256, Common.unit (hid m c R) (win m c) (wout m c) k (256 * s + f.val))
    ∧ (∀ k, (outsAt0 m c n hn).2 (ix2 r k) = hid m c R k) := by
  intro n
  induction n with
  | zero =>
    intro hn hlt r R hR
    rw [outsAt0_A m c ⟨0, hn⟩ rfl (by decide : ¬ 0 % 11 = 10)]
    dsimp only
    rw [out_A, scratch_A]
    have hs := first_apply m c ⟨0, hn⟩ r R hR
    refine ⟨fun k => ?_, hs⟩
    refine (tile_apply m c ⟨0, hn⟩ r R _ _ hs k).trans ?_
    rw [pay2_apply, zero_add, Finset.sum_range_one]
    rfl
  | succ n ih =>
    intro hn hlt r R hR
    by_cases h0 : (n + 1) % 11 = 0
    · rw [outsAt0_A m c ⟨n + 1, hn⟩ h0 (by show ¬ (n + 1) % 11 = 10; omega)]
      dsimp only
      rw [out_A, scratch_A]
      have hs := first_apply m c ⟨n + 1, hn⟩ r R hR
      refine ⟨fun k => ?_, hs⟩
      refine (tile_apply m c ⟨n + 1, hn⟩ r R _ _ hs k).trans ?_
      rw [pay2_apply, zero_add, h0, Finset.sum_range_one]
    · obtain ⟨h1, h2⟩ := ih (by omega) (by omega) r R (by omega)
      rw [Value.outsAt0_succ, Value.stAt0_B m c ⟨n + 1, hn⟩ _ h0 (by show ¬ (n + 1) % 11 = 10; omega)]
      dsimp only
      rw [out_B]
      refine ⟨fun k => ?_, h2⟩
      refine (tile_apply m c ⟨n + 1, hn⟩ r R _ _ h2 k).trans ?_
      rw [h1, show (n + 1) % 11 = n % 11 + 1 by omega, Finset.sum_range_succ _ (n % 11 + 1)]

/-- The result's row: the feed-forward added to the row by one half, and normed. -/
def res (R : Fin 512) : Fin 1024 → EReal :=
  Common.nrm (fun j => row m c R j + Common.half * Common.ffn (hid m c R) (win m c) (wout m c) j) (wfin m c)

/-- The last point of a row block leaves the result's rows. -/
theorem last (n : ℕ) (hn : n < cfg0.N) (h10 : n % 11 = 10) (r : Fin 512) (R : Fin 512) (hR : R.val = n / 11 * 512 + r.val) (k : Fin 1024) :
    (outsAt0 m c n hn).1 (ix2 r k) = res m c R k := by
  obtain ⟨n, rfl⟩ : ∃ l, n = l + 1 := ⟨n - 1, by omega⟩
  obtain ⟨h1, h2⟩ := state m c n (by omega) (by omega) r R (by omega)
  rw [Value.outsAt0_succ, Value.stAt0_C m c ⟨n + 1, hn⟩ _ (by show ¬ (n + 1) % 11 = 0; omega) h10]
  dsimp only
  rw [out_C, pay4_apply]
  have e0 : (fun j => (iblk m c 0 ⟨n + 1, hn⟩ : Vec Ideal S512x1024 .f32) (ix2 r j)) = row m c R :=
    funext fun j => blk0 m c ⟨n + 1, hn⟩ r j R j hR (by omega)
  have e5 : (fun j => (iblk m c 5 ⟨n + 1, hn⟩ : Vec Ideal S1x1024 .f32) (ix2 0 j)) = wfin m c :=
    funext fun j => blk5 m c ⟨n + 1, hn⟩ 0 j 0 j rfl (by omega)
  rw [e5]
  refine congrArg (fun x => Common.nrm x (wfin m c) k) (funext fun j => ?_)
  refine congrArg₂ (fun a b : EReal => a + Common.half * b) (congrFun e0 j) ?_
  refine (tile_apply m c ⟨n + 1, hn⟩ r R _ _ h2 j).trans ?_
  rw [h1, ← Common.ffn_tiles]
  show _ + ∑ f : Fin 256, Common.unit _ _ _ j (256 * ((n + 1) % 11) + f.val) = _
  rw [h10, show n % 11 + 1 = 10 by omega, Finset.sum_range_succ _ 10]

/-- The result array, element by element. -/
theorem G_apply (R : Fin 512) (k : Fin 1024) : (Value.G6 m c : Vec Ideal S512x1024 .f32) (ix2 R k) = res m c R k := by
  have hR := R.isLt
  have hk := k.isLt
  have hp : Value.pt6Of (ix2 R k) = 11 * (R.val / 512) + 10 := by
    show 11 * (1 * (R.val / 512 - 0) + 1 * (k.val / 1024 - 0)) + 10 = _
    omega
  have hlt : Value.pt6Of (ix2 R k) < cfg0.N := by rw [hp]; exact lt_of_lt_of_eq (by omega) N_0.symm
  unfold Value.G6
  rw [dif_pos hlt, ← Value.outsAt0_sweep m c _ hlt]
  have hl : Value.loc6Of (ix2 R k) = ix2 ⟨R.val % 512, Nat.mod_lt _ (by decide)⟩ k := by
    funext a
    match a with
    | ⟨0, _⟩ => rfl
    | ⟨1, _⟩ => exact Fin.ext (Nat.mod_eq_of_lt hk)
  rw [hl]
  exact last m c _ hlt (by rw [hp]; omega) _ R (by rw [hp]; show R.val = _ + R.val % 512; omega) k

/-! ## The arrays as the region finds them: the arguments, reshaped -/

theorem cast_x (x : Vec Ideal S128x4x1024 .f32) (R : Fin 512) (k : Fin 1024) :
    shapeCast S512x1024 x shapeCasts_S128x4x1024_S512x1024 (ix2 R k) = x (ix3 ⟨R.val / 4, by omega⟩ ⟨R.val % 4, by omega⟩ k) := by
  pointwise

theorem cast_nw (x : Vec Ideal S1x1024 .f32) (k : Fin 1024) :
    shapeCast S1x1024 (shapeCast S1024 x shapeCasts_S1x1024_S1024) shapeCasts_S1024_S1x1024 (ix2 0 k) = x (ix2 0 k) := by
  pointwise

theorem cast_gu (x : Vec Ideal S1x1024x5632 .f32) (j : Fin 1024) (f : Fin 5632) :
    shapeCast S1024x5632 x shapeCasts_S1x1024x5632_S1024x5632 (ix2 j f) = x (ix3 0 j f) := by
  pointwise

theorem cast_down (x : Vec Ideal S1x2816x1024 .f32) (f : Fin 2816) (k : Fin 1024) :
    shapeCast S2816x1024 x shapeCasts_S1x2816x1024_S2816x1024 (ix2 f k) = x (ix3 0 f k) := by
  pointwise

theorem cast_fw (x : Vec Ideal S1024 .f32) (k : Fin 1024) :
    shapeCast S1x1024 x shapeCasts_S1024_S1x1024 (ix2 0 k) = x (ix1 k) := by
  pointwise

theorem V_x : V m c main_v0 = shapeCast S512x1024 (m ((c : Thread nD τ).loc main_arg0)) shapeCasts_S128x4x1024_S512x1024 := by
  show StableHlo.after hostOps0 (fun b => m (c, b)) main_v0 = _
  after_results
  rfl

theorem V_nw : V m c main_v4 = shapeCast S1x1024 (shapeCast S1024 (m ((c : Thread nD τ).loc main_arg1)) shapeCasts_S1x1024_S1024) shapeCasts_S1024_S1x1024 := by
  show StableHlo.after hostOps0 (fun b => m (c, b)) main_v4 = _
  after_results
  rfl

theorem V_gu : V m c main_v2 = shapeCast S1024x5632 (m ((c : Thread nD τ).loc main_arg2)) shapeCasts_S1x1024x5632_S1024x5632 := by
  show StableHlo.after hostOps0 (fun b => m (c, b)) main_v2 = _
  after_results
  rfl

theorem V_down : V m c main_v3 = shapeCast S2816x1024 (m ((c : Thread nD τ).loc main_arg3)) shapeCasts_S1x2816x1024_S2816x1024 := by
  show StableHlo.after hostOps0 (fun b => m (c, b)) main_v3 = _
  after_results
  rfl

theorem V_fw : V m c main_v5 = shapeCast S1x1024 (m ((c : Thread nD τ).loc main_arg4)) shapeCasts_S1024_S1x1024 := by
  show StableHlo.after hostOps0 (fun b => m (c, b)) main_v5 = _
  after_results
  rfl

theorem row_eq (R : Fin 512) (k : Fin 1024) : row m c R k = (m ((c : Thread nD τ).loc main_arg0) : Vec Ideal S128x4x1024 .f32) (ix3 ⟨R.val / 4, by omega⟩ ⟨R.val % 4, by omega⟩ k) := by
  unfold row
  rw [V_x]
  exact cast_x ..

theorem wgt_eq (k : Fin 1024) : wgt m c k = (m ((c : Thread nD τ).loc main_arg1) : Vec Ideal S1x1024 .f32) (ix2 0 k) := by
  unfold wgt
  rw [V_nw]
  exact cast_nw ..

theorem win_eq (j : Fin 1024) (f : Fin 5632) : win m c j f = (m ((c : Thread nD τ).loc main_arg2) : Vec Ideal S1x1024x5632 .f32) (ix3 0 j f) := by
  unfold win
  rw [V_gu]
  exact cast_gu ..

theorem wout_eq (f : Fin 2816) (k : Fin 1024) : wout m c f k = (m ((c : Thread nD τ).loc main_arg3) : Vec Ideal S1x2816x1024 .f32) (ix3 0 f k) := by
  unfold wout
  rw [V_down]
  exact cast_down ..

theorem wfin_eq (k : Fin 1024) : wfin m c k = (m ((c : Thread nD τ).loc main_arg4) : Vec Ideal S1024 .f32) (ix1 k) := by
  unfold wfin
  rw [V_fw]
  exact cast_fw ..

end State

end Cert.FfnSIdeal.Tile
end
-- ==== Proof.FfnS.Ref.lean ====
/- The final feed-forward's reference, read: each row of its result is the same function of the row and the weights as the
   kernel's. -/
module

public import proofs.«01_k».proof.Proof.Gen.FfnSRefIdeal.Run
public import proofs.«01_k».proof.Proof.Gen.FfnSRefIdeal.Read
public import proofs.«01_k».proof.Proof.Common

@[expose] public section

set_option maxRecDepth 16384

noncomputable section

namespace Cert.FfnSRefIdeal.Rows

open Cert.FfnSRefIdeal Cert.FfnSRefIdeal.Read Idealize.ShloMosaic Idealize.ShloMosaic.TcCoe Idealize.SL.Sem

variable (x0 : Vec Ideal S128x4x1024 .f32) (x1 : Vec Ideal S1x1024 .f32) (x2 : Vec Ideal S1x1024x5632 .f32) (x3 : Vec Ideal S1x2816x1024 .f32)
  (x4 : Vec Ideal S1024 .f32)

theorem norm_apply (a : Fin 128) (b : Fin 4) (k : Fin 1024) :
    val_main_v13 (F := Ideal) x0 x1 (ix3 a b k) = Common.nrm (fun j => x0 (ix3 a b j)) (fun j => x1 (ix2 0 j)) k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem dot_apply (a : Fin 128) (b : Fin 4) (f : Fin 5632) :
    val_main_v15 (F := Ideal) x0 x1 x2 (ix3 a b f)
      = Common.dot (Common.nrm (fun j => x0 (ix3 a b j)) (fun j => x1 (ix2 0 j))) (fun j f => x2 (ix3 0 j f)) f := by
  pointwise [val_main_v15, val_main_v14]
  simp only [norm_apply]
  rfl

theorem mid_apply (a : Fin 128) (b : Fin 4) (f : Fin 2816) :
    val_main_v19 (F := Ideal) x0 x1 x2 (ix3 a b f)
      = Common.mid (Common.nrm (fun j => x0 (ix3 a b j)) (fun j => x1 (ix2 0 j))) (fun j f => x2 (ix3 0 j f)) f := by
  pointwise [val_main_v19, val_main_v18, val_main_v17, val_main_v16, val_main_call0_v0, val_main_call0_v1, val_main_call0_v2, val_main_call0_v3, val_main_call0_v4, val_main_call0_v5,
    val_main_call0_cst, val_main_call0_cst_0]
  simp only [dot_apply]
  rfl

theorem sum_apply (a : Fin 128) (b : Fin 4) (k : Fin 1024) :
    val_main_v24 (F := Ideal) x0 x1 x2 x3 (ix3 a b k)
      = x0 (ix3 a b k) + Common.half * Common.ffn (Common.nrm (fun j => x0 (ix3 a b j)) (fun j => x1 (ix2 0 j))) (fun j f => x2 (ix3 0 j f)) (fun f k => x3 (ix3 0 f k)) k := by
  pointwise [val_main_v24, val_main_v23, val_main_v22, val_main_v21, val_main_v20, val_main_cst_2]
  simp only [mid_apply]
  rfl

theorem res_apply (R : Fin 512) (k : Fin 1024) :
    val_main_v38 (F := Ideal) x0 x1 x2 x3 x4 (ix2 R k)
      = Common.nrm (fun k => x0 (ix3 ⟨R.val / 4, by omega⟩ ⟨R.val % 4, by omega⟩ k) + Common.half * Common.ffn (Common.nrm (fun j => x0 (ix3 ⟨R.val / 4, by omega⟩ ⟨R.val % 4, by omega⟩ j)) (fun j => x1 (ix2 0 j))) (fun j f => x2 (ix3 0 j f)) (fun f k => x3 (ix3 0 f k)) k) (fun j => x4 (ix1 j)) k := by
  pointwise [val_main_v38, val_main_v37, val_main_v36, val_main_v35, val_main_v34, val_main_v33, val_main_v32, val_main_v31, val_main_v30, val_main_v29, val_main_v28, val_main_v27, val_main_v26, val_main_v25, val_main_cst_3, val_main_cst_4, val_main_cst_5]
  simp only [sum_apply]
  rfl

end Cert.FfnSRefIdeal.Rows
end
-- ==== Proof.FfnS.Claims.lean ====
/- The claims about the final feed-forward (half-step residual and last norm): the kernel's and the reference's result
   arrays are the same rows (`Tile.G_apply`, `Rows.res_apply`) of the same arguments. -/
module

public import proofs.«01_k».proof.Defs
public import proofs.«01_k».proof.Proof.FfnS.Kernel
public import proofs.«01_k».proof.Proof.FfnS.Ref
public import proofs.«01_k».proof.Proof.Gen.FfnS
public import Idealize.ShloMosaic.Lib.Quiescent

@[expose] public section

noncomputable section

namespace Cert.Proof.FfnS

open Idealize.ShloMosaic Idealize.ShloMosaic.TcCoe Idealize.SL.Sem

/-- The two printings' bodies are one table: the labels are one, and there the functions' texts are the same. -/
theorem bodies_eq : Cert.FfnS.defs₀ (F := Bits) = Cert.FfnSIdeal.defs₀ (F := Bits) := by
  unfold Cert.FfnS.defs₀ Cert.FfnSIdeal.defs₀
  refine congrArg Defs.onTc ?_
  funext l x
  obtain rfl : l = 0 := Subsingleton.elim _ _
  rfl

theorem defs_eq : Cert.FfnS.defs (F := Bits) = Cert.FfnSIdeal.defs (F := Bits) :=
  congrArg (Pipeline.defs (Cert.FfnSIdeal.pcfgs (F := Bits))) bodies_eq

theorem main_eq : Cert.FfnS.main (F := Bits) = Cert.FfnSIdeal.main (F := Bits) := by
  unfold Cert.FfnS.main Cert.FfnSIdeal.main
  rfl

/-- The bit-exact program's frame, from the ideal printing's at the bit-exact instance. -/
theorem frame_kernel : Cert.quiescent_FfnS := fun m ρ _ => by
  have h := Cert.FfnSIdeal.Gen.frame (F := Bits) m ρ
  rw [← defs_eq, ← main_eq] at h
  exact h

theorem frame_ideal : Cert.quiescent_FfnSIdeal := fun m ρ _ => Cert.FfnSIdeal.Gen.frame (F := Ideal) m ρ

theorem frame_ref_ideal : Cert.quiescent_FfnSRefIdeal := fun m ρ _ =>
  (θ_run Cert.FfnSRefIdeal.defs _ _).mono (fun r h => ⟨fun c => (h c).2, sem_eq_zero_of_no_sems (by decide) r.2⟩)
    (Cert.FfnSRefIdeal.Value.run (F := Ideal) m ρ)

/-- The kernel's result is the reference's, element by element. -/
theorem result_eq (m : (ℓ : Loc Cert.FfnSIdeal.nD Cert.FfnSIdeal.τ Cert.FfnSIdeal.sig) → Buf (Elt Ideal) ℓ) (c : Dev Cert.FfnSIdeal.nD) :
    Cert.FfnSRefIdeal.Read.val_main_v38 (F := Ideal) (m ((c.tc : Thread Cert.FfnSIdeal.nD Cert.FfnSIdeal.τ).loc Cert.FfnSIdeal.main_arg0))
      (m ((c.tc : Thread Cert.FfnSIdeal.nD Cert.FfnSIdeal.τ).loc Cert.FfnSIdeal.main_arg1)) (m ((c.tc : Thread Cert.FfnSIdeal.nD Cert.FfnSIdeal.τ).loc Cert.FfnSIdeal.main_arg2))
      (m ((c.tc : Thread Cert.FfnSIdeal.nD Cert.FfnSIdeal.τ).loc Cert.FfnSIdeal.main_arg3)) (m ((c.tc : Thread Cert.FfnSIdeal.nD Cert.FfnSIdeal.τ).loc Cert.FfnSIdeal.main_arg4))
      = Cert.FfnSIdeal.Value.G6 m c := by
  funext (i : Cert.FfnSIdeal.S512x1024.Idx)
  obtain ⟨R, k, rfl⟩ : ∃ (R : Fin 512) (k : Fin 1024), i = ix2 R k := ⟨i 0, i 1, eq_ix2 i⟩
  refine (Cert.FfnSRefIdeal.Rows.res_apply _ _ _ _ _ R k).trans (Eq.trans ?_ (Cert.FfnSIdeal.Tile.G_apply m c R k).symm)
  unfold Cert.FfnSIdeal.Tile.res Cert.FfnSIdeal.Tile.hid
  rw [show Cert.FfnSIdeal.Tile.row m c R = _ from funext fun j => Cert.FfnSIdeal.Tile.row_eq m c R j,
    show Cert.FfnSIdeal.Tile.wgt m c = _ from funext fun j => Cert.FfnSIdeal.Tile.wgt_eq m c j,
    show Cert.FfnSIdeal.Tile.win m c = _ from funext fun j => funext fun f => Cert.FfnSIdeal.Tile.win_eq m c j f,
    show Cert.FfnSIdeal.Tile.wout m c = _ from funext fun f => funext fun j => Cert.FfnSIdeal.Tile.wout_eq m c f j,
    show Cert.FfnSIdeal.Tile.wfin m c = _ from funext fun j => Cert.FfnSIdeal.Tile.wfin_eq m c j]

/-- The kernel computes the reference's values. -/
theorem algebraic : Cert.algebraic_FfnSIdeal_FfnSRefIdeal := by
  intro m ρ m' ρ' _ hagree
  refine ⟨fun c => Cert.FfnSIdeal.Value.G6 m c, Cert.FfnSIdeal.Value.run (F := Ideal) m ρ, ?_⟩
  refine (θ_run Cert.FfnSRefIdeal.defs _ _).mono (fun _ h c => ⟨(h c).1.trans ?_, (h c).2⟩) (Cert.FfnSRefIdeal.Value.run (F := Ideal) m' ρ')
  rw [Cert.FfnSRefIdeal.Read.val_main_v38_eq]
  obtain ⟨e0, e1, e2, e3, e4⟩ := hagree c
  rw [e0, e1, e2, e3, e4]
  exact result_eq m c

end Cert.Proof.FfnS

end
-- ==== Proof.InprojS.Body.lean ====
/- The input projection's body at a decoding step's 512 rows: each point multiplies the normed rows, kept in scratch from the point that begins them, by
   1536 of the weight's rows. What each of its three kinds of points stores is stated here, for any floats. -/
module

public import proofs.«01_k».proof.Proof.Gen.InprojSIdeal.Frame
public import Idealize.ShloMosaic.Lib.Pipeline.ValueKit.Acc
public import Idealize.ShloMosaic.Lib.VecWindow

@[expose] public section

set_option maxRecDepth 16384

noncomputable section

namespace Cert.InprojSIdeal.Body

open Cert.InprojSIdeal Cert.InprojSIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values stored -/

/-- The rows divided by their root mean square and weighed. -/
def normed (x : Vec F S512x1024 .f32) (w : Vec F S1x1024 .f32) : FVec F S512x1024 .f32 :=
  have x' : FVec F S512x1024 .f32 := shapeCast S512x1024 x shapeCasts_S512x1024_S512x1024
  have w' : FVec F S1x1024 .f32 := shapeCast S1x1024 w shapeCasts_S1x1024_S1x1024
  have q : FVec F S512 .f32 := multiReduction .add [1] S512 (mulf x' x') 0x00000000#32 reduces_S512x1024_S512 (.inl rfl) rfl
  have mean : FVec F S512x1 .f32 := divf (shapeCast S512x1 q shapeCasts_S512_S512x1) (broadcast S512x1 (Scalar.ofBits .f32 0x44800000#32 : F .f32))
  have inv : FVec F S512x1 .f32 := rsqrt (addf mean (broadcast S512x1 (Scalar.ofBits .f32 0x358637BD#32 : F .f32)))
  mulf (mulf x' (broadcastTo S512x1024 inv broadcasts_S512x1_S512x1024)) (broadcastTo S512x1024 w' broadcasts_S1x1024_S512x1024)

/-- The normed rows, narrowed. -/
def narrow (x : Vec F S512x1024 .f32) (w : Vec F S1x1024 .f32) : FVec F S512x1024 .bf16 :=
  truncf .bf16 (normed x w) bitsLt_bf16_f32

/-- The rows kept in scratch: the narrowed rows. -/
def kept (x : Vec F S512x1024 .f32) (w : Vec F S1x1024 .f32) : FVec F S512x1024 .bf16 :=
  shapeCast S512x1024 (narrow x w) shapeCasts_S512x1024_S512x1024

/-- The sixteen columns of the gates: a product in two narrow parts, rotated and added. -/
def gates (x : Vec F S512x1024 .f32) (w : Vec F S1x1024 .f32) (b b' : Vec F S256x1024 .bf16) : FVec F S512x128 .f32 :=
  have lo : FVec F S512x1024 .bf16 := truncf .bf16 (subf (normed x w) (extf .f32 (narrow x w) bitsLt_bf16_f32)) bitsLt_bf16_f32
  have part (h : FVec F S512x1024 .bf16) (b : Vec F S256x1024 .bf16) : FVec F S512x128 .f32 := extractStridedSlice S512x128 ![0, 0]
    (matmul dot_S512x1024_S256x1024_S512x256_1_1_0_0_n_n none h (shapeCast S256x1024 b shapeCasts_S256x1024_S256x1024 : FVec F S256x1024 .bf16) (constant S512x256 .f32 0x00000000#32)) slices_S512x256_o0_0_S512x128
  have p : FVec F S512x128 .f32 := part (narrow x w) b
  select (cmpi .slt (iota .tc S512x128 32 [1] iota_S512x128_d1_w32) (broadcast S512x128 (16#32 : BitVec 32)))
    (addf (addf p (dynamicRotate 1 (112#32 : BitVec 32) none p rotates_S512x128_d1)) (part lo b')) (broadcast S512x128 (Scalar.ofBits .f32 0x00000000#32 : F .f32))

/-- The rows in scratch times 1536 rows of the weight. -/
def wide (h : Vec F S512x1024 .bf16) (b : Vec F S1536x1024 .bf16) : FVec F S512x1536 .f32 :=
  matmul dot_S512x1024_S1536x1024_S512x1536_1_1_0_0_n_n none h (shapeCast S1536x1024 b shapeCasts_S1536x1024_S1536x1024 : FVec F S1536x1024 .bf16) (constant S512x1536 .f32 0x00000000#32)

/-! ## The body over these values -/

variable (i : grid0.Coords) (arg2 : Memref sig .tc .vmem S512x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S256x1024 .bf16) (harg5 : arg5.IsWhole) (arg6 : Memref sig .tc .vmem S512x1536 .f32) (harg6 : arg6.IsWhole) (arg7 : Memref sig .tc .vmem S512x1536 .f32) (harg7 : arg7.IsWhole) (arg8 : Memref sig .tc .vmem S512x128 .f32) (harg8 : arg8.IsWhole) (arg9 : Memref sig .tc .vmem S512x1024 .bf16) (harg9 : arg9.IsWhole)

/-- The body as loads and stores of the values above. -/
def text : Prog (TpuEff nD τ sig (Elt F) Λ₀ .tc) PUnit := do
  if _h : k0_cond1 i = 1#1 then do
    let x : Vec F S512x1024 .f32 ← Prog.lift (.load arg2 (Rect.unit (s := S512x1024) ![0, 0] S512x1024.size inb_S512x1024_S512x1024_0_0).toLoadRect (View.loadsAt_vmem h_S512x1024))
    let w : Vec F S1x1024 .f32 ← Prog.lift (.load arg3 (Rect.unit (s := S1x1024) ![0, 0] S1x1024.size inb_S1x1024_S1x1024_0_0).toLoadRect (View.loadsAt_vmem h_S1x1024))
    let _ : Vec F S512x1024 .bf16 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) (kept x w) Finset.univ (View.stores_vmem h_S512x1024 (harg9.storeExact_slice rfl _ packedbf16_S512x1024_S512x1024_0_0) (fun _ => rfl)) (.inl rfl))
    let b : Vec F S256x1024 .bf16 ← Prog.lift (.load arg5 (Rect.unit (s := S256x1024) ![0, 0] S256x1024.size inb_S256x1024_S256x1024_0_0).toLoadRect (View.loadsAt_vmem h_S256x1024))
    let b' : Vec F S256x1024 .bf16 ← Prog.lift (.load arg5 (Rect.unit (s := S256x1024) ![0, 0] S256x1024.size inb_S256x1024_S256x1024_0_0).toLoadRect (View.loadsAt_vmem h_S256x1024))
    let _ : Vec F S512x128 .f32 ← Prog.lift (.load arg8 (Rect.unit (s := S512x128) ![0, 0] S512x128.size inb_S512x128_S512x128_0_0).toLoadRect (View.loadsAt_vmem h_S512x128))
    Prog.lift (.store arg8 (Rect.unit (s := S512x128) ![0, 0] S512x128.size inb_S512x128_S512x128_0_0) (gates x w b b') Finset.univ (View.stores_vmem_bits_univ h_S512x128 rfl) (.inl rfl))
    pure ⟨⟩
  else pure ⟨⟩
  if _h : k0_cond2 i = 1#1 then do
    let h : Vec F S512x1024 .bf16 ← Prog.lift (.load arg9 (Rect.unit (s := S512x1024) ![0, 0] S512x1024.size inb_S512x1024_S512x1024_0_0).toLoadRect (View.loadsAt_vmem h_S512x1024))
    let b : Vec F S1536x1024 .bf16 ← Prog.lift (.load arg4 (Rect.unit (s := S1536x1024) ![0, 0] S1536x1024.size inb_S1536x1024_S1536x1024_0_0).toLoadRect (View.loadsAt_vmem h_S1536x1024))
    let _ : Vec F S512x1536 .f32 ← Prog.lift (.load arg6 (Rect.unit (s := S512x1536) ![0, 0] S512x1536.size inb_S512x1536_S512x1536_0_0).toLoadRect (View.loadsAt_vmem h_S512x1536))
    Prog.lift (.store arg6 (Rect.unit (s := S512x1536) ![0, 0] S512x1536.size inb_S512x1536_S512x1536_0_0) (wide h b) Finset.univ (View.stores_vmem_bits_univ h_S512x1536 rfl) (.inl rfl))
    pure ⟨⟩
  else pure ⟨⟩
  if _h : k0_cond3 i = 1#1 then do
    let h : Vec F S512x1024 .bf16 ← Prog.lift (.load arg9 (Rect.unit (s := S512x1024) ![0, 0] S512x1024.size inb_S512x1024_S512x1024_0_0).toLoadRect (View.loadsAt_vmem h_S512x1024))
    let b : Vec F S1536x1024 .bf16 ← Prog.lift (.load arg4 (Rect.unit (s := S1536x1024) ![0, 0] S1536x1024.size inb_S1536x1024_S1536x1024_0_0).toLoadRect (View.loadsAt_vmem h_S1536x1024))
    let _ : Vec F S512x1536 .f32 ← Prog.lift (.load arg7 (Rect.unit (s := S512x1536) ![0, 0] S512x1536.size inb_S512x1536_S512x1536_0_0).toLoadRect (View.loadsAt_vmem h_S512x1536))
    Prog.lift (.store arg7 (Rect.unit (s := S512x1536) ![0, 0] S512x1536.size inb_S512x1536_S512x1536_0_0) (wide h b) Finset.univ (View.stores_vmem_bits_univ h_S512x1536 rfl) (.inl rfl))
    pure ⟨⟩
  else pure ⟨⟩
  pure ⟨⟩

set_option maxRecDepth 65536 in
theorem text_eq : cc0_inproj (F := F) i arg2 harg2 arg3 harg3 arg4 harg4 arg5 harg5 arg6 harg6 arg7 harg7 arg8 harg8 arg9 harg9 = text (F := F) i arg2 arg3 arg4 arg5 arg6 arg7 arg8 arg9 harg9 := rfl

set_option maxHeartbeats 1000000 in
/-- The first point: it fills the scratch and stores the gates and a block of the first result. -/
theorem run_first (c : Dev nD) (hc1 : k0_cond1 i = 1#1) (hc2 : k0_cond2 i = 1#1) (hc3 : ¬k0_cond3 i = 1#1)
    (x : Vec F S512x1024 .f32) (w : Vec F S1x1024 .f32) (b : Vec F S1536x1024 .bf16) (g : Vec F S256x1024 .bf16) (E : Set ℕ) (K : PUnit → sProp 𝕄) :
    iprop(owns (c : Thread nD τ) arg2 fullShare x ∗ owns (c : Thread nD τ) arg3 fullShare w ∗ owns (c : Thread nD τ) arg4 fullShare b ∗ owns (c : Thread nD τ) arg5 fullShare g ∗ (∃ d, owns (c : Thread nD τ) arg6 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare w ∗ owns (c : Thread nD τ) arg4 fullShare b ∗ owns (c : Thread nD τ) arg5 fullShare g ∗ owns (c : Thread nD τ) arg6 fullShare (wide (kept x w) b) ∗ owns (c : Thread nD τ) arg8 fullShare (gates x w g g) ∗ owns (c : Thread nD τ) arg9 fullShare (kept x w)) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  rw [text_eq]; unfold text
  unfold owns
  iintro ⟨⟨%f0, %hf0, H0⟩, ⟨%f1, %hf1, H1⟩, ⟨%f2, %hf2, H2⟩, ⟨%f3, %hf3, H3⟩, ⟨%d0, %e0, -, O0⟩, ⟨%d1, %e1, -, O1⟩, ⟨%ds, %fs, -, S⟩, Hk⟩
  obtain rfl := harg2.eq_unread hf0; obtain rfl := harg3.eq_unread hf1; obtain rfl := harg4.eq_unread hf2; obtain rfl := harg5.eq_unread hf3
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [O0]
  · iexists _; isplitr
    swap; · iexact O0
    ipureintro; (refine (View.read_writes_full _ _ _ _ _).trans ?_; simp (disch := decide) only [View.readAt_eq_ld, View.read_writes_full, Memref.IsWhole.read_unread, View.ld_unit_lit']; unfold run_first.sl.h run_first.sl.S_1; simp (disch := decide) only [View.readCov, View.readAt_eq_ld, View.read_writes_full, Memref.IsWhole.read_unread, View.ld_unit_lit']; try rw [View.read_writes_full])
  isplitl [O1]
  · iexists _; isplitr
    swap; · iexact O1
    ipureintro; (refine (View.read_writes_full _ _ _ _ _).trans ?_; simp (disch := decide) only [View.readAt_eq_ld, View.read_writes_full, Memref.IsWhole.read_unread, View.ld_unit_lit'])
  iexists _; isplitr
  swap; · iexact S
  ipureintro; (refine (View.read_writes_full _ _ _ _ _).trans ?_; simp (disch := decide) only [View.readAt_eq_ld, View.read_writes_full, Memref.IsWhole.read_unread, View.ld_unit_lit'])

set_option maxHeartbeats 1000000 in
/-- The next three points: a block of the first result. -/
theorem run_mid (c : Dev nD) (hc1 : ¬k0_cond1 i = 1#1) (hc2 : k0_cond2 i = 1#1) (hc3 : ¬k0_cond3 i = 1#1)
    (b : Vec F S1536x1024 .bf16) (h : Vec F S512x1024 .bf16) (E : Set ℕ) (K : PUnit → sProp 𝕄) :
    iprop(owns (c : Thread nD τ) arg4 fullShare b ∗ (∃ d, owns (c : Thread nD τ) arg6 fullShare d) ∗ owns (c : Thread nD τ) arg9 fullShare h
        ∗ (iprop(owns (c : Thread nD τ) arg4 fullShare b ∗ owns (c : Thread nD τ) arg6 fullShare (wide h b) ∗ owns (c : Thread nD τ) arg9 fullShare (h)) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  rw [text_eq]; unfold text
  unfold owns
  iintro ⟨⟨%f0, %hf0, H0⟩, ⟨%d0, %e0, -, O0⟩, ⟨%fs, %hfs, S⟩, Hk⟩
  obtain rfl := harg4.eq_unread hf0; obtain rfl := harg9.eq_unread hfs
  sl_exec (disch := first | sl_exact hc1 | sl_exact hc2 | sl_exact hc3)
  sl_step
  iapply Hk
  isplitl [H0]
  · iexists _; isplitr; · ipureintro; exact harg4.read_unread _
    iexact H0
  isplitl [O0]
  · iexists _; isplitr
    swap; · iexact O0
    ipureintro; (refine (View.read_writes_full _ _ _ _ _).trans ?_; simp (disch := decide) only [View.readAt_eq_ld, View.read_writes_full, Memref.IsWhole.read_unread, View.ld_unit_lit'])
  iexists _; isplitr; · ipureintro; exact harg9.read_unread _
  iexact S

set_option maxHeartbeats 1000000 in
/-- The last three points: a block of the second result. -/
theorem run_late (c : Dev nD) (hc1 : ¬k0_cond1 i = 1#1) (hc2 : ¬k0_cond2 i = 1#1) (hc3 : k0_cond3 i = 1#1)
    (b : Vec F S1536x1024 .bf16) (h : Vec F S512x1024 .bf16) (E : Set ℕ) (K : PUnit → sProp 𝕄) :
    iprop(owns (c : Thread nD τ) arg4 fullShare b ∗ (∃ d, owns (c : Thread nD τ) arg7 fullShare d) ∗ owns (c : Thread nD τ) arg9 fullShare h
        ∗ (iprop(owns (c : Thread nD τ) arg4 fullShare b ∗ owns (c : Thread nD τ) arg7 fullShare (wide h b) ∗ owns (c : Thread nD τ) arg9 fullShare (h)) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  rw [text_eq]; unfold text
  unfold owns
  iintro ⟨⟨%f0, %hf0, H0⟩, ⟨%d0, %e0, -, O0⟩, ⟨%fs, %hfs, S⟩, Hk⟩
  obtain rfl := harg4.eq_unread hf0; obtain rfl := harg9.eq_unread hfs
  sl_exec (disch := first | sl_exact hc1 | sl_exact hc2 | sl_exact hc3)
  sl_step
  iapply Hk
  isplitl [H0]
  · iexists _; isplitr; · ipureintro; exact harg4.read_unread _
    iexact H0
  isplitl [O0]
  · iexists _; isplitr
    swap; · iexact O0
    ipureintro; (refine (View.read_writes_full _ _ _ _ _).trans ?_; simp (disch := decide) only [View.readAt_eq_ld, View.read_writes_full, Memref.IsWhole.read_unread, View.ld_unit_lit'])
  iexists _; isplitr; · ipureintro; exact harg9.read_unread _
  iexact S

end Cert.InprojSIdeal.Body
end
-- ==== Proof.InprojS.Frame.lean ====
/- The input projection's run at a decoding step's 512 rows: what each window's buffer holds after every point, the scratch carried from a row of blocks'
   first point to its last, and the frame, for any floats. -/
module

public import proofs.«01_k».proof.Proof.InprojS.Body
public import Idealize.ShloMosaic.Lib.Claim

@[expose] public section

set_option maxRecDepth 16384

noncomputable section

namespace Cert.InprojSIdeal.Body

open Cert.InprojSIdeal Cert.InprojSIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N : cfg0.N = 7 := N_0

theorem cond1 : ∀ t : Fin cfg0.N, k0_cond1 (grid0.coords t) = 1#1 ↔ t.val % 7 = 0 :=
  (fun t => by
    have ht : t.val < 7 := Nat.lt_of_lt_of_eq t.isLt N_0
    have e1 : (grid0.coords t 1).val = t.val / 1 % 7 := Pipeline.Grid.coords_val t 1 (by decide) rfl
    simp only [k0_cond1, e1]
    word_cmp
   : ∀ t : Fin grid0.N, k0_cond1 (grid0.coords t) = 1#1 ↔ t.val % 7 = 0)

theorem cond2 : ∀ t : Fin cfg0.N, k0_cond2 (grid0.coords t) = 1#1 ↔ t.val % 7 < 4 :=
  (fun t => by
    have ht : t.val < 7 := Nat.lt_of_lt_of_eq t.isLt N_0
    have e1 : (grid0.coords t 1).val = t.val / 1 % 7 := Pipeline.Grid.coords_val t 1 (by decide) rfl
    simp only [k0_cond2, e1]
    word_cmp
   : ∀ t : Fin grid0.N, k0_cond2 (grid0.coords t) = 1#1 ↔ t.val % 7 < 4)

theorem cond3 : ∀ t : Fin cfg0.N, k0_cond3 (grid0.coords t) = 1#1 ↔ 4 ≤ t.val % 7 :=
  (fun t => by
    have ht : t.val < 7 := Nat.lt_of_lt_of_eq t.isLt N_0
    have e1 : (grid0.coords t 1).val = t.val / 1 % 7 := Pipeline.Grid.coords_val t 1 (by decide) rfl
    simp only [k0_cond3, e1]
    word_cmp
   : ∀ t : Fin grid0.N, k0_cond3 (grid0.coords t) = 1#1 ↔ 4 ≤ t.val % 7)

theorem idle4 (t : Fin cfg0.N) : cfg0.idle 4 (grid0.coords t) = !(k0_cond2 (grid0.coords t) == 1#1) := rfl
theorem idle5 (t : Fin cfg0.N) : cfg0.idle 5 (grid0.coords t) = !(k0_cond3 (grid0.coords t) == 1#1) := rfl
theorem idle6 (t : Fin cfg0.N) : cfg0.idle 6 (grid0.coords t) = !(k0_cond1 (grid0.coords t) == 1#1) := rfl

/-- Between a window's last change in a row of blocks and the row's last point nothing is written back. -/
theorem flush4 : ∀ t : Fin cfg0.N, 3 ≤ t.val % 7 → t.val % 7 < 6 → (cfg0.win 4).flush t = false :=
  (by decide +kernel : ∀ t : Fin grid0.N, 3 ≤ t.val % 7 → t.val % 7 < 6 → win0_4.flush t = false)
theorem flush5 : ∀ t : Fin cfg0.N, t.val % 7 < 4 → (cfg0.win 5).flush t = false :=
  (by decide +kernel : ∀ t : Fin grid0.N, t.val % 7 < 4 → win0_5.flush t = false)
theorem flush6 : ∀ t : Fin cfg0.N, 0 ≤ t.val % 7 → t.val % 7 < 6 → (cfg0.win 6).flush t = false :=
  (by decide +kernel : ∀ t : Fin grid0.N, 0 ≤ t.val % 7 → t.val % 7 < 6 → win0_6.flush t = false)

/-- The point of `t`'s row of blocks at `t`'s own place, or at place `k` once that is past. -/
def upto (k : ℕ) (t : Fin cfg0.N) : Fin cfg0.N := ⟨7 * (t.val / 7) + min (t.val % 7) k, by have := t.isLt; omega⟩

theorem upto_of {k : ℕ} {t : Fin cfg0.N} (h : t.val % 7 ≤ k) : upto k t = t := Fin.ext (by unfold upto; dsimp only; omega)

theorem upto_step {k j : ℕ} (hj : j ≤ k) {t t' : Fin cfg0.N} (e : t'.val + 1 = t.val) (h : k < t.val % 7) : upto j t = upto j t' :=
  Fin.ext (by unfold upto; dsimp only; omega)

/-! ## What the buffers hold -/

/-- The scratch after point `t`: the rows of `t`'s row of blocks. -/
def scr (c : Dev nD) (t : Fin cfg0.N) : Vec F S512x1024 .bf16 := kept (iblk m c 0 (upto 0 t)) (iblk m c 1 (upto 0 t))

theorem scr_first (c : Dev nD) {t : Fin cfg0.N} (h : t.val % 7 = 0) : scr m c t = kept (iblk m c 0 t) (iblk m c 1 t) :=
  congrArg (fun s => kept (iblk m c 0 s) (iblk m c 1 s)) (upto_of (k := 0) (t := t) (by omega))

theorem scr_step (c : Dev nD) {t t' : Fin cfg0.N} (e : t'.val + 1 = t.val) (h : 0 < t.val % 7) : scr m c t = scr m c t' :=
  congrArg (fun s => kept (iblk m c 0 s) (iblk m c 1 s)) (upto_step (k := 0) le_rfl e h)

/-- The three results' blocks after point `t`. -/
def res4 (c : Dev nD) (t : Fin cfg0.N) : Vec F S512x1536 .f32 := wide (scr m c t) (iblk m c 2 (upto 3 t))
def res5 (c : Dev nD) (t : Fin cfg0.N) : Vec F S512x1536 .f32 := wide (scr m c t) (iblk m c 2 t)
def res6 (c : Dev nD) (t : Fin cfg0.N) : Vec F S512x128 .f32 :=
  gates (iblk m c 0 (upto 0 t)) (iblk m c 1 (upto 0 t)) (iblk m c 3 (upto 0 t)) (iblk m c 3 (upto 0 t))

abbrev mem0 (t : Fin cfg0.N) : Memref sig .tc .vmem S512x1024 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x1024 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1536x1024 .bf16 := win0_2.stage (cfg0.slots t 2)
abbrev whole2 (t : Fin cfg0.N) : (mem2 t).IsWhole := hstage0_2 ((cfg0.slots t 2).cast nbuf0_2)
abbrev mem3 (t : Fin cfg0.N) : Memref sig .tc .vmem S256x1024 .bf16 := win0_3.stage (cfg0.slots t 3)
abbrev whole3 (t : Fin cfg0.N) : (mem3 t).IsWhole := hstage0_3 ((cfg0.slots t 3).cast nbuf0_3)
abbrev mem4 (t : Fin cfg0.N) : Memref sig .tc .vmem S512x1536 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S512x1536 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S512x128 .f32 := win0_6.stage (cfg0.slots t 6)
abbrev whole6 (t : Fin cfg0.N) : (mem6 t).IsWhole := hstage0_6 ((cfg0.slots t 6).cast nbuf0_6)
abbrev scrMem : Memref sig .tc .vmem S512x1024 .bf16 := Memref.whole cc0_scratch0

/-- The scoped buffers the region is handed: the scratch at anything, and the generator's register. -/
theorem scoped_eq (c : Dev nD) :
    (Pipeline.ΦA spec0 c : sProp 𝕄)
      = iprop(iprop((∃ d, owns (c : Thread nD τ) scrMem fullShare d)) ∗ (∃ r, prngReg c r)) := by
  unfold Pipeline.ΦA; rw [scopedRest0_eq]; simp only [scrMem, owns_whole]; try rfl

/-- The invariant: nothing known of the scratch before the first point, then its rows. -/
def inv (c : Dev nD) : (n : ℕ) → n ≤ cfg0.N → sProp 𝕄
  | 0, _ => Pipeline.ΦA spec0 c
  | n + 1, hn => iprop(iprop(owns (c : Thread nD τ) scrMem fullShare (scr m c ⟨n, hn⟩)) ∗ (∃ r, prngReg c r))

theorem inv_any (c : Dev nD) : (n : ℕ) → (h : n ≤ cfg0.N) → inv m c n h ⊢ iprop(iprop((∃ d, owns (c : Thread nD τ) scrMem fullShare d)) ∗ (∃ r, prngReg c r))
  | 0, _ => by rw [← scoped_eq]; exact .rfl
  | n + 1, hn => by
    unfold inv
    iintro ⟨H, Hg⟩
    isplitl [H]
    · iexists _; iexact H
    iexact Hg

theorem inv_at (c : Dev nD) (t : Fin cfg0.N) (h : 0 < t.val % 7) : inv m c t.val (Nat.le_of_lt t.isLt)
    = iprop(iprop(owns (c : Thread nD τ) scrMem fullShare (scr m c t)) ∗ (∃ r, prngReg c r)) := by
  obtain ⟨n, hn⟩ := t
  cases n with
  | zero => exact absurd h (by simp)
  | succ n => rw [scr_step m c (t' := ⟨n, Nat.lt_of_succ_lt hn⟩) rfl h]; rfl

/-- The arrays as the region finds them, and every buffer after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res4 m c t
    | ⟨5, _⟩ => res5 m c t
    | ⟨6, _⟩ => res6 m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = res4 m c t := by dsimp only [dats]
theorem after5 (c : Dev nD) (t : Fin cfg0.N) : (dats m 0 c).after 5 t = res5 m c t := by dsimp only [dats]
theorem after6 (c : Dev nD) (t : Fin cfg0.N) : (dats m 0 c).after 6 t = res6 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## Buffers a point leaves alone -/

/-- A result idle from place `J` of a row of blocks on, not written back before the row's last point, holds there what its
    last change left. -/
theorem before_run {c : Dev nD} (dat : Dat τ (Elt F) Unit ℕ (UR sig nD τ) ℕ cfg0 c) (w : Fin cfg0.W) (J : ℕ) (hJ : 0 < J)
    (hin : ∀ t, (cfg0.win w).fetch t = false)
    (hlive : ∀ t : Fin cfg0.N, t.val % 7 < J → cfg0.idle w (grid0.coords t) = false)
    (hidle : ∀ t : Fin cfg0.N, J ≤ t.val % 7 → cfg0.idle w (grid0.coords t) = true)
    (hflush : ∀ t : Fin cfg0.N, J - 1 ≤ t.val % 7 → t.val % 7 < 6 → (cfg0.win w).flush t = false)
    (hkept : ∀ t d, dat.kept w t d = dat.after w t)
    (hafter : ∀ t t' : Fin cfg0.N, t'.val + 1 = t.val → J ≤ t.val % 7 → dat.after w t = dat.after w t') :
    ∀ (n : ℕ) (t : Fin cfg0.N), t.val = n → J ≤ t.val % 7 → ∀ d, dat.before w t d = dat.after w t := by
  intro n
  induction n with
  | zero => intro t ht h d; exfalso; rw [ht] at h; simp at h; omega
  | succ n ih =>
    intro t ht h d
    have hlt : n < cfg0.N := by have := t.isLt; omega
    have e : (⟨t.val - 1, Nat.lt_of_le_of_lt (Nat.sub_le _ _) t.isLt⟩ : Fin cfg0.N) = ⟨n, hlt⟩ := Fin.ext (by dsimp only; omega)
    have hf : (cfg0.win w).flush ⟨n, hlt⟩ = false := hflush _ (by dsimp only; omega) (by dsimp only; omega)
    rw [dat.before_of_pos w t (by omega) (hin t) d, e, hf, if_neg Bool.false_ne_true]
    rw [hafter t ⟨n, hlt⟩ (by dsimp only; omega) h]
    unfold Dat.left
    by_cases hn : J ≤ n % 7
    · rw [hidle ⟨n, hlt⟩ hn]; exact ih ⟨n, hlt⟩ rfl hn d
    · rw [hlive ⟨n, hlt⟩ (by dsimp only; omega)]; exact hkept _ d

theorem leaves_live {c : Dev nD} (dat : Dat τ (Elt F) Unit ℕ (UR sig nD τ) ℕ cfg0 c) (w : Fin cfg0.W) (t : Fin cfg0.N)
    (hi : cfg0.idle w (grid0.coords t) = false) :
    owns (c : Thread nD τ) ((cfg0.win w).stage (cfg0.slots t w)) fullShare (dat.after w t) ⊢ dat.leavesExact w t := by
  unfold Dat.leavesExact
  rw [show cfg0.idle w (cfg0.grid.coords t) = false from hi]

theorem leaves_idle {c : Dev nD} (dat : Dat τ (Elt F) Unit ℕ (UR sig nD τ) ℕ cfg0 c) (w : Fin cfg0.W) (t : Fin cfg0.N)
    (hi : cfg0.idle w (grid0.coords t) = true) (d) (hb : (cfg0.win w).flush t = true → dat.before w t d = dat.after w t) :
    owns (c : Thread nD τ) ((cfg0.win w).stage (cfg0.slots t w)) fullShare (dat.before w t d) ⊢ dat.leavesExact w t := by
  unfold Dat.leavesExact
  rw [show cfg0.idle w (cfg0.grid.coords t) = true from hi]
  cases hf : (cfg0.win w).flush t with
  | false => dsimp only; iintro H; iexists d; iexact H
  | true => rw [hb hf]

theorem live4 (t : Fin cfg0.N) (h : t.val % 7 < 4) : cfg0.idle 4 (grid0.coords t) = false := by
  rw [idle4, (cond2 t).mpr h]; rfl
theorem rest4 (t : Fin cfg0.N) (h : ¬t.val % 7 < 4) : cfg0.idle 4 (grid0.coords t) = true := by
  rw [idle4, beq_eq_false_iff_ne.mpr fun e => h ((cond2 t).mp e)]; rfl
theorem live5 (t : Fin cfg0.N) (h : 4 ≤ t.val % 7) : cfg0.idle 5 (grid0.coords t) = false := by
  rw [idle5, (cond3 t).mpr h]; rfl
theorem rest5 (t : Fin cfg0.N) (h : ¬4 ≤ t.val % 7) : cfg0.idle 5 (grid0.coords t) = true := by
  rw [idle5, beq_eq_false_iff_ne.mpr fun e => h ((cond3 t).mp e)]; rfl
theorem live6 (t : Fin cfg0.N) (h : t.val % 7 = 0) : cfg0.idle 6 (grid0.coords t) = false := by
  rw [idle6, (cond1 t).mpr h]; rfl
theorem rest6 (t : Fin cfg0.N) (h : ¬t.val % 7 = 0) : cfg0.idle 6 (grid0.coords t) = true := by
  rw [idle6, beq_eq_false_iff_ne.mpr fun e => h ((cond1 t).mp e)]; rfl
theorem leave4 (c : Dev nD) (t : Fin cfg0.N) (h : 4 ≤ t.val % 7) (d) :
    owns (c : Thread nD τ) (mem4 t) fullShare ((dats m 0 c).before 4 t d) ⊢ (dats m 0 c).leavesExact 4 t :=
  leaves_idle _ 4 t (rest4 t (by omega)) d fun _ => before_run (dats m 0 c) 4 4 (by decide) (fun _ => rfl) (fun t h => live4 t (by omega))
    (fun t h => rest4 t (by omega)) (fun t h h' => flush4 t (by omega) h') (fun _ _ => rfl)
    (fun t t' e h => by rw [after4, after4]; exact by unfold res4; rw [scr_step m c e (by omega), upto_step (k := 3) (j := 3) le_rfl e (by omega)]) _ t rfl h d
theorem leave6 (c : Dev nD) (t : Fin cfg0.N) (h : 1 ≤ t.val % 7) (d) :
    owns (c : Thread nD τ) (mem6 t) fullShare ((dats m 0 c).before 6 t d) ⊢ (dats m 0 c).leavesExact 6 t :=
  leaves_idle _ 6 t (rest6 t (by omega)) d fun _ => before_run (dats m 0 c) 6 1 (by decide) (fun _ => rfl) (fun t h => live6 t (by omega))
    (fun t h => rest6 t (by omega)) (fun t h h' => flush6 t (by omega) h') (fun _ _ => rfl)
    (fun t t' e h => by rw [after6, after6]; exact by unfold res6; rw [upto_step (k := 0) (j := 0) le_rfl e (by omega)]) _ t rfl h d
theorem leave5 (c : Dev nD) (t : Fin cfg0.N) (h : t.val % 7 < 4) (d) :
    owns (c : Thread nD τ) (mem5 t) fullShare ((dats m 0 c).before 5 t d) ⊢ (dats m 0 c).leavesExact 5 t :=
  leaves_idle _ 5 t (rest5 t (by omega)) d fun hf => absurd hf (by rw [flush5 t h]; exact Bool.false_ne_true)

theorem give4 (c : Dev nD) (t : Fin cfg0.N) (h : t.val % 7 < 4) :
    owns (c : Thread nD τ) (mem4 t) fullShare (res4 m c t) ⊢ (dats m 0 c).leavesExact 4 t :=
  after4 m c t ▸ leaves_live (dats m 0 c) 4 t (live4 t h)
theorem give5 (c : Dev nD) (t : Fin cfg0.N) (h : 4 ≤ t.val % 7) :
    owns (c : Thread nD τ) (mem5 t) fullShare (res5 m c t) ⊢ (dats m 0 c).leavesExact 5 t :=
  after5 m c t ▸ leaves_live (dats m 0 c) 5 t (live5 t h)
theorem give6 (c : Dev nD) (t : Fin cfg0.N) (h : t.val % 7 = 0) :
    owns (c : Thread nD τ) (mem6 t) fullShare (res6 m c t) ⊢ (dats m 0 c).leavesExact 6 t :=
  after6 m c t ▸ leaves_live (dats m 0 c) 6 t (live6 t h)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ (dats m 0 c).leavesExact 4 t
    ∗ (dats m 0 c).leavesExact 5 t
    ∗ (dats m 0 c).leavesExact 6 t)

set_option maxHeartbeats 1600000 in
theorem sound_first (c : Dev nD) (t : Fin cfg0.N) (h : t.val % 7 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = iprop(iprop(owns (c : Thread nD τ) scrMem fullShare (scr m c t)) ∗ (∃ r, prngReg c r)) from rfl]
  rw [inv_castSucc m c t]
  refine (sep_mono (inv_any m c _ _) .rfl).trans ?_
  iintro ⟨⟨S, Hg⟩, Ho, ⟨%d0, H0⟩, ⟨%d1, H1⟩, ⟨%d2, H2⟩, ⟨%d3, H3⟩, ⟨%d4, H4⟩, ⟨%d5, H5⟩, ⟨%d6, H6⟩⟩
  iapply (run_first (grid0.coords t) _ (whole0 t) _ (whole1 t) _ (whole2 t) _ (whole3 t) _ (whole4 t) _ (whole5 t) _ (whole6 t) scrMem (Memref.isWhole_whole _) c ((cond1 t).mpr (by omega)) ((cond2 t).mpr (by omega)) (fun e => absurd ((cond3 t).mp e) (by omega)) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H6]; · iexists _; iexact H6
  isplitl [S]; · iexact S
  iintro ⟨H0, H1, H2, H3, H4, H6, S⟩
  isplitl [S Hg]
  · isplitl [S]
    · rw [scr_first m c h]; iexact S
    iexact Hg
  isplitl [Ho]; · iexact Ho
  isplitl [H0]; · iexact H0
  isplitl [H1]; · iexact H1
  isplitl [H2]; · iexact H2
  isplitl [H3]; · iexact H3
  isplitl [H4]
  · iapply (give4 m c t (by omega))
    unfold res4; rw [scr_first m c h, upto_of (k := 3) (t := t) (by omega)]; iexact H4
  isplitl [H5]
  · iapply (leave5 m c t (by omega) d5)
    iexact H5
  iapply (give6 m c t (by omega))
  unfold res6; rw [upto_of (k := 0) (t := t) (by omega)]; iexact H6

set_option maxHeartbeats 1600000 in
theorem sound_mid (c : Dev nD) (t : Fin cfg0.N) (h : 1 ≤ t.val % 7) (h' : t.val % 7 < 4) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = iprop(iprop(owns (c : Thread nD τ) scrMem fullShare (scr m c t)) ∗ (∃ r, prngReg c r)) from rfl]
  rw [inv_castSucc m c t, inv_at m c t (by omega)]
  iintro ⟨⟨S, Hg⟩, Ho, ⟨%d0, H0⟩, ⟨%d1, H1⟩, ⟨%d2, H2⟩, ⟨%d3, H3⟩, ⟨%d4, H4⟩, ⟨%d5, H5⟩, ⟨%d6, H6⟩⟩
  iapply (run_mid (grid0.coords t) _ (whole0 t) _ (whole1 t) _ (whole2 t) _ (whole3 t) _ (whole4 t) _ (whole5 t) _ (whole6 t) scrMem (Memref.isWhole_whole _) c (fun e => absurd ((cond1 t).mp e) (by omega)) ((cond2 t).mpr (by omega)) (fun e => absurd ((cond3 t).mp e) (by omega)) (iblk m c 2 t) (scr m c t) Set.univ _)
  isplitl [H2]; · iexact H2
  isplitl [H4]; · iexists _; iexact H4
  isplitl [S]; · iexact S
  iintro ⟨H2, H4, S⟩
  isplitl [S Hg]
  · isplitl [S]
    · iexact S
    iexact Hg
  isplitl [Ho]; · iexact Ho
  isplitl [H0]; · iexact H0
  isplitl [H1]; · iexact H1
  isplitl [H2]; · iexact H2
  isplitl [H3]; · iexact H3
  isplitl [H4]
  · iapply (give4 m c t (by omega))
    unfold res4; rw [upto_of (k := 3) (t := t) (by omega)]; iexact H4
  isplitl [H5]
  · iapply (leave5 m c t (by omega) d5)
    iexact H5
  iapply (leave6 m c t (by omega) d6)
  iexact H6

set_option maxHeartbeats 1600000 in
theorem sound_late (c : Dev nD) (t : Fin cfg0.N) (h : 4 ≤ t.val % 7) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = iprop(iprop(owns (c : Thread nD τ) scrMem fullShare (scr m c t)) ∗ (∃ r, prngReg c r)) from rfl]
  rw [inv_castSucc m c t, inv_at m c t (by omega)]
  iintro ⟨⟨S, Hg⟩, Ho, ⟨%d0, H0⟩, ⟨%d1, H1⟩, ⟨%d2, H2⟩, ⟨%d3, H3⟩, ⟨%d4, H4⟩, ⟨%d5, H5⟩, ⟨%d6, H6⟩⟩
  iapply (run_late (grid0.coords t) _ (whole0 t) _ (whole1 t) _ (whole2 t) _ (whole3 t) _ (whole4 t) _ (whole5 t) _ (whole6 t) scrMem (Memref.isWhole_whole _) c (fun e => absurd ((cond1 t).mp e) (by omega)) (fun e => absurd ((cond2 t).mp e) (by omega)) ((cond3 t).mpr (by omega)) (iblk m c 2 t) (scr m c t) Set.univ _)
  isplitl [H2]; · iexact H2
  isplitl [H5]; · iexists _; iexact H5
  isplitl [S]; · iexact S
  iintro ⟨H2, H5, S⟩
  isplitl [S Hg]
  · isplitl [S]
    · iexact S
    iexact Hg
  isplitl [Ho]; · iexact Ho
  isplitl [H0]; · iexact H0
  isplitl [H1]; · iexact H1
  isplitl [H2]; · iexact H2
  isplitl [H3]; · iexact H3
  isplitl [H4]
  · iapply (leave4 m c t (by omega) d4)
    iexact H4
  isplitl [H5]
  · iapply (give5 m c t (by omega))
    unfold res5; iexact H5
  iapply (leave6 m c t (by omega) d6)
  iexact H6

theorem sound_body (c : Dev nD) (t : Fin cfg0.N) :
    bodyPre m c t ⊢ wp frame (wpE (defs₀ (F := F)) Variants.none c none) Set.univ (bodyAt0 t) (fun _ => bodyPost m c t) := by
  by_cases h0 : t.val % 7 = 0
  · exact sound_first m c t h0
  by_cases h4 : t.val % 7 < 4
  · exact sound_mid m c t (by omega) h4
  exact sound_late m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  rw [scoped_eq, show (dats m 0 c).Φ (Fin.last cfg0.N) = inv m c (Fin.last cfg0.N).val (Nat.le_of_lt_succ (Fin.last cfg0.N).isLt) from rfl]
  exact inv_any m c _ _

/-! ## The run -/

set_option backward.isDefEq.respectTransparency.types false in
/-- Every run ends with the results the buffers' contents say, everything else as it was found, the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := inv_in m) (hout := inv_out m)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.InprojSIdeal.Body

end
-- ==== Proof.InprojS.Kernel.lean ====
/- The input projection's kernel at a decoding step's 512 rows, read over the extended reals: each of its results is, element by element, the product of a
   normed row with a column of the weight, the columns in the order in which the later calls take them. -/
module

public import proofs.«01_k».proof.Proof.InprojS.Frame
public import Idealize.ShloMosaic.Lib.Pipeline.ValueKit.Geometry
public import Idealize.ShloMosaic.Lib.Pointwise
public import proofs.«01_k».proof.Proof.Common

@[expose] public section

set_option maxRecDepth 16384

noncomputable section

namespace Cert.InprojSIdeal.Body

open Cert.InprojSIdeal Cert.InprojSIdeal.Gen Idealize.ShloMosaic Idealize.ShloMosaic.TcCoe Idealize.SL.Sem

/-! ## The stored values, element by element -/

theorem kept_apply (x : Vec Ideal S512x1024 .f32) (w : Vec Ideal S1x1024 .f32) (r : Fin 512) (k : Fin 1024) :
    kept x w (ix2 r k) = Common.nrm (fun j => x (ix2 r j)) (fun j => w (ix2 0 j)) k := by
  unfold kept narrow normed
  pointwise
  rfl

theorem wide_apply (h : Vec Ideal S512x1024 .bf16) (b : Vec Ideal S1536x1024 .bf16) (r : Fin 512) (k : Fin 1536) :
    wide h b (ix2 r k) = ∑ j : Fin 1024, h (ix2 r j) * b (ix2 k j) := by
  unfold wide
  pointwise

/-! ## The blocks of the arrays -/

section State

variable (m : (ℓ : Loc nD τ sig) → Buf (Elt Ideal) ℓ) (c : Dev nD)

theorem index0 : ∀ t : Fin grid0.N, cc0_transform_0 (grid0.coords t) = ![t.val / 7, 0] := by decide +kernel

theorem index1 : ∀ t : Fin grid0.N, cc0_transform_1 (grid0.coords t) = ![0, 0] := by decide +kernel

theorem index2 : ∀ t : Fin grid0.N, cc0_transform_2 (grid0.coords t) = ![t.val % 7, 0] := by decide +kernel

theorem index4 : ∀ t : Fin grid0.N, cc0_transform_4 (grid0.coords t) = ![t.val / 7, min (t.val % 7) 3] := by decide +kernel

theorem index5 : ∀ t : Fin grid0.N, cc0_transform_5 (grid0.coords t) = ![t.val / 7, t.val % 7 - 4] := by decide +kernel

theorem blk0 (t : Fin grid0.N) (r : Fin 512) (j : Fin 1024) (R : Fin 512) (hR : R.val = t.val / 7 * 512 + r.val) :
    (iblk m c 0 t : Vec Ideal S512x1024 .f32) (ix2 r j) = (V m c main_v22 : Vec Ideal S512x1024 .f32) (ix2 R j) := by
  unfold iblk
  show V m c main_v22 (((cfg0.win 0).blk t).view.emb (ix2 r j)) = V m c main_v22 (ix2 R j)
  congr 1
  funext a
  apply Fin.ext
  refine (Pipeline.Window.rect_emb_val (cfg0.win 0) t (ix2 r j) a).trans ?_
  rw [show (cfg0.win 0).index t = _ from index0 t]
  match a with
  | ⟨0, _⟩ => exact hR.symm
  | ⟨1, _⟩ => show 0 * 1024 + j.val = j.val; omega

theorem blk1 (t : Fin grid0.N) (j : Fin 1024) :
    (iblk m c 1 t : Vec Ideal S1x1024 .f32) (ix2 (0 : Fin 1) j) = (V m c main_v24 : Vec Ideal S1x1024 .f32) (ix2 (0 : Fin 1) j) := by
  unfold iblk
  show V m c main_v24 (((cfg0.win 1).blk t).view.emb (ix2 (0 : Fin 1) j)) = V m c main_v24 (ix2 (0 : Fin 1) j)
  congr 1
  funext a
  apply Fin.ext
  refine (Pipeline.Window.rect_emb_val (cfg0.win 1) t (ix2 (0 : Fin 1) j) a).trans ?_
  rw [show (cfg0.win 1).index t = _ from index1 t]
  match a with
  | ⟨0, _⟩ => exact rfl
  | ⟨1, _⟩ => show 0 * 1024 + j.val = j.val; omega

theorem blk2 (t : Fin grid0.N) (r : Fin 1536) (j : Fin 1024) (R : Fin 10752) (hR : R.val = t.val % 7 * 1536 + r.val) :
    (iblk m c 2 t : Vec Ideal S1536x1024 .bf16) (ix2 r j) = (V m c main_v13 : Vec Ideal S10752x1024 .bf16) (ix2 R j) := by
  unfold iblk
  show V m c main_v13 (((cfg0.win 2).blk t).view.emb (ix2 r j)) = V m c main_v13 (ix2 R j)
  congr 1
  funext a
  apply Fin.ext
  refine (Pipeline.Window.rect_emb_val (cfg0.win 2) t (ix2 r j) a).trans ?_
  rw [show (cfg0.win 2).index t = _ from index2 t]
  match a with
  | ⟨0, _⟩ => exact hR.symm
  | ⟨1, _⟩ => show 0 * 1024 + j.val = j.val; omega

/-! ## The results -/

/-- Row `R` of the rows, normed. -/
def row (R : Fin 512) : Fin 1024 → EReal :=
  Common.nrm (fun j => (V m c main_v22 : Vec Ideal S512x1024 .f32) (ix2 R j)) (fun j => (V m c main_v24 : Vec Ideal S1x1024 .f32) (ix2 (0 : Fin 1) j))

/-- The normed row `R` times row `C` of the laid-out weight. -/
def out (R : Fin 512) (C : Fin 10752) : EReal :=
  ∑ j : Fin 1024, row m c R j * (V m c main_v13 : Vec Ideal S10752x1024 .bf16) (ix2 C j)

theorem div_upto (k : ℕ) (t : Fin cfg0.N) : (upto k t).val / 7 = t.val / 7 := by
  unfold upto
  dsimp only
  omega

theorem mod_upto (k : ℕ) (t : Fin cfg0.N) : (upto k t).val % 7 = min (t.val % 7) k := by
  unfold upto
  dsimp only
  omega

/-- The scratch after point `t` holds the normed rows of its row of blocks. -/
theorem scr_apply (t : Fin cfg0.N) (r : Fin 512) (j : Fin 1024) (R : Fin 512) (hR : R.val = t.val / 7 * 512 + r.val) :
    scr m c t (ix2 r j) = row m c R j := by
  unfold scr row
  refine (kept_apply _ _ r j).trans ?_
  exact congrArg₂ (fun x w => Common.nrm x w j) (funext fun i => blk0 m c (upto 0 t) r i R (by rw [div_upto]; exact hR))
    (funext fun i => blk1 m c (upto 0 t) i)

theorem point4 (t : Fin cfg0.N) (r : Fin 512) (k : Fin 1536) (R : Fin 512) (C : Fin 10752) (hR : R.val = t.val / 7 * 512 + r.val)
    (hC : C.val = min (t.val % 7) 3 * 1536 + k.val) : res4 m c t (ix2 r k) = out m c R C := by
  unfold res4 out
  refine (wide_apply _ _ r k).trans (Finset.sum_congr rfl fun j _ => ?_)
  rw [scr_apply m c t r j R hR]
  exact congrArg (row m c R j * ·) (blk2 m c (upto 3 t) k j C (by rw [mod_upto]; exact hC))

theorem point5 (t : Fin cfg0.N) (r : Fin 512) (k : Fin 1536) (R : Fin 512) (C : Fin 10752) (hR : R.val = t.val / 7 * 512 + r.val)
    (hC : C.val = t.val % 7 * 1536 + k.val) : res5 m c t (ix2 r k) = out m c R C := by
  unfold res5 out
  refine (wide_apply _ _ r k).trans (Finset.sum_congr rfl fun j _ => ?_)
  rw [scr_apply m c t r j R hR]
  exact congrArg (row m c R j * ·) (blk2 m c t k j C hC)

/-- The first result: the first 6144 columns. -/
def G4 : Vec Ideal S512x6144 .f32 := fun i => out m c (i 0) ⟨(i 1).val, by have : (i 1).val < 6144 := (i 1).isLt; omega⟩

theorem final4 : ((dats m 0 c).arrAt 4 cfg0.N : Vec Ideal S512x6144 .f32) = G4 m c := by
  refine (dats m 0 c).arrAt_eq_of_covers 4 _ (by decide +kernel) fun (t : Fin grid0.N) hf (y : S512x1536.Idx) => ?_
  blk_simp
  rw [after4]
  obtain ⟨r, k, rfl⟩ : ∃ (r : Fin 512) (k : Fin 1536), y = ix2 r k := ⟨y 0, y 1, eq_ix2 y⟩
  have hp : ∀ (i : S512x6144.Idx), i = ((cfg0.win 4).blk t).view.emb (ix2 r k) → (i 0).val = t.val / 7 * 512 + r.val ∧ (i 1).val = min (t.val % 7) 3 * 1536 + k.val := by
    intro i hi
    subst hi
    have h := fun a => Pipeline.Window.rect_emb_val (cfg0.win 4) t (ix2 r k) a
    rw [show (cfg0.win 4).index t = _ from index4 t] at h
    exact ⟨h 0, h 1⟩
  have h := hp _ rfl
  exact point4 m c t r k _ _ h.1 h.2

/-- The second result: the other 4608 columns. -/
def G5 : Vec Ideal S512x4608 .f32 := fun i => out m c (i 0) ⟨6144 + (i 1).val, by have : (i 1).val < 4608 := (i 1).isLt; omega⟩

theorem final5 : ((dats m 0 c).arrAt 5 cfg0.N : Vec Ideal S512x4608 .f32) = G5 m c := by
  refine (dats m 0 c).arrAt_eq_of_covers 5 _ (by decide +kernel) fun (t : Fin grid0.N) hf (y : S512x1536.Idx) => ?_
  blk_simp
  rw [after5]
  obtain ⟨r, k, rfl⟩ : ∃ (r : Fin 512) (k : Fin 1536), y = ix2 r k := ⟨y 0, y 1, eq_ix2 y⟩
  have hp : ∀ (i : S512x4608.Idx), i = ((cfg0.win 5).blk t).view.emb (ix2 r k) → (i 0).val = t.val / 7 * 512 + r.val ∧ (i 1).val = (t.val % 7 - 4) * 1536 + k.val := by
    intro i hi
    subst hi
    have h := fun a => Pipeline.Window.rect_emb_val (cfg0.win 5) t (ix2 r k) a
    rw [show (cfg0.win 5).index t = _ from index5 t] at h
    exact ⟨h 0, h 1⟩
  have h := hp _ rfl
  have h4 : 4 ≤ t.val % 7 := by
    by_contra hlt
    exact absurd hf (by rw [flush5 t (by omega)]; decide)
  refine point5 m c t r k _ _ h.1 (Eq.trans (congrArg (6144 + ·) h.2) ?_)
  omega

/-! ## The weight's columns, laid out -/

/-- The weight as a matrix. -/
def flat (x : Vec Ideal S1x1024x10768 .f32) : Vec Ideal S1024x10768 .f32 := shapeCast S1024x10768 x shapeCasts_S1x1024x10768_S1024x10768

theorem flat_apply (x : Vec Ideal S1x1024x10768 .f32) (j : Fin 1024) (D : Fin 10768) : flat x (ix2 j D) = x (ix3 0 j D) := by
  unfold flat
  pointwise

def piece0 (x : Vec Ideal S1x1024x10768 .f32) : Vec Ideal S1024x3072 .f32 := extractStridedSlice S1024x3072 ![0, 4608] (flat x) slices_S1024x10768_S1024x3072_0_4608

theorem piece0_apply (x : Vec Ideal S1x1024x10768 .f32) (j : Fin 1024) (k : Fin 3072) (D : Fin 10768) (h : D.val = 4608 + k.val) : piece0 x (ix2 j k) = x (ix3 0 j D) := by
  rw [show D = ⟨4608 + k.val, by omega⟩ from Fin.ext h]
  refine Eq.trans ?_ (flat_apply x j ⟨4608 + k.val, by omega⟩)
  unfold piece0
  pointwise

def piece1 (x : Vec Ideal S1x1024x10768 .f32) : Vec Ideal S1024x1024 .f32 := extractStridedSlice S1024x1024 ![0, 7680] (flat x) slices_S1024x10768_S1024x1024_0_7680

theorem piece1_apply (x : Vec Ideal S1x1024x10768 .f32) (j : Fin 1024) (k : Fin 1024) (D : Fin 10768) (h : D.val = 7680 + k.val) : piece1 x (ix2 j k) = x (ix3 0 j D) := by
  rw [show D = ⟨7680 + k.val, by omega⟩ from Fin.ext h]
  refine Eq.trans ?_ (flat_apply x j ⟨7680 + k.val, by omega⟩)
  unfold piece1
  pointwise

def piece2 (x : Vec Ideal S1x1024x10768 .f32) : Vec Ideal S1024x2048 .f32 := extractStridedSlice S1024x2048 ![0, 8720] (flat x) slices_S1024x10768_S1024x2048_0_8720

theorem piece2_apply (x : Vec Ideal S1x1024x10768 .f32) (j : Fin 1024) (k : Fin 2048) (D : Fin 10768) (h : D.val = 8720 + k.val) : piece2 x (ix2 j k) = x (ix3 0 j D) := by
  rw [show D = ⟨8720 + k.val, by omega⟩ from Fin.ext h]
  refine Eq.trans ?_ (flat_apply x j ⟨8720 + k.val, by omega⟩)
  unfold piece2
  pointwise

def piece3 (x : Vec Ideal S1x1024x10768 .f32) : Vec Ideal S1024x512 .f32 := extractStridedSlice S1024x512 ![0, 1536] (flat x) slices_S1024x10768_S1024x512_0_1536

theorem piece3_apply (x : Vec Ideal S1x1024x10768 .f32) (j : Fin 1024) (k : Fin 512) (D : Fin 10768) (h : D.val = 1536 + k.val) : piece3 x (ix2 j k) = x (ix3 0 j D) := by
  rw [show D = ⟨1536 + k.val, by omega⟩ from Fin.ext h]
  refine Eq.trans ?_ (flat_apply x j ⟨1536 + k.val, by omega⟩)
  unfold piece3
  pointwise

def piece4 (x : Vec Ideal S1x1024x10768 .f32) : Vec Ideal S1024x512 .f32 := extractStridedSlice S1024x512 ![0, 3072] (flat x) slices_S1024x10768_S1024x512_0_3072

theorem piece4_apply (x : Vec Ideal S1x1024x10768 .f32) (j : Fin 1024) (k : Fin 512) (D : Fin 10768) (h : D.val = 3072 + k.val) : piece4 x (ix2 j k) = x (ix3 0 j D) := by
  rw [show D = ⟨3072 + k.val, by omega⟩ from Fin.ext h]
  refine Eq.trans ?_ (flat_apply x j ⟨3072 + k.val, by omega⟩)
  unfold piece4
  pointwise

def piece5 (x : Vec Ideal S1x1024x10768 .f32) : Vec Ideal S1024x512 .f32 := extractStridedSlice S1024x512 ![0, 2048] (flat x) slices_S1024x10768_S1024x512_0_2048

theorem piece5_apply (x : Vec Ideal S1x1024x10768 .f32) (j : Fin 1024) (k : Fin 512) (D : Fin 10768) (h : D.val = 2048 + k.val) : piece5 x (ix2 j k) = x (ix3 0 j D) := by
  rw [show D = ⟨2048 + k.val, by omega⟩ from Fin.ext h]
  refine Eq.trans ?_ (flat_apply x j ⟨2048 + k.val, by omega⟩)
  unfold piece5
  pointwise

def piece6 (x : Vec Ideal S1x1024x10768 .f32) : Vec Ideal S1024x512 .f32 := extractStridedSlice S1024x512 ![0, 3584] (flat x) slices_S1024x10768_S1024x512_0_3584

theorem piece6_apply (x : Vec Ideal S1x1024x10768 .f32) (j : Fin 1024) (k : Fin 512) (D : Fin 10768) (h : D.val = 3584 + k.val) : piece6 x (ix2 j k) = x (ix3 0 j D) := by
  rw [show D = ⟨3584 + k.val, by omega⟩ from Fin.ext h]
  refine Eq.trans ?_ (flat_apply x j ⟨3584 + k.val, by omega⟩)
  unfold piece6
  pointwise

def piece7 (x : Vec Ideal S1x1024x10768 .f32) : Vec Ideal S1024x512 .f32 := extractStridedSlice S1024x512 ![0, 2560] (flat x) slices_S1024x10768_S1024x512_0_2560

theorem piece7_apply (x : Vec Ideal S1x1024x10768 .f32) (j : Fin 1024) (k : Fin 512) (D : Fin 10768) (h : D.val = 2560 + k.val) : piece7 x (ix2 j k) = x (ix3 0 j D) := by
  rw [show D = ⟨2560 + k.val, by omega⟩ from Fin.ext h]
  refine Eq.trans ?_ (flat_apply x j ⟨2560 + k.val, by omega⟩)
  unfold piece7
  pointwise

def piece8 (x : Vec Ideal S1x1024x10768 .f32) : Vec Ideal S1024x512 .f32 := extractStridedSlice S1024x512 ![0, 4096] (flat x) slices_S1024x10768_S1024x512_0_4096

theorem piece8_apply (x : Vec Ideal S1x1024x10768 .f32) (j : Fin 1024) (k : Fin 512) (D : Fin 10768) (h : D.val = 4096 + k.val) : piece8 x (ix2 j k) = x (ix3 0 j D) := by
  rw [show D = ⟨4096 + k.val, by omega⟩ from Fin.ext h]
  refine Eq.trans ?_ (flat_apply x j ⟨4096 + k.val, by omega⟩)
  unfold piece8
  pointwise

def piece9 (x : Vec Ideal S1x1024x10768 .f32) : Vec Ideal S1024x1536 .f32 := extractStridedSlice S1024x1536 ![0, 0] (flat x) slices_S1024x10768_S1024x1536_0_0

theorem piece9_apply (x : Vec Ideal S1x1024x10768 .f32) (j : Fin 1024) (k : Fin 1536) (D : Fin 10768) (h : D.val = 0 + k.val) : piece9 x (ix2 j k) = x (ix3 0 j D) := by
  rw [show D = ⟨0 + k.val, by omega⟩ from Fin.ext h]
  refine Eq.trans ?_ (flat_apply x j ⟨0 + k.val, by omega⟩)
  unfold piece9
  pointwise

/-- The pieces joined. -/
def joined (x : Vec Ideal S1x1024x10768 .f32) : Vec Ideal S1024x10752 .f32 :=
  concatenate S1024x10752 1 [⟨S1024x3072, piece0 x⟩, ⟨S1024x1024, piece1 x⟩, ⟨S1024x2048, piece2 x⟩, ⟨S1024x512, piece3 x⟩, ⟨S1024x512, piece4 x⟩, ⟨S1024x512, piece5 x⟩, ⟨S1024x512, piece6 x⟩, ⟨S1024x512, piece7 x⟩, ⟨S1024x512, piece8 x⟩, ⟨S1024x1536, piece9 x⟩]
    concatenates_S1024x3072_S1024x1024_S1024x2048_S1024x512_S1024x512_S1024x512_S1024x512_S1024x512_S1024x512_S1024x1536_S1024x10752_d1

set_option maxHeartbeats 1000000 in
set_option maxRecDepth 65536 in
theorem joined_apply (x : Vec Ideal S1x1024x10768 .f32) (j : Fin 1024) (C : Fin 10752) (D : Fin 10768) (hD : D.val = Common.col C.val) :
    joined x (ix2 j C) = x (ix3 0 j D) := by
  have hC := C.isLt
  unfold Common.col Common.colA Common.colB at hD
  unfold joined
  by_cases h0 : C.val < 3072
  · refine (concatenate_apply_piece 1 _ _ (ix2 j C) 0 (by simp) S1024x3072 (piece0 x) rfl rfl 0 rfl
      (ix2 j ⟨C.val - 0, by omega⟩) (fun b hb => ?_) ?_).trans ?_
    · match b with
      | ⟨0, _⟩ => rfl
      | ⟨1, _⟩ => exact absurd rfl hb
    · show 0 + (C.val - 0) = C.val
      omega
    · refine piece0_apply x j _ D ?_
      show D.val = 4608 + (C.val - 0)
      split_ifs at hD <;> omega
  by_cases h1 : C.val < 4096
  · refine (concatenate_apply_piece 1 _ _ (ix2 j C) 1 (by simp) S1024x1024 (piece1 x) rfl rfl 3072 rfl
      (ix2 j ⟨C.val - 3072, by omega⟩) (fun b hb => ?_) ?_).trans ?_
    · match b with
      | ⟨0, _⟩ => rfl
      | ⟨1, _⟩ => exact absurd rfl hb
    · show 3072 + (C.val - 3072) = C.val
      omega
    · refine piece1_apply x j _ D ?_
      show D.val = 7680 + (C.val - 3072)
      split_ifs at hD <;> omega
  by_cases h2 : C.val < 6144
  · refine (concatenate_apply_piece 1 _ _ (ix2 j C) 2 (by simp) S1024x2048 (piece2 x) rfl rfl 4096 rfl
      (ix2 j ⟨C.val - 4096, by omega⟩) (fun b hb => ?_) ?_).trans ?_
    · match b with
      | ⟨0, _⟩ => rfl
      | ⟨1, _⟩ => exact absurd rfl hb
    · show 4096 + (C.val - 4096) = C.val
      omega
    · refine piece2_apply x j _ D ?_
      show D.val = 8720 + (C.val - 4096)
      split_ifs at hD <;> omega
  by_cases h3 : C.val < 6656
  · refine (concatenate_apply_piece 1 _ _ (ix2 j C) 3 (by simp) S1024x512 (piece3 x) rfl rfl 6144 rfl
      (ix2 j ⟨C.val - 6144, by omega⟩) (fun b hb => ?_) ?_).trans ?_
    · match b with
      | ⟨0, _⟩ => rfl
      | ⟨1, _⟩ => exact absurd rfl hb
    · show 6144 + (C.val - 6144) = C.val
      omega
    · refine piece3_apply x j _ D ?_
      show D.val = 1536 + (C.val - 6144)
      split_ifs at hD <;> omega
  by_cases h4 : C.val < 7168
  · refine (concatenate_apply_piece 1 _ _ (ix2 j C) 4 (by simp) S1024x512 (piece4 x) rfl rfl 6656 rfl
      (ix2 j ⟨C.val - 6656, by omega⟩) (fun b hb => ?_) ?_).trans ?_
    · match b with
      | ⟨0, _⟩ => rfl
      | ⟨1, _⟩ => exact absurd rfl hb
    · show 6656 + (C.val - 6656) = C.val
      omega
    · refine piece4_apply x j _ D ?_
      show D.val = 3072 + (C.val - 6656)
      split_ifs at hD <;> omega
  by_cases h5 : C.val < 7680
  · refine (concatenate_apply_piece 1 _ _ (ix2 j C) 5 (by simp) S1024x512 (piece5 x) rfl rfl 7168 rfl
      (ix2 j ⟨C.val - 7168, by omega⟩) (fun b hb => ?_) ?_).trans ?_
    · match b with
      | ⟨0, _⟩ => rfl
      | ⟨1, _⟩ => exact absurd rfl hb
    · show 7168 + (C.val - 7168) = C.val
      omega
    · refine piece5_apply x j _ D ?_
      show D.val = 2048 + (C.val - 7168)
      split_ifs at hD <;> omega
  by_cases h6 : C.val < 8192
  · refine (concatenate_apply_piece 1 _ _ (ix2 j C) 6 (by simp) S1024x512 (piece6 x) rfl rfl 7680 rfl
      (ix2 j ⟨C.val - 7680, by omega⟩) (fun b hb => ?_) ?_).trans ?_
    · match b with
      | ⟨0, _⟩ => rfl
      | ⟨1, _⟩ => exact absurd rfl hb
    · show 7680 + (C.val - 7680) = C.val
      omega
    · refine piece6_apply x j _ D ?_
      show D.val = 3584 + (C.val - 7680)
      split_ifs at hD <;> omega
  by_cases h7 : C.val < 8704
  · refine (concatenate_apply_piece 1 _ _ (ix2 j C) 7 (by simp) S1024x512 (piece7 x) rfl rfl 8192 rfl
      (ix2 j ⟨C.val - 8192, by omega⟩) (fun b hb => ?_) ?_).trans ?_
    · match b with
      | ⟨0, _⟩ => rfl
      | ⟨1, _⟩ => exact absurd rfl hb
    · show 8192 + (C.val - 8192) = C.val
      omega
    · refine piece7_apply x j _ D ?_
      show D.val = 2560 + (C.val - 8192)
      split_ifs at hD <;> omega
  by_cases h8 : C.val < 9216
  · refine (concatenate_apply_piece 1 _ _ (ix2 j C) 8 (by simp) S1024x512 (piece8 x) rfl rfl 8704 rfl
      (ix2 j ⟨C.val - 8704, by omega⟩) (fun b hb => ?_) ?_).trans ?_
    · match b with
      | ⟨0, _⟩ => rfl
      | ⟨1, _⟩ => exact absurd rfl hb
    · show 8704 + (C.val - 8704) = C.val
      omega
    · refine piece8_apply x j _ D ?_
      show D.val = 4096 + (C.val - 8704)
      split_ifs at hD <;> omega
  refine (concatenate_apply_piece 1 _ _ (ix2 j C) 9 (by simp) S1024x1536 (piece9 x) rfl rfl 9216 rfl
    (ix2 j ⟨C.val - 9216, by omega⟩) (fun b hb => ?_) ?_).trans ?_
  · match b with
    | ⟨0, _⟩ => rfl
    | ⟨1, _⟩ => exact absurd rfl hb
  · show 9216 + (C.val - 9216) = C.val
    omega
  · refine piece9_apply x j _ D ?_
    show D.val = 0 + (C.val - 9216)
    split_ifs at hD <;> omega

theorem V_w : (V m c main_v13 : Vec Ideal S10752x1024 .bf16) = truncf (F := Ideal) (φ := .f32) .bf16 (transpose S10752x1024 [1, 0]
      (joined (m ((c : Thread nD τ).loc main_arg2) : Vec Ideal S1x1024x10768 .f32)) transposes_S1024x10752_S10752x1024_1_0) bitsLt_bf16_f32 := by
  show StableHlo.after hostOps0 (fun b => m (c, b)) main_v13 = _
  after_results
  rfl

theorem turned (y : Vec Ideal S1024x10752 .f32) (C : Fin 10752) (j : Fin 1024) :
    truncf (F := Ideal) (φ := .f32) .bf16 (transpose S10752x1024 [1, 0] y transposes_S1024x10752_S10752x1024_1_0) bitsLt_bf16_f32 (ix2 C j) = y (ix2 j C) := by
  pointwise

theorem V_x : (V m c main_v22 : Vec Ideal S512x1024 .f32) = shapeCast S512x1024 (m ((c : Thread nD τ).loc main_arg0) : Vec Ideal S128x4x1024 .f32) shapeCasts_S128x4x1024_S512x1024 := by
  show StableHlo.after hostOps0 (fun b => m (c, b)) main_v22 = _
  after_results
  rfl

theorem V_n : (V m c main_v24 : Vec Ideal S1x1024 .f32) = shapeCast S1x1024 (shapeCast S1024 (m ((c : Thread nD τ).loc main_arg1) : Vec Ideal S1x1024 .f32) shapeCasts_S1x1024_S1024) shapeCasts_S1024_S1x1024 := by
  show StableHlo.after hostOps0 (fun b => m (c, b)) main_v24 = _
  after_results
  rfl

theorem cast_x (x : Vec Ideal S128x4x1024 .f32) (R : Fin 512) (k : Fin 1024) :
    shapeCast S512x1024 x shapeCasts_S128x4x1024_S512x1024 (ix2 R k) = x (ix3 ⟨R.val / 4, by omega⟩ ⟨R.val % 4, by omega⟩ k) := by
  pointwise

theorem cast_n (x : Vec Ideal S1x1024 .f32) (k : Fin 1024) :
    shapeCast S1x1024 (shapeCast S1024 x shapeCasts_S1x1024_S1024) shapeCasts_S1024_S1x1024 (ix2 0 k) = x (ix2 0 k) := by
  pointwise

/-- A result's element, from the arguments. -/
theorem out_eq (R : Fin 512) (C : Fin 10752) (D : Fin 10768) (hD : D.val = Common.col C.val) : out m c R C
    = Common.proj (fun j => (m ((c : Thread nD τ).loc main_arg0) : Vec Ideal S128x4x1024 .f32) (ix3 ⟨R.val / 4, by omega⟩ ⟨R.val % 4, by omega⟩ j))
        (fun j => (m ((c : Thread nD τ).loc main_arg1) : Vec Ideal S1x1024 .f32) (ix2 0 j))
        (fun j => (m ((c : Thread nD τ).loc main_arg2) : Vec Ideal S1x1024x10768 .f32) (ix3 0 j D)) := by
  unfold out row Common.proj
  refine Finset.sum_congr rfl fun j _ => ?_
  congr 1
  · congr 1
    · funext i
      exact (congrFun (V_x m c) _).trans (cast_x _ R i)
    · funext i
      exact (congrFun (V_n m c) _).trans (cast_n _ i)
  · exact (congrFun (V_w m c) _).trans ((turned _ C j).trans (joined_apply _ j C D hD))

end State

end Cert.InprojSIdeal.Body

end
-- ==== Proof.InprojS.Ref.lean ====
/- The input projection's reference at a decoding step's rows, read: every element of its two results is the product of a normed row with a column of
   the weight. -/
module

public import proofs.«01_k».proof.Proof.Gen.InprojSRefIdeal.Run
public import proofs.«01_k».proof.Proof.Gen.InprojSRefIdeal.Read
public import proofs.«01_k».proof.Proof.Common

@[expose] public section

set_option maxRecDepth 16384

noncomputable section

namespace Cert.InprojSRefIdeal.Rows

open Cert.InprojSRefIdeal Cert.InprojSRefIdeal.Read Idealize.ShloMosaic Idealize.ShloMosaic.TcCoe Idealize.SL.Sem

variable (x0 : Vec Ideal S128x4x1024 .f32) (x1 : Vec Ideal S1x1024 .f32) (x2 : Vec Ideal S1x1024x10768 .f32)

theorem inv_apply (a : Fin 128) (b : Fin 4) : val_main_v8 (F := Ideal) x0 (ix3 a b 0)
    = Ideal.rsqrt (Ideal.div (∑ j : Fin 1024, x0 (ix3 a b j) * x0 (ix3 a b j)) Common.len + Common.eps) := by
  pointwise [val_main_v8, val_main_v7, val_main_v6, val_main_v5, val_main_v4, val_main_v3, val_main_v2, val_main_v1, val_main_cst, val_main_cst_0, val_main_cst_1]

theorem normed_apply (a : Fin 128) (b : Fin 4) (k : Fin 1024) : val_main_v13 (F := Ideal) x0 x1 (ix3 a b k)
    = Common.nrm (fun j => x0 (ix3 a b j)) (fun j => x1 (ix2 0 j)) k := by
  pointwise [val_main_v13, val_main_v12, val_main_v11, val_main_v10, val_main_v9, val_main_v0]
  simp only [inv_apply]
  rfl

theorem all_apply (a : Fin 128) (b : Fin 4) (D : Fin 10768) : val_main_v15 (F := Ideal) x0 x1 x2 (ix3 a b D)
    = Common.proj (fun j => x0 (ix3 a b j)) (fun j => x1 (ix2 0 j)) (fun j => x2 (ix3 0 j D)) := by
  pointwise [val_main_v15, val_main_v14]
  simp only [normed_apply]
  rfl

/-- Row `R`, column `D` of the projection. -/
def el (R : Fin 512) (D : Fin 10768) : EReal :=
  Common.proj (fun j => x0 (ix3 ⟨R.val / 4, by omega⟩ ⟨R.val % 4, by omega⟩ j)) (fun j => x1 (ix2 0 j)) (fun j => x2 (ix3 0 j D))

theorem flat_apply (R : Fin 512) (D : Fin 10768) : val_main_v16 (F := Ideal) x0 x1 x2 (ix2 R D) = el x0 x1 x2 R D := by
  refine Eq.trans ?_ (all_apply x0 x1 x2 ⟨R.val / 4, by omega⟩ ⟨R.val % 4, by omega⟩ D)
  pointwise [val_main_v16]

theorem part17 (R : Fin 512) (k : Fin 1536) (D : Fin 10768) (h : D.val = 0 + k.val) : val_main_v17 (F := Ideal) x0 x1 x2 (ix2 R k) = el x0 x1 x2 R D := by
  rw [show D = ⟨0 + k.val, by omega⟩ from Fin.ext h]
  refine Eq.trans ?_ (flat_apply x0 x1 x2 R ⟨0 + k.val, by omega⟩)
  pointwise [val_main_v17]

theorem part18 (R : Fin 512) (k : Fin 1536) (D : Fin 10768) (h : D.val = 1536 + k.val) : val_main_v18 (F := Ideal) x0 x1 x2 (ix2 R k) = el x0 x1 x2 R D := by
  rw [show D = ⟨1536 + k.val, by omega⟩ from Fin.ext h]
  refine Eq.trans ?_ (flat_apply x0 x1 x2 R ⟨1536 + k.val, by omega⟩)
  pointwise [val_main_v18]

theorem part19 (R : Fin 512) (k : Fin 1536) (D : Fin 10768) (h : D.val = 3072 + k.val) : val_main_v19 (F := Ideal) x0 x1 x2 (ix2 R k) = el x0 x1 x2 R D := by
  rw [show D = ⟨3072 + k.val, by omega⟩ from Fin.ext h]
  refine Eq.trans ?_ (flat_apply x0 x1 x2 R ⟨3072 + k.val, by omega⟩)
  pointwise [val_main_v19]

theorem part20 (R : Fin 512) (k : Fin 3072) (D : Fin 10768) (h : D.val = 4608 + k.val) : val_main_v20 (F := Ideal) x0 x1 x2 (ix2 R k) = el x0 x1 x2 R D := by
  rw [show D = ⟨4608 + k.val, by omega⟩ from Fin.ext h]
  refine Eq.trans ?_ (flat_apply x0 x1 x2 R ⟨4608 + k.val, by omega⟩)
  pointwise [val_main_v20]

theorem part21 (R : Fin 512) (k : Fin 1024) (D : Fin 10768) (h : D.val = 7680 + k.val) : val_main_v21 (F := Ideal) x0 x1 x2 (ix2 R k) = el x0 x1 x2 R D := by
  rw [show D = ⟨7680 + k.val, by omega⟩ from Fin.ext h]
  refine Eq.trans ?_ (flat_apply x0 x1 x2 R ⟨7680 + k.val, by omega⟩)
  pointwise [val_main_v21]

theorem part24 (R : Fin 512) (k : Fin 2048) (D : Fin 10768) (h : D.val = 8720 + k.val) : val_main_v24 (F := Ideal) x0 x1 x2 (ix2 R k) = el x0 x1 x2 R D := by
  rw [show D = ⟨8720 + k.val, by omega⟩ from Fin.ext h]
  refine Eq.trans ?_ (flat_apply x0 x1 x2 R ⟨8720 + k.val, by omega⟩)
  pointwise [val_main_v24]

theorem part25 (R : Fin 512) (k : Fin 512) (D : Fin 10768) (h : D.val = 1536 + k.val) : val_main_v25 (F := Ideal) x0 x1 x2 (ix2 R k) = el x0 x1 x2 R D := by
  rw [show D = ⟨1536 + k.val, by omega⟩ from Fin.ext h]
  refine Eq.trans ?_ (flat_apply x0 x1 x2 R ⟨1536 + k.val, by omega⟩)
  pointwise [val_main_v25, val_main_v18]

theorem part26 (R : Fin 512) (k : Fin 512) (D : Fin 10768) (h : D.val = 3072 + k.val) : val_main_v26 (F := Ideal) x0 x1 x2 (ix2 R k) = el x0 x1 x2 R D := by
  rw [show D = ⟨3072 + k.val, by omega⟩ from Fin.ext h]
  refine Eq.trans ?_ (flat_apply x0 x1 x2 R ⟨3072 + k.val, by omega⟩)
  pointwise [val_main_v26, val_main_v19]

theorem part27 (R : Fin 512) (k : Fin 512) (D : Fin 10768) (h : D.val = 2048 + k.val) : val_main_v27 (F := Ideal) x0 x1 x2 (ix2 R k) = el x0 x1 x2 R D := by
  rw [show D = ⟨2048 + k.val, by omega⟩ from Fin.ext h]
  refine Eq.trans ?_ (flat_apply x0 x1 x2 R ⟨2048 + k.val, by omega⟩)
  pointwise [val_main_v27, val_main_v18]
  exact congrArg (fun D => val_main_v16 (F := Ideal) x0 x1 x2 (ix2 R D)) (Fin.ext (by show 1536 + (512 + k.val) = 2048 + k.val; omega))

theorem part28 (R : Fin 512) (k : Fin 512) (D : Fin 10768) (h : D.val = 3584 + k.val) : val_main_v28 (F := Ideal) x0 x1 x2 (ix2 R k) = el x0 x1 x2 R D := by
  rw [show D = ⟨3584 + k.val, by omega⟩ from Fin.ext h]
  refine Eq.trans ?_ (flat_apply x0 x1 x2 R ⟨3584 + k.val, by omega⟩)
  pointwise [val_main_v28, val_main_v19]
  exact congrArg (fun D => val_main_v16 (F := Ideal) x0 x1 x2 (ix2 R D)) (Fin.ext (by show 3072 + (512 + k.val) = 3584 + k.val; omega))

theorem part29 (R : Fin 512) (k : Fin 512) (D : Fin 10768) (h : D.val = 2560 + k.val) : val_main_v29 (F := Ideal) x0 x1 x2 (ix2 R k) = el x0 x1 x2 R D := by
  rw [show D = ⟨2560 + k.val, by omega⟩ from Fin.ext h]
  refine Eq.trans ?_ (flat_apply x0 x1 x2 R ⟨2560 + k.val, by omega⟩)
  pointwise [val_main_v29, val_main_v18]
  exact congrArg (fun D => val_main_v16 (F := Ideal) x0 x1 x2 (ix2 R D)) (Fin.ext (by show 1536 + (1024 + k.val) = 2560 + k.val; omega))

theorem part30 (R : Fin 512) (k : Fin 512) (D : Fin 10768) (h : D.val = 4096 + k.val) : val_main_v30 (F := Ideal) x0 x1 x2 (ix2 R k) = el x0 x1 x2 R D := by
  rw [show D = ⟨4096 + k.val, by omega⟩ from Fin.ext h]
  refine Eq.trans ?_ (flat_apply x0 x1 x2 R ⟨4096 + k.val, by omega⟩)
  pointwise [val_main_v30, val_main_v19]
  exact congrArg (fun D => val_main_v16 (F := Ideal) x0 x1 x2 (ix2 R D)) (Fin.ext (by show 3072 + (1024 + k.val) = 4096 + k.val; omega))

set_option maxHeartbeats 1000000 in
set_option maxRecDepth 65536 in
/-- The recurrence's part of the projection. -/
theorem b_apply (R : Fin 512) (C : Fin 6144) (D : Fin 10768) (hD : D.val = Common.colB C.val) :
    val_main_v31 (F := Ideal) x0 x1 x2 (ix2 R C) = el x0 x1 x2 R D := by
  have hC := C.isLt
  unfold Common.colB at hD
  unfold val_main_v31
  by_cases h0 : C.val < 3072
  · refine (concatenate_apply_piece 1 _ _ (ix2 R C) 0 (by simp) S512x3072 (val_main_v20 (F := Ideal) x0 x1 x2) rfl rfl 0 rfl
      (ix2 R ⟨C.val - 0, by omega⟩) (fun b hb => ?_) ?_).trans ?_
    · match b with
      | ⟨0, _⟩ => rfl
      | ⟨1, _⟩ => exact absurd rfl hb
    · show 0 + (C.val - 0) = C.val
      omega
    · refine part20 x0 x1 x2 R _ D ?_
      show D.val = 4608 + (C.val - 0)
      split_ifs at hD <;> omega
  by_cases h1 : C.val < 4096
  · refine (concatenate_apply_piece 1 _ _ (ix2 R C) 1 (by simp) S512x1024 (val_main_v21 (F := Ideal) x0 x1 x2) rfl rfl 3072 rfl
      (ix2 R ⟨C.val - 3072, by omega⟩) (fun b hb => ?_) ?_).trans ?_
    · match b with
      | ⟨0, _⟩ => rfl
      | ⟨1, _⟩ => exact absurd rfl hb
    · show 3072 + (C.val - 3072) = C.val
      omega
    · refine part21 x0 x1 x2 R _ D ?_
      show D.val = 7680 + (C.val - 3072)
      split_ifs at hD <;> omega
  refine (concatenate_apply_piece 1 _ _ (ix2 R C) 2 (by simp) S512x2048 (val_main_v24 (F := Ideal) x0 x1 x2) rfl rfl 4096 rfl
    (ix2 R ⟨C.val - 4096, by omega⟩) (fun b hb => ?_) ?_).trans ?_
  · match b with
    | ⟨0, _⟩ => rfl
    | ⟨1, _⟩ => exact absurd rfl hb
  · show 4096 + (C.val - 4096) = C.val
    omega
  · refine part24 x0 x1 x2 R _ D ?_
    show D.val = 8720 + (C.val - 4096)
    split_ifs at hD <;> omega

set_option maxHeartbeats 1000000 in
set_option maxRecDepth 65536 in
/-- The attention's part of the projection. -/
theorem a_apply (R : Fin 512) (C : Fin 4608) (D : Fin 10768) (hD : D.val = Common.colA C.val) :
    val_main_v32 (F := Ideal) x0 x1 x2 (ix2 R C) = el x0 x1 x2 R D := by
  have hC := C.isLt
  unfold Common.colA at hD
  unfold val_main_v32
  by_cases h0 : C.val < 512
  · refine (concatenate_apply_piece 1 _ _ (ix2 R C) 0 (by simp) S512x512 (val_main_v25 (F := Ideal) x0 x1 x2) rfl rfl 0 rfl
      (ix2 R ⟨C.val - 0, by omega⟩) (fun b hb => ?_) ?_).trans ?_
    · match b with
      | ⟨0, _⟩ => rfl
      | ⟨1, _⟩ => exact absurd rfl hb
    · show 0 + (C.val - 0) = C.val
      omega
    · refine part25 x0 x1 x2 R _ D ?_
      show D.val = 1536 + (C.val - 0)
      split_ifs at hD <;> omega
  by_cases h1 : C.val < 1024
  · refine (concatenate_apply_piece 1 _ _ (ix2 R C) 1 (by simp) S512x512 (val_main_v26 (F := Ideal) x0 x1 x2) rfl rfl 512 rfl
      (ix2 R ⟨C.val - 512, by omega⟩) (fun b hb => ?_) ?_).trans ?_
    · match b with
      | ⟨0, _⟩ => rfl
      | ⟨1, _⟩ => exact absurd rfl hb
    · show 512 + (C.val - 512) = C.val
      omega
    · refine part26 x0 x1 x2 R _ D ?_
      show D.val = 3072 + (C.val - 512)
      split_ifs at hD <;> omega
  by_cases h2 : C.val < 1536
  · refine (concatenate_apply_piece 1 _ _ (ix2 R C) 2 (by simp) S512x512 (val_main_v27 (F := Ideal) x0 x1 x2) rfl rfl 1024 rfl
      (ix2 R ⟨C.val - 1024, by omega⟩) (fun b hb => ?_) ?_).trans ?_
    · match b with
      | ⟨0, _⟩ => rfl
      | ⟨1, _⟩ => exact absurd rfl hb
    · show 1024 + (C.val - 1024) = C.val
      omega
    · refine part27 x0 x1 x2 R _ D ?_
      show D.val = 2048 + (C.val - 1024)
      split_ifs at hD <;> omega
  by_cases h3 : C.val < 2048
  · refine (concatenate_apply_piece 1 _ _ (ix2 R C) 3 (by simp) S512x512 (val_main_v28 (F := Ideal) x0 x1 x2) rfl rfl 1536 rfl
      (ix2 R ⟨C.val - 1536, by omega⟩) (fun b hb => ?_) ?_).trans ?_
    · match b with
      | ⟨0, _⟩ => rfl
      | ⟨1, _⟩ => exact absurd rfl hb
    · show 1536 + (C.val - 1536) = C.val
      omega
    · refine part28 x0 x1 x2 R _ D ?_
      show D.val = 3584 + (C.val - 1536)
      split_ifs at hD <;> omega
  by_cases h4 : C.val < 2560
  · refine (concatenate_apply_piece 1 _ _ (ix2 R C) 4 (by simp) S512x512 (val_main_v29 (F := Ideal) x0 x1 x2) rfl rfl 2048 rfl
      (ix2 R ⟨C.val - 2048, by omega⟩) (fun b hb => ?_) ?_).trans ?_
    · match b with
      | ⟨0, _⟩ => rfl
      | ⟨1, _⟩ => exact absurd rfl hb
    · show 2048 + (C.val - 2048) = C.val
      omega
    · refine part29 x0 x1 x2 R _ D ?_
      show D.val = 2560 + (C.val - 2048)
      split_ifs at hD <;> omega
  by_cases h5 : C.val < 3072
  · refine (concatenate_apply_piece 1 _ _ (ix2 R C) 5 (by simp) S512x512 (val_main_v30 (F := Ideal) x0 x1 x2) rfl rfl 2560 rfl
      (ix2 R ⟨C.val - 2560, by omega⟩) (fun b hb => ?_) ?_).trans ?_
    · match b with
      | ⟨0, _⟩ => rfl
      | ⟨1, _⟩ => exact absurd rfl hb
    · show 2560 + (C.val - 2560) = C.val
      omega
    · refine part30 x0 x1 x2 R _ D ?_
      show D.val = 4096 + (C.val - 2560)
      split_ifs at hD <;> omega
  refine (concatenate_apply_piece 1 _ _ (ix2 R C) 6 (by simp) S512x1536 (val_main_v17 (F := Ideal) x0 x1 x2) rfl rfl 3072 rfl
    (ix2 R ⟨C.val - 3072, by omega⟩) (fun b hb => ?_) ?_).trans ?_
  · match b with
    | ⟨0, _⟩ => rfl
    | ⟨1, _⟩ => exact absurd rfl hb
  · show 3072 + (C.val - 3072) = C.val
    omega
  · refine part17 x0 x1 x2 R _ D ?_
    show D.val = 0 + (C.val - 3072)
    split_ifs at hD <;> omega

end Cert.InprojSRefIdeal.Rows

end
-- ==== Proof.InprojS.Claims.lean ====
/- The claims about the input projection: the kernel's two results that later calls take at a decoding step's rows and the reference's are, element by
   element, the same products of the same arguments (`Body.out_eq`, `Rows.b_apply`, `Rows.a_apply`). -/
module

public import proofs.«01_k».proof.Defs
public import proofs.«01_k».proof.Proof.InprojS.Kernel
public import proofs.«01_k».proof.Proof.InprojS.Ref
public import proofs.«01_k».proof.Proof.Gen.InprojS
public import Idealize.ShloMosaic.Lib.Quiescent

@[expose] public section

noncomputable section

namespace Cert.Proof.InprojS

open Idealize.ShloMosaic Idealize.ShloMosaic.TcCoe Idealize.SL.Sem
open Cert.InprojSIdeal Cert.InprojSIdeal.Gen Cert.InprojSIdeal.Body

/-- The two printings' bodies are one table: the labels are one, and there the functions' texts are the same. -/
theorem bodies_eq : Cert.InprojS.defs₀ (F := Bits) = Cert.InprojSIdeal.defs₀ (F := Bits) := by
  unfold Cert.InprojS.defs₀ Cert.InprojSIdeal.defs₀
  refine congrArg Defs.onTc ?_
  funext l x
  obtain rfl : l = 0 := Subsingleton.elim _ _
  rfl

theorem defs_eq : Cert.InprojS.defs (F := Bits) = Cert.InprojSIdeal.defs (F := Bits) :=
  congrArg (Pipeline.defs (Cert.InprojSIdeal.pcfgs (F := Bits))) bodies_eq

theorem main_eq : Cert.InprojS.main (F := Bits) = Cert.InprojSIdeal.main (F := Bits) := by
  unfold Cert.InprojS.main Cert.InprojSIdeal.main
  rfl

/-- The bit-exact program's frame, from the ideal printing's at the bit-exact instance. -/
theorem frame_kernel : Cert.quiescent_InprojS := fun m ρ _ => by
  have h := Cert.InprojSIdeal.Body.frame (F := Bits) m ρ
  rw [← defs_eq, ← main_eq] at h
  exact h

theorem frame_ideal : Cert.quiescent_InprojSIdeal := fun m ρ _ => Cert.InprojSIdeal.Body.frame (F := Ideal) m ρ

theorem frame_ref_ideal : Cert.quiescent_InprojSRefIdeal := fun m ρ _ =>
  (θ_run Cert.InprojSRefIdeal.defs _ _).mono (fun r h => ⟨fun c => (h c).2.2, sem_eq_zero_of_no_sems (by decide) r.2⟩)
    (Cert.InprojSRefIdeal.Value.run (F := Ideal) m ρ)

variable (m : (ℓ : Loc nD τ sig) → Buf (Elt Ideal) ℓ) (c : Dev nD)

theorem result_b : Cert.InprojSRefIdeal.Read.val_main_v31 (F := Ideal) (m ((c.tc : Thread nD τ).loc main_arg0)) (m ((c.tc : Thread nD τ).loc main_arg1)) (m ((c.tc : Thread nD τ).loc main_arg2))
    = G4 m c := by
  funext (i : S512x6144.Idx)
  obtain ⟨R, k, rfl⟩ : ∃ (R : Fin 512) (k : Fin 6144), i = ix2 R k := ⟨i 0, i 1, eq_ix2 i⟩
  have hk := k.isLt
  refine (Cert.InprojSRefIdeal.Rows.b_apply _ _ _ R k ⟨Common.colB k.val, by unfold Common.colB; split_ifs <;> omega⟩ rfl).trans (out_eq m c R ⟨k.val, by omega⟩ _ ?_).symm
  show Common.colB k.val = Common.col k.val
  unfold Common.col
  rw [if_pos hk]

theorem result_a : Cert.InprojSRefIdeal.Read.val_main_v32 (F := Ideal) (m ((c.tc : Thread nD τ).loc main_arg0)) (m ((c.tc : Thread nD τ).loc main_arg1)) (m ((c.tc : Thread nD τ).loc main_arg2))
    = G5 m c := by
  funext (i : S512x4608.Idx)
  obtain ⟨R, k, rfl⟩ : ∃ (R : Fin 512) (k : Fin 4608), i = ix2 R k := ⟨i 0, i 1, eq_ix2 i⟩
  have hk := k.isLt
  refine (Cert.InprojSRefIdeal.Rows.a_apply _ _ _ R k ⟨Common.colA k.val, by unfold Common.colA; split_ifs <;> omega⟩ rfl).trans (out_eq m c R ⟨6144 + k.val, by omega⟩ _ ?_).symm
  show Common.colA k.val = Common.col (6144 + k.val)
  unfold Common.col
  rw [if_neg (by omega), Nat.add_sub_cancel_left]

/-- The kernel's run, with its two results. -/
theorem run (ρ : Dev nD → PrngReg) : θ_run defs (onTc (τ := τ) (main (F := Ideal))) ⟨m, fun _ => 0, ρ⟩ (fun r => ∀ c : Dev nD,
    r.2.mem ((c.tc : Thread nD τ).loc main_v25_0) = G4 m c
    ∧ r.2.mem ((c.tc : Thread nD τ).loc main_v25_1) = G5 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (θ_run_and (run_quiescent (F := Ideal) m ρ) (Cert.InprojSIdeal.Body.frame (F := Ideal) m ρ))
  obtain ⟨⟨hp, _⟩, hf, _⟩ := h
  exact ⟨((hp c).1 4).trans (final4 m c), ((hp c).1 5).trans (final5 m c), (hf c).1, (hf c).2.1, (hf c).2.2⟩

/-- The kernel computes the reference's values. -/
theorem algebraic : Cert.algebraic_InprojSIdeal_InprojSRefIdeal := by
  intro m ρ m' ρ' _ hagree
  refine ⟨fun c => G4 m c, fun c => G5 m c, run m ρ, ?_⟩
  refine (θ_run Cert.InprojSRefIdeal.defs _ _).mono (fun _ h c => ⟨(h c).1.trans ?_, (h c).2.1.trans ?_, (h c).2.2⟩) (Cert.InprojSRefIdeal.Value.run (F := Ideal) m' ρ')
  · rw [Cert.InprojSRefIdeal.Read.val_main_v31_eq]
    obtain ⟨e0, e1, e2⟩ := hagree c
    rw [e0, e1, e2]
    exact result_b m c
  · rw [Cert.InprojSRefIdeal.Read.val_main_v32_eq]
    obtain ⟨e0, e1, e2⟩ := hagree c
    rw [e0, e1, e2]
    exact result_a m c

end Cert.Proof.InprojS

end
-- ==== Proof.AttnP.Keep.lean ====
/- What a program leaves of the buffers it is handed, whatever it reads: the rules by which the attention's arithmetic is walked
   over without being followed, for any floats. -/
module

public import proofs.«01_k».proof.Proof.Gen.AttnPIdeal.Frame

@[expose] public section

noncomputable section

namespace Cert.AttnPIdeal.Body

open Cert.AttnPIdeal Cert.AttnPIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- From `P` the program runs and leaves `Q`, whatever it returns. -/
def Runs {α : Type} (c : Dev nD) (P : sProp 𝕄) (p : Prog (TpuEff nD τ sig (Elt F) Λ₀ .tc) α) (Q : sProp 𝕄) : Prop :=
  ∀ (K : α → sProp 𝕄), iprop(P ∗ (∀ r, Q -∗ K r)) ⊢ wp frame (wpE (defs₀ (F := F)) Variants.none c none) Set.univ p K

variable {c : Dev nD} {α β : Type}

theorem Runs.ret (P : sProp 𝕄) (a : α) : Runs (F := F) c P (Pure.pure a) P := by
  intro K
  refine BIBase.Entails.trans ?_ (le_wp_ret _ _ _ a K)
  iintro ⟨HP, HK⟩
  ispecialize HK $$ %a
  iapply HK
  iexact HP

theorem Runs.bind {P Q R : sProp 𝕄} {p : Prog (TpuEff nD τ sig (Elt F) Λ₀ .tc) α} {f : α → Prog (TpuEff nD τ sig (Elt F) Λ₀ .tc) β}
    (hp : Runs c P p Q) (hf : ∀ r, Runs c Q (f r) R) : Runs c P (p >>= f) R := by
  intro K
  rw [wp_bind]
  refine BIBase.Entails.trans ?_ (hp _)
  iintro ⟨HP, HK⟩
  isplitl [HP]; · iexact HP
  iintro %r HQ
  iapply (hf r K)
  isplitl [HQ]
  · iexact HQ
  · iexact HK

/-- A program that keeps a part keeps the whole. -/
theorem Runs.part {P : sProp 𝕄} {p : Prog (TpuEff nD τ sig (Elt F) Λ₀ .tc) α} {I : sProp 𝕄} (h : Runs c P p P) (hI : I ⊢ iprop(P ∗ (P -∗ I))) : Runs c I p I := by
  intro K
  refine BIBase.Entails.trans ?_ (h K)
  refine (sep_mono_left hI).trans ?_
  iintro ⟨⟨HP, HI⟩, HK⟩
  isplitl [HP]; · iexact HP
  iintro %r HP
  ispecialize HK $$ %r
  iapply HK
  iapply HI
  iexact HP

theorem Runs.beside {P Q : sProp 𝕄} {p : Prog (TpuEff nD τ sig (Elt F) Λ₀ .tc) α} (h : Runs (F := F) c P p Q) (R' : sProp 𝕄) : Runs (F := F) c (BIBase.sep P R') p (BIBase.sep Q R') := by
  intro K
  refine BIBase.Entails.trans ?_ (h K)
  iintro ⟨⟨HP, HR⟩, HK⟩
  isplitl [HP]; · iexact HP
  iintro %r HQ
  ispecialize HK $$ %r
  iapply HK
  isplitl [HQ]; · iexact HQ
  iexact HR

section
variable {cs : CoreSpace} {s : Shape} {e : EltTy} (m : Memref sig .tc cs s e)

theorem Runs.load {r : LoadRect s} {hl : m.view.LoadsAt r} {q : PosShare TreeShare} {x : s.Idx → Elt F e} :
    Runs c (owns (c : Thread nD τ) m q x) (Prog.lift (.load m r hl)) (owns (c : Thread nD τ) m q x) := by
  intro K
  unfold owns
  iintro ⟨⟨%f, %hf, H⟩, HK⟩
  iapply (wp_load (defs := defs₀ (F := F)) Variants.none (c : Thread nD τ) none Set.univ (m := m) (r := r) (hl := hl) (f := f) (View.setOn_subset_set _ _)) $$ H
  iintro H
  iapply (le_wp_ret _ _ _ _ K)
  ispecialize HK $$ %(m.view.readAt (Elt F) r f)
  iapply HK
  iexists f
  isplitr; · ipureintro; exact hf
  iexact H

theorem Runs.load_any {r : LoadRect s} {hl : m.view.LoadsAt r} :
    Runs (F := F) c iprop(∃ x, owns (c : Thread nD τ) m fullShare x) (Prog.lift (.load m r hl)) iprop(∃ x, owns (c : Thread nD τ) m fullShare x) := by
  intro K
  iintro ⟨⟨%x, H⟩, HK⟩
  iapply (Runs.load (c := c) m (r := r) (hl := hl) (q := fullShare) (x := x) K)
  isplitl [H]; · iexact H
  iintro %v H
  ispecialize HK $$ %v
  iapply HK
  iexists x
  iexact H

theorem Runs.store_any {r : Rect s} {w : r.shape.Idx → Elt F e} {Mk : Finset r.shape.Idx} {hx : (m.access r).Stores Mk} {hm : Mk = Finset.univ ∨ ∀ a, r.stride a = 1} :
    Runs (F := F) c iprop(∃ x, owns (c : Thread nD τ) m fullShare x) (Prog.lift (.store m r w Mk hx hm)) iprop(∃ x, owns (c : Thread nD τ) m fullShare x) := by
  intro K
  unfold owns
  iintro ⟨⟨%x, %f, %hf, H⟩, HK⟩
  iapply (wp_store (defs := defs₀ (F := F)) Variants.none (c : Thread nD τ) none Set.univ (m := m) (r := r) (w := w) (hx := hx) (hm := hm) (f := f) (View.setOn_slice_subset_set m.view r Mk)) $$ H
  iintro H
  iapply (le_wp_ret _ _ _ _ K)
  ispecialize HK $$ %⟨⟩
  iapply HK
  iexists _; iexists _
  isplitr
  swap; · iexact H
  ipureintro; rfl

end

theorem Runs.word {s : Shape} {e : EltTy} (m : Memref sig .tc .smem s e) {r : Rect s} {h1 : r.shape.numel = 1} {hp : e.packing = 1} {q : PosShare TreeShare} {x : s.Idx → Elt F e} :
    Runs (F := F) c (owns (c : Thread nD τ) m q x) (smemLoad m r h1 hp) (owns (c : Thread nD τ) m q x) := by
  intro K
  unfold owns smemLoad smemLoadElt
  iintro ⟨⟨%f, %hf, H⟩, HK⟩
  iapply (wp_load (defs := defs₀ (F := F)) Variants.none (c : Thread nD τ) none Set.univ (m := m) (r := r.toLoadRect) (f := f) (View.setOn_subset_set _ _)) $$ H
  iintro H
  iapply (le_wp_ret _ _ _ _ K)
  ispecialize HK $$ %_
  iapply HK
  iexists f
  isplitr; · ipureintro; exact hf
  iexact H

end Cert.AttnPIdeal.Body
end
-- ==== Proof.AttnP.Parts.lean ====
/- The attention's arithmetic, part by part: each loads from the blocks it is handed and stores into its scratches and its
   result's block alone, so it leaves the blocks as they were. For any floats. -/
module

public import proofs.«01_k».proof.Proof.AttnP.Keep

@[expose] public section

set_option maxRecDepth 16384

noncomputable section

namespace Cert.AttnPIdeal.Body

open Cert.AttnPIdeal Cert.AttnPIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers the arithmetic uses can be taken out of `I` and put back: an input at its contents, the others at anything. -/
structure Holds (c : Dev nD) (I : sProp 𝕄) (arg3 : Memref sig .tc .smem S12 .f32) (arg4 : Memref sig .tc .vmem S1x2048x128 .f32) (arg5 : Memref sig .tc .vmem S1x2048x128 .f32) (arg6 : Memref sig .tc .vmem S1x2048x128 .f32) (arg7 : Memref sig .tc .vmem S1x128x128 .f32) (arg8 : Memref sig .tc .vmem S1x128x128 .f32) (arg9 : Memref sig .tc .vmem S1x2048x128 .f32) (arg10 : Memref sig .tc .vmem S1x2048x128 .f32) (arg11 : Memref sig .tc .vmem S1x2048x128 .f32) (arg12 : Memref sig .tc .vmem S1x512x128 .f32) (arg13 : Memref sig .tc .vmem S1x512x128 .f32) (arg14 : Memref sig .tc .vmem S1x2048x128 .f32) (arg15 : Memref sig .tc .vmem S1x2048x128 .f32) (arg16 : Memref sig .tc .vmem S1x2048x128 .f32) (arg17 : Memref sig .tc .vmem S1x2048x128 .f32) (arg18 : Memref sig .tc .vmem S1x2048x128 .f32) (arg19 : Memref sig .tc .vmem S1x2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32) (arg28 : Memref sig .tc .vmem S2048x128 .f32)
    (x3 : Vec F S12 .f32) (x4 : Vec F S1x2048x128 .f32) (x5 : Vec F S1x2048x128 .f32) (x6 : Vec F S1x2048x128 .f32) (x7 : Vec F S1x128x128 .f32) (x8 : Vec F S1x128x128 .f32) (x9 : Vec F S1x2048x128 .f32) (x10 : Vec F S1x2048x128 .f32) (x11 : Vec F S1x2048x128 .f32) (x12 : Vec F S1x512x128 .f32) (x13 : Vec F S1x512x128 .f32) (x14 : Vec F S1x2048x128 .f32) (x15 : Vec F S1x2048x128 .f32) (x16 : Vec F S1x2048x128 .f32) (x17 : Vec F S1x2048x128 .f32) (x18 : Vec F S1x2048x128 .f32) : Prop where
  b3 : I ⊢ iprop(owns (c : Thread nD τ) arg3 fullShare x3 ∗ (owns (c : Thread nD τ) arg3 fullShare x3 -∗ I))
  b4 : I ⊢ iprop(owns (c : Thread nD τ) arg4 fullShare x4 ∗ (owns (c : Thread nD τ) arg4 fullShare x4 -∗ I))
  b5 : I ⊢ iprop(owns (c : Thread nD τ) arg5 fullShare x5 ∗ (owns (c : Thread nD τ) arg5 fullShare x5 -∗ I))
  b6 : I ⊢ iprop(owns (c : Thread nD τ) arg6 fullShare x6 ∗ (owns (c : Thread nD τ) arg6 fullShare x6 -∗ I))
  b7 : I ⊢ iprop(owns (c : Thread nD τ) arg7 fullShare x7 ∗ (owns (c : Thread nD τ) arg7 fullShare x7 -∗ I))
  b8 : I ⊢ iprop(owns (c : Thread nD τ) arg8 fullShare x8 ∗ (owns (c : Thread nD τ) arg8 fullShare x8 -∗ I))
  b9 : I ⊢ iprop(owns (c : Thread nD τ) arg9 fullShare x9 ∗ (owns (c : Thread nD τ) arg9 fullShare x9 -∗ I))
  b10 : I ⊢ iprop(owns (c : Thread nD τ) arg10 fullShare x10 ∗ (owns (c : Thread nD τ) arg10 fullShare x10 -∗ I))
  b11 : I ⊢ iprop(owns (c : Thread nD τ) arg11 fullShare x11 ∗ (owns (c : Thread nD τ) arg11 fullShare x11 -∗ I))
  b12 : I ⊢ iprop(owns (c : Thread nD τ) arg12 fullShare x12 ∗ (owns (c : Thread nD τ) arg12 fullShare x12 -∗ I))
  b13 : I ⊢ iprop(owns (c : Thread nD τ) arg13 fullShare x13 ∗ (owns (c : Thread nD τ) arg13 fullShare x13 -∗ I))
  b14 : I ⊢ iprop(owns (c : Thread nD τ) arg14 fullShare x14 ∗ (owns (c : Thread nD τ) arg14 fullShare x14 -∗ I))
  b15 : I ⊢ iprop(owns (c : Thread nD τ) arg15 fullShare x15 ∗ (owns (c : Thread nD τ) arg15 fullShare x15 -∗ I))
  b16 : I ⊢ iprop(owns (c : Thread nD τ) arg16 fullShare x16 ∗ (owns (c : Thread nD τ) arg16 fullShare x16 -∗ I))
  b17 : I ⊢ iprop(owns (c : Thread nD τ) arg17 fullShare x17 ∗ (owns (c : Thread nD τ) arg17 fullShare x17 -∗ I))
  b18 : I ⊢ iprop(owns (c : Thread nD τ) arg18 fullShare x18 ∗ (owns (c : Thread nD τ) arg18 fullShare x18 -∗ I))
  b19 : I ⊢ iprop((∃ x, owns (c : Thread nD τ) arg19 fullShare x) ∗ ((∃ x, owns (c : Thread nD τ) arg19 fullShare x) -∗ I))
  b23 : I ⊢ iprop((∃ x, owns (c : Thread nD τ) arg23 fullShare x) ∗ ((∃ x, owns (c : Thread nD τ) arg23 fullShare x) -∗ I))
  b24 : I ⊢ iprop((∃ x, owns (c : Thread nD τ) arg24 fullShare x) ∗ ((∃ x, owns (c : Thread nD τ) arg24 fullShare x) -∗ I))
  b25 : I ⊢ iprop((∃ x, owns (c : Thread nD τ) arg25 fullShare x) ∗ ((∃ x, owns (c : Thread nD τ) arg25 fullShare x) -∗ I))
  b26 : I ⊢ iprop((∃ x, owns (c : Thread nD τ) arg26 fullShare x) ∗ ((∃ x, owns (c : Thread nD τ) arg26 fullShare x) -∗ I))
  b27 : I ⊢ iprop((∃ x, owns (c : Thread nD τ) arg27 fullShare x) ∗ ((∃ x, owns (c : Thread nD τ) arg27 fullShare x) -∗ I))
  b28 : I ⊢ iprop((∃ x, owns (c : Thread nD τ) arg28 fullShare x) ∗ ((∃ x, owns (c : Thread nD τ) arg28 fullShare x) -∗ I))

variable (i : grid0.Coords) (arg3 : Memref sig .tc .smem S12 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x2048x128 .f32) (harg14 : arg14.IsWhole) (arg15 : Memref sig .tc .vmem S1x2048x128 .f32) (harg15 : arg15.IsWhole) (arg16 : Memref sig .tc .vmem S1x2048x128 .f32) (harg16 : arg16.IsWhole) (arg17 : Memref sig .tc .vmem S1x2048x128 .f32) (harg17 : arg17.IsWhole) (arg18 : Memref sig .tc .vmem S1x2048x128 .f32) (harg18 : arg18.IsWhole) (arg19 : Memref sig .tc .vmem S1x2048x128 .f32) (harg19 : arg19.IsWhole) (arg20 : Memref sig .tc .vmem S1x1024x128 .f32) (harg20 : arg20.IsWhole) (arg21 : Memref sig .tc .vmem S1x4096x128 .f32) (harg21 : arg21.IsWhole) (arg22 : Memref sig .tc .vmem S1x16384x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole)
variable {x3 : Vec F S12 .f32} {x4 : Vec F S1x2048x128 .f32} {x5 : Vec F S1x2048x128 .f32} {x6 : Vec F S1x2048x128 .f32} {x7 : Vec F S1x128x128 .f32} {x8 : Vec F S1x128x128 .f32} {x9 : Vec F S1x2048x128 .f32} {x10 : Vec F S1x2048x128 .f32} {x11 : Vec F S1x2048x128 .f32} {x12 : Vec F S1x512x128 .f32} {x13 : Vec F S1x512x128 .f32} {x14 : Vec F S1x2048x128 .f32} {x15 : Vec F S1x2048x128 .f32} {x16 : Vec F S1x2048x128 .f32} {x17 : Vec F S1x2048x128 .f32} {x18 : Vec F S1x2048x128 .f32}

theorem keep_part3 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v33 : FVec F S128x256 .f32) (v38 : FVec F S128x128 .bf16) : Runs c I (k0_part3 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v33 v38) I := by
  unfold k0_part3
  refine Runs.bind ((Runs.load arg7).part h.b7) fun _ => ?_
  refine Runs.bind ((Runs.load arg5).part h.b5) fun _ => ?_
  refine Runs.bind ((Runs.load arg8).part h.b8) fun _ => ?_
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  exact Runs.ret _ _

theorem keep_part4 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) : Runs c I (k0_part4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31) I := by
  unfold k0_part4
  refine Runs.bind ((Runs.load arg4).part h.b4) fun _ => ?_
  refine Runs.bind ((Runs.load arg5).part h.b5) fun _ => ?_
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  exact Runs.ret _ _

theorem keep_part5 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) : Runs c I (k0_part5 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31) I := by
  unfold k0_part5
  refine Runs.bind ((Runs.load arg4).part h.b4) fun _ => ?_
  refine Runs.bind ((Runs.load arg5).part h.b5) fun _ => ?_
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  exact Runs.ret _ _

theorem keep_part6 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v149 : FVec F S128x128 .f32) (cst_71 : F .f32) : Runs c I (k0_part6 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v149 cst_71) I := by
  unfold k0_part6
  refine Runs.bind ((Runs.load arg5).part h.b5) fun _ => ?_
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  exact Runs.ret _ _

theorem keep_part7 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v188 : FVec F S128x128 .bf16) : Runs c I (k0_part7 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v188) I := by
  unfold k0_part7
  refine Runs.bind ((Runs.load arg5).part h.b5) fun _ => ?_
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  exact Runs.ret _ _

theorem keep_part8 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v224 : FVec F S128x128 .bf16) : Runs c I (k0_part8 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v224) I := by
  unfold k0_part8
  refine Runs.bind ((Runs.load arg5).part h.b5) fun _ => ?_
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  exact Runs.ret _ _

theorem keep_part9 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v260 : FVec F S128x128 .bf16) (v263 : FVec F S256x128 .bf16) : Runs c I (k0_part9 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v260 v263) I := by
  unfold k0_part9
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  exact Runs.ret _ _

theorem keep_part10 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v296 : FVec F S128x128 .bf16) (v299 : FVec F S256x128 .bf16) : Runs c I (k0_part10 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v296 v299) I := by
  unfold k0_part10
  refine Runs.bind ((Runs.load arg6).part h.b6) fun _ => ?_
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  exact Runs.ret _ _

theorem keep_part11 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v332 : FVec F S128x128 .bf16) (v335 : FVec F S256x128 .bf16) (v338 : FVec F S256x128 .bf16) : Runs c I (k0_part11 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v332 v335 v338) I := by
  unfold k0_part11
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  exact Runs.ret _ _

theorem keep_part12 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v374 : FVec F S256x128 .bf16) (v376 : FVec F S128x256 .f32) : Runs c I (k0_part12 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v374 v376) I := by
  unfold k0_part12
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  exact Runs.ret _ _

theorem keep_part13 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v410 : FVec F S256x128 .bf16) (v412 : FVec F S128x256 .f32) (v414 : FVec F S128x1 .f32) : Runs c I (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v410 v412 v414) I := by
  unfold k0_part13
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  exact Runs.ret _ _

theorem keep_part14 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v446 : FVec F S256x128 .bf16) (v450 : FVec F S128x1 .f32) (v453 : FVec F S128x256 .f32) : Runs c I (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v446 v450 v453) I := by
  unfold k0_part14
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  exact Runs.ret _ _

theorem keep_part15 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v482 : FVec F S256x128 .bf16) (v486 : FVec F S128x1 .f32) (v489 : FVec F S128x256 .f32) (v491 : FVec F S128x1 .f32) : Runs c I (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v482 v486 v489 v491) I := by
  unfold k0_part15
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  exact Runs.ret _ _

theorem keep_part16 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v522 : FVec F S128x1 .f32) (v527 : FVec F S128x1 .f32) (v529 : FVec F S128x128 .f32) : Runs c I (k0_part16 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v522 v527 v529) I := by
  unfold k0_part16
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  exact Runs.ret _ _

theorem keep_part17 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v31 : FVec F S128x256 .f32) (v558 : FVec F S128x1 .f32) (v563 : FVec F S128x1 .f32) (v567 : FVec F S128x128 .f32) : Runs c I (k0_part17 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v31 v558 v563 v567) I := by
  unfold k0_part17
  refine Runs.bind ((Runs.load_any arg23).part h.b23) fun _ => ?_
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.load arg4).part h.b4) fun _ => ?_
  refine Runs.bind ((Runs.load arg5).part h.b5) fun _ => ?_
  refine Runs.bind ((Runs.load arg6).part h.b6) fun _ => ?_
  refine Runs.bind ((Runs.load_any arg23).part h.b23) fun _ => ?_
  exact Runs.ret _ _

theorem keep_part18 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (arg2 : BitVec 32) (v7 : IVec S128x256 32) (v12 : IVec S128x256 1) (v18 : IVec S128x256 1) (v594 : FVec F S128x1 .f32) (v599 : FVec F S128x1 .f32) (v603 : FVec F S128x128 .f32) : Runs c I (k0_part18 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v7 v12 v18 v594 v599 v603) I := by
  unfold k0_part18
  refine Runs.bind ((Runs.store_any arg23).part h.b23) fun _ => ?_
  refine Runs.bind ((Runs.load_any arg24).part h.b24) fun _ => ?_
  refine Runs.bind ((Runs.store_any arg24).part h.b24) fun _ => ?_
  refine Runs.bind ((Runs.word arg3).part h.b3) fun _ => ?_
  refine Runs.bind ((Runs.load arg9).part h.b9) fun _ => ?_
  refine Runs.bind ((Runs.load arg12).part h.b12) fun _ => ?_
  refine Runs.bind ((Runs.load arg10).part h.b10) fun _ => ?_
  exact Runs.ret _ _

theorem keep_part19 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v630 : FVec F S128x256 .f32) (v635 : FVec F S128x128 .bf16) (v641 : FVec F S256x128 .bf16) : Runs c I (k0_part19 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v630 v635 v641) I := by
  unfold k0_part19
  refine Runs.bind ((Runs.load arg13).part h.b13) fun _ => ?_
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part20 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v677 : FVec F S128x128 .bf16) (v680 : FVec F S256x128 .bf16) : Runs c I (k0_part20 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v677 v680) I := by
  unfold k0_part20
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part21 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v713 : FVec F S128x128 .bf16) (v716 : FVec F S256x128 .bf16) : Runs c I (k0_part21 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v713 v716) I := by
  unfold k0_part21
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  refine Runs.bind ((Runs.load arg11).part h.b11) fun _ => ?_
  exact Runs.ret _ _

theorem keep_part22 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v749 : FVec F S128x128 .bf16) (v752 : FVec F S256x128 .bf16) (v755 : FVec F S256x128 .bf16) : Runs c I (k0_part22 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v749 v752 v755) I := by
  unfold k0_part22
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg12).part h.b12) fun _ => ?_
  refine Runs.bind ((Runs.load arg10).part h.b10) fun _ => ?_
  exact Runs.ret _ _

theorem keep_part23 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v630 : FVec F S128x256 .f32) (v785 : FVec F S128x128 .bf16) (v791 : FVec F S256x128 .bf16) : Runs c I (k0_part23 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v630 v785 v791) I := by
  unfold k0_part23
  refine Runs.bind ((Runs.load arg13).part h.b13) fun _ => ?_
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part24 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v827 : FVec F S128x128 .bf16) (v830 : FVec F S256x128 .bf16) : Runs c I (k0_part24 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v827 v830) I := by
  unfold k0_part24
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part25 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v863 : FVec F S128x128 .bf16) (v866 : FVec F S256x128 .bf16) : Runs c I (k0_part25 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v863 v866) I := by
  unfold k0_part25
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  refine Runs.bind ((Runs.load arg11).part h.b11) fun _ => ?_
  exact Runs.ret _ _

theorem keep_part26 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v899 : FVec F S128x128 .bf16) (v902 : FVec F S256x128 .bf16) (v905 : FVec F S256x128 .bf16) : Runs c I (k0_part26 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v899 v902 v905) I := by
  unfold k0_part26
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg12).part h.b12) fun _ => ?_
  refine Runs.bind ((Runs.load arg10).part h.b10) fun _ => ?_
  exact Runs.ret _ _

theorem keep_part27 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v630 : FVec F S128x256 .f32) (v935 : FVec F S128x128 .bf16) (v941 : FVec F S256x128 .bf16) : Runs c I (k0_part27 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v630 v935 v941) I := by
  unfold k0_part27
  refine Runs.bind ((Runs.load arg13).part h.b13) fun _ => ?_
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part28 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v977 : FVec F S128x128 .bf16) (v980 : FVec F S256x128 .bf16) : Runs c I (k0_part28 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v977 v980) I := by
  unfold k0_part28
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part29 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v1013 : FVec F S128x128 .bf16) (v1016 : FVec F S256x128 .bf16) : Runs c I (k0_part29 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v1013 v1016) I := by
  unfold k0_part29
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  refine Runs.bind ((Runs.load arg11).part h.b11) fun _ => ?_
  exact Runs.ret _ _

theorem keep_part30 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v1049 : FVec F S128x128 .bf16) (v1052 : FVec F S256x128 .bf16) (v1055 : FVec F S256x128 .bf16) : Runs c I (k0_part30 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v1049 v1052 v1055) I := by
  unfold k0_part30
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg12).part h.b12) fun _ => ?_
  refine Runs.bind ((Runs.load arg10).part h.b10) fun _ => ?_
  exact Runs.ret _ _

theorem keep_part31 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v630 : FVec F S128x256 .f32) (v1085 : FVec F S128x128 .bf16) (v1091 : FVec F S256x128 .bf16) : Runs c I (k0_part31 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v630 v1085 v1091) I := by
  unfold k0_part31
  refine Runs.bind ((Runs.load arg13).part h.b13) fun _ => ?_
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part32 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v1127 : FVec F S128x128 .bf16) (v1130 : FVec F S256x128 .bf16) : Runs c I (k0_part32 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v1127 v1130) I := by
  unfold k0_part32
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  exact Runs.ret _ _

theorem keep_part33 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v628 : FVec F S128x256 .f32) (v1163 : FVec F S128x128 .bf16) (v1166 : FVec F S256x128 .bf16) : Runs c I (k0_part33 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v628 v1163 v1166) I := by
  unfold k0_part33
  refine Runs.bind ((Runs.load arg11).part h.b11) fun _ => ?_
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.load arg9).part h.b9) fun _ => ?_
  refine Runs.bind ((Runs.load arg10).part h.b10) fun _ => ?_
  refine Runs.bind ((Runs.load arg11).part h.b11) fun _ => ?_
  exact Runs.ret _ _

theorem keep_part34 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (arg2 : BitVec 32) (v7 : IVec S128x256 32) (v18 : IVec S128x256 1) (v628 : FVec F S128x256 .f32) (v1199 : FVec F S128x128 .bf16) (v1202 : FVec F S256x128 .bf16) (v1205 : FVec F S256x128 .bf16) : Runs c I (k0_part34 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg2 v7 v18 v628 v1199 v1202 v1205) I := by
  unfold k0_part34
  refine Runs.bind ((Runs.load_any arg25).part h.b25) fun _ => ?_
  refine Runs.bind ((Runs.store_any arg25).part h.b25) fun _ => ?_
  refine Runs.bind ((Runs.load_any arg26).part h.b26) fun _ => ?_
  refine Runs.bind ((Runs.store_any arg26).part h.b26) fun _ => ?_
  refine Runs.bind ((Runs.word arg3).part h.b3) fun _ => ?_
  refine Runs.bind ((Runs.load arg14).part h.b14) fun _ => ?_
  exact Runs.ret _ _

theorem keep_part35 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1245 : FVec F S128x128 .f32) (cst_630 : F .f32) : Runs c I (k0_part35 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1245 cst_630) I := by
  unfold k0_part35
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  refine Runs.bind ((Runs.load_any arg28).part h.b28) fun _ => ?_
  exact Runs.ret _ _

theorem keep_part36 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1282 : FVec F S128x128 .f32) (v1283 : Vec F S128x128 .f32) : Runs c I (k0_part36 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1282 v1283) I := by
  unfold k0_part36
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  exact Runs.ret _ _

theorem keep_part37 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1306 : FVec F S128x1 .f32) (v1319 : FVec F S128x1 .f32) : Runs c I (k0_part37 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1306 v1319) I := by
  unfold k0_part37
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  exact Runs.ret _ _

theorem keep_part38 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1348 : FVec F S128x1 .f32) (v1353 : FVec F S128x1 .f32) (v1355 : FVec F S128x128 .f32) : Runs c I (k0_part38 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1348 v1353 v1355) I := by
  unfold k0_part38
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  exact Runs.ret _ _

theorem keep_part39 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1386 : FVec F S256x128 .bf16) (v1388 : FVec F S128x256 .f32) (v1390 : FVec F S128x1 .f32) : Runs c I (k0_part39 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1386 v1388 v1390) I := by
  unfold k0_part39
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  exact Runs.ret _ _

theorem keep_part40 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1416 : FVec F S128x128 .bf16) (v1422 : FVec F S256x128 .bf16) (v1424 : FVec F S128x128 .f32) (v1425 : Vec F S1x128x128 .f32) : Runs c I (k0_part40 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1416 v1422 v1424 v1425) I := by
  unfold k0_part40
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  exact Runs.ret _ _

theorem keep_part41 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1458 : FVec F S128x128 .bf16) (v1464 : FVec F S256x128 .bf16) : Runs c I (k0_part41 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1458 v1464) I := by
  unfold k0_part41
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  exact Runs.ret _ _

theorem keep_part42 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1500 : FVec F S128x128 .bf16) : Runs c I (k0_part42 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1500) I := by
  unfold k0_part42
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  exact Runs.ret _ _

theorem keep_part43 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) : Runs c I (k0_part43 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243) I := by
  unfold k0_part43
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  exact Runs.ret _ _

theorem keep_part44 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1576 : FVec F S128x128 .f32) : Runs c I (k0_part44 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1576) I := by
  unfold k0_part44
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  refine Runs.bind ((Runs.load_any arg27).part h.b27) fun _ => ?_
  exact Runs.ret _ _

theorem keep_part45 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1600 : FVec F S128x1 .f32) (v1605 : FVec F S128x1 .f32) (v1609 : FVec F S128x128 .f32) : Runs c I (k0_part45 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1600 v1605 v1609) I := by
  unfold k0_part45
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  exact Runs.ret _ _

theorem keep_part46 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1638 : FVec F S256x128 .bf16) (v1642 : FVec F S128x1 .f32) (v1645 : FVec F S128x256 .f32) (v1647 : FVec F S128x1 .f32) : Runs c I (k0_part46 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1638 v1642 v1645 v1647) I := by
  unfold k0_part46
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  exact Runs.ret _ _

theorem keep_part47 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1680 : FVec F S256x128 .bf16) (v1682 : FVec F S128x256 .f32) : Runs c I (k0_part47 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1680 v1682) I := by
  unfold k0_part47
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  exact Runs.ret _ _

theorem keep_part48 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1710 : FVec F S128x128 .bf16) (v1716 : FVec F S256x128 .bf16) (v1718 : FVec F S128x128 .f32) : Runs c I (k0_part48 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1710 v1716 v1718) I := by
  unfold k0_part48
  refine Runs.bind ((Runs.load arg16).part h.b16) fun _ => ?_
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  exact Runs.ret _ _

theorem keep_part49 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1752 : FVec F S128x128 .bf16) (v1754 : FVec F S128x128 .f32) (v1755 : Vec F S1x128x128 .f32) : Runs c I (k0_part49 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1752 v1754 v1755) I := by
  unfold k0_part49
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load arg14).part h.b14) fun _ => ?_
  exact Runs.ret _ _

theorem keep_part50 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1794 : FVec F S128x128 .bf16) : Runs c I (k0_part50 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1794) I := by
  unfold k0_part50
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  exact Runs.ret _ _

theorem keep_part51 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) : Runs c I (k0_part51 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243) I := by
  unfold k0_part51
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  refine Runs.bind ((Runs.load_any arg27).part h.b27) fun _ => ?_
  refine Runs.bind ((Runs.store_any arg27).part h.b27) fun _ => ?_
  exact Runs.ret _ _

theorem keep_part52 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1243 : FVec F S128x256 .f32) (v1852 : FVec F S128x1 .f32) (v1867 : FVec F S128x1 .f32) : Runs c I (k0_part52 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1243 v1852 v1867) I := by
  unfold k0_part52
  refine Runs.bind ((Runs.load_any arg28).part h.b28) fun _ => ?_
  refine Runs.bind ((Runs.store_any arg28).part h.b28) fun _ => ?_
  refine Runs.bind ((Runs.load arg14).part h.b14) fun _ => ?_
  refine Runs.bind ((Runs.load arg17).part h.b17) fun _ => ?_
  refine Runs.bind ((Runs.load arg15).part h.b15) fun _ => ?_
  refine Runs.bind ((Runs.load arg18).part h.b18) fun _ => ?_
  refine Runs.bind ((Runs.load arg16).part h.b16) fun _ => ?_
  exact Runs.ret _ _

theorem keep_part53 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1894 : FVec F S128x1 .f32) (v1899 : FVec F S128x1 .f32) (v1903 : FVec F S128x128 .f32) : Runs c I (k0_part53 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1894 v1899 v1903) I := by
  unfold k0_part53
  refine Runs.bind ((Runs.load_any arg27).part h.b27) fun _ => ?_
  refine Runs.bind ((Runs.store_any arg27).part h.b27) fun _ => ?_
  refine Runs.bind ((Runs.load_any arg28).part h.b28) fun _ => ?_
  refine Runs.bind ((Runs.store_any arg28).part h.b28) fun _ => ?_
  refine Runs.bind ((Runs.load_any arg24).part h.b24) fun _ => ?_
  refine Runs.bind ((Runs.load_any arg26).part h.b26) fun _ => ?_
  refine Runs.bind ((Runs.load_any arg28).part h.b28) fun _ => ?_
  refine Runs.bind ((Runs.load_any arg23).part h.b23) fun _ => ?_
  refine Runs.bind ((Runs.load_any arg25).part h.b25) fun _ => ?_
  refine Runs.bind ((Runs.load_any arg27).part h.b27) fun _ => ?_
  exact Runs.ret _ _

theorem keep_part54 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1941 : FVec F S256x128 .f32) : Runs c I (k0_part54 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1941) I := by
  unfold k0_part54
  refine Runs.bind ((Runs.load_any arg19).part h.b19) fun _ => ?_
  refine Runs.bind ((Runs.store_any arg19).part h.b19) fun _ => ?_
  refine Runs.bind ((Runs.load_any arg24).part h.b24) fun _ => ?_
  refine Runs.bind ((Runs.load_any arg26).part h.b26) fun _ => ?_
  refine Runs.bind ((Runs.load_any arg28).part h.b28) fun _ => ?_
  refine Runs.bind ((Runs.load_any arg23).part h.b23) fun _ => ?_
  refine Runs.bind ((Runs.load_any arg25).part h.b25) fun _ => ?_
  refine Runs.bind ((Runs.load_any arg27).part h.b27) fun _ => ?_
  refine Runs.bind ((Runs.load_any arg19).part h.b19) fun _ => ?_
  refine Runs.bind ((Runs.store_any arg19).part h.b19) fun _ => ?_
  refine Runs.bind ((Runs.load_any arg24).part h.b24) fun _ => ?_
  refine Runs.bind ((Runs.load_any arg26).part h.b26) fun _ => ?_
  exact Runs.ret _ _

theorem keep_part55 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v1974 : Vec F S256x128 .f32) (v1975 : Vec F S256x128 .f32) : Runs c I (k0_part55 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v1974 v1975) I := by
  unfold k0_part55
  refine Runs.bind ((Runs.load_any arg28).part h.b28) fun _ => ?_
  refine Runs.bind ((Runs.load_any arg23).part h.b23) fun _ => ?_
  refine Runs.bind ((Runs.load_any arg25).part h.b25) fun _ => ?_
  refine Runs.bind ((Runs.load_any arg27).part h.b27) fun _ => ?_
  refine Runs.bind ((Runs.load_any arg19).part h.b19) fun _ => ?_
  refine Runs.bind ((Runs.store_any arg19).part h.b19) fun _ => ?_
  refine Runs.bind ((Runs.load_any arg24).part h.b24) fun _ => ?_
  refine Runs.bind ((Runs.load_any arg26).part h.b26) fun _ => ?_
  refine Runs.bind ((Runs.load_any arg28).part h.b28) fun _ => ?_
  refine Runs.bind ((Runs.load_any arg23).part h.b23) fun _ => ?_
  exact Runs.ret _ _

theorem keep_part56 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v2009 : FVec F S256x128 .f32) (v2011 : FVec F S256x128 .f32) (v2013 : FVec F S256x128 .f32) (v2015 : FVec F S256x128 .f32) : Runs c I (k0_part56 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2009 v2011 v2013 v2015) I := by
  unfold k0_part56
  refine Runs.bind ((Runs.load_any arg25).part h.b25) fun _ => ?_
  refine Runs.bind ((Runs.load_any arg27).part h.b27) fun _ => ?_
  refine Runs.bind ((Runs.load_any arg19).part h.b19) fun _ => ?_
  refine Runs.bind ((Runs.store_any arg19).part h.b19) fun _ => ?_
  refine Runs.bind ((Runs.load_any arg24).part h.b24) fun _ => ?_
  refine Runs.bind ((Runs.load_any arg26).part h.b26) fun _ => ?_
  refine Runs.bind ((Runs.load_any arg28).part h.b28) fun _ => ?_
  refine Runs.bind ((Runs.load_any arg23).part h.b23) fun _ => ?_
  refine Runs.bind ((Runs.load_any arg25).part h.b25) fun _ => ?_
  refine Runs.bind ((Runs.load_any arg27).part h.b27) fun _ => ?_
  exact Runs.ret _ _

theorem keep_part57 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (v2038 : FVec F S256x128 .f32) (v2040 : FVec F S256x128 .f32) (v2042 : FVec F S256x128 .f32) (v2052 : FVec F S256x128 .f32) : Runs c I (k0_part57 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v2038 v2040 v2042 v2052) I := by
  unfold k0_part57
  refine Runs.bind ((Runs.load_any arg19).part h.b19) fun _ => ?_
  refine Runs.bind ((Runs.store_any arg19).part h.b19) fun _ => ?_
  refine Runs.bind ((Runs.load_any arg24).part h.b24) fun _ => ?_
  refine Runs.bind ((Runs.load_any arg26).part h.b26) fun _ => ?_
  refine Runs.bind ((Runs.load_any arg28).part h.b28) fun _ => ?_
  refine Runs.bind ((Runs.load_any arg23).part h.b23) fun _ => ?_
  refine Runs.bind ((Runs.load_any arg25).part h.b25) fun _ => ?_
  refine Runs.bind ((Runs.load_any arg27).part h.b27) fun _ => ?_
  refine Runs.bind ((Runs.load_any arg19).part h.b19) fun _ => ?_
  refine Runs.bind ((Runs.store_any arg19).part h.b19) fun _ => ?_
  exact Runs.ret _ _

theorem keep_part58 {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18)  : Runs c I (k0_part58 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 ) I := by
  unfold k0_part58
  refine Runs.bind ((Runs.load_any arg24).part h.b24) fun _ => ?_
  refine Runs.bind ((Runs.load_any arg26).part h.b26) fun _ => ?_
  refine Runs.bind ((Runs.load_any arg28).part h.b28) fun _ => ?_
  refine Runs.bind ((Runs.load_any arg23).part h.b23) fun _ => ?_
  refine Runs.bind ((Runs.load_any arg25).part h.b25) fun _ => ?_
  refine Runs.bind ((Runs.load_any arg27).part h.b27) fun _ => ?_
  refine Runs.bind ((Runs.load_any arg19).part h.b19) fun _ => ?_
  refine Runs.bind ((Runs.store_any arg19).part h.b19) fun _ => ?_
  refine Runs.bind ((Runs.load_any arg24).part h.b24) fun _ => ?_
  refine Runs.bind ((Runs.load_any arg26).part h.b26) fun _ => ?_
  refine Runs.bind ((Runs.load_any arg28).part h.b28) fun _ => ?_
  exact Runs.ret _ _

/-- The body after its second part. -/
theorem keep_rest {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) {P : sProp 𝕄} (h2 : Runs c P (k0_part2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) I) : Runs c P (cc0_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) I := by
  have h59 : Runs c P (k0_part59 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) I := by
    unfold k0_part59
    refine Runs.bind h2 fun ⟨arg2, v7, v12, v18, v31, v33, v38⟩ => ?_
    refine Runs.bind ((keep_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun _ => ?_
    refine Runs.bind ((keep_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _)) fun _ => ?_
    refine Runs.bind ((keep_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _)) fun ⟨v149, cst_71⟩ => ?_
    refine Runs.bind ((keep_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun _ => ?_
    refine Runs.bind ((keep_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun _ => ?_
    refine Runs.bind ((keep_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun ⟨v260, v263⟩ => ?_
    refine Runs.bind ((keep_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v296, v299⟩ => ?_
    refine Runs.bind ((keep_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v332, v335, v338⟩ => ?_
    refine Runs.bind ((keep_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v374, v376⟩ => ?_
    refine Runs.bind ((keep_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v410, v412, v414⟩ => ?_
    refine Runs.bind ((keep_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v446, v450, v453⟩ => ?_
    refine Runs.bind ((keep_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v482, v486, v489, v491⟩ => ?_
    refine Runs.bind ((keep_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _ _)) fun ⟨v522, v527, v529⟩ => ?_
    refine Runs.bind ((keep_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v558, v563, v567⟩ => ?_
    refine Runs.bind ((keep_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v594, v599, v603⟩ => ?_
    refine Runs.bind ((keep_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _ _ _ _)) fun ⟨v628, v630, v635, v641⟩ => ?_
    refine Runs.bind ((keep_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v677, v680⟩ => ?_
    refine Runs.bind ((keep_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v713, v716⟩ => ?_
    refine Runs.bind ((keep_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v749, v752, v755⟩ => ?_
    refine Runs.bind ((keep_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v785, v791⟩ => ?_
    refine Runs.bind ((keep_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v827, v830⟩ => ?_
    refine Runs.bind ((keep_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v863, v866⟩ => ?_
    refine Runs.bind ((keep_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v899, v902, v905⟩ => ?_
    refine Runs.bind ((keep_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v935, v941⟩ => ?_
    refine Runs.bind ((keep_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v977, v980⟩ => ?_
    refine Runs.bind ((keep_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1013, v1016⟩ => ?_
    refine Runs.bind ((keep_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1049, v1052, v1055⟩ => ?_
    refine Runs.bind ((keep_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v1085, v1091⟩ => ?_
    refine Runs.bind ((keep_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1127, v1130⟩ => ?_
    refine Runs.bind ((keep_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1163, v1166⟩ => ?_
    refine Runs.bind ((keep_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1199, v1202, v1205⟩ => ?_
    refine Runs.bind ((keep_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _ _ _ _)) fun ⟨v1243, v1245, cst_630⟩ => ?_
    refine Runs.bind ((keep_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1282, v1283⟩ => ?_
    refine Runs.bind ((keep_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1306, v1319⟩ => ?_
    refine Runs.bind ((keep_part37 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1348, v1353, v1355⟩ => ?_
    refine Runs.bind ((keep_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v1386, v1388, v1390⟩ => ?_
    refine Runs.bind ((keep_part39 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1416, v1422, v1424, v1425⟩ => ?_
    refine Runs.bind ((keep_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _ _)) fun ⟨v1458, v1464⟩ => ?_
    refine Runs.bind ((keep_part41 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun _ => ?_
    refine Runs.bind ((keep_part42 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun _ => ?_
    refine Runs.bind ((keep_part43 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _)) fun _ => ?_
    refine Runs.bind ((keep_part44 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun ⟨v1600, v1605, v1609⟩ => ?_
    refine Runs.bind ((keep_part45 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v1638, v1642, v1645, v1647⟩ => ?_
    refine Runs.bind ((keep_part46 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _ _)) fun ⟨v1680, v1682⟩ => ?_
    refine Runs.bind ((keep_part47 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun ⟨v1710, v1716, v1718⟩ => ?_
    refine Runs.bind ((keep_part48 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v1752, v1754, v1755⟩ => ?_
    refine Runs.bind ((keep_part49 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun _ => ?_
    refine Runs.bind ((keep_part50 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun _ => ?_
    refine Runs.bind ((keep_part51 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _)) fun ⟨v1852, v1867⟩ => ?_
    refine Runs.bind ((keep_part52 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun ⟨v1894, v1899, v1903⟩ => ?_
    refine Runs.bind ((keep_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _)) fun _ => ?_
    refine Runs.bind ((keep_part54 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _)) fun ⟨v1974, v1975⟩ => ?_
    refine Runs.bind ((keep_part55 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _)) fun ⟨v2009, v2011, v2013, v2015⟩ => ?_
    refine Runs.bind ((keep_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun ⟨v2038, v2040, v2042, v2052⟩ => ?_
    refine Runs.bind ((keep_part57 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h _ _ _ _)) fun _ => ?_
    refine Runs.bind ((keep_part58 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h)) fun ⟨v2120, v2121, v2123, v2125⟩ => ?_
    exact Runs.ret _ _
  unfold cc0_attn_prompt
  refine Runs.bind h59 fun ⟨v2125, v2127, v2128⟩ => ?_
  refine Runs.bind ((Runs.load_any arg23).part h.b23) fun _ => ?_
  refine Runs.bind ((Runs.load_any arg25).part h.b25) fun _ => ?_
  refine Runs.bind ((Runs.load_any arg27).part h.b27) fun _ => ?_
  refine Runs.bind ((Runs.load_any arg19).part h.b19) fun _ => ?_
  refine Runs.bind ((Runs.store_any arg19).part h.b19) fun _ => ?_
  exact Runs.ret _ _

/-- The second part where its conditional fails. -/
theorem keep_part2_off {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (hn : ¬k0_cond1 i = 1#1) : Runs c I (k0_part2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) I := by
  unfold k0_part2
  extract_lets
  rename_i jp _ _ _
  have hjp : ∀ r, Runs c I (jp r) I := fun r => by
    refine Runs.bind ((Runs.word arg3).part h.b3) fun _ => ?_
    refine Runs.bind ((Runs.load arg4).part h.b4) fun _ => ?_
    exact Runs.ret _ _
  clear_value jp
  rw [dif_neg hn]
  exact hjp _

end Cert.AttnPIdeal.Body
end
-- ==== Proof.AttnP.Store.lean ====
/- The rows the attention keeps: at a point of the last rows it stores its head's keys in one row of every eight of a block and
   its values four rows on, leaving the other rows as it found them. For any floats. -/
module

public import proofs.«01_k».proof.Proof.AttnP.Keep
public import Idealize.ShloMosaic.Lib.Pipeline.ValueKit.Geometry
public import Idealize.ShloMosaic.Lib.Pointwise

@[expose] public section

set_option maxRecDepth 16384

noncomputable section

namespace Cert.AttnPIdeal.Body

open Cert.AttnPIdeal Cert.AttnPIdeal.Gen Idealize.ShloMosaic Idealize.ShloMosaic.TcCoe Idealize.ShloMosaic.Tactic

variable {F : FTy → Type} [FloatOps F]

/-- Two stores through rectangles, read at every place: what the later stored, else what the earlier did, else what was there. -/
theorem read_two {sp : Space} {s : Shape} {e : EltTy} (m : Memref sig .tc sp s e) (f : m.view.ty.Contents (Elt F)) (rk rv : Rect s)
    (wk : rk.shape.Idx → Elt F e) (wv : rv.shape.Idx → Elt F e) (G : s.Idx → Elt F e) (hv : ∀ x, wv x = G (rv.emb x))
    (hk : ∀ x, wk x = G (rk.emb x)) (hd : ∀ y, y ∉ rv.set → y ∉ rk.set → m.view.read (Elt F) f y = G y) :
    m.view.read (Elt F) (m.view.writes (Elt F) f [⟨rv, wv⟩, ⟨rk, wk⟩]) = G := by
  funext y
  by_cases h : ∃ p ∈ ([⟨rv, wv⟩, ⟨rk, wk⟩] : List (View.Piece (Elt F) s e)), y ∈ p.1.set
  · refine View.read_writes_apply_of_pieces m.view f G _ (fun p hp x => ?_) y h
    rcases List.mem_cons.mp hp with rfl | hp
    · exact hv x
    · obtain rfl := List.mem_singleton.mp hp
      exact hk x
  · push Not at h
    rw [View.read_writes_apply_of_forall_not_mem m.view f y _ h]
    exact hd y (h ⟨rv, wv⟩ List.mem_cons_self) (h ⟨rk, wk⟩ (List.mem_cons_of_mem _ (List.mem_singleton_self _)))

/-- The block after head `h`'s keys and values are stored. -/
def put0 (h : ℕ) (k v : Vec F S1x2048x128 .f32) (d : Vec F S1x1024x128 .f32) : Vec F S1x1024x128 .f32 := fun y =>
  have hy : (y 1).val < 1024 := (y 1).isLt
  if (y 1).val % 8 = h then k (ix3 (0 : Fin 1) (⟨1920 + (y 1).val / 8, by omega⟩ : Fin 2048) (y 2))
  else if (y 1).val % 8 = h + 4 then v (ix3 (0 : Fin 1) (⟨1920 + (y 1).val / 8, by omega⟩ : Fin 2048) (y 2)) else d y

theorem put0_key (h : ℕ) (k v : Vec F S1x2048x128 .f32) (d : Vec F S1x1024x128 .f32) (y : S1x1024x128.Idx) (r : Fin 128) (e : Fin 128) (hh : h < 4)
    (h1 : (y 1).val = h + 8 * r.val) (h2 : (y 2).val = e.val) : put0 h k v d y = k (ix3 (0 : Fin 1) (⟨1920 + r.val, by omega⟩ : Fin 2048) e) := by
  unfold put0
  dsimp only
  rw [if_pos (by omega)]
  congr 2
  · exact Fin.ext (by dsimp only; omega)
  · exact Fin.ext h2

theorem put0_value (h : ℕ) (k v : Vec F S1x2048x128 .f32) (d : Vec F S1x1024x128 .f32) (y : S1x1024x128.Idx) (r : Fin 128) (e : Fin 128) (hh : h < 4)
    (h1 : (y 1).val = h + 4 + 8 * r.val) (h2 : (y 2).val = e.val) : put0 h k v d y = v (ix3 (0 : Fin 1) (⟨1920 + r.val, by omega⟩ : Fin 2048) e) := by
  unfold put0
  dsimp only
  rw [if_neg (by omega), if_pos (by omega)]
  congr 2
  · exact Fin.ext (by dsimp only; omega)
  · exact Fin.ext h2

theorem put0_other (h : ℕ) (k v : Vec F S1x2048x128 .f32) (d : Vec F S1x1024x128 .f32) (y : S1x1024x128.Idx)
    (hk : (y 1).val % 8 ≠ h) (hv : (y 1).val % 8 ≠ h + 4) : put0 h k v d y = d y := by
  unfold put0
  dsimp only
  rw [if_neg hk, if_neg hv]

/-- The rows the keys go to, and those the values go to. -/
abbrev keyRect0 (i : grid0.Coords) (h1 : k0_cond1 i = 1#1) : Rect S1x1024x128 := ⟨⟨k0_off1 i, S1x128x128.size, ![1, 8, 1], k0_off1_inb i h1⟩, spos_1_8_1⟩
abbrev valueRect0 (i : grid0.Coords) (h1 : k0_cond1 i = 1#1) : Rect S1x1024x128 := ⟨⟨k0_off2 i, S1x128x128.size, ![1, 8, 1], k0_off2_inb i h1⟩, spos_1_8_1⟩

theorem keyAt0 (i : grid0.Coords) (h1 : k0_cond1 i = 1#1) (x : S1x128x128.Idx) (a : Fin 3) :
    ((keyRect0 i h1).emb x a).val = (![0, (i 2).val, 0] : Fin 3 → ℕ) a + (![1, 8, 1] : Fin 3 → ℕ) a * (x a).val := by
  rw [← k0_off1_eq i]; rfl

theorem valueAt0 (i : grid0.Coords) (h1 : k0_cond1 i = 1#1) (x : S1x128x128.Idx) (a : Fin 3) :
    ((valueRect0 i h1).emb x a).val = (![0, (i 2).val + 4, 0] : Fin 3 → ℕ) a + (![1, 8, 1] : Fin 3 → ℕ) a * (x a).val := by
  rw [← k0_off2_eq i]; rfl

theorem key_mem0 (i : grid0.Coords) (h1 : k0_cond1 i = 1#1) (y : S1x1024x128.Idx) (h : (y 1).val % 8 = (i 2).val) : y ∈ (keyRect0 i h1).set := by
  have hy : (y 1).val < 1024 := (y 1).isLt
  refine (LoadRect.mem_set _).mpr fun a => ?_
  match a with
  | ⟨0, _⟩ => exact ⟨0, Nat.one_pos, by have : (y 0).val < 1 := (y 0).isLt; show (y 0).val = k0_off1 i 0 + 1 * 0; rw [k0_off1_eq]; show (y 0).val = 0 + 1 * 0; omega⟩
  | ⟨1, _⟩ => exact ⟨(y 1).val / 8, (by omega : (y 1).val / 8 < 128), by show (y 1).val = k0_off1 i 1 + 8 * ((y 1).val / 8); rw [k0_off1_eq]; show (y 1).val = (i 2).val + 8 * ((y 1).val / 8); omega⟩
  | ⟨2, _⟩ => exact ⟨(y 2).val, (y 2).isLt, by show (y 2).val = k0_off1 i 2 + 1 * (y 2).val; rw [k0_off1_eq]; show (y 2).val = 0 + 1 * (y 2).val; omega⟩

theorem value_mem0 (i : grid0.Coords) (h1 : k0_cond1 i = 1#1) (y : S1x1024x128.Idx) (h : (y 1).val % 8 = (i 2).val + 4) : y ∈ (valueRect0 i h1).set := by
  have hy : (y 1).val < 1024 := (y 1).isLt
  refine (LoadRect.mem_set _).mpr fun a => ?_
  match a with
  | ⟨0, _⟩ => exact ⟨0, Nat.one_pos, by have : (y 0).val < 1 := (y 0).isLt; show (y 0).val = k0_off2 i 0 + 1 * 0; rw [k0_off2_eq]; show (y 0).val = 0 + 1 * 0; omega⟩
  | ⟨1, _⟩ => exact ⟨(y 1).val / 8, (by omega : (y 1).val / 8 < 128), by show (y 1).val = k0_off2 i 1 + 8 * ((y 1).val / 8); rw [k0_off2_eq]; show (y 1).val = (i 2).val + 4 + 8 * ((y 1).val / 8); omega⟩
  | ⟨2, _⟩ => exact ⟨(y 2).val, (y 2).isLt, by show (y 2).val = k0_off2 i 2 + 1 * (y 2).val; rw [k0_off2_eq]; show (y 2).val = 0 + 1 * (y 2).val; omega⟩

theorem read_put0 {sp : Space} (i : grid0.Coords) (h1 : k0_cond1 i = 1#1) (m : Memref sig .tc sp S1x1024x128 .f32) (f : m.view.ty.Contents (Elt F))
    (k v : Vec F S1x2048x128 .f32) (wk wv : Vec F S1x128x128 .f32)
    (hk : ∀ (r : Fin 128) (e : Fin 128), wk (ix3 (0 : Fin 1) r e) = k (ix3 (0 : Fin 1) (⟨1920 + r.val, by omega⟩ : Fin 2048) e))
    (hv : ∀ (r : Fin 128) (e : Fin 128), wv (ix3 (0 : Fin 1) r e) = v (ix3 (0 : Fin 1) (⟨1920 + r.val, by omega⟩ : Fin 2048) e)) :
    m.view.read (Elt F) (m.view.writes (Elt F) f [⟨valueRect0 i h1, wv⟩, ⟨keyRect0 i h1, wk⟩])
      = put0 (i 2).val k v (m.view.read (Elt F) f) := by
  have hh : (i 2).val < 4 := (i 2).isLt
  have ev : ∀ x : S1x128x128.Idx, wv x = put0 (i 2).val k v (m.view.read (Elt F) f) ((valueRect0 i h1).emb x) := fun x => by
    have e := put0_value (i 2).val k v (m.view.read (Elt F) f) ((valueRect0 i h1).emb x) (x 1) (x 2) hh (valueAt0 i h1 x 1)
      ((valueAt0 i h1 x 2).trans (by show 0 + 1 * (x 2).val = (x 2).val; omega))
    refine Eq.trans ?_ ((hv (x 1) (x 2)).trans e.symm)
    exact congrArg wv ((eq_ix3 x).trans (congrArg (fun z => ix3 z (x 1) (x 2)) (@Subsingleton.elim (Fin 1) _ (x 0) 0)))
  have ek : ∀ x : S1x128x128.Idx, wk x = put0 (i 2).val k v (m.view.read (Elt F) f) ((keyRect0 i h1).emb x) := fun x => by
    have e := put0_key (i 2).val k v (m.view.read (Elt F) f) ((keyRect0 i h1).emb x) (x 1) (x 2) hh (keyAt0 i h1 x 1)
      ((keyAt0 i h1 x 2).trans (by show 0 + 1 * (x 2).val = (x 2).val; omega))
    refine Eq.trans ?_ ((hk (x 1) (x 2)).trans e.symm)
    exact congrArg wk ((eq_ix3 x).trans (congrArg (fun z => ix3 z (x 1) (x 2)) (@Subsingleton.elim (Fin 1) _ (x 0) 0)))
  exact read_two m f (keyRect0 i h1) (valueRect0 i h1) wk wv _ ev ek
    fun y hy hy' => (put0_other _ k v _ y (fun h => hy' (key_mem0 i h1 y h)) fun h => hy (value_mem0 i h1 y h)).symm

/-- The block after head `h`'s keys and values are stored. -/
def put1 (h : ℕ) (k v : Vec F S1x2048x128 .f32) (d : Vec F S1x4096x128 .f32) : Vec F S1x4096x128 .f32 := fun y =>
  have hy : (y 1).val < 4096 := (y 1).isLt
  if (y 1).val % 8 = h then k (ix3 (0 : Fin 1) (⟨1536 + (y 1).val / 8, by omega⟩ : Fin 2048) (y 2))
  else if (y 1).val % 8 = h + 4 then v (ix3 (0 : Fin 1) (⟨1536 + (y 1).val / 8, by omega⟩ : Fin 2048) (y 2)) else d y

theorem put1_key (h : ℕ) (k v : Vec F S1x2048x128 .f32) (d : Vec F S1x4096x128 .f32) (y : S1x4096x128.Idx) (r : Fin 512) (e : Fin 128) (hh : h < 4)
    (h1 : (y 1).val = h + 8 * r.val) (h2 : (y 2).val = e.val) : put1 h k v d y = k (ix3 (0 : Fin 1) (⟨1536 + r.val, by omega⟩ : Fin 2048) e) := by
  unfold put1
  dsimp only
  rw [if_pos (by omega)]
  congr 2
  · exact Fin.ext (by dsimp only; omega)
  · exact Fin.ext h2

theorem put1_value (h : ℕ) (k v : Vec F S1x2048x128 .f32) (d : Vec F S1x4096x128 .f32) (y : S1x4096x128.Idx) (r : Fin 512) (e : Fin 128) (hh : h < 4)
    (h1 : (y 1).val = h + 4 + 8 * r.val) (h2 : (y 2).val = e.val) : put1 h k v d y = v (ix3 (0 : Fin 1) (⟨1536 + r.val, by omega⟩ : Fin 2048) e) := by
  unfold put1
  dsimp only
  rw [if_neg (by omega), if_pos (by omega)]
  congr 2
  · exact Fin.ext (by dsimp only; omega)
  · exact Fin.ext h2

theorem put1_other (h : ℕ) (k v : Vec F S1x2048x128 .f32) (d : Vec F S1x4096x128 .f32) (y : S1x4096x128.Idx)
    (hk : (y 1).val % 8 ≠ h) (hv : (y 1).val % 8 ≠ h + 4) : put1 h k v d y = d y := by
  unfold put1
  dsimp only
  rw [if_neg hk, if_neg hv]

/-- The rows the keys go to, and those the values go to. -/
abbrev keyRect1 (i : grid0.Coords) (h1 : k0_cond1 i = 1#1) : Rect S1x4096x128 := ⟨⟨k0_off3 i, S1x512x128.size, ![1, 8, 1], k0_off3_inb i h1⟩, spos_1_8_1⟩
abbrev valueRect1 (i : grid0.Coords) (h1 : k0_cond1 i = 1#1) : Rect S1x4096x128 := ⟨⟨k0_off4 i, S1x512x128.size, ![1, 8, 1], k0_off4_inb i h1⟩, spos_1_8_1⟩

theorem keyAt1 (i : grid0.Coords) (h1 : k0_cond1 i = 1#1) (x : S1x512x128.Idx) (a : Fin 3) :
    ((keyRect1 i h1).emb x a).val = (![0, (i 2).val, 0] : Fin 3 → ℕ) a + (![1, 8, 1] : Fin 3 → ℕ) a * (x a).val := by
  rw [← k0_off3_eq i]; rfl

theorem valueAt1 (i : grid0.Coords) (h1 : k0_cond1 i = 1#1) (x : S1x512x128.Idx) (a : Fin 3) :
    ((valueRect1 i h1).emb x a).val = (![0, (i 2).val + 4, 0] : Fin 3 → ℕ) a + (![1, 8, 1] : Fin 3 → ℕ) a * (x a).val := by
  rw [← k0_off4_eq i]; rfl

theorem key_mem1 (i : grid0.Coords) (h1 : k0_cond1 i = 1#1) (y : S1x4096x128.Idx) (h : (y 1).val % 8 = (i 2).val) : y ∈ (keyRect1 i h1).set := by
  have hy : (y 1).val < 4096 := (y 1).isLt
  refine (LoadRect.mem_set _).mpr fun a => ?_
  match a with
  | ⟨0, _⟩ => exact ⟨0, Nat.one_pos, by have : (y 0).val < 1 := (y 0).isLt; show (y 0).val = k0_off3 i 0 + 1 * 0; rw [k0_off3_eq]; show (y 0).val = 0 + 1 * 0; omega⟩
  | ⟨1, _⟩ => exact ⟨(y 1).val / 8, (by omega : (y 1).val / 8 < 512), by show (y 1).val = k0_off3 i 1 + 8 * ((y 1).val / 8); rw [k0_off3_eq]; show (y 1).val = (i 2).val + 8 * ((y 1).val / 8); omega⟩
  | ⟨2, _⟩ => exact ⟨(y 2).val, (y 2).isLt, by show (y 2).val = k0_off3 i 2 + 1 * (y 2).val; rw [k0_off3_eq]; show (y 2).val = 0 + 1 * (y 2).val; omega⟩

theorem value_mem1 (i : grid0.Coords) (h1 : k0_cond1 i = 1#1) (y : S1x4096x128.Idx) (h : (y 1).val % 8 = (i 2).val + 4) : y ∈ (valueRect1 i h1).set := by
  have hy : (y 1).val < 4096 := (y 1).isLt
  refine (LoadRect.mem_set _).mpr fun a => ?_
  match a with
  | ⟨0, _⟩ => exact ⟨0, Nat.one_pos, by have : (y 0).val < 1 := (y 0).isLt; show (y 0).val = k0_off4 i 0 + 1 * 0; rw [k0_off4_eq]; show (y 0).val = 0 + 1 * 0; omega⟩
  | ⟨1, _⟩ => exact ⟨(y 1).val / 8, (by omega : (y 1).val / 8 < 512), by show (y 1).val = k0_off4 i 1 + 8 * ((y 1).val / 8); rw [k0_off4_eq]; show (y 1).val = (i 2).val + 4 + 8 * ((y 1).val / 8); omega⟩
  | ⟨2, _⟩ => exact ⟨(y 2).val, (y 2).isLt, by show (y 2).val = k0_off4 i 2 + 1 * (y 2).val; rw [k0_off4_eq]; show (y 2).val = 0 + 1 * (y 2).val; omega⟩

theorem read_put1 {sp : Space} (i : grid0.Coords) (h1 : k0_cond1 i = 1#1) (m : Memref sig .tc sp S1x4096x128 .f32) (f : m.view.ty.Contents (Elt F))
    (k v : Vec F S1x2048x128 .f32) (wk wv : Vec F S1x512x128 .f32)
    (hk : ∀ (r : Fin 512) (e : Fin 128), wk (ix3 (0 : Fin 1) r e) = k (ix3 (0 : Fin 1) (⟨1536 + r.val, by omega⟩ : Fin 2048) e))
    (hv : ∀ (r : Fin 512) (e : Fin 128), wv (ix3 (0 : Fin 1) r e) = v (ix3 (0 : Fin 1) (⟨1536 + r.val, by omega⟩ : Fin 2048) e)) :
    m.view.read (Elt F) (m.view.writes (Elt F) f [⟨valueRect1 i h1, wv⟩, ⟨keyRect1 i h1, wk⟩])
      = put1 (i 2).val k v (m.view.read (Elt F) f) := by
  have hh : (i 2).val < 4 := (i 2).isLt
  have ev : ∀ x : S1x512x128.Idx, wv x = put1 (i 2).val k v (m.view.read (Elt F) f) ((valueRect1 i h1).emb x) := fun x => by
    have e := put1_value (i 2).val k v (m.view.read (Elt F) f) ((valueRect1 i h1).emb x) (x 1) (x 2) hh (valueAt1 i h1 x 1)
      ((valueAt1 i h1 x 2).trans (by show 0 + 1 * (x 2).val = (x 2).val; omega))
    refine Eq.trans ?_ ((hv (x 1) (x 2)).trans e.symm)
    exact congrArg wv ((eq_ix3 x).trans (congrArg (fun z => ix3 z (x 1) (x 2)) (@Subsingleton.elim (Fin 1) _ (x 0) 0)))
  have ek : ∀ x : S1x512x128.Idx, wk x = put1 (i 2).val k v (m.view.read (Elt F) f) ((keyRect1 i h1).emb x) := fun x => by
    have e := put1_key (i 2).val k v (m.view.read (Elt F) f) ((keyRect1 i h1).emb x) (x 1) (x 2) hh (keyAt1 i h1 x 1)
      ((keyAt1 i h1 x 2).trans (by show 0 + 1 * (x 2).val = (x 2).val; omega))
    refine Eq.trans ?_ ((hk (x 1) (x 2)).trans e.symm)
    exact congrArg wk ((eq_ix3 x).trans (congrArg (fun z => ix3 z (x 1) (x 2)) (@Subsingleton.elim (Fin 1) _ (x 0) 0)))
  exact read_two m f (keyRect1 i h1) (valueRect1 i h1) wk wv _ ev ek
    fun y hy hy' => (put1_other _ k v _ y (fun h => hy' (key_mem1 i h1 y h)) fun h => hy (value_mem1 i h1 y h)).symm

/-- The block after head `h`'s keys and values are stored. -/
def put2 (h : ℕ) (k v : Vec F S1x2048x128 .f32) (d : Vec F S1x16384x128 .f32) : Vec F S1x16384x128 .f32 := fun y =>
  have hy : (y 1).val < 16384 := (y 1).isLt
  if (y 1).val % 8 = h then k (ix3 (0 : Fin 1) (⟨(y 1).val / 8, by omega⟩ : Fin 2048) (y 2))
  else if (y 1).val % 8 = h + 4 then v (ix3 (0 : Fin 1) (⟨(y 1).val / 8, by omega⟩ : Fin 2048) (y 2)) else d y

theorem put2_key (h : ℕ) (k v : Vec F S1x2048x128 .f32) (d : Vec F S1x16384x128 .f32) (y : S1x16384x128.Idx) (r : Fin 2048) (e : Fin 128) (hh : h < 4)
    (h1 : (y 1).val = h + 8 * r.val) (h2 : (y 2).val = e.val) : put2 h k v d y = k (ix3 (0 : Fin 1) (⟨r.val, by omega⟩ : Fin 2048) e) := by
  unfold put2
  dsimp only
  rw [if_pos (by omega)]
  congr 2
  · exact Fin.ext (by dsimp only; omega)
  · exact Fin.ext h2

theorem put2_value (h : ℕ) (k v : Vec F S1x2048x128 .f32) (d : Vec F S1x16384x128 .f32) (y : S1x16384x128.Idx) (r : Fin 2048) (e : Fin 128) (hh : h < 4)
    (h1 : (y 1).val = h + 4 + 8 * r.val) (h2 : (y 2).val = e.val) : put2 h k v d y = v (ix3 (0 : Fin 1) (⟨r.val, by omega⟩ : Fin 2048) e) := by
  unfold put2
  dsimp only
  rw [if_neg (by omega), if_pos (by omega)]
  congr 2
  · exact Fin.ext (by dsimp only; omega)
  · exact Fin.ext h2

theorem put2_other (h : ℕ) (k v : Vec F S1x2048x128 .f32) (d : Vec F S1x16384x128 .f32) (y : S1x16384x128.Idx)
    (hk : (y 1).val % 8 ≠ h) (hv : (y 1).val % 8 ≠ h + 4) : put2 h k v d y = d y := by
  unfold put2
  dsimp only
  rw [if_neg hk, if_neg hv]

/-- The rows the keys go to, and those the values go to. -/
abbrev keyRect2 (i : grid0.Coords) (h1 : k0_cond1 i = 1#1) : Rect S1x16384x128 := ⟨⟨k0_off5 i, S1x2048x128.size, ![1, 8, 1], k0_off5_inb i h1⟩, spos_1_8_1⟩
abbrev valueRect2 (i : grid0.Coords) (h1 : k0_cond1 i = 1#1) : Rect S1x16384x128 := ⟨⟨k0_off6 i, S1x2048x128.size, ![1, 8, 1], k0_off6_inb i h1⟩, spos_1_8_1⟩

theorem keyAt2 (i : grid0.Coords) (h1 : k0_cond1 i = 1#1) (x : S1x2048x128.Idx) (a : Fin 3) :
    ((keyRect2 i h1).emb x a).val = (![0, (i 2).val, 0] : Fin 3 → ℕ) a + (![1, 8, 1] : Fin 3 → ℕ) a * (x a).val := by
  rw [← k0_off5_eq i]; rfl

theorem valueAt2 (i : grid0.Coords) (h1 : k0_cond1 i = 1#1) (x : S1x2048x128.Idx) (a : Fin 3) :
    ((valueRect2 i h1).emb x a).val = (![0, (i 2).val + 4, 0] : Fin 3 → ℕ) a + (![1, 8, 1] : Fin 3 → ℕ) a * (x a).val := by
  rw [← k0_off6_eq i]; rfl

theorem key_mem2 (i : grid0.Coords) (h1 : k0_cond1 i = 1#1) (y : S1x16384x128.Idx) (h : (y 1).val % 8 = (i 2).val) : y ∈ (keyRect2 i h1).set := by
  have hy : (y 1).val < 16384 := (y 1).isLt
  refine (LoadRect.mem_set _).mpr fun a => ?_
  match a with
  | ⟨0, _⟩ => exact ⟨0, Nat.one_pos, by have : (y 0).val < 1 := (y 0).isLt; show (y 0).val = k0_off5 i 0 + 1 * 0; rw [k0_off5_eq]; show (y 0).val = 0 + 1 * 0; omega⟩
  | ⟨1, _⟩ => exact ⟨(y 1).val / 8, (by omega : (y 1).val / 8 < 2048), by show (y 1).val = k0_off5 i 1 + 8 * ((y 1).val / 8); rw [k0_off5_eq]; show (y 1).val = (i 2).val + 8 * ((y 1).val / 8); omega⟩
  | ⟨2, _⟩ => exact ⟨(y 2).val, (y 2).isLt, by show (y 2).val = k0_off5 i 2 + 1 * (y 2).val; rw [k0_off5_eq]; show (y 2).val = 0 + 1 * (y 2).val; omega⟩

theorem value_mem2 (i : grid0.Coords) (h1 : k0_cond1 i = 1#1) (y : S1x16384x128.Idx) (h : (y 1).val % 8 = (i 2).val + 4) : y ∈ (valueRect2 i h1).set := by
  have hy : (y 1).val < 16384 := (y 1).isLt
  refine (LoadRect.mem_set _).mpr fun a => ?_
  match a with
  | ⟨0, _⟩ => exact ⟨0, Nat.one_pos, by have : (y 0).val < 1 := (y 0).isLt; show (y 0).val = k0_off6 i 0 + 1 * 0; rw [k0_off6_eq]; show (y 0).val = 0 + 1 * 0; omega⟩
  | ⟨1, _⟩ => exact ⟨(y 1).val / 8, (by omega : (y 1).val / 8 < 2048), by show (y 1).val = k0_off6 i 1 + 8 * ((y 1).val / 8); rw [k0_off6_eq]; show (y 1).val = (i 2).val + 4 + 8 * ((y 1).val / 8); omega⟩
  | ⟨2, _⟩ => exact ⟨(y 2).val, (y 2).isLt, by show (y 2).val = k0_off6 i 2 + 1 * (y 2).val; rw [k0_off6_eq]; show (y 2).val = 0 + 1 * (y 2).val; omega⟩

theorem read_put2 {sp : Space} (i : grid0.Coords) (h1 : k0_cond1 i = 1#1) (m : Memref sig .tc sp S1x16384x128 .f32) (f : m.view.ty.Contents (Elt F))
    (k v : Vec F S1x2048x128 .f32) (wk wv : Vec F S1x2048x128 .f32)
    (hk : ∀ (r : Fin 2048) (e : Fin 128), wk (ix3 (0 : Fin 1) r e) = k (ix3 (0 : Fin 1) (⟨r.val, by omega⟩ : Fin 2048) e))
    (hv : ∀ (r : Fin 2048) (e : Fin 128), wv (ix3 (0 : Fin 1) r e) = v (ix3 (0 : Fin 1) (⟨r.val, by omega⟩ : Fin 2048) e)) :
    m.view.read (Elt F) (m.view.writes (Elt F) f [⟨valueRect2 i h1, wv⟩, ⟨keyRect2 i h1, wk⟩])
      = put2 (i 2).val k v (m.view.read (Elt F) f) := by
  have hh : (i 2).val < 4 := (i 2).isLt
  have ev : ∀ x : S1x2048x128.Idx, wv x = put2 (i 2).val k v (m.view.read (Elt F) f) ((valueRect2 i h1).emb x) := fun x => by
    have e := put2_value (i 2).val k v (m.view.read (Elt F) f) ((valueRect2 i h1).emb x) (x 1) (x 2) hh (valueAt2 i h1 x 1)
      ((valueAt2 i h1 x 2).trans (by show 0 + 1 * (x 2).val = (x 2).val; omega))
    refine Eq.trans ?_ ((hv (x 1) (x 2)).trans e.symm)
    exact congrArg wv ((eq_ix3 x).trans (congrArg (fun z => ix3 z (x 1) (x 2)) (@Subsingleton.elim (Fin 1) _ (x 0) 0)))
  have ek : ∀ x : S1x2048x128.Idx, wk x = put2 (i 2).val k v (m.view.read (Elt F) f) ((keyRect2 i h1).emb x) := fun x => by
    have e := put2_key (i 2).val k v (m.view.read (Elt F) f) ((keyRect2 i h1).emb x) (x 1) (x 2) hh (keyAt2 i h1 x 1)
      ((keyAt2 i h1 x 2).trans (by show 0 + 1 * (x 2).val = (x 2).val; omega))
    refine Eq.trans ?_ ((hk (x 1) (x 2)).trans e.symm)
    exact congrArg wk ((eq_ix3 x).trans (congrArg (fun z => ix3 z (x 1) (x 2)) (@Subsingleton.elim (Fin 1) _ (x 0) 0)))
  exact read_two m f (keyRect2 i h1) (valueRect2 i h1) wk wv _ ev ek
    fun y hy hy' => (put2_other _ k v _ y (fun h => hy' (key_mem2 i h1 y h)) fun h => hy (value_mem2 i h1 y h)).symm

end Cert.AttnPIdeal.Body
end
-- ==== Proof.AttnP.Part2.lean ====
/- The attention's body at a point of the last rows: it first stores its head's keys and values of three groups among the rows
   kept, and leaves everything else as it was. For any floats. -/
module

public import proofs.«01_k».proof.Proof.AttnP.Parts
public import proofs.«01_k».proof.Proof.AttnP.Store

@[expose] public section

set_option maxRecDepth 16384

noncomputable section

namespace Cert.AttnPIdeal.Body

open Cert.AttnPIdeal Cert.AttnPIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows 1920 on of a block, loaded and reshaped there and back. -/
theorem loaded0 (m : Memref sig .tc .vmem S1x2048x128 .f32) (hm : m.IsWhole) (x : Vec F S1x2048x128 .f32) (r : Fin 128) (e : Fin 128) :
    shapeCast S1x128x128 (shapeCast S128x128 (m.view.readAt (Elt F) (Rect.unit (s := S1x2048x128) ![0, 1920, 0] S1x128x128.size inb_S1x2048x128_S1x128x128_0_1920_0).toLoadRect (hm.unread x)) shapeCasts_S1x128x128_S128x128) shapeCasts_S128x128_S1x128x128 (ix3 (0 : Fin 1) r e)
      = x (ix3 (0 : Fin 1) (⟨1920 + r.val, by omega⟩ : Fin 2048) e) := by
  rw [View.readAt_eq_ld, hm.read_unread]
  pointwise

/-- Rows 1536 on of a block, loaded and reshaped there and back. -/
theorem loaded1 (m : Memref sig .tc .vmem S1x2048x128 .f32) (hm : m.IsWhole) (x : Vec F S1x2048x128 .f32) (r : Fin 512) (e : Fin 128) :
    shapeCast S1x512x128 (shapeCast S512x128 (m.view.readAt (Elt F) (Rect.unit (s := S1x2048x128) ![0, 1536, 0] S1x512x128.size inb_S1x2048x128_S1x512x128_0_1536_0).toLoadRect (hm.unread x)) shapeCasts_S1x512x128_S512x128) shapeCasts_S512x128_S1x512x128 (ix3 (0 : Fin 1) r e)
      = x (ix3 (0 : Fin 1) (⟨1536 + r.val, by omega⟩ : Fin 2048) e) := by
  rw [View.readAt_eq_ld, hm.read_unread]
  pointwise

/-- Rows 0 on of a block, loaded and reshaped there and back. -/
theorem loaded2 (m : Memref sig .tc .vmem S1x2048x128 .f32) (hm : m.IsWhole) (x : Vec F S1x2048x128 .f32) (r : Fin 2048) (e : Fin 128) :
    shapeCast S1x2048x128 (shapeCast S2048x128 (m.view.readAt (Elt F) (Rect.unit (s := S1x2048x128) ![0, 0, 0] S1x2048x128.size inb_S1x2048x128_S1x2048x128_0_0_0).toLoadRect (hm.unread x)) shapeCasts_S1x2048x128_S2048x128) shapeCasts_S2048x128_S1x2048x128 (ix3 (0 : Fin 1) r e)
      = x (ix3 (0 : Fin 1) (⟨r.val, by omega⟩ : Fin 2048) e) := by
  rw [View.readAt_eq_ld, hm.read_unread]
  pointwise
variable (i : grid0.Coords) (arg3 : Memref sig .tc .smem S12 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x2048x128 .f32) (harg14 : arg14.IsWhole) (arg15 : Memref sig .tc .vmem S1x2048x128 .f32) (harg15 : arg15.IsWhole) (arg16 : Memref sig .tc .vmem S1x2048x128 .f32) (harg16 : arg16.IsWhole) (arg17 : Memref sig .tc .vmem S1x2048x128 .f32) (harg17 : arg17.IsWhole) (arg18 : Memref sig .tc .vmem S1x2048x128 .f32) (harg18 : arg18.IsWhole) (arg19 : Memref sig .tc .vmem S1x2048x128 .f32) (harg19 : arg19.IsWhole) (arg20 : Memref sig .tc .vmem S1x1024x128 .f32) (harg20 : arg20.IsWhole) (arg21 : Memref sig .tc .vmem S1x4096x128 .f32) (harg21 : arg21.IsWhole) (arg22 : Memref sig .tc .vmem S1x16384x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole)
variable {x3 : Vec F S12 .f32} {x4 : Vec F S1x2048x128 .f32} {x5 : Vec F S1x2048x128 .f32} {x6 : Vec F S1x2048x128 .f32} {x7 : Vec F S1x128x128 .f32} {x8 : Vec F S1x128x128 .f32} {x9 : Vec F S1x2048x128 .f32} {x10 : Vec F S1x2048x128 .f32} {x11 : Vec F S1x2048x128 .f32} {x12 : Vec F S1x512x128 .f32} {x13 : Vec F S1x512x128 .f32} {x14 : Vec F S1x2048x128 .f32} {x15 : Vec F S1x2048x128 .f32} {x16 : Vec F S1x2048x128 .f32} {x17 : Vec F S1x2048x128 .f32} {x18 : Vec F S1x2048x128 .f32}

set_option maxHeartbeats 1600000 in
/-- The second part where its conditional holds. -/
theorem keep_part2_on {c : Dev nD} {I : sProp 𝕄} (h : Holds c I arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18) (hc : k0_cond1 i = 1#1) {P : sProp 𝕄} {d20 : Vec F S1x1024x128 .f32} {d21 : Vec F S1x4096x128 .f32} {d22 : Vec F S1x16384x128 .f32}
    (hP : P ⊢ iprop(owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg15 fullShare x15 ∗ owns (c : Thread nD τ) arg16 fullShare x16 ∗ owns (c : Thread nD τ) arg20 fullShare d20 ∗ owns (c : Thread nD τ) arg21 fullShare d21 ∗ owns (c : Thread nD τ) arg22 fullShare d22
        ∗ (iprop(owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg15 fullShare x15 ∗ owns (c : Thread nD τ) arg16 fullShare x16 ∗ owns (c : Thread nD τ) arg20 fullShare (put0 (i 2).val x5 x6 d20) ∗ owns (c : Thread nD τ) arg21 fullShare (put1 (i 2).val x10 x11 d21) ∗ owns (c : Thread nD τ) arg22 fullShare (put2 (i 2).val x15 x16 d22)) -∗ I))) :
    Runs c P (k0_part2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) I := by
  unfold k0_part2
  extract_lets
  rename_i jp _ _ _
  have hjp : ∀ r, Runs c I (jp r) I := fun r => by
    refine Runs.bind ((Runs.word arg3).part h.b3) fun _ => ?_
    refine Runs.bind ((Runs.load arg4).part h.b4) fun _ => ?_
    exact Runs.ret _ _
  clear_value jp
  rw [dif_pos hc]
  intro K
  refine (sep_mono_left hP).trans ?_
  unfold k0_part1
  unfold owns
  iintro ⟨⟨⟨%f5, %h5, H5⟩, ⟨%f6, %h6, H6⟩, ⟨%f10, %h10, H10⟩, ⟨%f11, %h11, H11⟩, ⟨%f15, %h15, H15⟩, ⟨%f16, %h16, H16⟩, ⟨%f20, %h20, H20⟩, ⟨%f21, %h21, H21⟩, ⟨%f22, %h22, H22⟩, HI⟩, HK⟩
  obtain rfl := harg5.eq_unread h5; obtain rfl := harg6.eq_unread h6; obtain rfl := harg10.eq_unread h10; obtain rfl := harg11.eq_unread h11; obtain rfl := harg15.eq_unread h15; obtain rfl := harg16.eq_unread h16
  obtain rfl := h20; obtain rfl := h21; obtain rfl := h22
  sl_exec
  iapply (hjp PUnit.unit K)
  isplitr [HK]
  swap; · iexact HK
  iapply HI
  isplitl [H5]
  · iexists _; isplitr; · ipureintro; exact harg5.read_unread _
    iexact H5
  isplitl [H6]
  · iexists _; isplitr; · ipureintro; exact harg6.read_unread _
    iexact H6
  isplitl [H10]
  · iexists _; isplitr; · ipureintro; exact harg10.read_unread _
    iexact H10
  isplitl [H11]
  · iexists _; isplitr; · ipureintro; exact harg11.read_unread _
    iexact H11
  isplitl [H15]
  · iexists _; isplitr; · ipureintro; exact harg15.read_unread _
    iexact H15
  isplitl [H16]
  · iexists _; isplitr; · ipureintro; exact harg16.read_unread _
    iexact H16
  isplitl [H20]
  · iexists _; isplitr
    swap; · iexact H20
    ipureintro
    unfold keep_part2_on.sl.H20_1
    exact read_put0 i hc arg20 f20 x5 x6 _ _ (loaded0 arg5 harg5 x5) (loaded0 arg6 harg6 x6)
  isplitl [H21]
  · iexists _; isplitr
    swap; · iexact H21
    ipureintro
    unfold keep_part2_on.sl.H21_1
    exact read_put1 i hc arg21 f21 x10 x11 _ _ (loaded1 arg10 harg10 x10) (loaded1 arg11 harg11 x11)
  iexists _; isplitr
  swap; · iexact H22
  ipureintro
  unfold keep_part2_on.sl.H22_1
  exact read_put2 i hc arg22 f22 x15 x16 _ _ (loaded2 arg15 harg15 x15) (loaded2 arg16 harg16 x16)

end Cert.AttnPIdeal.Body
end
-- ==== Proof.AttnP.Frame.lean ====
/- The attention's run: at a point of the last rows each kept block holds the rows of every head up to the point's, and the
   attention's own result is said to hold nothing. The frame, for any floats. -/
module

public import proofs.«01_k».proof.Proof.AttnP.Part2
public import Idealize.ShloMosaic.Lib.Pipeline.ArrRel
public import Idealize.ShloMosaic.Lib.Pipeline.DatRel
public import Idealize.ShloMosaic.Lib.Claim

@[expose] public section

set_option maxRecDepth 16384

noncomputable section

namespace Cert.AttnPIdeal.Body

open Cert.AttnPIdeal Cert.AttnPIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

/-! ## Everything a point holds -/

theorem take_head (A R : sProp 𝕄) : iprop(A ∗ R) ⊢ iprop(A ∗ (A -∗ iprop(A ∗ R))) := by
  iintro ⟨HA, HR⟩
  isplitl [HA]; · iexact HA
  iintro HA
  isplitl [HA]; · iexact HA
  iexact HR

theorem take_tail (B : sProp 𝕄) {I P : sProp 𝕄} (h : I ⊢ iprop(P ∗ (P -∗ I))) : iprop(B ∗ I) ⊢ iprop(P ∗ (P -∗ iprop(B ∗ I))) := by
  refine (sep_mono .rfl h).trans ?_
  iintro ⟨HB, HP, HI⟩
  isplitl [HP]; · iexact HP
  iintro HP
  isplitl [HB]; · iexact HB
  iapply HI
  iexact HP

/-- The blocks at their contents, the result's block and the scratches at anything, and the three kept blocks as `A` says. -/
abbrev All (c : Dev nD) (arg3 : Memref sig .tc .smem S12 .f32) (arg4 : Memref sig .tc .vmem S1x2048x128 .f32) (arg5 : Memref sig .tc .vmem S1x2048x128 .f32) (arg6 : Memref sig .tc .vmem S1x2048x128 .f32) (arg7 : Memref sig .tc .vmem S1x128x128 .f32) (arg8 : Memref sig .tc .vmem S1x128x128 .f32) (arg9 : Memref sig .tc .vmem S1x2048x128 .f32) (arg10 : Memref sig .tc .vmem S1x2048x128 .f32) (arg11 : Memref sig .tc .vmem S1x2048x128 .f32) (arg12 : Memref sig .tc .vmem S1x512x128 .f32) (arg13 : Memref sig .tc .vmem S1x512x128 .f32) (arg14 : Memref sig .tc .vmem S1x2048x128 .f32) (arg15 : Memref sig .tc .vmem S1x2048x128 .f32) (arg16 : Memref sig .tc .vmem S1x2048x128 .f32) (arg17 : Memref sig .tc .vmem S1x2048x128 .f32) (arg18 : Memref sig .tc .vmem S1x2048x128 .f32) (arg19 : Memref sig .tc .vmem S1x2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32) (arg28 : Memref sig .tc .vmem S2048x128 .f32)
    (x3 : Vec F S12 .f32) (x4 : Vec F S1x2048x128 .f32) (x5 : Vec F S1x2048x128 .f32) (x6 : Vec F S1x2048x128 .f32) (x7 : Vec F S1x128x128 .f32) (x8 : Vec F S1x128x128 .f32) (x9 : Vec F S1x2048x128 .f32) (x10 : Vec F S1x2048x128 .f32) (x11 : Vec F S1x2048x128 .f32) (x12 : Vec F S1x512x128 .f32) (x13 : Vec F S1x512x128 .f32) (x14 : Vec F S1x2048x128 .f32) (x15 : Vec F S1x2048x128 .f32) (x16 : Vec F S1x2048x128 .f32) (x17 : Vec F S1x2048x128 .f32) (x18 : Vec F S1x2048x128 .f32) (A : sProp 𝕄) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ x, owns (c : Thread nD τ) arg19 fullShare x) ∗ (∃ x, owns (c : Thread nD τ) arg23 fullShare x) ∗ (∃ x, owns (c : Thread nD τ) arg24 fullShare x) ∗ (∃ x, owns (c : Thread nD τ) arg25 fullShare x) ∗ (∃ x, owns (c : Thread nD τ) arg26 fullShare x) ∗ (∃ x, owns (c : Thread nD τ) arg27 fullShare x) ∗ (∃ x, owns (c : Thread nD τ) arg28 fullShare x) ∗ A)

theorem all_holds (c : Dev nD) (arg3 : Memref sig .tc .smem S12 .f32) (arg4 : Memref sig .tc .vmem S1x2048x128 .f32) (arg5 : Memref sig .tc .vmem S1x2048x128 .f32) (arg6 : Memref sig .tc .vmem S1x2048x128 .f32) (arg7 : Memref sig .tc .vmem S1x128x128 .f32) (arg8 : Memref sig .tc .vmem S1x128x128 .f32) (arg9 : Memref sig .tc .vmem S1x2048x128 .f32) (arg10 : Memref sig .tc .vmem S1x2048x128 .f32) (arg11 : Memref sig .tc .vmem S1x2048x128 .f32) (arg12 : Memref sig .tc .vmem S1x512x128 .f32) (arg13 : Memref sig .tc .vmem S1x512x128 .f32) (arg14 : Memref sig .tc .vmem S1x2048x128 .f32) (arg15 : Memref sig .tc .vmem S1x2048x128 .f32) (arg16 : Memref sig .tc .vmem S1x2048x128 .f32) (arg17 : Memref sig .tc .vmem S1x2048x128 .f32) (arg18 : Memref sig .tc .vmem S1x2048x128 .f32) (arg19 : Memref sig .tc .vmem S1x2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32) (arg28 : Memref sig .tc .vmem S2048x128 .f32)
    (x3 : Vec F S12 .f32) (x4 : Vec F S1x2048x128 .f32) (x5 : Vec F S1x2048x128 .f32) (x6 : Vec F S1x2048x128 .f32) (x7 : Vec F S1x128x128 .f32) (x8 : Vec F S1x128x128 .f32) (x9 : Vec F S1x2048x128 .f32) (x10 : Vec F S1x2048x128 .f32) (x11 : Vec F S1x2048x128 .f32) (x12 : Vec F S1x512x128 .f32) (x13 : Vec F S1x512x128 .f32) (x14 : Vec F S1x2048x128 .f32) (x15 : Vec F S1x2048x128 .f32) (x16 : Vec F S1x2048x128 .f32) (x17 : Vec F S1x2048x128 .f32) (x18 : Vec F S1x2048x128 .f32) (A : sProp 𝕄) :
    Holds c (All c arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18 A) arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18 where
  b3 := take_head _ _
  b4 := by (iterate 1 refine take_tail _ ?_); exact take_head _ _
  b5 := by (iterate 2 refine take_tail _ ?_); exact take_head _ _
  b6 := by (iterate 3 refine take_tail _ ?_); exact take_head _ _
  b7 := by (iterate 4 refine take_tail _ ?_); exact take_head _ _
  b8 := by (iterate 5 refine take_tail _ ?_); exact take_head _ _
  b9 := by (iterate 6 refine take_tail _ ?_); exact take_head _ _
  b10 := by (iterate 7 refine take_tail _ ?_); exact take_head _ _
  b11 := by (iterate 8 refine take_tail _ ?_); exact take_head _ _
  b12 := by (iterate 9 refine take_tail _ ?_); exact take_head _ _
  b13 := by (iterate 10 refine take_tail _ ?_); exact take_head _ _
  b14 := by (iterate 11 refine take_tail _ ?_); exact take_head _ _
  b15 := by (iterate 12 refine take_tail _ ?_); exact take_head _ _
  b16 := by (iterate 13 refine take_tail _ ?_); exact take_head _ _
  b17 := by (iterate 14 refine take_tail _ ?_); exact take_head _ _
  b18 := by (iterate 15 refine take_tail _ ?_); exact take_head _ _
  b19 := by (iterate 16 refine take_tail _ ?_); exact take_head _ _
  b23 := by (iterate 17 refine take_tail _ ?_); exact take_head _ _
  b24 := by (iterate 18 refine take_tail _ ?_); exact take_head _ _
  b25 := by (iterate 19 refine take_tail _ ?_); exact take_head _ _
  b26 := by (iterate 20 refine take_tail _ ?_); exact take_head _ _
  b27 := by (iterate 21 refine take_tail _ ?_); exact take_head _ _
  b28 := by (iterate 22 refine take_tail _ ?_); exact take_head _ _

variable (m : (ℓ : Loc nD τ sig) → Buf (Elt F) ℓ) (ρ : Dev nD → PrngReg)

/-! ## The points -/

theorem head_lt (t : Fin cfg0.N) : t.val < 32 := Nat.lt_of_lt_of_eq t.isLt N_0

theorem head_eq (t : Fin cfg0.N) : (grid0.coords t 2).val = t.val % 4 := by
  have e : (grid0.coords t 2).val = t.val / 1 % 4 := Pipeline.Grid.coords_val t 2 (by decide) rfl
  omega

theorem cond1 : ∀ t : Fin cfg0.N, k0_cond1 (grid0.coords t) = 1#1 ↔ 4 ≤ t.val % 8 :=
  (fun t => by
    have ht : t.val < 32 := Nat.lt_of_lt_of_eq t.isLt N_0
    have e1 : (grid0.coords t 1).val = t.val / 4 % 2 := Pipeline.Grid.coords_val t 1 (by decide) rfl
    simp only [k0_cond1, e1]
    word_cmp
   : ∀ t : Fin grid0.N, k0_cond1 (grid0.coords t) = 1#1 ↔ 4 ≤ t.val % 8)

/-- The point of `t`'s batch element at the last rows and head `h`. -/
def lastAt (t : Fin cfg0.N) (h : ℕ) (hh : h < 4) : Fin cfg0.N := ⟨8 * (t.val / 8) + 4 + h,
  Nat.lt_of_lt_of_eq (by have := head_lt t; omega : 8 * (t.val / 8) + 4 + h < 32) N_0.symm⟩

theorem lastAt_self {t : Fin cfg0.N} (ht : 4 ≤ t.val % 8) {h : ℕ} (hh : h < 4) (e : h = t.val % 4) : lastAt t h hh = t :=
  Fin.ext (by unfold lastAt; dsimp only; omega)

/-! ## The rows kept -/

/-- The kept block of `t`'s batch element: at row `y` the keys, or the values, of head `y % 4`. -/
def keep0 (c : Dev nD) (t : Fin cfg0.N) : Vec F S1x1024x128 .f32 := fun y =>
  have hy : (y 1).val < 1024 := (y 1).isLt
  if (y 1).val % 8 < 4 then (iblk m c 2 (lastAt t ((y 1).val % 8 % 4) (by omega)) : Vec F S1x2048x128 .f32) (ix3 (0 : Fin 1) (⟨1920 + (y 1).val / 8, by omega⟩ : Fin 2048) (y 2))
  else (iblk m c 3 (lastAt t ((y 1).val % 8 % 4) (by omega)) : Vec F S1x2048x128 .f32) (ix3 (0 : Fin 1) (⟨1920 + (y 1).val / 8, by omega⟩ : Fin 2048) (y 2))

/-- The block after point `t`: the rows of every head up to `t`'s. -/
def Kept0 (c : Dev nD) (t : Fin cfg0.N) (X : Vec F S1x1024x128 .f32) : Prop :=
  4 ≤ t.val % 8 → ∀ y : S1x1024x128.Idx, (y 1).val % 8 % 4 ≤ t.val % 4 → X y = keep0 m c t y

/-- What point `t` finds: the rows of every head before `t`'s. -/
def Before0 (c : Dev nD) (t : Fin cfg0.N) (Y : Vec F S1x1024x128 .f32) : Prop :=
  4 ≤ t.val % 8 → ∀ y : S1x1024x128.Idx, (y 1).val % 8 % 4 < t.val % 4 → Y y = keep0 m c t y

theorem keep0_prev (c : Dev nD) (t t' : Fin cfg0.N) (e : t'.val / 8 = t.val / 8) : keep0 m c t' = keep0 m c t := by
  have el : ∀ (h : ℕ) (hh : h < 4), lastAt t' h hh = lastAt t h hh := fun h hh => Fin.ext (by unfold lastAt; dsimp only; omega)
  funext y
  unfold keep0
  dsimp only
  have hy : (y 1).val < 1024 := (y 1).isLt
  split
  · exact congrArg (fun u => (iblk m c 2 u : Vec F S1x2048x128 .f32) (ix3 (0 : Fin 1) (⟨1920 + (y 1).val / 8, by omega⟩ : Fin 2048) (y 2))) (el _ _)
  · exact congrArg (fun u => (iblk m c 3 u : Vec F S1x2048x128 .f32) (ix3 (0 : Fin 1) (⟨1920 + (y 1).val / 8, by omega⟩ : Fin 2048) (y 2))) (el _ _)

theorem kept0_put (c : Dev nD) (t : Fin cfg0.N) (Y : Vec F S1x1024x128 .f32) (h : Before0 m c t Y) :
    Kept0 m c t (put0 (grid0.coords t 2).val (iblk m c 2 t) (iblk m c 3 t) Y) := by
  intro ht y hy
  have hlt : (y 1).val < 1024 := (y 1).isLt
  rw [head_eq]
  by_cases hk : (y 1).val % 8 = t.val % 4
  · unfold put0 keep0
    dsimp only
    rw [if_pos hk, if_pos (by omega), lastAt_self ht (by omega) (by omega)]
  · by_cases hv : (y 1).val % 8 = t.val % 4 + 4
    · unfold put0 keep0
      dsimp only
      rw [if_neg hk, if_pos hv, if_neg (by omega), lastAt_self ht (by omega) (by omega)]
    · rw [put0_other _ _ _ _ _ hk hv]
      exact h ht y (by omega)

/-- The kept block of `t`'s batch element: at row `y` the keys, or the values, of head `y % 4`. -/
def keep1 (c : Dev nD) (t : Fin cfg0.N) : Vec F S1x4096x128 .f32 := fun y =>
  have hy : (y 1).val < 4096 := (y 1).isLt
  if (y 1).val % 8 < 4 then (iblk m c 7 (lastAt t ((y 1).val % 8 % 4) (by omega)) : Vec F S1x2048x128 .f32) (ix3 (0 : Fin 1) (⟨1536 + (y 1).val / 8, by omega⟩ : Fin 2048) (y 2))
  else (iblk m c 8 (lastAt t ((y 1).val % 8 % 4) (by omega)) : Vec F S1x2048x128 .f32) (ix3 (0 : Fin 1) (⟨1536 + (y 1).val / 8, by omega⟩ : Fin 2048) (y 2))

/-- The block after point `t`: the rows of every head up to `t`'s. -/
def Kept1 (c : Dev nD) (t : Fin cfg0.N) (X : Vec F S1x4096x128 .f32) : Prop :=
  4 ≤ t.val % 8 → ∀ y : S1x4096x128.Idx, (y 1).val % 8 % 4 ≤ t.val % 4 → X y = keep1 m c t y

/-- What point `t` finds: the rows of every head before `t`'s. -/
def Before1 (c : Dev nD) (t : Fin cfg0.N) (Y : Vec F S1x4096x128 .f32) : Prop :=
  4 ≤ t.val % 8 → ∀ y : S1x4096x128.Idx, (y 1).val % 8 % 4 < t.val % 4 → Y y = keep1 m c t y

theorem keep1_prev (c : Dev nD) (t t' : Fin cfg0.N) (e : t'.val / 8 = t.val / 8) : keep1 m c t' = keep1 m c t := by
  have el : ∀ (h : ℕ) (hh : h < 4), lastAt t' h hh = lastAt t h hh := fun h hh => Fin.ext (by unfold lastAt; dsimp only; omega)
  funext y
  unfold keep1
  dsimp only
  have hy : (y 1).val < 4096 := (y 1).isLt
  split
  · exact congrArg (fun u => (iblk m c 7 u : Vec F S1x2048x128 .f32) (ix3 (0 : Fin 1) (⟨1536 + (y 1).val / 8, by omega⟩ : Fin 2048) (y 2))) (el _ _)
  · exact congrArg (fun u => (iblk m c 8 u : Vec F S1x2048x128 .f32) (ix3 (0 : Fin 1) (⟨1536 + (y 1).val / 8, by omega⟩ : Fin 2048) (y 2))) (el _ _)

theorem kept1_put (c : Dev nD) (t : Fin cfg0.N) (Y : Vec F S1x4096x128 .f32) (h : Before1 m c t Y) :
    Kept1 m c t (put1 (grid0.coords t 2).val (iblk m c 7 t) (iblk m c 8 t) Y) := by
  intro ht y hy
  have hlt : (y 1).val < 4096 := (y 1).isLt
  rw [head_eq]
  by_cases hk : (y 1).val % 8 = t.val % 4
  · unfold put1 keep1
    dsimp only
    rw [if_pos hk, if_pos (by omega), lastAt_self ht (by omega) (by omega)]
  · by_cases hv : (y 1).val % 8 = t.val % 4 + 4
    · unfold put1 keep1
      dsimp only
      rw [if_neg hk, if_pos hv, if_neg (by omega), lastAt_self ht (by omega) (by omega)]
    · rw [put1_other _ _ _ _ _ hk hv]
      exact h ht y (by omega)

/-- The kept block of `t`'s batch element: at row `y` the keys, or the values, of head `y % 4`. -/
def keep2 (c : Dev nD) (t : Fin cfg0.N) : Vec F S1x16384x128 .f32 := fun y =>
  have hy : (y 1).val < 16384 := (y 1).isLt
  if (y 1).val % 8 < 4 then (iblk m c 12 (lastAt t ((y 1).val % 8 % 4) (by omega)) : Vec F S1x2048x128 .f32) (ix3 (0 : Fin 1) (⟨(y 1).val / 8, by omega⟩ : Fin 2048) (y 2))
  else (iblk m c 13 (lastAt t ((y 1).val % 8 % 4) (by omega)) : Vec F S1x2048x128 .f32) (ix3 (0 : Fin 1) (⟨(y 1).val / 8, by omega⟩ : Fin 2048) (y 2))

/-- The block after point `t`: the rows of every head up to `t`'s. -/
def Kept2 (c : Dev nD) (t : Fin cfg0.N) (X : Vec F S1x16384x128 .f32) : Prop :=
  4 ≤ t.val % 8 → ∀ y : S1x16384x128.Idx, (y 1).val % 8 % 4 ≤ t.val % 4 → X y = keep2 m c t y

/-- What point `t` finds: the rows of every head before `t`'s. -/
def Before2 (c : Dev nD) (t : Fin cfg0.N) (Y : Vec F S1x16384x128 .f32) : Prop :=
  4 ≤ t.val % 8 → ∀ y : S1x16384x128.Idx, (y 1).val % 8 % 4 < t.val % 4 → Y y = keep2 m c t y

theorem keep2_prev (c : Dev nD) (t t' : Fin cfg0.N) (e : t'.val / 8 = t.val / 8) : keep2 m c t' = keep2 m c t := by
  have el : ∀ (h : ℕ) (hh : h < 4), lastAt t' h hh = lastAt t h hh := fun h hh => Fin.ext (by unfold lastAt; dsimp only; omega)
  funext y
  unfold keep2
  dsimp only
  have hy : (y 1).val < 16384 := (y 1).isLt
  split
  · exact congrArg (fun u => (iblk m c 12 u : Vec F S1x2048x128 .f32) (ix3 (0 : Fin 1) (⟨(y 1).val / 8, by omega⟩ : Fin 2048) (y 2))) (el _ _)
  · exact congrArg (fun u => (iblk m c 13 u : Vec F S1x2048x128 .f32) (ix3 (0 : Fin 1) (⟨(y 1).val / 8, by omega⟩ : Fin 2048) (y 2))) (el _ _)

theorem kept2_put (c : Dev nD) (t : Fin cfg0.N) (Y : Vec F S1x16384x128 .f32) (h : Before2 m c t Y) :
    Kept2 m c t (put2 (grid0.coords t 2).val (iblk m c 12 t) (iblk m c 13 t) Y) := by
  intro ht y hy
  have hlt : (y 1).val < 16384 := (y 1).isLt
  rw [head_eq]
  by_cases hk : (y 1).val % 8 = t.val % 4
  · unfold put2 keep2
    dsimp only
    rw [if_pos hk, if_pos (by omega), lastAt_self ht (by omega) (by omega)]
  · by_cases hv : (y 1).val % 8 = t.val % 4 + 4
    · unfold put2 keep2
      dsimp only
      rw [if_neg hk, if_pos hv, if_neg (by omega), lastAt_self ht (by omega) (by omega)]
    · rw [put2_other _ _ _ _ _ hk hv]
      exact h ht y (by omega)

/-! ## The buffers after every point -/

abbrev mem0 (t : Fin cfg0.N) : Memref sig .tc .smem S12 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x2048x128 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x2048x128 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x2048x128 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S1x128x128 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S1x128x128 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S1x2048x128 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S1x2048x128 .f32 := win0_7.stage (cfg0.slots t 7)
abbrev whole7 (t : Fin cfg0.N) : (mem7 t).IsWhole := hstage0_7 ((cfg0.slots t 7).cast nbuf0_7)
abbrev mem8 (t : Fin cfg0.N) : Memref sig .tc .vmem S1x2048x128 .f32 := win0_8.stage (cfg0.slots t 8)
abbrev whole8 (t : Fin cfg0.N) : (mem8 t).IsWhole := hstage0_8 ((cfg0.slots t 8).cast nbuf0_8)
abbrev mem9 (t : Fin cfg0.N) : Memref sig .tc .vmem S1x512x128 .f32 := win0_9.stage (cfg0.slots t 9)
abbrev whole9 (t : Fin cfg0.N) : (mem9 t).IsWhole := hstage0_9 ((cfg0.slots t 9).cast nbuf0_9)
abbrev mem10 (t : Fin cfg0.N) : Memref sig .tc .vmem S1x512x128 .f32 := win0_10.stage (cfg0.slots t 10)
abbrev whole10 (t : Fin cfg0.N) : (mem10 t).IsWhole := hstage0_10 ((cfg0.slots t 10).cast nbuf0_10)
abbrev mem11 (t : Fin cfg0.N) : Memref sig .tc .vmem S1x2048x128 .f32 := win0_11.stage (cfg0.slots t 11)
abbrev whole11 (t : Fin cfg0.N) : (mem11 t).IsWhole := hstage0_11 ((cfg0.slots t 11).cast nbuf0_11)
abbrev mem12 (t : Fin cfg0.N) : Memref sig .tc .vmem S1x2048x128 .f32 := win0_12.stage (cfg0.slots t 12)
abbrev whole12 (t : Fin cfg0.N) : (mem12 t).IsWhole := hstage0_12 ((cfg0.slots t 12).cast nbuf0_12)
abbrev mem13 (t : Fin cfg0.N) : Memref sig .tc .vmem S1x2048x128 .f32 := win0_13.stage (cfg0.slots t 13)
abbrev whole13 (t : Fin cfg0.N) : (mem13 t).IsWhole := hstage0_13 ((cfg0.slots t 13).cast nbuf0_13)
abbrev mem14 (t : Fin cfg0.N) : Memref sig .tc .vmem S1x2048x128 .f32 := win0_14.stage (cfg0.slots t 14)
abbrev whole14 (t : Fin cfg0.N) : (mem14 t).IsWhole := hstage0_14 ((cfg0.slots t 14).cast nbuf0_14)
abbrev mem15 (t : Fin cfg0.N) : Memref sig .tc .vmem S1x2048x128 .f32 := win0_15.stage (cfg0.slots t 15)
abbrev whole15 (t : Fin cfg0.N) : (mem15 t).IsWhole := hstage0_15 ((cfg0.slots t 15).cast nbuf0_15)
abbrev mem16 (t : Fin cfg0.N) : Memref sig .tc .vmem S1x2048x128 .f32 := win0_16.stage (cfg0.slots t 16)
abbrev whole16 (t : Fin cfg0.N) : (mem16 t).IsWhole := hstage0_16 ((cfg0.slots t 16).cast nbuf0_16)
abbrev mem17 (t : Fin cfg0.N) : Memref sig .tc .vmem S1x1024x128 .f32 := win0_17.stage (cfg0.slots t 17)
abbrev whole17 (t : Fin cfg0.N) : (mem17 t).IsWhole := hstage0_17 ((cfg0.slots t 17).cast nbuf0_17)
abbrev mem18 (t : Fin cfg0.N) : Memref sig .tc .vmem S1x4096x128 .f32 := win0_18.stage (cfg0.slots t 18)
abbrev whole18 (t : Fin cfg0.N) : (mem18 t).IsWhole := hstage0_18 ((cfg0.slots t 18).cast nbuf0_18)
abbrev mem19 (t : Fin cfg0.N) : Memref sig .tc .vmem S1x16384x128 .f32 := win0_19.stage (cfg0.slots t 19)
abbrev whole19 (t : Fin cfg0.N) : (mem19 t).IsWhole := hstage0_19 ((cfg0.slots t 19).cast nbuf0_19)
abbrev scr0 : Memref sig .tc .vmem S2048x128 .f32 := Memref.whole cc0_scratch0
abbrev scr1 : Memref sig .tc .vmem S2048x128 .f32 := Memref.whole cc0_scratch1
abbrev scr2 : Memref sig .tc .vmem S2048x128 .f32 := Memref.whole cc0_scratch2
abbrev scr3 : Memref sig .tc .vmem S2048x128 .f32 := Memref.whole cc0_scratch3
abbrev scr4 : Memref sig .tc .vmem S2048x128 .f32 := Memref.whole cc0_scratch4
abbrev scr5 : Memref sig .tc .vmem S2048x128 .f32 := Memref.whole cc0_scratch5

/-- The scoped buffers the region is handed: the scratches at anything, and the generator's register. -/
theorem scoped_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- The windows held to a predicate: the results'. -/
def marked : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => false
    | ⟨9, _⟩ => false
    | ⟨10, _⟩ => false
    | ⟨11, _⟩ => false
    | ⟨12, _⟩ => false
    | ⟨13, _⟩ => false
    | ⟨14, _⟩ => false
    | ⟨15, _⟩ => false
    | ⟨16, _⟩ => true
    | ⟨17, _⟩ => true
    | ⟨18, _⟩ => true
    | ⟨19, _⟩ => true
    | ⟨_ + 20, h⟩ => absurd h (Nat.not_lt.2 (Nat.le_add_left _ _))

/-- What a result's block meets after point `t`: nothing is said of the attention's own. -/
def Left (c : Dev nD) (w : Fin cfg0.W) (t : Fin cfg0.N) (X : (cfg0.win w).block.Idx → Elt F (cfg0.win w).elt) : Prop := match w with
    | ⟨0, _⟩ => True
    | ⟨1, _⟩ => True
    | ⟨2, _⟩ => True
    | ⟨3, _⟩ => True
    | ⟨4, _⟩ => True
    | ⟨5, _⟩ => True
    | ⟨6, _⟩ => True
    | ⟨7, _⟩ => True
    | ⟨8, _⟩ => True
    | ⟨9, _⟩ => True
    | ⟨10, _⟩ => True
    | ⟨11, _⟩ => True
    | ⟨12, _⟩ => True
    | ⟨13, _⟩ => True
    | ⟨14, _⟩ => True
    | ⟨15, _⟩ => True
    | ⟨16, _⟩ => True
    | ⟨17, _⟩ => Kept0 m c t X
    | ⟨18, _⟩ => Kept1 m c t X
    | ⟨19, _⟩ => Kept2 m c t X
    | ⟨_ + 20, h⟩ => absurd h (Nat.not_lt.2 (Nat.le_add_left _ _))

/-- The arrays as the region finds them, and the inputs' blocks, which every point leaves as they were. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨_ + 20, h⟩ => absurd h (Nat.not_lt.2 (Nat.le_add_left _ _))
  Φ _ := Pipeline.ΦA spec0 c
  q := Pipeline.shareOf spec0
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d

/-- The data of the run: the inputs' blocks exactly, the results' held to `Left`. -/
abbrev rdats (c : Dev nD) : RDat τ (Elt F) Unit ℕ (UR sig nD τ) ℕ cfg0 c := (dats m 0 c).toRRel marked (Left m c)

theorem found0 (c : Dev nD) (t : Fin cfg0.N) (Y : Vec F S1x1024x128 .f32) (h : (rdats m c).Finds 17 t Y) : Before0 m c t Y := by
  intro ht y hy
  have h0 : t.val ≠ 0 := by omega
  rw [(rdats m c).finds_of_pos (w := 17) rfl h0] at h
  rcases h with h | h
  · have := (flush0_17 _).mp h
    dsimp only at this
    omega
  · have hL : Kept0 m c ⟨t.val - 1, Nat.lt_of_le_of_lt (Nat.sub_le _ _) t.isLt⟩ Y := (dats m 0 c).toRRel_leaves (w := 17) rfl h
    rw [hL (by dsimp only; omega) y (by dsimp only; omega), keep0_prev m c t _ (by dsimp only; omega)]

theorem found1 (c : Dev nD) (t : Fin cfg0.N) (Y : Vec F S1x4096x128 .f32) (h : (rdats m c).Finds 18 t Y) : Before1 m c t Y := by
  intro ht y hy
  have h0 : t.val ≠ 0 := by omega
  rw [(rdats m c).finds_of_pos (w := 18) rfl h0] at h
  rcases h with h | h
  · have := (flush0_18 _).mp h
    dsimp only at this
    omega
  · have hL : Kept1 m c ⟨t.val - 1, Nat.lt_of_le_of_lt (Nat.sub_le _ _) t.isLt⟩ Y := (dats m 0 c).toRRel_leaves (w := 18) rfl h
    rw [hL (by dsimp only; omega) y (by dsimp only; omega), keep1_prev m c t _ (by dsimp only; omega)]

theorem found2 (c : Dev nD) (t : Fin cfg0.N) (Y : Vec F S1x16384x128 .f32) (h : (rdats m c).Finds 19 t Y) : Before2 m c t Y := by
  intro ht y hy
  have h0 : t.val ≠ 0 := by omega
  rw [(rdats m c).finds_of_pos (w := 19) rfl h0] at h
  rcases h with h | h
  · have := (flush0_19 _).mp h
    dsimp only at this
    omega
  · have hL : Kept2 m c ⟨t.val - 1, Nat.lt_of_le_of_lt (Nat.sub_le _ _) t.isLt⟩ Y := (dats m 0 c).toRRel_leaves (w := 19) rfl h
    rw [hL (by dsimp only; omega) y (by dsimp only; omega), keep2_prev m c t _ (by dsimp only; omega)]

/-! ## The body at every point -/

def bodyPre (c : Dev nD) (t : Fin cfg0.N) : sProp 𝕄 :=
  iprop((dats m 0 c).Φ t.castSucc
    ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare ((dats m 0 c).before 12 t d))
    ∗ (∃ d, owns (c : Thread nD τ) (mem13 t) fullShare ((dats m 0 c).before 13 t d))
    ∗ (∃ d, owns (c : Thread nD τ) (mem14 t) fullShare ((dats m 0 c).before 14 t d))
    ∗ (∃ d, owns (c : Thread nD τ) (mem15 t) fullShare ((dats m 0 c).before 15 t d))
    ∗ (∃ Y, ⌜(rdats m c).Finds 16 t Y⌝ ∗ owns (c : Thread nD τ) (mem16 t) fullShare Y)
    ∗ (∃ Y, ⌜(rdats m c).Finds 17 t Y⌝ ∗ owns (c : Thread nD τ) (mem17 t) fullShare Y)
    ∗ (∃ Y, ⌜(rdats m c).Finds 18 t Y⌝ ∗ owns (c : Thread nD τ) (mem18 t) fullShare Y)
    ∗ (∃ Y, ⌜(rdats m c).Finds 19 t Y⌝ ∗ owns (c : Thread nD τ) (mem19 t) fullShare Y))

def bodyPost (c : Dev nD) (t : Fin cfg0.N) : sProp 𝕄 :=
  iprop((dats m 0 c).Φ t.succ
    ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ owns (c : Thread nD τ) (mem9 t) fullShare ((dats m 0 c).after 9 t)
    ∗ owns (c : Thread nD τ) (mem10 t) fullShare ((dats m 0 c).after 10 t)
    ∗ owns (c : Thread nD τ) (mem11 t) fullShare ((dats m 0 c).after 11 t)
    ∗ owns (c : Thread nD τ) (mem12 t) fullShare ((dats m 0 c).after 12 t)
    ∗ owns (c : Thread nD τ) (mem13 t) fullShare ((dats m 0 c).after 13 t)
    ∗ owns (c : Thread nD τ) (mem14 t) fullShare ((dats m 0 c).after 14 t)
    ∗ owns (c : Thread nD τ) (mem15 t) fullShare ((dats m 0 c).after 15 t)
    ∗ (∃ X, ⌜Left m c 16 t X⌝ ∗ owns (c : Thread nD τ) (mem16 t) fullShare X)
    ∗ (∃ X, ⌜Left m c 17 t X⌝ ∗ owns (c : Thread nD τ) (mem17 t) fullShare X)
    ∗ (∃ X, ⌜Left m c 18 t X⌝ ∗ owns (c : Thread nD τ) (mem18 t) fullShare X)
    ∗ (∃ X, ⌜Left m c 19 t X⌝ ∗ owns (c : Thread nD τ) (mem19 t) fullShare X))

/-- The blocks the stores read and write, out of everything and back. -/
theorem give {c : Dev nD} (arg3 : Memref sig .tc .smem S12 .f32) (arg4 : Memref sig .tc .vmem S1x2048x128 .f32) (arg5 : Memref sig .tc .vmem S1x2048x128 .f32) (arg6 : Memref sig .tc .vmem S1x2048x128 .f32) (arg7 : Memref sig .tc .vmem S1x128x128 .f32) (arg8 : Memref sig .tc .vmem S1x128x128 .f32) (arg9 : Memref sig .tc .vmem S1x2048x128 .f32) (arg10 : Memref sig .tc .vmem S1x2048x128 .f32) (arg11 : Memref sig .tc .vmem S1x2048x128 .f32) (arg12 : Memref sig .tc .vmem S1x512x128 .f32) (arg13 : Memref sig .tc .vmem S1x512x128 .f32) (arg14 : Memref sig .tc .vmem S1x2048x128 .f32) (arg15 : Memref sig .tc .vmem S1x2048x128 .f32) (arg16 : Memref sig .tc .vmem S1x2048x128 .f32) (arg17 : Memref sig .tc .vmem S1x2048x128 .f32) (arg18 : Memref sig .tc .vmem S1x2048x128 .f32) (arg19 : Memref sig .tc .vmem S1x2048x128 .f32) (arg23 : Memref sig .tc .vmem S2048x128 .f32) (arg24 : Memref sig .tc .vmem S2048x128 .f32) (arg25 : Memref sig .tc .vmem S2048x128 .f32) (arg26 : Memref sig .tc .vmem S2048x128 .f32) (arg27 : Memref sig .tc .vmem S2048x128 .f32) (arg28 : Memref sig .tc .vmem S2048x128 .f32)
    (x3 : Vec F S12 .f32) (x4 : Vec F S1x2048x128 .f32) (x5 : Vec F S1x2048x128 .f32) (x6 : Vec F S1x2048x128 .f32) (x7 : Vec F S1x128x128 .f32) (x8 : Vec F S1x128x128 .f32) (x9 : Vec F S1x2048x128 .f32) (x10 : Vec F S1x2048x128 .f32) (x11 : Vec F S1x2048x128 .f32) (x12 : Vec F S1x512x128 .f32) (x13 : Vec F S1x512x128 .f32) (x14 : Vec F S1x2048x128 .f32) (x15 : Vec F S1x2048x128 .f32) (x16 : Vec F S1x2048x128 .f32) (x17 : Vec F S1x2048x128 .f32) (x18 : Vec F S1x2048x128 .f32) {A0 A1 A2 B0 B1 B2 : sProp 𝕄} :
    All c arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18 iprop(A0 ∗ A1 ∗ A2) ⊢ iprop(owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg15 fullShare x15 ∗ owns (c : Thread nD τ) arg16 fullShare x16 ∗ A0 ∗ A1 ∗ A2
      ∗ (iprop(owns (c : Thread nD τ) arg5 fullShare x5 ∗ owns (c : Thread nD τ) arg6 fullShare x6 ∗ owns (c : Thread nD τ) arg10 fullShare x10 ∗ owns (c : Thread nD τ) arg11 fullShare x11 ∗ owns (c : Thread nD τ) arg15 fullShare x15 ∗ owns (c : Thread nD τ) arg16 fullShare x16 ∗ B0 ∗ B1 ∗ B2) -∗ All c arg3 arg4 arg5 arg6 arg7 arg8 arg9 arg10 arg11 arg12 arg13 arg14 arg15 arg16 arg17 arg18 arg19 arg23 arg24 arg25 arg26 arg27 arg28 x3 x4 x5 x6 x7 x8 x9 x10 x11 x12 x13 x14 x15 x16 x17 x18 iprop(B0 ∗ B1 ∗ B2))) := by
  iintro ⟨H3, H4, H5, H6, H7, H8, H9, H10, H11, H12, H13, H14, H15, H16, H17, H18, H19, H23, H24, H25, H26, H27, H28, A0, A1, A2⟩
  isplitl [H5]; · iexact H5
  isplitl [H6]; · iexact H6
  isplitl [H10]; · iexact H10
  isplitl [H11]; · iexact H11
  isplitl [H15]; · iexact H15
  isplitl [H16]; · iexact H16
  isplitl [A0]; · iexact A0
  isplitl [A1]; · iexact A1
  isplitl [A2]; · iexact A2
  iintro ⟨H5, H6, H10, H11, H15, H16, A0, A1, A2⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H23]; · iexact H23
  isplitl [H24]; · iexact H24
  isplitl [H25]; · iexact H25
  isplitl [H26]; · iexact H26
  isplitl [H27]; · iexact H27
  isplitl [H28]; · iexact H28
  isplitl [A0]; · iexact A0
  isplitl [A1]; · iexact A1
  iexact A2

set_option maxHeartbeats 1600000 in
theorem sound_last (c : Dev nD) (t : Fin cfg0.N) (h : 4 ≤ t.val % 8) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).owesAt () t.succ = (dats m 0 c).owesAt () t.castSucc from rfl, after0, after1, after2, after3, after4, after5, after6, after7, after8, after9, after10, after11, after12, after13, after14, after15]
  rw [show (dats m 0 c).Φ t.castSucc = Pipeline.ΦA spec0 c from rfl, show (dats m 0 c).Φ t.succ = Pipeline.ΦA spec0 c from rfl, scoped_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y16, %F16, H16⟩, ⟨%Y17, %F17, H17⟩, ⟨%Y18, %F18, H18⟩, ⟨%Y19, %F19, H19⟩⟩
  have hr : Runs c (All c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) iprop(owns (c : Thread nD τ) (mem17 t) fullShare Y17 ∗ owns (c : Thread nD τ) (mem18 t) fullShare Y18 ∗ owns (c : Thread nD τ) (mem19 t) fullShare Y19)) (bodyAt0 t) (All c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) iprop(owns (c : Thread nD τ) (mem17 t) fullShare (put0 (grid0.coords t 2).val (iblk m c 2 t) (iblk m c 3 t) Y17) ∗ owns (c : Thread nD τ) (mem18 t) fullShare (put1 (grid0.coords t 2).val (iblk m c 7 t) (iblk m c 8 t) Y18) ∗ owns (c : Thread nD τ) (mem19 t) fullShare (put2 (grid0.coords t 2).val (iblk m c 12 t) (iblk m c 13 t) Y19))) :=
    keep_rest (grid0.coords t) _ (whole0 t) _ (whole1 t) _ (whole2 t) _ (whole3 t) _ (whole4 t) _ (whole5 t) _ (whole6 t) _ (whole7 t) _ (whole8 t) _ (whole9 t) _ (whole10 t) _ (whole11 t) _ (whole12 t) _ (whole13 t) _ (whole14 t) _ (whole15 t) _ (whole16 t) _ (whole17 t) _ (whole18 t) _ (whole19 t) scr0 (Memref.isWhole_whole _) scr1 (Memref.isWhole_whole _) scr2 (Memref.isWhole_whole _) scr3 (Memref.isWhole_whole _) scr4 (Memref.isWhole_whole _) scr5 (Memref.isWhole_whole _) (all_holds c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _) (keep_part2_on (grid0.coords t) _ (whole0 t) _ (whole1 t) _ (whole2 t) _ (whole3 t) _ (whole4 t) _ (whole5 t) _ (whole6 t) _ (whole7 t) _ (whole8 t) _ (whole9 t) _ (whole10 t) _ (whole11 t) _ (whole12 t) _ (whole13 t) _ (whole14 t) _ (whole15 t) _ (whole16 t) _ (whole17 t) _ (whole18 t) _ (whole19 t) scr0 (Memref.isWhole_whole _) scr1 (Memref.isWhole_whole _) scr2 (Memref.isWhole_whole _) scr3 (Memref.isWhole_whole _) scr4 (Memref.isWhole_whole _) scr5 (Memref.isWhole_whole _) (all_holds c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _) ((cond1 t).mpr h) (P := All c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) iprop(owns (c : Thread nD τ) (mem17 t) fullShare Y17 ∗ owns (c : Thread nD τ) (mem18 t) fullShare Y18 ∗ owns (c : Thread nD τ) (mem19 t) fullShare Y19)) (give _ _ _ _ _ _ _ _ _ _ _ _ _ _ _ _ _ _ _ _ _ _ _ _ _ _ _ _ _ _ _ _ _ _ _ _ _ _ _))
  iapply (hr _)
  isplitl [H0 H1 H2 H3 H4 H5 H6 H7 H8 H9 H10 H11 H12 H13 H14 H15 H16 S0 S1 S2 S3 S4 S5 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [S0]; · iexact S0
    isplitl [S1]; · iexact S1
    isplitl [S2]; · iexact S2
    isplitl [S3]; · iexact S3
    isplitl [S4]; · iexact S4
    isplitl [S5]; · iexact S5
    isplitl [H17]; · iexact H17
    isplitl [H18]; · iexact H18
    iexact H19
  iintro %r ⟨H0, H1, H2, H3, H4, H5, H6, H7, H8, H9, H10, H11, H12, H13, H14, H15, H16, S0, S1, S2, S3, S4, S5, H17, H18, H19⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · icases H16 with ⟨%X16, H16⟩
    iexists X16; isplitr; · ipureintro; exact trivial
    iexact H16
  isplitl [H17]
  · iexists (put0 (grid0.coords t 2).val (iblk m c 2 t) (iblk m c 3 t) Y17); isplitr; · ipureintro; exact kept0_put m c t Y17 (found0 m c t Y17 F17)
    iexact H17
  isplitl [H18]
  · iexists (put1 (grid0.coords t 2).val (iblk m c 7 t) (iblk m c 8 t) Y18); isplitr; · ipureintro; exact kept1_put m c t Y18 (found1 m c t Y18 F18)
    iexact H18
  iexists (put2 (grid0.coords t 2).val (iblk m c 12 t) (iblk m c 13 t) Y19); isplitr; · ipureintro; exact kept2_put m c t Y19 (found2 m c t Y19 F19)
  iexact H19

set_option maxHeartbeats 1600000 in
theorem sound_first (c : Dev nD) (t : Fin cfg0.N) (h : ¬4 ≤ t.val % 8) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).owesAt () t.succ = (dats m 0 c).owesAt () t.castSucc from rfl, after0, after1, after2, after3, after4, after5, after6, after7, after8, after9, after10, after11, after12, after13, after14, after15]
  rw [show (dats m 0 c).Φ t.castSucc = Pipeline.ΦA spec0 c from rfl, show (dats m 0 c).Φ t.succ = Pipeline.ΦA spec0 c from rfl, scoped_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y16, %F16, H16⟩, ⟨%Y17, %F17, H17⟩, ⟨%Y18, %F18, H18⟩, ⟨%Y19, %F19, H19⟩⟩
  have hr : Runs c (All c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) iprop(owns (c : Thread nD τ) (mem17 t) fullShare Y17 ∗ owns (c : Thread nD τ) (mem18 t) fullShare Y18 ∗ owns (c : Thread nD τ) (mem19 t) fullShare Y19)) (bodyAt0 t) (All c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) iprop(owns (c : Thread nD τ) (mem17 t) fullShare Y17 ∗ owns (c : Thread nD τ) (mem18 t) fullShare Y18 ∗ owns (c : Thread nD τ) (mem19 t) fullShare Y19)) :=
    keep_rest (grid0.coords t) _ (whole0 t) _ (whole1 t) _ (whole2 t) _ (whole3 t) _ (whole4 t) _ (whole5 t) _ (whole6 t) _ (whole7 t) _ (whole8 t) _ (whole9 t) _ (whole10 t) _ (whole11 t) _ (whole12 t) _ (whole13 t) _ (whole14 t) _ (whole15 t) _ (whole16 t) _ (whole17 t) _ (whole18 t) _ (whole19 t) scr0 (Memref.isWhole_whole _) scr1 (Memref.isWhole_whole _) scr2 (Memref.isWhole_whole _) scr3 (Memref.isWhole_whole _) scr4 (Memref.isWhole_whole _) scr5 (Memref.isWhole_whole _) (all_holds c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _) (keep_part2_off (grid0.coords t) _ (whole0 t) _ (whole1 t) _ (whole2 t) _ (whole3 t) _ (whole4 t) _ (whole5 t) _ (whole6 t) _ (whole7 t) _ (whole8 t) _ (whole9 t) _ (whole10 t) _ (whole11 t) _ (whole12 t) _ (whole13 t) _ (whole14 t) _ (whole15 t) _ (whole16 t) _ (whole17 t) _ (whole18 t) _ (whole19 t) scr0 (Memref.isWhole_whole _) scr1 (Memref.isWhole_whole _) scr2 (Memref.isWhole_whole _) scr3 (Memref.isWhole_whole _) scr4 (Memref.isWhole_whole _) scr5 (Memref.isWhole_whole _) (all_holds c (mem0 t) (mem1 t) (mem2 t) (mem3 t) (mem4 t) (mem5 t) (mem6 t) (mem7 t) (mem8 t) (mem9 t) (mem10 t) (mem11 t) (mem12 t) (mem13 t) (mem14 t) (mem15 t) (mem16 t) scr0 scr1 scr2 scr3 scr4 scr5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _) (fun e => h ((cond1 t).mp e)))
  iapply (hr _)
  isplitl [H0 H1 H2 H3 H4 H5 H6 H7 H8 H9 H10 H11 H12 H13 H14 H15 H16 S0 S1 S2 S3 S4 S5 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [S0]; · iexact S0
    isplitl [S1]; · iexact S1
    isplitl [S2]; · iexact S2
    isplitl [S3]; · iexact S3
    isplitl [S4]; · iexact S4
    isplitl [S5]; · iexact S5
    isplitl [H17]; · iexact H17
    isplitl [H18]; · iexact H18
    iexact H19
  iintro %r ⟨H0, H1, H2, H3, H4, H5, H6, H7, H8, H9, H10, H11, H12, H13, H14, H15, H16, S0, S1, S2, S3, S4, S5, H17, H18, H19⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · icases H16 with ⟨%X16, H16⟩
    iexists X16; isplitr; · ipureintro; exact trivial
    iexact H16
  isplitl [H17]
  · iexists Y17; isplitr; · ipureintro; exact fun h' => absurd h' h
    iexact H17
  isplitl [H18]
  · iexists Y18; isplitr; · ipureintro; exact fun h' => absurd h' h
    iexact H18
  iexists Y19; isplitr; · ipureintro; exact fun h' => absurd h' h
  iexact H19

theorem sound_body (c : Dev nD) (t : Fin cfg0.N) :
    bodyPre m c t ⊢ wp frame (wpE (defs₀ (F := F)) Variants.none c none) Set.univ (bodyAt0 t) (fun _ => bodyPost m c t) := by
  by_cases h : 4 ≤ t.val % 8
  · exact sound_last m c t h
  · exact sound_first m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Left m c) := fun t => by
  rw [bigSep_W0, bigSep_W0, defs₀_row]
  exact triple_restated (sound_body m c t) rfl .rfl fun _ => .rfl

/-! ## The run -/

set_option backward.isDefEq.respectTransparency.types false in
/-- Every run ends with the results' blocks as `Left` says, everything else as it was found, the counters at zero. -/
theorem run_quiescent : θ_run defs (onTc (τ := τ) (main (F := F))) (s₀ m ρ) (fun r => RDat.FramePost cfg0 (rdats m) (V m) r ∧ r.2.sem = fun _ => 0) :=
  Pipeline.RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_quiescent m ρ)

end Cert.AttnPIdeal.Body

end
-- ==== Proof.AttnP.Host.lean ====
/- The array the prompt's attention call reads its rows from: per row the keys and the values of the three groups, 512 columns
   each, and then the queries. -/
module

public import proofs.«01_k».proof.Proof.Gen.AttnPIdeal.Launch
public import Idealize.ShloMosaic.Lib.Pipeline.Value
public import Idealize.ShloMosaic.Lib.Pointwise

@[expose] public section

set_option maxRecDepth 16384

noncomputable section

namespace Cert.AttnPIdeal.Body

open Cert.AttnPIdeal Cert.AttnPIdeal.Gen Idealize.ShloMosaic Idealize.ShloMosaic.TcCoe Idealize.SL.Sem

/-- The heads of a row side by side. -/
def flat (x : Vec Ideal S4x4096x12x128 .f32) : Vec Ideal S16384x1536 .f32 := shapeCast S16384x1536 x shapeCasts_S4x4096x12x128_S16384x1536

theorem flat_apply (x : Vec Ideal S4x4096x12x128 .f32) (B : Fin 4) (S : Fin 4096) (H : Fin 12) (e : Fin 128) (r : Fin 16384) (C : Fin 1536) (hr : r.val = B.val * 4096 + S.val)
    (hC : C.val = H.val * 128 + e.val) : flat x (ix2 r C) = x (ix4 B S H e) := by
  unfold flat
  refine shapeCast_apply x _ _ _ ?_
  rewrite [Shape.rowMajor_val_four, Shape.rowMajor_val_two]
  show ((B.val * 4096 + S.val) * 12 + H.val) * 128 + e.val = r.val * 1536 + C.val
  omega

def part0 (x : Vec Ideal S4x4096x12x128 .f32) : Vec Ideal S16384x512 .f32 := extractStridedSlice S16384x512 ![0, 0] (flat x) slices_S16384x1536_S16384x512_0_0

theorem part0_apply (x : Vec Ideal S4x4096x12x128 .f32) (B : Fin 4) (S : Fin 4096) (H : Fin 12) (e : Fin 128) (r : Fin 16384) (k : Fin 512) (hr : r.val = B.val * 4096 + S.val)
    (hk : 0 + k.val = H.val * 128 + e.val) : part0 x (ix2 r k) = x (ix4 B S H e) := by
  unfold part0
  refine (extractStridedSlice_apply ![0, 0] (flat x) slices_S16384x1536_S16384x512_0_0 (ix2 r k) (ix2 r ⟨0 + k.val, by omega⟩) (fun a => ?_)).trans
    (flat_apply x B S H e r _ hr hk)
  match a with
  | ⟨0, _⟩ => show r.val = 0 + r.val; omega
  | ⟨1, _⟩ => rfl

def part1 (x : Vec Ideal S4x4096x12x128 .f32) : Vec Ideal S16384x512 .f32 := extractStridedSlice S16384x512 ![0, 512] (flat x) slices_S16384x1536_S16384x512_0_512

theorem part1_apply (x : Vec Ideal S4x4096x12x128 .f32) (B : Fin 4) (S : Fin 4096) (H : Fin 12) (e : Fin 128) (r : Fin 16384) (k : Fin 512) (hr : r.val = B.val * 4096 + S.val)
    (hk : 512 + k.val = H.val * 128 + e.val) : part1 x (ix2 r k) = x (ix4 B S H e) := by
  unfold part1
  refine (extractStridedSlice_apply ![0, 512] (flat x) slices_S16384x1536_S16384x512_0_512 (ix2 r k) (ix2 r ⟨512 + k.val, by omega⟩) (fun a => ?_)).trans
    (flat_apply x B S H e r _ hr hk)
  match a with
  | ⟨0, _⟩ => show r.val = 0 + r.val; omega
  | ⟨1, _⟩ => rfl

def part2 (x : Vec Ideal S4x4096x12x128 .f32) : Vec Ideal S16384x512 .f32 := extractStridedSlice S16384x512 ![0, 1024] (flat x) slices_S16384x1536_S16384x512_0_1024

theorem part2_apply (x : Vec Ideal S4x4096x12x128 .f32) (B : Fin 4) (S : Fin 4096) (H : Fin 12) (e : Fin 128) (r : Fin 16384) (k : Fin 512) (hr : r.val = B.val * 4096 + S.val)
    (hk : 1024 + k.val = H.val * 128 + e.val) : part2 x (ix2 r k) = x (ix4 B S H e) := by
  unfold part2
  refine (extractStridedSlice_apply ![0, 1024] (flat x) slices_S16384x1536_S16384x512_0_1024 (ix2 r k) (ix2 r ⟨1024 + k.val, by omega⟩) (fun a => ?_)).trans
    (flat_apply x B S H e r _ hr hk)
  match a with
  | ⟨0, _⟩ => show r.val = 0 + r.val; omega
  | ⟨1, _⟩ => rfl

/-- The parts joined, and the rows by batch element. -/
def joined (q k v : Vec Ideal S4x4096x12x128 .f32) : Vec Ideal S16384x4608 .f32 :=
  concatenate S16384x4608 1 [⟨S16384x512, part0 k⟩, ⟨S16384x512, part0 v⟩, ⟨S16384x512, part1 k⟩, ⟨S16384x512, part1 v⟩, ⟨S16384x512, part2 k⟩, ⟨S16384x512, part2 v⟩, ⟨S16384x1536, flat q⟩]
    concatenates_S16384x512_S16384x512_S16384x512_S16384x512_S16384x512_S16384x512_S16384x1536_S16384x4608_d1

def stacked (q k v : Vec Ideal S4x4096x12x128 .f32) : Vec Ideal S4x4096x4608 .f32 := shapeCast S4x4096x4608 (joined q k v) shapeCasts_S16384x4608_S4x4096x4608

theorem stacked_apply (q k v : Vec Ideal S4x4096x12x128 .f32) (B : Fin 4) (S : Fin 4096) (C : Fin 4608) :
    stacked q k v (ix3 B S C) = joined q k v (ix2 (⟨B.val * 4096 + S.val, by omega⟩ : Fin 16384) C) := by
  unfold stacked
  refine shapeCast_apply _ _ _ _ ?_
  rewrite [Shape.rowMajor_val_three, Shape.rowMajor_val_two]
  rfl

/-- Lane `e` of token `S` of batch element `B`: of key `c` of group `g`, or of value `c - 4`. -/
def lane (k v : Vec Ideal S4x4096x12x128 .f32) (g : Fin 3) (B : Fin 4) (S : Fin 4096) (c : Fin 8) (e : Fin 128) : EReal :=
  if c.val < 4 then k (ix4 B S ⟨g.val * 4 + c.val % 4, by omega⟩ e) else v (ix4 B S ⟨g.val * 4 + c.val % 4, by omega⟩ e)

/-- Group 0's columns. -/
theorem stacked0 (q k v : Vec Ideal S4x4096x12x128 .f32) (B : Fin 4) (S : Fin 4096) (c : Fin 8) (e : Fin 128) (C : Fin 4608) (hC : C.val = 0 + c.val * 128 + e.val) :
    stacked q k v (ix3 B S C) = lane k v 0 B S c e := by
  have hc := c.isLt
  have he := e.isLt
  rw [stacked_apply]
  unfold joined lane
  split_ifs with h
  · refine (concatenate_apply_piece 1 _ _ (ix2 _ C) 0 (by simp) S16384x512 (part0 k) rfl rfl 0 rfl
      (ix2 (⟨B.val * 4096 + S.val, by omega⟩ : Fin 16384) ⟨C.val - 0, by omega⟩) (fun b hb => ?_) ?_).trans ?_
    · match b with
      | ⟨0, _⟩ => rfl
      | ⟨1, _⟩ => exact absurd rfl hb
    · show 0 + (C.val - 0) = C.val
      omega
    · exact part0_apply k B S _ e _ _ rfl (by show 0 + (C.val - 0) = (0 * 4 + c.val % 4) * 128 + e.val; omega)
  · refine (concatenate_apply_piece 1 _ _ (ix2 _ C) 1 (by simp) S16384x512 (part0 v) rfl rfl 512 rfl
      (ix2 (⟨B.val * 4096 + S.val, by omega⟩ : Fin 16384) ⟨C.val - 512, by omega⟩) (fun b hb => ?_) ?_).trans ?_
    · match b with
      | ⟨0, _⟩ => rfl
      | ⟨1, _⟩ => exact absurd rfl hb
    · show 512 + (C.val - 512) = C.val
      omega
    · exact part0_apply v B S _ e _ _ rfl (by show 0 + (C.val - 512) = (0 * 4 + c.val % 4) * 128 + e.val; omega)

/-- Group 1's columns. -/
theorem stacked1 (q k v : Vec Ideal S4x4096x12x128 .f32) (B : Fin 4) (S : Fin 4096) (c : Fin 8) (e : Fin 128) (C : Fin 4608) (hC : C.val = 1024 + c.val * 128 + e.val) :
    stacked q k v (ix3 B S C) = lane k v 1 B S c e := by
  have hc := c.isLt
  have he := e.isLt
  rw [stacked_apply]
  unfold joined lane
  split_ifs with h
  · refine (concatenate_apply_piece 1 _ _ (ix2 _ C) 2 (by simp) S16384x512 (part1 k) rfl rfl 1024 rfl
      (ix2 (⟨B.val * 4096 + S.val, by omega⟩ : Fin 16384) ⟨C.val - 1024, by omega⟩) (fun b hb => ?_) ?_).trans ?_
    · match b with
      | ⟨0, _⟩ => rfl
      | ⟨1, _⟩ => exact absurd rfl hb
    · show 1024 + (C.val - 1024) = C.val
      omega
    · exact part1_apply k B S _ e _ _ rfl (by show 512 + (C.val - 1024) = (1 * 4 + c.val % 4) * 128 + e.val; omega)
  · refine (concatenate_apply_piece 1 _ _ (ix2 _ C) 3 (by simp) S16384x512 (part1 v) rfl rfl 1536 rfl
      (ix2 (⟨B.val * 4096 + S.val, by omega⟩ : Fin 16384) ⟨C.val - 1536, by omega⟩) (fun b hb => ?_) ?_).trans ?_
    · match b with
      | ⟨0, _⟩ => rfl
      | ⟨1, _⟩ => exact absurd rfl hb
    · show 1536 + (C.val - 1536) = C.val
      omega
    · exact part1_apply v B S _ e _ _ rfl (by show 512 + (C.val - 1536) = (1 * 4 + c.val % 4) * 128 + e.val; omega)

/-- Group 2's columns. -/
theorem stacked2 (q k v : Vec Ideal S4x4096x12x128 .f32) (B : Fin 4) (S : Fin 4096) (c : Fin 8) (e : Fin 128) (C : Fin 4608) (hC : C.val = 2048 + c.val * 128 + e.val) :
    stacked q k v (ix3 B S C) = lane k v 2 B S c e := by
  have hc := c.isLt
  have he := e.isLt
  rw [stacked_apply]
  unfold joined lane
  split_ifs with h
  · refine (concatenate_apply_piece 1 _ _ (ix2 _ C) 4 (by simp) S16384x512 (part2 k) rfl rfl 2048 rfl
      (ix2 (⟨B.val * 4096 + S.val, by omega⟩ : Fin 16384) ⟨C.val - 2048, by omega⟩) (fun b hb => ?_) ?_).trans ?_
    · match b with
      | ⟨0, _⟩ => rfl
      | ⟨1, _⟩ => exact absurd rfl hb
    · show 2048 + (C.val - 2048) = C.val
      omega
    · exact part2_apply k B S _ e _ _ rfl (by show 1024 + (C.val - 2048) = (2 * 4 + c.val % 4) * 128 + e.val; omega)
  · refine (concatenate_apply_piece 1 _ _ (ix2 _ C) 5 (by simp) S16384x512 (part2 v) rfl rfl 2560 rfl
      (ix2 (⟨B.val * 4096 + S.val, by omega⟩ : Fin 16384) ⟨C.val - 2560, by omega⟩) (fun b hb => ?_) ?_).trans ?_
    · match b with
      | ⟨0, _⟩ => rfl
      | ⟨1, _⟩ => exact absurd rfl hb
    · show 2560 + (C.val - 2560) = C.val
      omega
    · exact part2_apply v B S _ e _ _ rfl (by show 1024 + (C.val - 2560) = (2 * 4 + c.val % 4) * 128 + e.val; omega)

end Cert.AttnPIdeal.Body

end
-- ==== Proof.AttnP.Kernel.lean ====
/- The prompt's attention call, read over the extended reals: of each group it keeps the last tokens' keys and values, at row
   `8 * token + c` the key of head `c`, or the value of head `c - 4`. -/
module

public import proofs.«01_k».proof.Proof.AttnP.Frame
public import proofs.«01_k».proof.Proof.AttnP.Host
public import Idealize.ShloMosaic.Lib.Pipeline.ValueKit.Geometry
public import Idealize.ShloMosaic.Lib.Pointwise

@[expose] public section

set_option maxRecDepth 16384

noncomputable section

namespace Cert.AttnPIdeal.Body

open Cert.AttnPIdeal Cert.AttnPIdeal.Gen Idealize.ShloMosaic Idealize.ShloMosaic.TcCoe Idealize.SL.Sem

variable (m : (ℓ : Loc nD τ sig) → Buf (Elt Ideal) ℓ) (c : Dev nD)

/-! ## The blocks of the array -/

theorem V_rows : (V m c main_v24 : Vec Ideal S4x4096x4608 .f32) = stacked (m ((c : Thread nD τ).loc main_arg0) : Vec Ideal S4x4096x12x128 .f32)
    (m ((c : Thread nD τ).loc main_arg1) : Vec Ideal S4x4096x12x128 .f32) (m ((c : Thread nD τ).loc main_arg2) : Vec Ideal S4x4096x12x128 .f32) := by
  show StableHlo.after hostOps0 (fun b => m (c, b)) main_v24 = _
  after_results
  rfl

theorem index2 : ∀ t : Fin grid0.N, cc0_transform_2 (grid0.coords t) = ![t.val / 8, t.val / 4 % 2, 0 + t.val % 4] := by decide +kernel

theorem blk2 (t : Fin grid0.N) (r : Fin 2048) (e : Fin 128) (B : Fin 4) (S : Fin 4096) (C : Fin 4608) (hB : B.val = t.val / 8)
    (hS : S.val = t.val / 4 % 2 * 2048 + r.val) (hC : C.val = (0 + t.val % 4) * 128 + e.val) :
    (iblk m c 2 t : Vec Ideal S1x2048x128 .f32) (ix3 (0 : Fin 1) r e) = (V m c main_v24 : Vec Ideal S4x4096x4608 .f32) (ix3 B S C) := by
  have key : (((cfg0.win 2).blk t).view.emb (ix3 (0 : Fin 1) r e) : S4x4096x4608.Idx) = ix3 B S C := by
    funext a
    apply Fin.ext
    refine (Pipeline.Window.rect_emb_val (cfg0.win 2) t (ix3 (0 : Fin 1) r e) a).trans ?_
    rw [show (cfg0.win 2).index t = _ from index2 t]
    match a with
    | ⟨0, _⟩ => show t.val / 8 * 1 + 0 = B.val; omega
    | ⟨1, _⟩ => exact hS.symm
    | ⟨2, _⟩ => exact hC.symm
  unfold iblk
  generalize V m c = W
  unfold Idealize.ShloMosaic.View.read
  exact eq_of_heq ((cast_heq _ _).trans (heq_of_eq (congrArg (W main_v24) key)))

theorem index3 : ∀ t : Fin grid0.N, cc0_transform_3 (grid0.coords t) = ![t.val / 8, t.val / 4 % 2, 4 + t.val % 4] := by decide +kernel

theorem blk3 (t : Fin grid0.N) (r : Fin 2048) (e : Fin 128) (B : Fin 4) (S : Fin 4096) (C : Fin 4608) (hB : B.val = t.val / 8)
    (hS : S.val = t.val / 4 % 2 * 2048 + r.val) (hC : C.val = (4 + t.val % 4) * 128 + e.val) :
    (iblk m c 3 t : Vec Ideal S1x2048x128 .f32) (ix3 (0 : Fin 1) r e) = (V m c main_v24 : Vec Ideal S4x4096x4608 .f32) (ix3 B S C) := by
  have key : (((cfg0.win 3).blk t).view.emb (ix3 (0 : Fin 1) r e) : S4x4096x4608.Idx) = ix3 B S C := by
    funext a
    apply Fin.ext
    refine (Pipeline.Window.rect_emb_val (cfg0.win 3) t (ix3 (0 : Fin 1) r e) a).trans ?_
    rw [show (cfg0.win 3).index t = _ from index3 t]
    match a with
    | ⟨0, _⟩ => show t.val / 8 * 1 + 0 = B.val; omega
    | ⟨1, _⟩ => exact hS.symm
    | ⟨2, _⟩ => exact hC.symm
  unfold iblk
  generalize V m c = W
  unfold Idealize.ShloMosaic.View.read
  exact eq_of_heq ((cast_heq _ _).trans (heq_of_eq (congrArg (W main_v24) key)))

theorem index7 : ∀ t : Fin grid0.N, cc0_transform_7 (grid0.coords t) = ![t.val / 8, t.val / 4 % 2, 8 + t.val % 4] := by decide +kernel

theorem blk7 (t : Fin grid0.N) (r : Fin 2048) (e : Fin 128) (B : Fin 4) (S : Fin 4096) (C : Fin 4608) (hB : B.val = t.val / 8)
    (hS : S.val = t.val / 4 % 2 * 2048 + r.val) (hC : C.val = (8 + t.val % 4) * 128 + e.val) :
    (iblk m c 7 t : Vec Ideal S1x2048x128 .f32) (ix3 (0 : Fin 1) r e) = (V m c main_v24 : Vec Ideal S4x4096x4608 .f32) (ix3 B S C) := by
  have key : (((cfg0.win 7).blk t).view.emb (ix3 (0 : Fin 1) r e) : S4x4096x4608.Idx) = ix3 B S C := by
    funext a
    apply Fin.ext
    refine (Pipeline.Window.rect_emb_val (cfg0.win 7) t (ix3 (0 : Fin 1) r e) a).trans ?_
    rw [show (cfg0.win 7).index t = _ from index7 t]
    match a with
    | ⟨0, _⟩ => show t.val / 8 * 1 + 0 = B.val; omega
    | ⟨1, _⟩ => exact hS.symm
    | ⟨2, _⟩ => exact hC.symm
  unfold iblk
  generalize V m c = W
  unfold Idealize.ShloMosaic.View.read
  exact eq_of_heq ((cast_heq _ _).trans (heq_of_eq (congrArg (W main_v24) key)))

theorem index8 : ∀ t : Fin grid0.N, cc0_transform_8 (grid0.coords t) = ![t.val / 8, t.val / 4 % 2, 12 + t.val % 4] := by decide +kernel

theorem blk8 (t : Fin grid0.N) (r : Fin 2048) (e : Fin 128) (B : Fin 4) (S : Fin 4096) (C : Fin 4608) (hB : B.val = t.val / 8)
    (hS : S.val = t.val / 4 % 2 * 2048 + r.val) (hC : C.val = (12 + t.val % 4) * 128 + e.val) :
    (iblk m c 8 t : Vec Ideal S1x2048x128 .f32) (ix3 (0 : Fin 1) r e) = (V m c main_v24 : Vec Ideal S4x4096x4608 .f32) (ix3 B S C) := by
  have key : (((cfg0.win 8).blk t).view.emb (ix3 (0 : Fin 1) r e) : S4x4096x4608.Idx) = ix3 B S C := by
    funext a
    apply Fin.ext
    refine (Pipeline.Window.rect_emb_val (cfg0.win 8) t (ix3 (0 : Fin 1) r e) a).trans ?_
    rw [show (cfg0.win 8).index t = _ from index8 t]
    match a with
    | ⟨0, _⟩ => show t.val / 8 * 1 + 0 = B.val; omega
    | ⟨1, _⟩ => exact hS.symm
    | ⟨2, _⟩ => exact hC.symm
  unfold iblk
  generalize V m c = W
  unfold Idealize.ShloMosaic.View.read
  exact eq_of_heq ((cast_heq _ _).trans (heq_of_eq (congrArg (W main_v24) key)))

theorem index12 : ∀ t : Fin grid0.N, cc0_transform_12 (grid0.coords t) = ![t.val / 8, t.val / 4 % 2, 16 + t.val % 4] := by decide +kernel

theorem blk12 (t : Fin grid0.N) (r : Fin 2048) (e : Fin 128) (B : Fin 4) (S : Fin 4096) (C : Fin 4608) (hB : B.val = t.val / 8)
    (hS : S.val = t.val / 4 % 2 * 2048 + r.val) (hC : C.val = (16 + t.val % 4) * 128 + e.val) :
    (iblk m c 12 t : Vec Ideal S1x2048x128 .f32) (ix3 (0 : Fin 1) r e) = (V m c main_v24 : Vec Ideal S4x4096x4608 .f32) (ix3 B S C) := by
  have key : (((cfg0.win 12).blk t).view.emb (ix3 (0 : Fin 1) r e) : S4x4096x4608.Idx) = ix3 B S C := by
    funext a
    apply Fin.ext
    refine (Pipeline.Window.rect_emb_val (cfg0.win 12) t (ix3 (0 : Fin 1) r e) a).trans ?_
    rw [show (cfg0.win 12).index t = _ from index12 t]
    match a with
    | ⟨0, _⟩ => show t.val / 8 * 1 + 0 = B.val; omega
    | ⟨1, _⟩ => exact hS.symm
    | ⟨2, _⟩ => exact hC.symm
  unfold iblk
  generalize V m c = W
  unfold Idealize.ShloMosaic.View.read
  exact eq_of_heq ((cast_heq _ _).trans (heq_of_eq (congrArg (W main_v24) key)))

theorem index13 : ∀ t : Fin grid0.N, cc0_transform_13 (grid0.coords t) = ![t.val / 8, t.val / 4 % 2, 20 + t.val % 4] := by decide +kernel

theorem blk13 (t : Fin grid0.N) (r : Fin 2048) (e : Fin 128) (B : Fin 4) (S : Fin 4096) (C : Fin 4608) (hB : B.val = t.val / 8)
    (hS : S.val = t.val / 4 % 2 * 2048 + r.val) (hC : C.val = (20 + t.val % 4) * 128 + e.val) :
    (iblk m c 13 t : Vec Ideal S1x2048x128 .f32) (ix3 (0 : Fin 1) r e) = (V m c main_v24 : Vec Ideal S4x4096x4608 .f32) (ix3 B S C) := by
  have key : (((cfg0.win 13).blk t).view.emb (ix3 (0 : Fin 1) r e) : S4x4096x4608.Idx) = ix3 B S C := by
    funext a
    apply Fin.ext
    refine (Pipeline.Window.rect_emb_val (cfg0.win 13) t (ix3 (0 : Fin 1) r e) a).trans ?_
    rw [show (cfg0.win 13).index t = _ from index13 t]
    match a with
    | ⟨0, _⟩ => show t.val / 8 * 1 + 0 = B.val; omega
    | ⟨1, _⟩ => exact hS.symm
    | ⟨2, _⟩ => exact hC.symm
  unfold iblk
  generalize V m c = W
  unfold Idealize.ShloMosaic.View.read
  exact eq_of_heq ((cast_heq _ _).trans (heq_of_eq (congrArg (W main_v24) key)))

/-! ## The rows kept -/

theorem keep0_apply (t : Fin cfg0.N) (R : Fin 1024) (e : Fin 128) (B : Fin 4) (S : Fin 4096) (hB : B.val = t.val / 8) (hS : S.val = 3968 + R.val / 8) :
    keep0 m c t (ix3 (0 : Fin 1) R e) = lane (m ((c : Thread nD τ).loc main_arg1) : Vec Ideal S4x4096x12x128 .f32) (m ((c : Thread nD τ).loc main_arg2) : Vec Ideal S4x4096x12x128 .f32) 0 B S ⟨R.val % 8, by omega⟩ e := by
  have hR := R.isLt
  have he := e.isLt
  have hN := head_lt t
  have hl : ∀ (h : ℕ) (hh : h < 4), (lastAt t h hh).val = 8 * (t.val / 8) + 4 + h := fun _ _ => rfl
  have hh : R.val % 8 % 4 < 4 := by omega
  have h1 := hl _ hh
  show (if R.val % 8 < 4 then (iblk m c 2 (lastAt t (R.val % 8 % 4) hh) : Vec Ideal S1x2048x128 .f32) (ix3 (0 : Fin 1) (⟨1920 + R.val / 8, by omega⟩ : Fin 2048) e)
    else (iblk m c 3 (lastAt t (R.val % 8 % 4) hh) : Vec Ideal S1x2048x128 .f32) (ix3 (0 : Fin 1) (⟨1920 + R.val / 8, by omega⟩ : Fin 2048) e)) = _
  split_ifs with h
  · refine (blk2 m c _ _ e B S ⟨(0 + R.val % 8 % 4) * 128 + e.val, by omega⟩ (by rw [h1]; omega) ?_ ?_).trans ((congrFun (V_rows m c) _).trans (stacked0 _ _ _ B S ⟨R.val % 8, by omega⟩ e _ ?_))
    · rw [h1]
      show S.val = _ * 2048 + (1920 + R.val / 8)
      omega
    · rw [h1]
      show (0 + R.val % 8 % 4) * 128 + e.val = _
      omega
    · show (0 + R.val % 8 % 4) * 128 + e.val = 0 + R.val % 8 * 128 + e.val
      omega
  · refine (blk3 m c _ _ e B S ⟨(4 + R.val % 8 % 4) * 128 + e.val, by omega⟩ (by rw [h1]; omega) ?_ ?_).trans ((congrFun (V_rows m c) _).trans (stacked0 _ _ _ B S ⟨R.val % 8, by omega⟩ e _ ?_))
    · rw [h1]
      show S.val = _ * 2048 + (1920 + R.val / 8)
      omega
    · rw [h1]
      show (4 + R.val % 8 % 4) * 128 + e.val = _
      omega
    · show (4 + R.val % 8 % 4) * 128 + e.val = 0 + R.val % 8 * 128 + e.val
      omega

/-- The last 128 tokens of group 0. -/
def G17 : Vec Ideal S4x1024x128 .f32 := fun i => lane (m ((c : Thread nD τ).loc main_arg1) : Vec Ideal S4x4096x12x128 .f32) (m ((c : Thread nD τ).loc main_arg2) : Vec Ideal S4x4096x12x128 .f32) 0 (i 0)
  ⟨3968 + (i 1).val / 8, by have : (i 1).val < 1024 := (i 1).isLt; omega⟩ ⟨(i 1).val % 8, by omega⟩ (i 2)

theorem index17 : ∀ t : Fin grid0.N, cc0_transform_17 (grid0.coords t) = ![t.val / 8, 0, 0] := by decide +kernel

theorem flush17 : ∀ t : Fin grid0.N, (cfg0.win 17).flush t = true → t.val % 8 = 7 := by decide +kernel

theorem final17 (after : (w : Fin cfg0.W) → Fin cfg0.N → (cfg0.win w).block.Idx → Elt Ideal (cfg0.win w).elt)
    (hK : ∀ t : Fin cfg0.N, (cfg0.win 17).flush t = true → Kept0 m c t (after 17 t : Vec Ideal S1x1024x128 .f32)) :
    (((rdats m c).withAfter after).arrAt 17 cfg0.N : Vec Ideal S4x1024x128 .f32) = G17 m c := by
  refine ((rdats m c).withAfter after).arrAt_eq_of_covers 17 _ (by decide +kernel) fun (t : Fin grid0.N) hf (y : S1x1024x128.Idx) => ?_
  have h7 := flush17 t hf
  blk_simp
  rw [Pipeline.RDat.withAfter_after]
  refine (hK t hf (by omega) y (by omega)).trans ?_
  have hp : ∀ (i : S4x1024x128.Idx), i = ((cfg0.win 17).blk t).view.emb y → (i 0).val = t.val / 8 * 1 + (y 0).val ∧ (i 1).val = 0 * 1024 + (y 1).val ∧ (i 2).val = 0 * 128 + (y 2).val := by
    intro i hi
    subst hi
    have h := fun a => Pipeline.Window.rect_emb_val (cfg0.win 17) t y a
    rw [show (cfg0.win 17).index t = _ from index17 t] at h
    exact ⟨h 0, h 1, h 2⟩
  have h := hp _ rfl
  have h0 : (y 0).val < 1 := (y 0).isLt
  obtain ⟨R, e, rfl⟩ : ∃ (R : Fin 1024) (e : Fin 128), y = ix3 (0 : Fin 1) R e := ⟨y 1, y 2, (eq_ix3 y).trans (congrArg (fun z => ix3 z (y 1) (y 2)) (Subsingleton.elim (α := Fin 1) (y 0) 0))⟩
  generalize ((cfg0.win 17).blk t).view.emb (ix3 (0 : Fin 1) R e) = i at h ⊢
  obtain ⟨e0, e1, e2⟩ := h
  have e1' : (i 1).val = R.val := e1.trans (by show 0 * 1024 + R.val = R.val; omega)
  have e2' : i 2 = e := Fin.ext (e2.trans (by show 0 * 128 + e.val = e.val; omega))
  refine (keep0_apply m c t R e (i 0) ⟨3968 + (i 1).val / 8, by omega⟩ (e0.trans (by omega)) (by rw [← e1'])).trans ?_
  show lane _ _ 0 (i 0) _ _ e = lane _ _ 0 (i 0) _ _ (i 2)
  rw [e2']
  exact congrArg (fun z => lane _ _ 0 (i 0) _ z e) (Fin.ext (by show R.val % 8 = (i 1).val % 8; rw [e1']))

theorem keep1_apply (t : Fin cfg0.N) (R : Fin 4096) (e : Fin 128) (B : Fin 4) (S : Fin 4096) (hB : B.val = t.val / 8) (hS : S.val = 3584 + R.val / 8) :
    keep1 m c t (ix3 (0 : Fin 1) R e) = lane (m ((c : Thread nD τ).loc main_arg1) : Vec Ideal S4x4096x12x128 .f32) (m ((c : Thread nD τ).loc main_arg2) : Vec Ideal S4x4096x12x128 .f32) 1 B S ⟨R.val % 8, by omega⟩ e := by
  have hR := R.isLt
  have he := e.isLt
  have hN := head_lt t
  have hl : ∀ (h : ℕ) (hh : h < 4), (lastAt t h hh).val = 8 * (t.val / 8) + 4 + h := fun _ _ => rfl
  have hh : R.val % 8 % 4 < 4 := by omega
  have h1 := hl _ hh
  show (if R.val % 8 < 4 then (iblk m c 7 (lastAt t (R.val % 8 % 4) hh) : Vec Ideal S1x2048x128 .f32) (ix3 (0 : Fin 1) (⟨1536 + R.val / 8, by omega⟩ : Fin 2048) e)
    else (iblk m c 8 (lastAt t (R.val % 8 % 4) hh) : Vec Ideal S1x2048x128 .f32) (ix3 (0 : Fin 1) (⟨1536 + R.val / 8, by omega⟩ : Fin 2048) e)) = _
  split_ifs with h
  · refine (blk7 m c _ _ e B S ⟨(8 + R.val % 8 % 4) * 128 + e.val, by omega⟩ (by rw [h1]; omega) ?_ ?_).trans ((congrFun (V_rows m c) _).trans (stacked1 _ _ _ B S ⟨R.val % 8, by omega⟩ e _ ?_))
    · rw [h1]
      show S.val = _ * 2048 + (1536 + R.val / 8)
      omega
    · rw [h1]
      show (8 + R.val % 8 % 4) * 128 + e.val = _
      omega
    · show (8 + R.val % 8 % 4) * 128 + e.val = 1024 + R.val % 8 * 128 + e.val
      omega
  · refine (blk8 m c _ _ e B S ⟨(12 + R.val % 8 % 4) * 128 + e.val, by omega⟩ (by rw [h1]; omega) ?_ ?_).trans ((congrFun (V_rows m c) _).trans (stacked1 _ _ _ B S ⟨R.val % 8, by omega⟩ e _ ?_))
    · rw [h1]
      show S.val = _ * 2048 + (1536 + R.val / 8)
      omega
    · rw [h1]
      show (12 + R.val % 8 % 4) * 128 + e.val = _
      omega
    · show (12 + R.val % 8 % 4) * 128 + e.val = 1024 + R.val % 8 * 128 + e.val
      omega

/-- The last 512 tokens of group 1. -/
def G18 : Vec Ideal S4x4096x128 .f32 := fun i => lane (m ((c : Thread nD τ).loc main_arg1) : Vec Ideal S4x4096x12x128 .f32) (m ((c : Thread nD τ).loc main_arg2) : Vec Ideal S4x4096x12x128 .f32) 1 (i 0)
  ⟨3584 + (i 1).val / 8, by have : (i 1).val < 4096 := (i 1).isLt; omega⟩ ⟨(i 1).val % 8, by omega⟩ (i 2)

theorem index18 : ∀ t : Fin grid0.N, cc0_transform_18 (grid0.coords t) = ![t.val / 8, 0, 0] := by decide +kernel

theorem flush18 : ∀ t : Fin grid0.N, (cfg0.win 18).flush t = true → t.val % 8 = 7 := by decide +kernel

theorem final18 (after : (w : Fin cfg0.W) → Fin cfg0.N → (cfg0.win w).block.Idx → Elt Ideal (cfg0.win w).elt)
    (hK : ∀ t : Fin cfg0.N, (cfg0.win 18).flush t = true → Kept1 m c t (after 18 t : Vec Ideal S1x4096x128 .f32)) :
    (((rdats m c).withAfter after).arrAt 18 cfg0.N : Vec Ideal S4x4096x128 .f32) = G18 m c := by
  refine ((rdats m c).withAfter after).arrAt_eq_of_covers 18 _ (by decide +kernel) fun (t : Fin grid0.N) hf (y : S1x4096x128.Idx) => ?_
  have h7 := flush18 t hf
  blk_simp
  rw [Pipeline.RDat.withAfter_after]
  refine (hK t hf (by omega) y (by omega)).trans ?_
  have hp : ∀ (i : S4x4096x128.Idx), i = ((cfg0.win 18).blk t).view.emb y → (i 0).val = t.val / 8 * 1 + (y 0).val ∧ (i 1).val = 0 * 4096 + (y 1).val ∧ (i 2).val = 0 * 128 + (y 2).val := by
    intro i hi
    subst hi
    have h := fun a => Pipeline.Window.rect_emb_val (cfg0.win 18) t y a
    rw [show (cfg0.win 18).index t = _ from index18 t] at h
    exact ⟨h 0, h 1, h 2⟩
  have h := hp _ rfl
  have h0 : (y 0).val < 1 := (y 0).isLt
  obtain ⟨R, e, rfl⟩ : ∃ (R : Fin 4096) (e : Fin 128), y = ix3 (0 : Fin 1) R e := ⟨y 1, y 2, (eq_ix3 y).trans (congrArg (fun z => ix3 z (y 1) (y 2)) (Subsingleton.elim (α := Fin 1) (y 0) 0))⟩
  generalize ((cfg0.win 18).blk t).view.emb (ix3 (0 : Fin 1) R e) = i at h ⊢
  obtain ⟨e0, e1, e2⟩ := h
  have e1' : (i 1).val = R.val := e1.trans (by show 0 * 4096 + R.val = R.val; omega)
  have e2' : i 2 = e := Fin.ext (e2.trans (by show 0 * 128 + e.val = e.val; omega))
  refine (keep1_apply m c t R e (i 0) ⟨3584 + (i 1).val / 8, by omega⟩ (e0.trans (by omega)) (by rw [← e1'])).trans ?_
  show lane _ _ 1 (i 0) _ _ e = lane _ _ 1 (i 0) _ _ (i 2)
  rw [e2']
  exact congrArg (fun z => lane _ _ 1 (i 0) _ z e) (Fin.ext (by show R.val % 8 = (i 1).val % 8; rw [e1']))

theorem keep2_apply (t : Fin cfg0.N) (R : Fin 16384) (e : Fin 128) (B : Fin 4) (S : Fin 4096) (hB : B.val = t.val / 8) (hS : S.val = 2048 + R.val / 8) :
    keep2 m c t (ix3 (0 : Fin 1) R e) = lane (m ((c : Thread nD τ).loc main_arg1) : Vec Ideal S4x4096x12x128 .f32) (m ((c : Thread nD τ).loc main_arg2) : Vec Ideal S4x4096x12x128 .f32) 2 B S ⟨R.val % 8, by omega⟩ e := by
  have hR := R.isLt
  have he := e.isLt
  have hN := head_lt t
  have hl : ∀ (h : ℕ) (hh : h < 4), (lastAt t h hh).val = 8 * (t.val / 8) + 4 + h := fun _ _ => rfl
  have hh : R.val % 8 % 4 < 4 := by omega
  have h1 := hl _ hh
  show (if R.val % 8 < 4 then (iblk m c 12 (lastAt t (R.val % 8 % 4) hh) : Vec Ideal S1x2048x128 .f32) (ix3 (0 : Fin 1) (⟨R.val / 8, by omega⟩ : Fin 2048) e)
    else (iblk m c 13 (lastAt t (R.val % 8 % 4) hh) : Vec Ideal S1x2048x128 .f32) (ix3 (0 : Fin 1) (⟨R.val / 8, by omega⟩ : Fin 2048) e)) = _
  split_ifs with h
  · refine (blk12 m c _ _ e B S ⟨(16 + R.val % 8 % 4) * 128 + e.val, by omega⟩ (by rw [h1]; omega) ?_ ?_).trans ((congrFun (V_rows m c) _).trans (stacked2 _ _ _ B S ⟨R.val % 8, by omega⟩ e _ ?_))
    · rw [h1]
      show S.val = _ * 2048 + (R.val / 8)
      omega
    · rw [h1]
      show (16 + R.val % 8 % 4) * 128 + e.val = _
      omega
    · show (16 + R.val % 8 % 4) * 128 + e.val = 2048 + R.val % 8 * 128 + e.val
      omega
  · refine (blk13 m c _ _ e B S ⟨(20 + R.val % 8 % 4) * 128 + e.val, by omega⟩ (by rw [h1]; omega) ?_ ?_).trans ((congrFun (V_rows m c) _).trans (stacked2 _ _ _ B S ⟨R.val % 8, by omega⟩ e _ ?_))
    · rw [h1]
      show S.val = _ * 2048 + (R.val / 8)
      omega
    · rw [h1]
      show (20 + R.val % 8 % 4) * 128 + e.val = _
      omega
    · show (20 + R.val % 8 % 4) * 128 + e.val = 2048 + R.val % 8 * 128 + e.val
      omega

/-- The last 2048 tokens of group 2. -/
def G19 : Vec Ideal S4x16384x128 .f32 := fun i => lane (m ((c : Thread nD τ).loc main_arg1) : Vec Ideal S4x4096x12x128 .f32) (m ((c : Thread nD τ).loc main_arg2) : Vec Ideal S4x4096x12x128 .f32) 2 (i 0)
  ⟨2048 + (i 1).val / 8, by have : (i 1).val < 16384 := (i 1).isLt; omega⟩ ⟨(i 1).val % 8, by omega⟩ (i 2)

theorem index19 : ∀ t : Fin grid0.N, cc0_transform_19 (grid0.coords t) = ![t.val / 8, 0, 0] := by decide +kernel

theorem flush19 : ∀ t : Fin grid0.N, (cfg0.win 19).flush t = true → t.val % 8 = 7 := by decide +kernel

theorem final19 (after : (w : Fin cfg0.W) → Fin cfg0.N → (cfg0.win w).block.Idx → Elt Ideal (cfg0.win w).elt)
    (hK : ∀ t : Fin cfg0.N, (cfg0.win 19).flush t = true → Kept2 m c t (after 19 t : Vec Ideal S1x16384x128 .f32)) :
    (((rdats m c).withAfter after).arrAt 19 cfg0.N : Vec Ideal S4x16384x128 .f32) = G19 m c := by
  refine ((rdats m c).withAfter after).arrAt_eq_of_covers 19 _ (by decide +kernel) fun (t : Fin grid0.N) hf (y : S1x16384x128.Idx) => ?_
  have h7 := flush19 t hf
  blk_simp
  rw [Pipeline.RDat.withAfter_after]
  refine (hK t hf (by omega) y (by omega)).trans ?_
  have hp : ∀ (i : S4x16384x128.Idx), i = ((cfg0.win 19).blk t).view.emb y → (i 0).val = t.val / 8 * 1 + (y 0).val ∧ (i 1).val = 0 * 16384 + (y 1).val ∧ (i 2).val = 0 * 128 + (y 2).val := by
    intro i hi
    subst hi
    have h := fun a => Pipeline.Window.rect_emb_val (cfg0.win 19) t y a
    rw [show (cfg0.win 19).index t = _ from index19 t] at h
    exact ⟨h 0, h 1, h 2⟩
  have h := hp _ rfl
  have h0 : (y 0).val < 1 := (y 0).isLt
  obtain ⟨R, e, rfl⟩ : ∃ (R : Fin 16384) (e : Fin 128), y = ix3 (0 : Fin 1) R e := ⟨y 1, y 2, (eq_ix3 y).trans (congrArg (fun z => ix3 z (y 1) (y 2)) (Subsingleton.elim (α := Fin 1) (y 0) 0))⟩
  generalize ((cfg0.win 19).blk t).view.emb (ix3 (0 : Fin 1) R e) = i at h ⊢
  obtain ⟨e0, e1, e2⟩ := h
  have e1' : (i 1).val = R.val := e1.trans (by show 0 * 16384 + R.val = R.val; omega)
  have e2' : i 2 = e := Fin.ext (e2.trans (by show 0 * 128 + e.val = e.val; omega))
  refine (keep2_apply m c t R e (i 0) ⟨2048 + (i 1).val / 8, by omega⟩ (e0.trans (by omega)) (by rw [← e1'])).trans ?_
  show lane _ _ 2 (i 0) _ _ e = lane _ _ 2 (i 0) _ _ (i 2)
  rw [e2']
  exact congrArg (fun z => lane _ _ 2 (i 0) _ z e) (Fin.ext (by show R.val % 8 = (i 1).val % 8; rw [e1']))

end Cert.AttnPIdeal.Body

end
-- ==== Proof.AttnP.Ref.lean ====
/- The prompt's kept keys and values, as the reference forms them: row `R` of a group holds, for its token `R / 8`, the key of
   head `R % 8`, or the value of head `R % 8 - 4`. -/
module

public import proofs.«01_k».proof.Proof.Gen.AttnPRefIdeal.Run
public import proofs.«01_k».proof.Proof.Gen.AttnPRefIdeal.Read
public import Idealize.ShloMosaic.Lib.Pointwise

@[expose] public section

set_option maxRecDepth 16384

noncomputable section

namespace Cert.AttnPRefIdeal.Rows

open Cert.AttnPRefIdeal Cert.AttnPRefIdeal.Read Idealize.ShloMosaic Idealize.ShloMosaic.TcCoe Idealize.SL.Sem

variable (x1 x2 : Vec Ideal S4x4096x12x128 .f32)

theorem key0 (B : Fin 4) (s : Fin 128) (h : Fin 4) (e : Fin 128) (S : Fin 4096) (H : Fin 12) (hS : S.val = 3968 + s.val) (hH : H.val = 0 + h.val) :
    val_main_v2 (F := Ideal) x1 (ix5 B s 0 h e) = x1 (ix4 B S H e) := by
  rw [val_main_v2_apply, val_main_v0_apply]
  congr 1
  funext b
  apply Fin.ext
  match b with
  | ⟨0, _⟩ => rfl
  | ⟨1, _⟩ => exact hS.symm
  | ⟨2, _⟩ => show h.val = H.val; omega
  | ⟨3, _⟩ => rfl

theorem value0 (B : Fin 4) (s : Fin 128) (h : Fin 4) (e : Fin 128) (S : Fin 4096) (H : Fin 12) (hS : S.val = 3968 + s.val) (hH : H.val = 0 + h.val) :
    val_main_v3 (F := Ideal) x2 (ix5 B s 0 h e) = x2 (ix4 B S H e) := by
  rw [val_main_v3_apply, val_main_v1_apply]
  congr 1
  funext b
  apply Fin.ext
  match b with
  | ⟨0, _⟩ => rfl
  | ⟨1, _⟩ => exact hS.symm
  | ⟨2, _⟩ => show h.val = H.val; omega
  | ⟨3, _⟩ => rfl

theorem row0 (B : Fin 4) (R : Fin 1024) (e : Fin 128) (S : Fin 4096) (H : Fin 12) (hS : S.val = 3968 + R.val / 8) (hH : H.val = 0 + R.val % 4) :
    val_main_v5 (F := Ideal) x1 x2 (ix3 B R e) = if R.val % 8 < 4 then x1 (ix4 B S H e) else x2 (ix4 B S H e) := by
  have hB := B.isLt
  have hR := R.isLt
  have he := e.isLt
  rw [val_main_v5_apply]
  unfold val_main_v4
  split_ifs with h
  · refine (concatenate_apply_piece 2 _ _ (idx_main_v5 (ix3 B R e)) 0 (by simp) S4x128x1x4x128 (val_main_v2 (F := Ideal) x1) rfl rfl 0 rfl
      (ix5 B ⟨R.val / 8, by omega⟩ 0 ⟨R.val % 4, by omega⟩ e) (fun b hb => ?_) ?_).trans ?_
    · match b with
      | ⟨0, _⟩ => show B.val = ((B.val * 1024 + R.val) * 128 + e.val) / 131072; omega
      | ⟨1, _⟩ => show R.val / 8 = ((B.val * 1024 + R.val) * 128 + e.val) / 1024 % 128; omega
      | ⟨2, _⟩ => exact absurd rfl hb
      | ⟨3, _⟩ => show R.val % 4 = ((B.val * 1024 + R.val) * 128 + e.val) / 128 % 4; omega
      | ⟨4, _⟩ => show e.val = ((B.val * 1024 + R.val) * 128 + e.val) % 128; omega
    · show 0 + 0 = ((B.val * 1024 + R.val) * 128 + e.val) / 512 % 2
      omega
    · exact key0 x1 B _ _ e S H hS hH
  · refine (concatenate_apply_piece 2 _ _ (idx_main_v5 (ix3 B R e)) 1 (by simp) S4x128x1x4x128 (val_main_v3 (F := Ideal) x2) rfl rfl 1 rfl
      (ix5 B ⟨R.val / 8, by omega⟩ 0 ⟨R.val % 4, by omega⟩ e) (fun b hb => ?_) ?_).trans ?_
    · match b with
      | ⟨0, _⟩ => show B.val = ((B.val * 1024 + R.val) * 128 + e.val) / 131072; omega
      | ⟨1, _⟩ => show R.val / 8 = ((B.val * 1024 + R.val) * 128 + e.val) / 1024 % 128; omega
      | ⟨2, _⟩ => exact absurd rfl hb
      | ⟨3, _⟩ => show R.val % 4 = ((B.val * 1024 + R.val) * 128 + e.val) / 128 % 4; omega
      | ⟨4, _⟩ => show e.val = ((B.val * 1024 + R.val) * 128 + e.val) % 128; omega
    · show 1 + 0 = ((B.val * 1024 + R.val) * 128 + e.val) / 512 % 2
      omega
    · exact value0 x2 B _ _ e S H hS hH

theorem key1 (B : Fin 4) (s : Fin 512) (h : Fin 4) (e : Fin 128) (S : Fin 4096) (H : Fin 12) (hS : S.val = 3584 + s.val) (hH : H.val = 4 + h.val) :
    val_main_v8 (F := Ideal) x1 (ix5 B s 0 h e) = x1 (ix4 B S H e) := by
  rw [val_main_v8_apply, val_main_v6_apply]
  congr 1
  funext b
  apply Fin.ext
  match b with
  | ⟨0, _⟩ => rfl
  | ⟨1, _⟩ => exact hS.symm
  | ⟨2, _⟩ => exact hH.symm
  | ⟨3, _⟩ => rfl

theorem value1 (B : Fin 4) (s : Fin 512) (h : Fin 4) (e : Fin 128) (S : Fin 4096) (H : Fin 12) (hS : S.val = 3584 + s.val) (hH : H.val = 4 + h.val) :
    val_main_v9 (F := Ideal) x2 (ix5 B s 0 h e) = x2 (ix4 B S H e) := by
  rw [val_main_v9_apply, val_main_v7_apply]
  congr 1
  funext b
  apply Fin.ext
  match b with
  | ⟨0, _⟩ => rfl
  | ⟨1, _⟩ => exact hS.symm
  | ⟨2, _⟩ => exact hH.symm
  | ⟨3, _⟩ => rfl

theorem row1 (B : Fin 4) (R : Fin 4096) (e : Fin 128) (S : Fin 4096) (H : Fin 12) (hS : S.val = 3584 + R.val / 8) (hH : H.val = 4 + R.val % 4) :
    val_main_v11 (F := Ideal) x1 x2 (ix3 B R e) = if R.val % 8 < 4 then x1 (ix4 B S H e) else x2 (ix4 B S H e) := by
  have hB := B.isLt
  have hR := R.isLt
  have he := e.isLt
  rw [val_main_v11_apply]
  unfold val_main_v10
  split_ifs with h
  · refine (concatenate_apply_piece 2 _ _ (idx_main_v11 (ix3 B R e)) 0 (by simp) S4x512x1x4x128 (val_main_v8 (F := Ideal) x1) rfl rfl 0 rfl
      (ix5 B ⟨R.val / 8, by omega⟩ 0 ⟨R.val % 4, by omega⟩ e) (fun b hb => ?_) ?_).trans ?_
    · match b with
      | ⟨0, _⟩ => show B.val = ((B.val * 4096 + R.val) * 128 + e.val) / 524288; omega
      | ⟨1, _⟩ => show R.val / 8 = ((B.val * 4096 + R.val) * 128 + e.val) / 1024 % 512; omega
      | ⟨2, _⟩ => exact absurd rfl hb
      | ⟨3, _⟩ => show R.val % 4 = ((B.val * 4096 + R.val) * 128 + e.val) / 128 % 4; omega
      | ⟨4, _⟩ => show e.val = ((B.val * 4096 + R.val) * 128 + e.val) % 128; omega
    · show 0 + 0 = ((B.val * 4096 + R.val) * 128 + e.val) / 512 % 2
      omega
    · exact key1 x1 B _ _ e S H hS hH
  · refine (concatenate_apply_piece 2 _ _ (idx_main_v11 (ix3 B R e)) 1 (by simp) S4x512x1x4x128 (val_main_v9 (F := Ideal) x2) rfl rfl 1 rfl
      (ix5 B ⟨R.val / 8, by omega⟩ 0 ⟨R.val % 4, by omega⟩ e) (fun b hb => ?_) ?_).trans ?_
    · match b with
      | ⟨0, _⟩ => show B.val = ((B.val * 4096 + R.val) * 128 + e.val) / 524288; omega
      | ⟨1, _⟩ => show R.val / 8 = ((B.val * 4096 + R.val) * 128 + e.val) / 1024 % 512; omega
      | ⟨2, _⟩ => exact absurd rfl hb
      | ⟨3, _⟩ => show R.val % 4 = ((B.val * 4096 + R.val) * 128 + e.val) / 128 % 4; omega
      | ⟨4, _⟩ => show e.val = ((B.val * 4096 + R.val) * 128 + e.val) % 128; omega
    · show 1 + 0 = ((B.val * 4096 + R.val) * 128 + e.val) / 512 % 2
      omega
    · exact value1 x2 B _ _ e S H hS hH

theorem key2 (B : Fin 4) (s : Fin 2048) (h : Fin 4) (e : Fin 128) (S : Fin 4096) (H : Fin 12) (hS : S.val = 2048 + s.val) (hH : H.val = 8 + h.val) :
    val_main_v14 (F := Ideal) x1 (ix5 B s 0 h e) = x1 (ix4 B S H e) := by
  rw [val_main_v14_apply, val_main_v12_apply]
  congr 1
  funext b
  apply Fin.ext
  match b with
  | ⟨0, _⟩ => rfl
  | ⟨1, _⟩ => exact hS.symm
  | ⟨2, _⟩ => exact hH.symm
  | ⟨3, _⟩ => rfl

theorem value2 (B : Fin 4) (s : Fin 2048) (h : Fin 4) (e : Fin 128) (S : Fin 4096) (H : Fin 12) (hS : S.val = 2048 + s.val) (hH : H.val = 8 + h.val) :
    val_main_v15 (F := Ideal) x2 (ix5 B s 0 h e) = x2 (ix4 B S H e) := by
  rw [val_main_v15_apply, val_main_v13_apply]
  congr 1
  funext b
  apply Fin.ext
  match b with
  | ⟨0, _⟩ => rfl
  | ⟨1, _⟩ => exact hS.symm
  | ⟨2, _⟩ => exact hH.symm
  | ⟨3, _⟩ => rfl

theorem row2 (B : Fin 4) (R : Fin 16384) (e : Fin 128) (S : Fin 4096) (H : Fin 12) (hS : S.val = 2048 + R.val / 8) (hH : H.val = 8 + R.val % 4) :
    val_main_v17 (F := Ideal) x1 x2 (ix3 B R e) = if R.val % 8 < 4 then x1 (ix4 B S H e) else x2 (ix4 B S H e) := by
  have hB := B.isLt
  have hR := R.isLt
  have he := e.isLt
  rw [val_main_v17_apply]
  unfold val_main_v16
  split_ifs with h
  · refine (concatenate_apply_piece 2 _ _ (idx_main_v17 (ix3 B R e)) 0 (by simp) S4x2048x1x4x128 (val_main_v14 (F := Ideal) x1) rfl rfl 0 rfl
      (ix5 B ⟨R.val / 8, by omega⟩ 0 ⟨R.val % 4, by omega⟩ e) (fun b hb => ?_) ?_).trans ?_
    · match b with
      | ⟨0, _⟩ => show B.val = ((B.val * 16384 + R.val) * 128 + e.val) / 2097152; omega
      | ⟨1, _⟩ => show R.val / 8 = ((B.val * 16384 + R.val) * 128 + e.val) / 1024 % 2048; omega
      | ⟨2, _⟩ => exact absurd rfl hb
      | ⟨3, _⟩ => show R.val % 4 = ((B.val * 16384 + R.val) * 128 + e.val) / 128 % 4; omega
      | ⟨4, _⟩ => show e.val = ((B.val * 16384 + R.val) * 128 + e.val) % 128; omega
    · show 0 + 0 = ((B.val * 16384 + R.val) * 128 + e.val) / 512 % 2
      omega
    · exact key2 x1 B _ _ e S H hS hH
  · refine (concatenate_apply_piece 2 _ _ (idx_main_v17 (ix3 B R e)) 1 (by simp) S4x2048x1x4x128 (val_main_v15 (F := Ideal) x2) rfl rfl 1 rfl
      (ix5 B ⟨R.val / 8, by omega⟩ 0 ⟨R.val % 4, by omega⟩ e) (fun b hb => ?_) ?_).trans ?_
    · match b with
      | ⟨0, _⟩ => show B.val = ((B.val * 16384 + R.val) * 128 + e.val) / 2097152; omega
      | ⟨1, _⟩ => show R.val / 8 = ((B.val * 16384 + R.val) * 128 + e.val) / 1024 % 2048; omega
      | ⟨2, _⟩ => exact absurd rfl hb
      | ⟨3, _⟩ => show R.val % 4 = ((B.val * 16384 + R.val) * 128 + e.val) / 128 % 4; omega
      | ⟨4, _⟩ => show e.val = ((B.val * 16384 + R.val) * 128 + e.val) % 128; omega
    · show 1 + 0 = ((B.val * 16384 + R.val) * 128 + e.val) / 512 % 2
      omega
    · exact value2 x2 B _ _ e S H hS hH

end Cert.AttnPRefIdeal.Rows

end
-- ==== Proof.AttnP.Claims.lean ====
/- The claims about the prompt's attention call: the keys and values it keeps are, row by row, those the reference keeps
   (`Body.final17` to `Body.final19`, `Rows.row0` to `Rows.row2`). -/
module

public import proofs.«01_k».proof.Defs
public import proofs.«01_k».proof.Proof.AttnP.Kernel
public import proofs.«01_k».proof.Proof.AttnP.Ref
public import proofs.«01_k».proof.Proof.Gen.AttnP
public import Idealize.ShloMosaic.Lib.Quiescent

@[expose] public section

noncomputable section

namespace Cert.Proof.AttnP

open Idealize.ShloMosaic Idealize.ShloMosaic.TcCoe Idealize.SL.Sem
open Cert.AttnPIdeal Cert.AttnPIdeal.Gen Cert.AttnPIdeal.Body

/-- The bit-exact program's claim is the ideal printing's at the bit-exact instance: the two texts are the same. -/
theorem texts_eq : Cert.quiescent_AttnP = (∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) := by
  sl_kernel_rfl

/-- The bit-exact program's frame. -/
theorem frame_kernel : Cert.quiescent_AttnP := texts_eq.mpr fun m ρ _ => Cert.AttnPIdeal.Body.frame (F := Bits) m ρ

theorem frame_ideal : Cert.quiescent_AttnPIdeal := fun m ρ _ => Cert.AttnPIdeal.Body.frame (F := Ideal) m ρ

theorem frame_ref_ideal : Cert.quiescent_AttnPRefIdeal := fun m ρ _ =>
  (θ_run Cert.AttnPRefIdeal.defs _ _).mono (fun r h => ⟨fun c => (h c).2.2.2, sem_eq_zero_of_no_sems (by decide) r.2⟩)
    (Cert.AttnPRefIdeal.Value.run (F := Ideal) m ρ)

variable (m : (ℓ : Loc nD τ sig) → Buf (Elt Ideal) ℓ) (c : Dev nD)

theorem result0 : Cert.AttnPRefIdeal.Read.val_main_v5 (F := Ideal) (m ((c.tc : Thread nD τ).loc main_arg1)) (m ((c.tc : Thread nD τ).loc main_arg2)) = G17 m c := by
  funext (i : S4x1024x128.Idx)
  obtain ⟨B, R, e, rfl⟩ : ∃ (B : Fin 4) (R : Fin 1024) (e : Fin 128), i = ix3 B R e := ⟨i 0, i 1, i 2, eq_ix3 i⟩
  have hR := R.isLt
  exact Cert.AttnPRefIdeal.Rows.row0 _ _ B R e ⟨3968 + R.val / 8, by omega⟩ ⟨0 * 4 + R.val % 8 % 4, by omega⟩ rfl (by show 0 * 4 + R.val % 8 % 4 = 0 + R.val % 4; omega)

theorem result1 : Cert.AttnPRefIdeal.Read.val_main_v11 (F := Ideal) (m ((c.tc : Thread nD τ).loc main_arg1)) (m ((c.tc : Thread nD τ).loc main_arg2)) = G18 m c := by
  funext (i : S4x4096x128.Idx)
  obtain ⟨B, R, e, rfl⟩ : ∃ (B : Fin 4) (R : Fin 4096) (e : Fin 128), i = ix3 B R e := ⟨i 0, i 1, i 2, eq_ix3 i⟩
  have hR := R.isLt
  exact Cert.AttnPRefIdeal.Rows.row1 _ _ B R e ⟨3584 + R.val / 8, by omega⟩ ⟨1 * 4 + R.val % 8 % 4, by omega⟩ rfl (by show 1 * 4 + R.val % 8 % 4 = 4 + R.val % 4; omega)

theorem result2 : Cert.AttnPRefIdeal.Read.val_main_v17 (F := Ideal) (m ((c.tc : Thread nD τ).loc main_arg1)) (m ((c.tc : Thread nD τ).loc main_arg2)) = G19 m c := by
  funext (i : S4x16384x128.Idx)
  obtain ⟨B, R, e, rfl⟩ : ∃ (B : Fin 4) (R : Fin 16384) (e : Fin 128), i = ix3 B R e := ⟨i 0, i 1, i 2, eq_ix3 i⟩
  have hR := R.isLt
  exact Cert.AttnPRefIdeal.Rows.row2 _ _ B R e ⟨2048 + R.val / 8, by omega⟩ ⟨2 * 4 + R.val % 8 % 4, by omega⟩ rfl (by show 2 * 4 + R.val % 8 % 4 = 8 + R.val % 4; omega)

/-- The kernel's run, with the three arrays it keeps. -/
theorem run (ρ : Dev nD → PrngReg) : θ_run defs (onTc (τ := τ) (main (F := Ideal))) ⟨m, fun _ => 0, ρ⟩ (fun r => ∀ c : Dev nD,
    r.2.mem ((c.tc : Thread nD τ).loc main_v25_1) = G17 m c
    ∧ r.2.mem ((c.tc : Thread nD τ).loc main_v25_2) = G18 m c
    ∧ r.2.mem ((c.tc : Thread nD τ).loc main_v25_3) = G19 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (θ_run_and (run_quiescent (F := Ideal) m ρ) (Cert.AttnPIdeal.Body.frame (F := Ideal) m ρ))
  obtain ⟨⟨hp, _⟩, hf, _⟩ := h
  obtain ⟨after, hL, hA⟩ := Pipeline.RDat.FramePost.exists_exact hp c
  refine ⟨(hA 17).trans (final17 m c after fun t ht => ?_), (hA 18).trans (final18 m c after fun t ht => ?_), (hA 19).trans (final19 m c after fun t ht => ?_),
    (hf c).1, (hf c).2.1, (hf c).2.2⟩
  · exact (dats m 0 c).toRRel_leaves (w := 17) rfl (hL 17 t ht)
  · exact (dats m 0 c).toRRel_leaves (w := 18) rfl (hL 18 t ht)
  · exact (dats m 0 c).toRRel_leaves (w := 19) rfl (hL 19 t ht)

/-- The kernel keeps the reference's rows. -/
theorem algebraic : Cert.algebraic_AttnPIdeal_AttnPRefIdeal := by
  intro m ρ m' ρ' _ hagree
  refine ⟨fun c => G17 m c, fun c => G18 m c, fun c => G19 m c, run m ρ, ?_⟩
  refine (θ_run Cert.AttnPRefIdeal.defs _ _).mono (fun _ h c => ⟨(h c).1.trans ?_, (h c).2.1.trans ?_, (h c).2.2.1.trans ?_, (h c).2.2.2⟩) (Cert.AttnPRefIdeal.Value.run (F := Ideal) m' ρ')
  · rw [Cert.AttnPRefIdeal.Read.val_main_v5_eq]
    obtain ⟨_, e1, e2⟩ := hagree c
    rw [e1, e2]
    exact result0 m c
  · rw [Cert.AttnPRefIdeal.Read.val_main_v11_eq]
    obtain ⟨_, e1, e2⟩ := hagree c
    rw [e1, e2]
    exact result1 m c
  · rw [Cert.AttnPRefIdeal.Read.val_main_v17_eq]
    obtain ⟨_, e1, e2⟩ := hagree c
    rw [e1, e2]
    exact result2 m c

end Cert.Proof.AttnP

end
-- ==== Proof.lean ====
module

public import proofs.«01_k».proof.Proof.Gen.FfnIdeal.Value
public import proofs.«01_k».proof.Proof.Gen.FfnAIdeal.Value
public import proofs.«01_k».proof.Proof.Gen.MixIdeal.Value
public import proofs.«01_k».proof.Proof.Gen.FfnRefIdeal.Run
public import proofs.«01_k».proof.Proof.Gen.FfnRefIdeal.Read
public import proofs.«01_k».proof.Proof.Gen.FfnARefIdeal.Run
public import proofs.«01_k».proof.Proof.Gen.FfnARefIdeal.Read
public import proofs.«01_k».proof.Proof.Gen.MixRefIdeal.Run
public import proofs.«01_k».proof.Proof.Gen.MixRefIdeal.Read
public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference
public import proofs.«01_k».proof.Proof.Gen.Ffn
public import proofs.«01_k».proof.Proof.Gen.FfnA
public import proofs.«01_k».proof.Proof.Gen.Mix
public import proofs.«01_k».proof.Proof.Gen.Inproj
public import proofs.«01_k».proof.Proof.Gen.InprojIdeal.Frame
public import proofs.«01_k».proof.Proof.Gen.InprojRefIdeal.Run
public import proofs.«01_k».proof.Proof.Gen.InprojRefIdeal.Read
public import proofs.«01_k».proof.Proof.Gen.Attn
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.FfnS
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.Gen.InprojS
public import proofs.«01_k».proof.Proof.Gen.InprojSIdeal.Frame
public import proofs.«01_k».proof.Proof.Gen.InprojSRefIdeal.Run
public import proofs.«01_k».proof.Proof.Gen.InprojSRefIdeal.Read
public import proofs.«01_k».proof.Proof.Permute.Claims
public import proofs.«01_k».proof.Proof.Ffn.Claims
public import proofs.«01_k».proof.Proof.FfnA.Claims
public import proofs.«01_k».proof.Proof.Mix.Claims
public import proofs.«01_k».proof.Proof.Inproj.Claims
public import proofs.«01_k».proof.Proof.Attn.Claims
public import proofs.«01_k».proof.Proof.Gen.AttnP
public import proofs.«01_k».proof.Proof.Gen.AttnPIdeal.Frame
public import proofs.«01_k».proof.Proof.Gen.AttnPRefIdeal.Run
public import proofs.«01_k».proof.Proof.Gen.AttnPRefIdeal.Read
public import proofs.«01_k».proof.Proof.FfnS.Claims
public import proofs.«01_k».proof.Proof.InprojS.Claims
public import proofs.«01_k».proof.Proof.AttnP.Claims

@[expose] public section

noncomputable section

namespace Cert.Proof

theorem claim : Cert.Claim :=
  ⟨Cert.Kernel.Gen.facts, Cert.KernelIdeal.Gen.facts, Cert.ReferenceIdeal.Gen.facts, Cert.Reference.Gen.facts,
    Cert.Ffn.Gen.facts, Cert.FfnIdeal.Gen.facts, Cert.FfnRefIdeal.Gen.facts,
    Cert.FfnA.Gen.facts, Cert.FfnAIdeal.Gen.facts, Cert.FfnARefIdeal.Gen.facts,
    Cert.Mix.Gen.facts, Cert.MixIdeal.Gen.facts, Cert.MixRefIdeal.Gen.facts,
    Cert.Inproj.Gen.facts, Cert.InprojIdeal.Gen.facts, Cert.InprojRefIdeal.Gen.facts,
    Cert.Attn.Gen.facts, Cert.AttnIdeal.Gen.facts, Cert.AttnRefIdeal.Gen.facts,
    Cert.FfnS.Gen.facts, Cert.FfnSIdeal.Gen.facts, Cert.FfnSRefIdeal.Gen.facts,
    Cert.InprojS.Gen.facts, Cert.InprojSIdeal.Gen.facts, Cert.InprojSRefIdeal.Gen.facts,
    Cert.AttnP.Gen.facts, Cert.AttnPIdeal.Gen.facts, Cert.AttnPRefIdeal.Gen.facts,
    Permute.frame_kernel, Permute.frame_ideal, Permute.frame_ref_ideal, Permute.frame_ref,
    Ffn.frame_kernel, Ffn.frame_ideal, Ffn.frame_ref_ideal,
    FfnA.frame_kernel, FfnA.frame_ideal, FfnA.frame_ref_ideal,
    Mix.frame_kernel, Mix.frame_ideal, Mix.frame_ref_ideal,
    Inproj.frame_kernel, Inproj.frame_ideal, Inproj.frame_ref_ideal,
    Attn.frame_kernel, Attn.frame_ideal, Attn.frame_ref_ideal,
    FfnS.frame_kernel, FfnS.frame_ideal, FfnS.frame_ref_ideal,
    InprojS.frame_kernel, InprojS.frame_ideal, InprojS.frame_ref_ideal,
    AttnP.frame_kernel, AttnP.frame_ideal, AttnP.frame_ref_ideal,
    trivial, Permute.algebraic, Permute.bitexact,
    trivial, Ffn.algebraic,
    trivial, FfnA.algebraic,
    trivial, Mix.algebraic,
    trivial, Inproj.algebraic,
    trivial, Attn.algebraic,
    trivial, FfnS.algebraic,
    trivial, InprojS.algebraic,
    trivial, AttnP.algebraic⟩

end Cert.Proof

end
